-- ==== Defs.lean ====
def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_finite [hPre_head_finite : Cert.Pre_head_finite.Facts] (m : (ℓ : Loc Cert.HeadIdeal.nD Cert.HeadIdeal.τ Cert.HeadIdeal.sig) → Buf (Elt Ideal) ℓ) : Prop :=
  ∀ c : Dev Cert.HeadIdeal.nD,
    (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2))).1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2))).2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2))).2.2 = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_finite [hPre_head_finite : Cert.Pre_head_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2))).1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2))).2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2))).2.2 = (fun _ => 1#1)

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_flash_finite [hPre_flash_finite : Cert.Pre_flash_finite.Facts] (m : (ℓ : Loc Cert.FlashIdeal.nD Cert.FlashIdeal.τ Cert.FlashIdeal.sig) → Buf (Elt Ideal) ℓ) : Prop :=
  ∀ c : Dev Cert.FlashIdeal.nD,
    (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).1 = (fun _ => 1#1)
    ∧ (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.1 = (fun _ => 1#1)
    ∧ (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.2.1 = (fun _ => 1#1)
    ∧ (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.2.2 = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_flash_finite [hPre_flash_finite : Cert.Pre_flash_finite.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).1 = (fun _ => 1#1)
    ∧ (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.1 = (fun _ => 1#1)
    ∧ (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.2.1 = (fun _ => 1#1)
    ∧ (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_Cctx (m : (ℓ : Loc Cert.Cctx.nD Cert.Cctx.τ Cert.Cctx.sig) → Buf (Elt Bits) ℓ) : Prop :=
  True

def Pre_CctxIdeal (m : (ℓ : Loc Cert.CctxIdeal.nD Cert.CctxIdeal.τ Cert.CctxIdeal.sig) → Buf (Elt Ideal) ℓ) : Prop :=
  True

def Pre_CctxIdeal_cctx_finite [hPre_cctx_finite : Cert.Pre_cctx_finite.Facts] (m : (ℓ : Loc Cert.CctxIdeal.nD Cert.CctxIdeal.τ Cert.CctxIdeal.sig) → Buf (Elt Ideal) ℓ) : Prop :=
  ∀ c : Dev Cert.CctxIdeal.nD,
    (Cert.Pre_cctx_finite.fn (F := Ideal) (m ((c.tc : Thread Cert.CctxIdeal.nD Cert.CctxIdeal.τ).loc Cert.CctxIdeal.main_arg0)) (m ((c.tc : Thread Cert.CctxIdeal.nD Cert.CctxIdeal.τ).loc Cert.CctxIdeal.main_arg1)) (m ((c.tc : Thread Cert.CctxIdeal.nD Cert.CctxIdeal.τ).loc Cert.CctxIdeal.main_arg2))).1 = (fun _ => 1#1)
    ∧ (Cert.Pre_cctx_finite.fn (F := Ideal) (m ((c.tc : Thread Cert.CctxIdeal.nD Cert.CctxIdeal.τ).loc Cert.CctxIdeal.main_arg0)) (m ((c.tc : Thread Cert.CctxIdeal.nD Cert.CctxIdeal.τ).loc Cert.CctxIdeal.main_arg1)) (m ((c.tc : Thread Cert.CctxIdeal.nD Cert.CctxIdeal.τ).loc Cert.CctxIdeal.main_arg2))).2 = (fun _ => 1#1)

def Pre_CctxRefIdeal (m : (ℓ : Loc Cert.CctxRefIdeal.nD Cert.CctxRefIdeal.τ Cert.CctxRefIdeal.sig) → Buf (Elt Ideal) ℓ) : Prop :=
  True

def Pre_CctxRefIdeal_cctx_finite [hPre_cctx_finite : Cert.Pre_cctx_finite.Facts] (m : (ℓ : Loc Cert.CctxRefIdeal.nD Cert.CctxRefIdeal.τ Cert.CctxRefIdeal.sig) → Buf (Elt Ideal) ℓ) : Prop :=
  ∀ c : Dev Cert.CctxRefIdeal.nD,
    (Cert.Pre_cctx_finite.fn (F := Ideal) (m ((c.tc : Thread Cert.CctxRefIdeal.nD Cert.CctxRefIdeal.τ).loc Cert.CctxRefIdeal.main_arg0)) (m ((c.tc : Thread Cert.CctxRefIdeal.nD Cert.CctxRefIdeal.τ).loc Cert.CctxRefIdeal.main_arg1)) (m ((c.tc : Thread Cert.CctxRefIdeal.nD Cert.CctxRefIdeal.τ).loc Cert.CctxRefIdeal.main_arg2))).1 = (fun _ => 1#1)
    ∧ (Cert.Pre_cctx_finite.fn (F := Ideal) (m ((c.tc : Thread Cert.CctxRefIdeal.nD Cert.CctxRefIdeal.τ).loc Cert.CctxRefIdeal.main_arg0)) (m ((c.tc : Thread Cert.CctxRefIdeal.nD Cert.CctxRefIdeal.τ).loc Cert.CctxRefIdeal.main_arg1)) (m ((c.tc : Thread Cert.CctxRefIdeal.nD Cert.CctxRefIdeal.τ).loc Cert.CctxRefIdeal.main_arg2))).2 = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaIdeal_ada_finite [hPre_ada_finite : Cert.Pre_ada_finite.Facts] (m : (ℓ : Loc Cert.AdaIdeal.nD Cert.AdaIdeal.τ Cert.AdaIdeal.sig) → Buf (Elt Ideal) ℓ) : Prop :=
  ∀ c : Dev Cert.AdaIdeal.nD,
    (Cert.Pre_ada_finite.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3)) (m ((c.tc : Thread Cert.AdaIdeal.nD Cert.AdaIdeal.τ).loc Cert.AdaIdeal.main_arg4))).1 = (fun _ => 1#1)
    ∧ (Cert.Pre_ada_finite.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3)) (m ((c.tc : Thread Cert.AdaIdeal.nD Cert.AdaIdeal.τ).loc Cert.AdaIdeal.main_arg4))).2.1 = (fun _ => 1#1)
    ∧ (Cert.Pre_ada_finite.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3)) (m ((c.tc : Thread Cert.AdaIdeal.nD Cert.AdaIdeal.τ).loc Cert.AdaIdeal.main_arg4))).2.2.1 = (fun _ => 1#1)
    ∧ (Cert.Pre_ada_finite.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3)) (m ((c.tc : Thread Cert.AdaIdeal.nD Cert.AdaIdeal.τ).loc Cert.AdaIdeal.main_arg4))).2.2.2.1 = (fun _ => 1#1)
    ∧ (Cert.Pre_ada_finite.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3)) (m ((c.tc : Thread Cert.AdaIdeal.nD Cert.AdaIdeal.τ).loc Cert.AdaIdeal.main_arg4))).2.2.2.2 = (fun _ => 1#1)

def Pre_AdaRefIdeal (m : (ℓ : Loc Cert.AdaRefIdeal.nD Cert.AdaRefIdeal.τ Cert.AdaRefIdeal.sig) → Buf (Elt Ideal) ℓ) : Prop :=
  True

def Pre_AdaRefIdeal_ada_finite [hPre_ada_finite : Cert.Pre_ada_finite.Facts] (m : (ℓ : Loc Cert.AdaRefIdeal.nD Cert.AdaRefIdeal.τ Cert.AdaRefIdeal.sig) → Buf (Elt Ideal) ℓ) : Prop :=
  ∀ c : Dev Cert.AdaRefIdeal.nD,
    (Cert.Pre_ada_finite.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2)) (m ((c.tc : Thread Cert.AdaRefIdeal.nD Cert.AdaRefIdeal.τ).loc Cert.AdaRefIdeal.main_arg3)) (m ((c.tc : Thread Cert.AdaRefIdeal.nD Cert.AdaRefIdeal.τ).loc Cert.AdaRefIdeal.main_arg4))).1 = (fun _ => 1#1)
    ∧ (Cert.Pre_ada_finite.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2)) (m ((c.tc : Thread Cert.AdaRefIdeal.nD Cert.AdaRefIdeal.τ).loc Cert.AdaRefIdeal.main_arg3)) (m ((c.tc : Thread Cert.AdaRefIdeal.nD Cert.AdaRefIdeal.τ).loc Cert.AdaRefIdeal.main_arg4))).2.1 = (fun _ => 1#1)
    ∧ (Cert.Pre_ada_finite.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2)) (m ((c.tc : Thread Cert.AdaRefIdeal.nD Cert.AdaRefIdeal.τ).loc Cert.AdaRefIdeal.main_arg3)) (m ((c.tc : Thread Cert.AdaRefIdeal.nD Cert.AdaRefIdeal.τ).loc Cert.AdaRefIdeal.main_arg4))).2.2.1 = (fun _ => 1#1)
    ∧ (Cert.Pre_ada_finite.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2)) (m ((c.tc : Thread Cert.AdaRefIdeal.nD Cert.AdaRefIdeal.τ).loc Cert.AdaRefIdeal.main_arg3)) (m ((c.tc : Thread Cert.AdaRefIdeal.nD Cert.AdaRefIdeal.τ).loc Cert.AdaRefIdeal.main_arg4))).2.2.2.1 = (fun _ => 1#1)
    ∧ (Cert.Pre_ada_finite.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2)) (m ((c.tc : Thread Cert.AdaRefIdeal.nD Cert.AdaRefIdeal.τ).loc Cert.AdaRefIdeal.main_arg3)) (m ((c.tc : Thread Cert.AdaRefIdeal.nD Cert.AdaRefIdeal.τ).loc Cert.AdaRefIdeal.main_arg4))).2.2.2.2 = (fun _ => 1#1)

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoIdeal_wo_finite [hPre_wo_finite : Cert.Pre_wo_finite.Facts] (m : (ℓ : Loc Cert.WoIdeal.nD Cert.WoIdeal.τ Cert.WoIdeal.sig) → Buf (Elt Ideal) ℓ) : Prop :=
  ∀ c : Dev Cert.WoIdeal.nD,
    (Cert.Pre_wo_finite.fn (F := Ideal) (m ((c.tc : Thread Cert.WoIdeal.nD Cert.WoIdeal.τ).loc Cert.WoIdeal.main_arg0)) (m ((c.tc : Thread Cert.WoIdeal.nD Cert.WoIdeal.τ).loc Cert.WoIdeal.main_arg1)) (m ((c.tc : Thread Cert.WoIdeal.nD Cert.WoIdeal.τ).loc Cert.WoIdeal.main_arg2)) (m ((c.tc : Thread Cert.WoIdeal.nD Cert.WoIdeal.τ).loc Cert.WoIdeal.main_arg3)) (m ((c.tc : Thread Cert.WoIdeal.nD Cert.WoIdeal.τ).loc Cert.WoIdeal.main_arg4))).1 = (fun _ => 1#1)
    ∧ (Cert.Pre_wo_finite.fn (F := Ideal) (m ((c.tc : Thread Cert.WoIdeal.nD Cert.WoIdeal.τ).loc Cert.WoIdeal.main_arg0)) (m ((c.tc : Thread Cert.WoIdeal.nD Cert.WoIdeal.τ).loc Cert.WoIdeal.main_arg1)) (m ((c.tc : Thread Cert.WoIdeal.nD Cert.WoIdeal.τ).loc Cert.WoIdeal.main_arg2)) (m ((c.tc : Thread Cert.WoIdeal.nD Cert.WoIdeal.τ).loc Cert.WoIdeal.main_arg3)) (m ((c.tc : Thread Cert.WoIdeal.nD Cert.WoIdeal.τ).loc Cert.WoIdeal.main_arg4))).2.1 = (fun _ => 1#1)
    ∧ (Cert.Pre_wo_finite.fn (F := Ideal) (m ((c.tc : Thread Cert.WoIdeal.nD Cert.WoIdeal.τ).loc Cert.WoIdeal.main_arg0)) (m ((c.tc : Thread Cert.WoIdeal.nD Cert.WoIdeal.τ).loc Cert.WoIdeal.main_arg1)) (m ((c.tc : Thread Cert.WoIdeal.nD Cert.WoIdeal.τ).loc Cert.WoIdeal.main_arg2)) (m ((c.tc : Thread Cert.WoIdeal.nD Cert.WoIdeal.τ).loc Cert.WoIdeal.main_arg3)) (m ((c.tc : Thread Cert.WoIdeal.nD Cert.WoIdeal.τ).loc Cert.WoIdeal.main_arg4))).2.2.1 = (fun _ => 1#1)
    ∧ (Cert.Pre_wo_finite.fn (F := Ideal) (m ((c.tc : Thread Cert.WoIdeal.nD Cert.WoIdeal.τ).loc Cert.WoIdeal.main_arg0)) (m ((c.tc : Thread Cert.WoIdeal.nD Cert.WoIdeal.τ).loc Cert.WoIdeal.main_arg1)) (m ((c.tc : Thread Cert.WoIdeal.nD Cert.WoIdeal.τ).loc Cert.WoIdeal.main_arg2)) (m ((c.tc : Thread Cert.WoIdeal.nD Cert.WoIdeal.τ).loc Cert.WoIdeal.main_arg3)) (m ((c.tc : Thread Cert.WoIdeal.nD Cert.WoIdeal.τ).loc Cert.WoIdeal.main_arg4))).2.2.2 = (fun _ => 1#1)

def Pre_WoRefIdeal (m : (ℓ : Loc Cert.WoRefIdeal.nD Cert.WoRefIdeal.τ Cert.WoRefIdeal.sig) → Buf (Elt Ideal) ℓ) : Prop :=
  True

def Pre_WoRefIdeal_wo_finite [hPre_wo_finite : Cert.Pre_wo_finite.Facts] (m : (ℓ : Loc Cert.WoRefIdeal.nD Cert.WoRefIdeal.τ Cert.WoRefIdeal.sig) → Buf (Elt Ideal) ℓ) : Prop :=
  ∀ c : Dev Cert.WoRefIdeal.nD,
    (Cert.Pre_wo_finite.fn (F := Ideal) (m ((c.tc : Thread Cert.WoRefIdeal.nD Cert.WoRefIdeal.τ).loc Cert.WoRefIdeal.main_arg0)) (m ((c.tc : Thread Cert.WoRefIdeal.nD Cert.WoRefIdeal.τ).loc Cert.WoRefIdeal.main_arg1)) (m ((c.tc : Thread Cert.WoRefIdeal.nD Cert.WoRefIdeal.τ).loc Cert.WoRefIdeal.main_arg2)) (m ((c.tc : Thread Cert.WoRefIdeal.nD Cert.WoRefIdeal.τ).loc Cert.WoRefIdeal.main_arg3)) (m ((c.tc : Thread Cert.WoRefIdeal.nD Cert.WoRefIdeal.τ).loc Cert.WoRefIdeal.main_arg4))).1 = (fun _ => 1#1)
    ∧ (Cert.Pre_wo_finite.fn (F := Ideal) (m ((c.tc : Thread Cert.WoRefIdeal.nD Cert.WoRefIdeal.τ).loc Cert.WoRefIdeal.main_arg0)) (m ((c.tc : Thread Cert.WoRefIdeal.nD Cert.WoRefIdeal.τ).loc Cert.WoRefIdeal.main_arg1)) (m ((c.tc : Thread Cert.WoRefIdeal.nD Cert.WoRefIdeal.τ).loc Cert.WoRefIdeal.main_arg2)) (m ((c.tc : Thread Cert.WoRefIdeal.nD Cert.WoRefIdeal.τ).loc Cert.WoRefIdeal.main_arg3)) (m ((c.tc : Thread Cert.WoRefIdeal.nD Cert.WoRefIdeal.τ).loc Cert.WoRefIdeal.main_arg4))).2.1 = (fun _ => 1#1)
    ∧ (Cert.Pre_wo_finite.fn (F := Ideal) (m ((c.tc : Thread Cert.WoRefIdeal.nD Cert.WoRefIdeal.τ).loc Cert.WoRefIdeal.main_arg0)) (m ((c.tc : Thread Cert.WoRefIdeal.nD Cert.WoRefIdeal.τ).loc Cert.WoRefIdeal.main_arg1)) (m ((c.tc : Thread Cert.WoRefIdeal.nD Cert.WoRefIdeal.τ).loc Cert.WoRefIdeal.main_arg2)) (m ((c.tc : Thread Cert.WoRefIdeal.nD Cert.WoRefIdeal.τ).loc Cert.WoRefIdeal.main_arg3)) (m ((c.tc : Thread Cert.WoRefIdeal.nD Cert.WoRefIdeal.τ).loc Cert.WoRefIdeal.main_arg4))).2.2.1 = (fun _ => 1#1)
    ∧ (Cert.Pre_wo_finite.fn (F := Ideal) (m ((c.tc : Thread Cert.WoRefIdeal.nD Cert.WoRefIdeal.τ).loc Cert.WoRefIdeal.main_arg0)) (m ((c.tc : Thread Cert.WoRefIdeal.nD Cert.WoRefIdeal.τ).loc Cert.WoRefIdeal.main_arg1)) (m ((c.tc : Thread Cert.WoRefIdeal.nD Cert.WoRefIdeal.τ).loc Cert.WoRefIdeal.main_arg2)) (m ((c.tc : Thread Cert.WoRefIdeal.nD Cert.WoRefIdeal.τ).loc Cert.WoRefIdeal.main_arg3)) (m ((c.tc : Thread Cert.WoRefIdeal.nD Cert.WoRefIdeal.τ).loc Cert.WoRefIdeal.main_arg4))).2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7))).1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7))).2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7))).2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7))).2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7))).2.2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7))).2.2.2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7))).2.2.2.2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7))).2.2.2.2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).2.2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).2.2.2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).2.2.2.2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).2.2.2.2.2.2.2 = (fun _ => 1#1)

def Pre_Mfwd (m : (ℓ : Loc Cert.Mfwd.nD Cert.Mfwd.τ Cert.Mfwd.sig) → Buf (Elt Bits) ℓ) : Prop :=
  True

def Pre_MfwdIdeal (m : (ℓ : Loc Cert.MfwdIdeal.nD Cert.MfwdIdeal.τ Cert.MfwdIdeal.sig) → Buf (Elt Ideal) ℓ) : Prop :=
  True

def Pre_MfwdIdeal_mfwd_finite [hPre_mfwd_finite : Cert.Pre_mfwd_finite.Facts] (m : (ℓ : Loc Cert.MfwdIdeal.nD Cert.MfwdIdeal.τ Cert.MfwdIdeal.sig) → Buf (Elt Ideal) ℓ) : Prop :=
  ∀ c : Dev Cert.MfwdIdeal.nD,
    (Cert.Pre_mfwd_finite.fn (F := Ideal) (m ((c.tc : Thread Cert.MfwdIdeal.nD Cert.MfwdIdeal.τ).loc Cert.MfwdIdeal.main_arg0)) (m ((c.tc : Thread Cert.MfwdIdeal.nD Cert.MfwdIdeal.τ).loc Cert.MfwdIdeal.main_arg1)) (m ((c.tc : Thread Cert.MfwdIdeal.nD Cert.MfwdIdeal.τ).loc Cert.MfwdIdeal.main_arg2)) (m ((c.tc : Thread Cert.MfwdIdeal.nD Cert.MfwdIdeal.τ).loc Cert.MfwdIdeal.main_arg3)) (m ((c.tc : Thread Cert.MfwdIdeal.nD Cert.MfwdIdeal.τ).loc Cert.MfwdIdeal.main_arg4)) (m ((c.tc : Thread Cert.MfwdIdeal.nD Cert.MfwdIdeal.τ).loc Cert.MfwdIdeal.main_arg5)) (m ((c.tc : Thread Cert.MfwdIdeal.nD Cert.MfwdIdeal.τ).loc Cert.MfwdIdeal.main_arg6))).1 = (fun _ => 1#1)
    ∧ (Cert.Pre_mfwd_finite.fn (F := Ideal) (m ((c.tc : Thread Cert.MfwdIdeal.nD Cert.MfwdIdeal.τ).loc Cert.MfwdIdeal.main_arg0)) (m ((c.tc : Thread Cert.MfwdIdeal.nD Cert.MfwdIdeal.τ).loc Cert.MfwdIdeal.main_arg1)) (m ((c.tc : Thread Cert.MfwdIdeal.nD Cert.MfwdIdeal.τ).loc Cert.MfwdIdeal.main_arg2)) (m ((c.tc : Thread Cert.MfwdIdeal.nD Cert.MfwdIdeal.τ).loc Cert.MfwdIdeal.main_arg3)) (m ((c.tc : Thread Cert.MfwdIdeal.nD Cert.MfwdIdeal.τ).loc Cert.MfwdIdeal.main_arg4)) (m ((c.tc : Thread Cert.MfwdIdeal.nD Cert.MfwdIdeal.τ).loc Cert.MfwdIdeal.main_arg5)) (m ((c.tc : Thread Cert.MfwdIdeal.nD Cert.MfwdIdeal.τ).loc Cert.MfwdIdeal.main_arg6))).2.1 = (fun _ => 1#1)
    ∧ (Cert.Pre_mfwd_finite.fn (F := Ideal) (m ((c.tc : Thread Cert.MfwdIdeal.nD Cert.MfwdIdeal.τ).loc Cert.MfwdIdeal.main_arg0)) (m ((c.tc : Thread Cert.MfwdIdeal.nD Cert.MfwdIdeal.τ).loc Cert.MfwdIdeal.main_arg1)) (m ((c.tc : Thread Cert.MfwdIdeal.nD Cert.MfwdIdeal.τ).loc Cert.MfwdIdeal.main_arg2)) (m ((c.tc : Thread Cert.MfwdIdeal.nD Cert.MfwdIdeal.τ).loc Cert.MfwdIdeal.main_arg3)) (m ((c.tc : Thread Cert.MfwdIdeal.nD Cert.MfwdIdeal.τ).loc Cert.MfwdIdeal.main_arg4)) (m ((c.tc : Thread Cert.MfwdIdeal.nD Cert.MfwdIdeal.τ).loc Cert.MfwdIdeal.main_arg5)) (m ((c.tc : Thread Cert.MfwdIdeal.nD Cert.MfwdIdeal.τ).loc Cert.MfwdIdeal.main_arg6))).2.2.1 = (fun _ => 1#1)
    ∧ (Cert.Pre_mfwd_finite.fn (F := Ideal) (m ((c.tc : Thread Cert.MfwdIdeal.nD Cert.MfwdIdeal.τ).loc Cert.MfwdIdeal.main_arg0)) (m ((c.tc : Thread Cert.MfwdIdeal.nD Cert.MfwdIdeal.τ).loc Cert.MfwdIdeal.main_arg1)) (m ((c.tc : Thread Cert.MfwdIdeal.nD Cert.MfwdIdeal.τ).loc Cert.MfwdIdeal.main_arg2)) (m ((c.tc : Thread Cert.MfwdIdeal.nD Cert.MfwdIdeal.τ).loc Cert.MfwdIdeal.main_arg3)) (m ((c.tc : Thread Cert.MfwdIdeal.nD Cert.MfwdIdeal.τ).loc Cert.MfwdIdeal.main_arg4)) (m ((c.tc : Thread Cert.MfwdIdeal.nD Cert.MfwdIdeal.τ).loc Cert.MfwdIdeal.main_arg5)) (m ((c.tc : Thread Cert.MfwdIdeal.nD Cert.MfwdIdeal.τ).loc Cert.MfwdIdeal.main_arg6))).2.2.2.1 = (fun _ => 1#1)
    ∧ (Cert.Pre_mfwd_finite.fn (F := Ideal) (m ((c.tc : Thread Cert.MfwdIdeal.nD Cert.MfwdIdeal.τ).loc Cert.MfwdIdeal.main_arg0)) (m ((c.tc : Thread Cert.MfwdIdeal.nD Cert.MfwdIdeal.τ).loc Cert.MfwdIdeal.main_arg1)) (m ((c.tc : Thread Cert.MfwdIdeal.nD Cert.MfwdIdeal.τ).loc Cert.MfwdIdeal.main_arg2)) (m ((c.tc : Thread Cert.MfwdIdeal.nD Cert.MfwdIdeal.τ).loc Cert.MfwdIdeal.main_arg3)) (m ((c.tc : Thread Cert.MfwdIdeal.nD Cert.MfwdIdeal.τ).loc Cert.MfwdIdeal.main_arg4)) (m ((c.tc : Thread Cert.MfwdIdeal.nD Cert.MfwdIdeal.τ).loc Cert.MfwdIdeal.main_arg5)) (m ((c.tc : Thread Cert.MfwdIdeal.nD Cert.MfwdIdeal.τ).loc Cert.MfwdIdeal.main_arg6))).2.2.2.2.1 = (fun _ => 1#1)
    ∧ (Cert.Pre_mfwd_finite.fn (F := Ideal) (m ((c.tc : Thread Cert.MfwdIdeal.nD Cert.MfwdIdeal.τ).loc Cert.MfwdIdeal.main_arg0)) (m ((c.tc : Thread Cert.MfwdIdeal.nD Cert.MfwdIdeal.τ).loc Cert.MfwdIdeal.main_arg1)) (m ((c.tc : Thread Cert.MfwdIdeal.nD Cert.MfwdIdeal.τ).loc Cert.MfwdIdeal.main_arg2)) (m ((c.tc : Thread Cert.MfwdIdeal.nD Cert.MfwdIdeal.τ).loc Cert.MfwdIdeal.main_arg3)) (m ((c.tc : Thread Cert.MfwdIdeal.nD Cert.MfwdIdeal.τ).loc Cert.MfwdIdeal.main_arg4)) (m ((c.tc : Thread Cert.MfwdIdeal.nD Cert.MfwdIdeal.τ).loc Cert.MfwdIdeal.main_arg5)) (m ((c.tc : Thread Cert.MfwdIdeal.nD Cert.MfwdIdeal.τ).loc Cert.MfwdIdeal.main_arg6))).2.2.2.2.2.1 = (fun _ => 1#1)
    ∧ (Cert.Pre_mfwd_finite.fn (F := Ideal) (m ((c.tc : Thread Cert.MfwdIdeal.nD Cert.MfwdIdeal.τ).loc Cert.MfwdIdeal.main_arg0)) (m ((c.tc : Thread Cert.MfwdIdeal.nD Cert.MfwdIdeal.τ).loc Cert.MfwdIdeal.main_arg1)) (m ((c.tc : Thread Cert.MfwdIdeal.nD Cert.MfwdIdeal.τ).loc Cert.MfwdIdeal.main_arg2)) (m ((c.tc : Thread Cert.MfwdIdeal.nD Cert.MfwdIdeal.τ).loc Cert.MfwdIdeal.main_arg3)) (m ((c.tc : Thread Cert.MfwdIdeal.nD Cert.MfwdIdeal.τ).loc Cert.MfwdIdeal.main_arg4)) (m ((c.tc : Thread Cert.MfwdIdeal.nD Cert.MfwdIdeal.τ).loc Cert.MfwdIdeal.main_arg5)) (m ((c.tc : Thread Cert.MfwdIdeal.nD Cert.MfwdIdeal.τ).loc Cert.MfwdIdeal.main_arg6))).2.2.2.2.2.2 = (fun _ => 1#1)

def Pre_MfwdRefIdeal (m : (ℓ : Loc Cert.MfwdRefIdeal.nD Cert.MfwdRefIdeal.τ Cert.MfwdRefIdeal.sig) → Buf (Elt Ideal) ℓ) : Prop :=
  True

def Pre_MfwdRefIdeal_mfwd_finite [hPre_mfwd_finite : Cert.Pre_mfwd_finite.Facts] (m : (ℓ : Loc Cert.MfwdRefIdeal.nD Cert.MfwdRefIdeal.τ Cert.MfwdRefIdeal.sig) → Buf (Elt Ideal) ℓ) : Prop :=
  ∀ c : Dev Cert.MfwdRefIdeal.nD,
    (Cert.Pre_mfwd_finite.fn (F := Ideal) (m ((c.tc : Thread Cert.MfwdRefIdeal.nD Cert.MfwdRefIdeal.τ).loc Cert.MfwdRefIdeal.main_arg0)) (m ((c.tc : Thread Cert.MfwdRefIdeal.nD Cert.MfwdRefIdeal.τ).loc Cert.MfwdRefIdeal.main_arg1)) (m ((c.tc : Thread Cert.MfwdRefIdeal.nD Cert.MfwdRefIdeal.τ).loc Cert.MfwdRefIdeal.main_arg2)) (m ((c.tc : Thread Cert.MfwdRefIdeal.nD Cert.MfwdRefIdeal.τ).loc Cert.MfwdRefIdeal.main_arg3)) (m ((c.tc : Thread Cert.MfwdRefIdeal.nD Cert.MfwdRefIdeal.τ).loc Cert.MfwdRefIdeal.main_arg4)) (m ((c.tc : Thread Cert.MfwdRefIdeal.nD Cert.MfwdRefIdeal.τ).loc Cert.MfwdRefIdeal.main_arg5)) (m ((c.tc : Thread Cert.MfwdRefIdeal.nD Cert.MfwdRefIdeal.τ).loc Cert.MfwdRefIdeal.main_arg6))).1 = (fun _ => 1#1)
    ∧ (Cert.Pre_mfwd_finite.fn (F := Ideal) (m ((c.tc : Thread Cert.MfwdRefIdeal.nD Cert.MfwdRefIdeal.τ).loc Cert.MfwdRefIdeal.main_arg0)) (m ((c.tc : Thread Cert.MfwdRefIdeal.nD Cert.MfwdRefIdeal.τ).loc Cert.MfwdRefIdeal.main_arg1)) (m ((c.tc : Thread Cert.MfwdRefIdeal.nD Cert.MfwdRefIdeal.τ).loc Cert.MfwdRefIdeal.main_arg2)) (m ((c.tc : Thread Cert.MfwdRefIdeal.nD Cert.MfwdRefIdeal.τ).loc Cert.MfwdRefIdeal.main_arg3)) (m ((c.tc : Thread Cert.MfwdRefIdeal.nD Cert.MfwdRefIdeal.τ).loc Cert.MfwdRefIdeal.main_arg4)) (m ((c.tc : Thread Cert.MfwdRefIdeal.nD Cert.MfwdRefIdeal.τ).loc Cert.MfwdRefIdeal.main_arg5)) (m ((c.tc : Thread Cert.MfwdRefIdeal.nD Cert.MfwdRefIdeal.τ).loc Cert.MfwdRefIdeal.main_arg6))).2.1 = (fun _ => 1#1)
    ∧ (Cert.Pre_mfwd_finite.fn (F := Ideal) (m ((c.tc : Thread Cert.MfwdRefIdeal.nD Cert.MfwdRefIdeal.τ).loc Cert.MfwdRefIdeal.main_arg0)) (m ((c.tc : Thread Cert.MfwdRefIdeal.nD Cert.MfwdRefIdeal.τ).loc Cert.MfwdRefIdeal.main_arg1)) (m ((c.tc : Thread Cert.MfwdRefIdeal.nD Cert.MfwdRefIdeal.τ).loc Cert.MfwdRefIdeal.main_arg2)) (m ((c.tc : Thread Cert.MfwdRefIdeal.nD Cert.MfwdRefIdeal.τ).loc Cert.MfwdRefIdeal.main_arg3)) (m ((c.tc : Thread Cert.MfwdRefIdeal.nD Cert.MfwdRefIdeal.τ).loc Cert.MfwdRefIdeal.main_arg4)) (m ((c.tc : Thread Cert.MfwdRefIdeal.nD Cert.MfwdRefIdeal.τ).loc Cert.MfwdRefIdeal.main_arg5)) (m ((c.tc : Thread Cert.MfwdRefIdeal.nD Cert.MfwdRefIdeal.τ).loc Cert.MfwdRefIdeal.main_arg6))).2.2.1 = (fun _ => 1#1)
    ∧ (Cert.Pre_mfwd_finite.fn (F := Ideal) (m ((c.tc : Thread Cert.MfwdRefIdeal.nD Cert.MfwdRefIdeal.τ).loc Cert.MfwdRefIdeal.main_arg0)) (m ((c.tc : Thread Cert.MfwdRefIdeal.nD Cert.MfwdRefIdeal.τ).loc Cert.MfwdRefIdeal.main_arg1)) (m ((c.tc : Thread Cert.MfwdRefIdeal.nD Cert.MfwdRefIdeal.τ).loc Cert.MfwdRefIdeal.main_arg2)) (m ((c.tc : Thread Cert.MfwdRefIdeal.nD Cert.MfwdRefIdeal.τ).loc Cert.MfwdRefIdeal.main_arg3)) (m ((c.tc : Thread Cert.MfwdRefIdeal.nD Cert.MfwdRefIdeal.τ).loc Cert.MfwdRefIdeal.main_arg4)) (m ((c.tc : Thread Cert.MfwdRefIdeal.nD Cert.MfwdRefIdeal.τ).loc Cert.MfwdRefIdeal.main_arg5)) (m ((c.tc : Thread Cert.MfwdRefIdeal.nD Cert.MfwdRefIdeal.τ).loc Cert.MfwdRefIdeal.main_arg6))).2.2.2.1 = (fun _ => 1#1)
    ∧ (Cert.Pre_mfwd_finite.fn (F := Ideal) (m ((c.tc : Thread Cert.MfwdRefIdeal.nD Cert.MfwdRefIdeal.τ).loc Cert.MfwdRefIdeal.main_arg0)) (m ((c.tc : Thread Cert.MfwdRefIdeal.nD Cert.MfwdRefIdeal.τ).loc Cert.MfwdRefIdeal.main_arg1)) (m ((c.tc : Thread Cert.MfwdRefIdeal.nD Cert.MfwdRefIdeal.τ).loc Cert.MfwdRefIdeal.main_arg2)) (m ((c.tc : Thread Cert.MfwdRefIdeal.nD Cert.MfwdRefIdeal.τ).loc Cert.MfwdRefIdeal.main_arg3)) (m ((c.tc : Thread Cert.MfwdRefIdeal.nD Cert.MfwdRefIdeal.τ).loc Cert.MfwdRefIdeal.main_arg4)) (m ((c.tc : Thread Cert.MfwdRefIdeal.nD Cert.MfwdRefIdeal.τ).loc Cert.MfwdRefIdeal.main_arg5)) (m ((c.tc : Thread Cert.MfwdRefIdeal.nD Cert.MfwdRefIdeal.τ).loc Cert.MfwdRefIdeal.main_arg6))).2.2.2.2.1 = (fun _ => 1#1)
    ∧ (Cert.Pre_mfwd_finite.fn (F := Ideal) (m ((c.tc : Thread Cert.MfwdRefIdeal.nD Cert.MfwdRefIdeal.τ).loc Cert.MfwdRefIdeal.main_arg0)) (m ((c.tc : Thread Cert.MfwdRefIdeal.nD Cert.MfwdRefIdeal.τ).loc Cert.MfwdRefIdeal.main_arg1)) (m ((c.tc : Thread Cert.MfwdRefIdeal.nD Cert.MfwdRefIdeal.τ).loc Cert.MfwdRefIdeal.main_arg2)) (m ((c.tc : Thread Cert.MfwdRefIdeal.nD Cert.MfwdRefIdeal.τ).loc Cert.MfwdRefIdeal.main_arg3)) (m ((c.tc : Thread Cert.MfwdRefIdeal.nD Cert.MfwdRefIdeal.τ).loc Cert.MfwdRefIdeal.main_arg4)) (m ((c.tc : Thread Cert.MfwdRefIdeal.nD Cert.MfwdRefIdeal.τ).loc Cert.MfwdRefIdeal.main_arg5)) (m ((c.tc : Thread Cert.MfwdRefIdeal.nD Cert.MfwdRefIdeal.τ).loc Cert.MfwdRefIdeal.main_arg6))).2.2.2.2.2.1 = (fun _ => 1#1)
    ∧ (Cert.Pre_mfwd_finite.fn (F := Ideal) (m ((c.tc : Thread Cert.MfwdRefIdeal.nD Cert.MfwdRefIdeal.τ).loc Cert.MfwdRefIdeal.main_arg0)) (m ((c.tc : Thread Cert.MfwdRefIdeal.nD Cert.MfwdRefIdeal.τ).loc Cert.MfwdRefIdeal.main_arg1)) (m ((c.tc : Thread Cert.MfwdRefIdeal.nD Cert.MfwdRefIdeal.τ).loc Cert.MfwdRefIdeal.main_arg2)) (m ((c.tc : Thread Cert.MfwdRefIdeal.nD Cert.MfwdRefIdeal.τ).loc Cert.MfwdRefIdeal.main_arg3)) (m ((c.tc : Thread Cert.MfwdRefIdeal.nD Cert.MfwdRefIdeal.τ).loc Cert.MfwdRefIdeal.main_arg4)) (m ((c.tc : Thread Cert.MfwdRefIdeal.nD Cert.MfwdRefIdeal.τ).loc Cert.MfwdRefIdeal.main_arg5)) (m ((c.tc : Thread Cert.MfwdRefIdeal.nD Cert.MfwdRefIdeal.τ).loc Cert.MfwdRefIdeal.main_arg6))).2.2.2.2.2.2 = (fun _ => 1#1)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ r.2.sem = fun _ => 0)

def quiescent_HeadIdeal_pre_head_finite [hHeadIdeal : Cert.HeadIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2))
      ∧ r.2.sem = fun _ => 0)

def quiescent_HeadRefIdeal_pre_head_finite [hHeadRefIdeal : Cert.HeadRefIdeal.Facts] [hPre_head_finite : Cert.Pre_head_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_flash_finite [hFlashIdeal : Cert.FlashIdeal.Facts] [hPre_flash_finite : Cert.Pre_flash_finite.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_flash_finite m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_flash_finite [hFlashRefIdeal : Cert.FlashRefIdeal.Facts] [hPre_flash_finite : Cert.Pre_flash_finite.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_flash_finite m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Cctx [hCctx : Cert.Cctx.Facts] : Prop :=
  ∀ (m : (ℓ : Loc Cert.Cctx.nD Cert.Cctx.τ Cert.Cctx.sig) → Buf (Elt Bits) ℓ) (g : Dev Cert.Cctx.nD → PrngReg), Pre_Cctx m →
    θ_run (Cert.Cctx.defs (F := Bits)) (onTc (τ := Cert.Cctx.τ) (Cert.Cctx.main (F := Bits))) ⟨m, fun _ => 0, g⟩ (fun r => (∀ c : Dev Cert.Cctx.nD,
      r.2.mem ((c.tc : Thread Cert.Cctx.nD Cert.Cctx.τ).loc Cert.Cctx.main_arg0) = m ((c.tc : Thread Cert.Cctx.nD Cert.Cctx.τ).loc Cert.Cctx.main_arg0)
      ∧ r.2.mem ((c.tc : Thread Cert.Cctx.nD Cert.Cctx.τ).loc Cert.Cctx.main_arg1) = m ((c.tc : Thread Cert.Cctx.nD Cert.Cctx.τ).loc Cert.Cctx.main_arg1)
      ∧ r.2.mem ((c.tc : Thread Cert.Cctx.nD Cert.Cctx.τ).loc Cert.Cctx.main_arg2) = m ((c.tc : Thread Cert.Cctx.nD Cert.Cctx.τ).loc Cert.Cctx.main_arg2))
      ∧ r.2.sem = fun _ => 0)

def quiescent_CctxIdeal [hCctxIdeal : Cert.CctxIdeal.Facts] : Prop :=
  ∀ (m : (ℓ : Loc Cert.CctxIdeal.nD Cert.CctxIdeal.τ Cert.CctxIdeal.sig) → Buf (Elt Ideal) ℓ) (g : Dev Cert.CctxIdeal.nD → PrngReg), Pre_CctxIdeal m →
    θ_run (Cert.CctxIdeal.defs (F := Ideal)) (onTc (τ := Cert.CctxIdeal.τ) (Cert.CctxIdeal.main (F := Ideal))) ⟨m, fun _ => 0, g⟩ (fun r => (∀ c : Dev Cert.CctxIdeal.nD,
      r.2.mem ((c.tc : Thread Cert.CctxIdeal.nD Cert.CctxIdeal.τ).loc Cert.CctxIdeal.main_arg0) = m ((c.tc : Thread Cert.CctxIdeal.nD Cert.CctxIdeal.τ).loc Cert.CctxIdeal.main_arg0)
      ∧ r.2.mem ((c.tc : Thread Cert.CctxIdeal.nD Cert.CctxIdeal.τ).loc Cert.CctxIdeal.main_arg1) = m ((c.tc : Thread Cert.CctxIdeal.nD Cert.CctxIdeal.τ).loc Cert.CctxIdeal.main_arg1)
      ∧ r.2.mem ((c.tc : Thread Cert.CctxIdeal.nD Cert.CctxIdeal.τ).loc Cert.CctxIdeal.main_arg2) = m ((c.tc : Thread Cert.CctxIdeal.nD Cert.CctxIdeal.τ).loc Cert.CctxIdeal.main_arg2))
      ∧ r.2.sem = fun _ => 0)

def quiescent_CctxIdeal_pre_cctx_finite [hCctxIdeal : Cert.CctxIdeal.Facts] [hPre_cctx_finite : Cert.Pre_cctx_finite.Facts] : Prop :=
  ∀ (m : (ℓ : Loc Cert.CctxIdeal.nD Cert.CctxIdeal.τ Cert.CctxIdeal.sig) → Buf (Elt Ideal) ℓ) (g : Dev Cert.CctxIdeal.nD → PrngReg), Pre_CctxIdeal_cctx_finite m →
    θ_run (Cert.CctxIdeal.defs (F := Ideal)) (onTc (τ := Cert.CctxIdeal.τ) (Cert.CctxIdeal.main (F := Ideal))) ⟨m, fun _ => 0, g⟩ (fun r => (∀ c : Dev Cert.CctxIdeal.nD,
      r.2.mem ((c.tc : Thread Cert.CctxIdeal.nD Cert.CctxIdeal.τ).loc Cert.CctxIdeal.main_arg0) = m ((c.tc : Thread Cert.CctxIdeal.nD Cert.CctxIdeal.τ).loc Cert.CctxIdeal.main_arg0)
      ∧ r.2.mem ((c.tc : Thread Cert.CctxIdeal.nD Cert.CctxIdeal.τ).loc Cert.CctxIdeal.main_arg1) = m ((c.tc : Thread Cert.CctxIdeal.nD Cert.CctxIdeal.τ).loc Cert.CctxIdeal.main_arg1)
      ∧ r.2.mem ((c.tc : Thread Cert.CctxIdeal.nD Cert.CctxIdeal.τ).loc Cert.CctxIdeal.main_arg2) = m ((c.tc : Thread Cert.CctxIdeal.nD Cert.CctxIdeal.τ).loc Cert.CctxIdeal.main_arg2))
      ∧ r.2.sem = fun _ => 0)

def quiescent_CctxRefIdeal [hCctxRefIdeal : Cert.CctxRefIdeal.Facts] : Prop :=
  ∀ (m : (ℓ : Loc Cert.CctxRefIdeal.nD Cert.CctxRefIdeal.τ Cert.CctxRefIdeal.sig) → Buf (Elt Ideal) ℓ) (g : Dev Cert.CctxRefIdeal.nD → PrngReg), Pre_CctxRefIdeal m →
    θ_run (Cert.CctxRefIdeal.defs (F := Ideal)) (onTc (τ := Cert.CctxRefIdeal.τ) (Cert.CctxRefIdeal.main (F := Ideal))) ⟨m, fun _ => 0, g⟩ (fun r => (∀ c : Dev Cert.CctxRefIdeal.nD,
      r.2.mem ((c.tc : Thread Cert.CctxRefIdeal.nD Cert.CctxRefIdeal.τ).loc Cert.CctxRefIdeal.main_arg0) = m ((c.tc : Thread Cert.CctxRefIdeal.nD Cert.CctxRefIdeal.τ).loc Cert.CctxRefIdeal.main_arg0)
      ∧ r.2.mem ((c.tc : Thread Cert.CctxRefIdeal.nD Cert.CctxRefIdeal.τ).loc Cert.CctxRefIdeal.main_arg1) = m ((c.tc : Thread Cert.CctxRefIdeal.nD Cert.CctxRefIdeal.τ).loc Cert.CctxRefIdeal.main_arg1)
      ∧ r.2.mem ((c.tc : Thread Cert.CctxRefIdeal.nD Cert.CctxRefIdeal.τ).loc Cert.CctxRefIdeal.main_arg2) = m ((c.tc : Thread Cert.CctxRefIdeal.nD Cert.CctxRefIdeal.τ).loc Cert.CctxRefIdeal.main_arg2))
      ∧ r.2.sem = fun _ => 0)

def quiescent_CctxRefIdeal_pre_cctx_finite [hCctxRefIdeal : Cert.CctxRefIdeal.Facts] [hPre_cctx_finite : Cert.Pre_cctx_finite.Facts] : Prop :=
  ∀ (m : (ℓ : Loc Cert.CctxRefIdeal.nD Cert.CctxRefIdeal.τ Cert.CctxRefIdeal.sig) → Buf (Elt Ideal) ℓ) (g : Dev Cert.CctxRefIdeal.nD → PrngReg), Pre_CctxRefIdeal_cctx_finite m →
    θ_run (Cert.CctxRefIdeal.defs (F := Ideal)) (onTc (τ := Cert.CctxRefIdeal.τ) (Cert.CctxRefIdeal.main (F := Ideal))) ⟨m, fun _ => 0, g⟩ (fun r => (∀ c : Dev Cert.CctxRefIdeal.nD,
      r.2.mem ((c.tc : Thread Cert.CctxRefIdeal.nD Cert.CctxRefIdeal.τ).loc Cert.CctxRefIdeal.main_arg0) = m ((c.tc : Thread Cert.CctxRefIdeal.nD Cert.CctxRefIdeal.τ).loc Cert.CctxRefIdeal.main_arg0)
      ∧ r.2.mem ((c.tc : Thread Cert.CctxRefIdeal.nD Cert.CctxRefIdeal.τ).loc Cert.CctxRefIdeal.main_arg1) = m ((c.tc : Thread Cert.CctxRefIdeal.nD Cert.CctxRefIdeal.τ).loc Cert.CctxRefIdeal.main_arg1)
      ∧ r.2.mem ((c.tc : Thread Cert.CctxRefIdeal.nD Cert.CctxRefIdeal.τ).loc Cert.CctxRefIdeal.main_arg2) = m ((c.tc : Thread Cert.CctxRefIdeal.nD Cert.CctxRefIdeal.τ).loc Cert.CctxRefIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3)
      ∧ r.2.mem ((c.tc : Thread Cert.Ada.nD Cert.Ada.τ).loc Cert.Ada.main_arg4) = m ((c.tc : Thread Cert.Ada.nD Cert.Ada.τ).loc Cert.Ada.main_arg4))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ r.2.sem = fun _ => 0)

def quiescent_AdaIdeal_pre_ada_finite [hAdaIdeal : Cert.AdaIdeal.Facts] [hPre_ada_finite : Cert.Pre_ada_finite.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal_ada_finite m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4))
      ∧ r.2.sem = fun _ => 0)

def quiescent_AdaRefIdeal_pre_ada_finite [hAdaRefIdeal : Cert.AdaRefIdeal.Facts] [hPre_ada_finite : Cert.Pre_ada_finite.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal_ada_finite m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2)
      ∧ r.2.mem ((c.tc : Thread Cert.Wo.nD Cert.Wo.τ).loc Cert.Wo.main_arg3) = m ((c.tc : Thread Cert.Wo.nD Cert.Wo.τ).loc Cert.Wo.main_arg3)
      ∧ r.2.mem ((c.tc : Thread Cert.Wo.nD Cert.Wo.τ).loc Cert.Wo.main_arg4) = m ((c.tc : Thread Cert.Wo.nD Cert.Wo.τ).loc Cert.Wo.main_arg4))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
      ∧ r.2.mem ((c.tc : Thread Cert.WoIdeal.nD Cert.WoIdeal.τ).loc Cert.WoIdeal.main_arg4) = m ((c.tc : Thread Cert.WoIdeal.nD Cert.WoIdeal.τ).loc Cert.WoIdeal.main_arg4))
      ∧ r.2.sem = fun _ => 0)

def quiescent_WoIdeal_pre_wo_finite [hWoIdeal : Cert.WoIdeal.Facts] [hPre_wo_finite : Cert.Pre_wo_finite.Facts] : Prop :=
  ∀ (m : (ℓ : Loc Cert.WoIdeal.nD Cert.WoIdeal.τ Cert.WoIdeal.sig) → Buf (Elt Ideal) ℓ) (g : Dev Cert.WoIdeal.nD → PrngReg), Pre_WoIdeal_wo_finite m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
      ∧ r.2.mem ((c.tc : Thread Cert.WoIdeal.nD Cert.WoIdeal.τ).loc Cert.WoIdeal.main_arg4) = m ((c.tc : Thread Cert.WoIdeal.nD Cert.WoIdeal.τ).loc Cert.WoIdeal.main_arg4))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2)
      ∧ r.2.mem ((c.tc : Thread Cert.WoRefIdeal.nD Cert.WoRefIdeal.τ).loc Cert.WoRefIdeal.main_arg3) = m ((c.tc : Thread Cert.WoRefIdeal.nD Cert.WoRefIdeal.τ).loc Cert.WoRefIdeal.main_arg3)
      ∧ r.2.mem ((c.tc : Thread Cert.WoRefIdeal.nD Cert.WoRefIdeal.τ).loc Cert.WoRefIdeal.main_arg4) = m ((c.tc : Thread Cert.WoRefIdeal.nD Cert.WoRefIdeal.τ).loc Cert.WoRefIdeal.main_arg4))
      ∧ r.2.sem = fun _ => 0)

def quiescent_WoRefIdeal_pre_wo_finite [hWoRefIdeal : Cert.WoRefIdeal.Facts] [hPre_wo_finite : Cert.Pre_wo_finite.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal_wo_finite m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2)
      ∧ r.2.mem ((c.tc : Thread Cert.WoRefIdeal.nD Cert.WoRefIdeal.τ).loc Cert.WoRefIdeal.main_arg3) = m ((c.tc : Thread Cert.WoRefIdeal.nD Cert.WoRefIdeal.τ).loc Cert.WoRefIdeal.main_arg3)
      ∧ r.2.mem ((c.tc : Thread Cert.WoRefIdeal.nD Cert.WoRefIdeal.τ).loc Cert.WoRefIdeal.main_arg4) = m ((c.tc : Thread Cert.WoRefIdeal.nD Cert.WoRefIdeal.τ).loc Cert.WoRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_Mfwd [hMfwd : Cert.Mfwd.Facts] : Prop :=
  ∀ (m : (ℓ : Loc Cert.Mfwd.nD Cert.Mfwd.τ Cert.Mfwd.sig) → Buf (Elt Bits) ℓ) (g : Dev Cert.Mfwd.nD → PrngReg), Pre_Mfwd m →
    θ_run (Cert.Mfwd.defs (F := Bits)) (onTc (τ := Cert.Mfwd.τ) (Cert.Mfwd.main (F := Bits))) ⟨m, fun _ => 0, g⟩ (fun r => (∀ c : Dev Cert.Mfwd.nD,
      r.2.mem ((c.tc : Thread Cert.Mfwd.nD Cert.Mfwd.τ).loc Cert.Mfwd.main_arg0) = m ((c.tc : Thread Cert.Mfwd.nD Cert.Mfwd.τ).loc Cert.Mfwd.main_arg0)
      ∧ r.2.mem ((c.tc : Thread Cert.Mfwd.nD Cert.Mfwd.τ).loc Cert.Mfwd.main_arg1) = m ((c.tc : Thread Cert.Mfwd.nD Cert.Mfwd.τ).loc Cert.Mfwd.main_arg1)
      ∧ r.2.mem ((c.tc : Thread Cert.Mfwd.nD Cert.Mfwd.τ).loc Cert.Mfwd.main_arg2) = m ((c.tc : Thread Cert.Mfwd.nD Cert.Mfwd.τ).loc Cert.Mfwd.main_arg2)
      ∧ r.2.mem ((c.tc : Thread Cert.Mfwd.nD Cert.Mfwd.τ).loc Cert.Mfwd.main_arg3) = m ((c.tc : Thread Cert.Mfwd.nD Cert.Mfwd.τ).loc Cert.Mfwd.main_arg3)
      ∧ r.2.mem ((c.tc : Thread Cert.Mfwd.nD Cert.Mfwd.τ).loc Cert.Mfwd.main_arg4) = m ((c.tc : Thread Cert.Mfwd.nD Cert.Mfwd.τ).loc Cert.Mfwd.main_arg4)
      ∧ r.2.mem ((c.tc : Thread Cert.Mfwd.nD Cert.Mfwd.τ).loc Cert.Mfwd.main_arg5) = m ((c.tc : Thread Cert.Mfwd.nD Cert.Mfwd.τ).loc Cert.Mfwd.main_arg5)
      ∧ r.2.mem ((c.tc : Thread Cert.Mfwd.nD Cert.Mfwd.τ).loc Cert.Mfwd.main_arg6) = m ((c.tc : Thread Cert.Mfwd.nD Cert.Mfwd.τ).loc Cert.Mfwd.main_arg6))
      ∧ r.2.sem = fun _ => 0)

def quiescent_MfwdIdeal [hMfwdIdeal : Cert.MfwdIdeal.Facts] : Prop :=
  ∀ (m : (ℓ : Loc Cert.MfwdIdeal.nD Cert.MfwdIdeal.τ Cert.MfwdIdeal.sig) → Buf (Elt Ideal) ℓ) (g : Dev Cert.MfwdIdeal.nD → PrngReg), Pre_MfwdIdeal m →
    θ_run (Cert.MfwdIdeal.defs (F := Ideal)) (onTc (τ := Cert.MfwdIdeal.τ) (Cert.MfwdIdeal.main (F := Ideal))) ⟨m, fun _ => 0, g⟩ (fun r => (∀ c : Dev Cert.MfwdIdeal.nD,
      r.2.mem ((c.tc : Thread Cert.MfwdIdeal.nD Cert.MfwdIdeal.τ).loc Cert.MfwdIdeal.main_arg0) = m ((c.tc : Thread Cert.MfwdIdeal.nD Cert.MfwdIdeal.τ).loc Cert.MfwdIdeal.main_arg0)
      ∧ r.2.mem ((c.tc : Thread Cert.MfwdIdeal.nD Cert.MfwdIdeal.τ).loc Cert.MfwdIdeal.main_arg1) = m ((c.tc : Thread Cert.MfwdIdeal.nD Cert.MfwdIdeal.τ).loc Cert.MfwdIdeal.main_arg1)
      ∧ r.2.mem ((c.tc : Thread Cert.MfwdIdeal.nD Cert.MfwdIdeal.τ).loc Cert.MfwdIdeal.main_arg2) = m ((c.tc : Thread Cert.MfwdIdeal.nD Cert.MfwdIdeal.τ).loc Cert.MfwdIdeal.main_arg2)
      ∧ r.2.mem ((c.tc : Thread Cert.MfwdIdeal.nD Cert.MfwdIdeal.τ).loc Cert.MfwdIdeal.main_arg3) = m ((c.tc : Thread Cert.MfwdIdeal.nD Cert.MfwdIdeal.τ).loc Cert.MfwdIdeal.main_arg3)
      ∧ r.2.mem ((c.tc : Thread Cert.MfwdIdeal.nD Cert.MfwdIdeal.τ).loc Cert.MfwdIdeal.main_arg4) = m ((c.tc : Thread Cert.MfwdIdeal.nD Cert.MfwdIdeal.τ).loc Cert.MfwdIdeal.main_arg4)
      ∧ r.2.mem ((c.tc : Thread Cert.MfwdIdeal.nD Cert.MfwdIdeal.τ).loc Cert.MfwdIdeal.main_arg5) = m ((c.tc : Thread Cert.MfwdIdeal.nD Cert.MfwdIdeal.τ).loc Cert.MfwdIdeal.main_arg5)
      ∧ r.2.mem ((c.tc : Thread Cert.MfwdIdeal.nD Cert.MfwdIdeal.τ).loc Cert.MfwdIdeal.main_arg6) = m ((c.tc : Thread Cert.MfwdIdeal.nD Cert.MfwdIdeal.τ).loc Cert.MfwdIdeal.main_arg6))
      ∧ r.2.sem = fun _ => 0)

def quiescent_MfwdIdeal_pre_mfwd_finite [hMfwdIdeal : Cert.MfwdIdeal.Facts] [hPre_mfwd_finite : Cert.Pre_mfwd_finite.Facts] : Prop :=
  ∀ (m : (ℓ : Loc Cert.MfwdIdeal.nD Cert.MfwdIdeal.τ Cert.MfwdIdeal.sig) → Buf (Elt Ideal) ℓ) (g : Dev Cert.MfwdIdeal.nD → PrngReg), Pre_MfwdIdeal_mfwd_finite m →
    θ_run (Cert.MfwdIdeal.defs (F := Ideal)) (onTc (τ := Cert.MfwdIdeal.τ) (Cert.MfwdIdeal.main (F := Ideal))) ⟨m, fun _ => 0, g⟩ (fun r => (∀ c : Dev Cert.MfwdIdeal.nD,
      r.2.mem ((c.tc : Thread Cert.MfwdIdeal.nD Cert.MfwdIdeal.τ).loc Cert.MfwdIdeal.main_arg0) = m ((c.tc : Thread Cert.MfwdIdeal.nD Cert.MfwdIdeal.τ).loc Cert.MfwdIdeal.main_arg0)
      ∧ r.2.mem ((c.tc : Thread Cert.MfwdIdeal.nD Cert.MfwdIdeal.τ).loc Cert.MfwdIdeal.main_arg1) = m ((c.tc : Thread Cert.MfwdIdeal.nD Cert.MfwdIdeal.τ).loc Cert.MfwdIdeal.main_arg1)
      ∧ r.2.mem ((c.tc : Thread Cert.MfwdIdeal.nD Cert.MfwdIdeal.τ).loc Cert.MfwdIdeal.main_arg2) = m ((c.tc : Thread Cert.MfwdIdeal.nD Cert.MfwdIdeal.τ).loc Cert.MfwdIdeal.main_arg2)
      ∧ r.2.mem ((c.tc : Thread Cert.MfwdIdeal.nD Cert.MfwdIdeal.τ).loc Cert.MfwdIdeal.main_arg3) = m ((c.tc : Thread Cert.MfwdIdeal.nD Cert.MfwdIdeal.τ).loc Cert.MfwdIdeal.main_arg3)
      ∧ r.2.mem ((c.tc : Thread Cert.MfwdIdeal.nD Cert.MfwdIdeal.τ).loc Cert.MfwdIdeal.main_arg4) = m ((c.tc : Thread Cert.MfwdIdeal.nD Cert.MfwdIdeal.τ).loc Cert.MfwdIdeal.main_arg4)
      ∧ r.2.mem ((c.tc : Thread Cert.MfwdIdeal.nD Cert.MfwdIdeal.τ).loc Cert.MfwdIdeal.main_arg5) = m ((c.tc : Thread Cert.MfwdIdeal.nD Cert.MfwdIdeal.τ).loc Cert.MfwdIdeal.main_arg5)
      ∧ r.2.mem ((c.tc : Thread Cert.MfwdIdeal.nD Cert.MfwdIdeal.τ).loc Cert.MfwdIdeal.main_arg6) = m ((c.tc : Thread Cert.MfwdIdeal.nD Cert.MfwdIdeal.τ).loc Cert.MfwdIdeal.main_arg6))
      ∧ r.2.sem = fun _ => 0)

def quiescent_MfwdRefIdeal [hMfwdRefIdeal : Cert.MfwdRefIdeal.Facts] : Prop :=
  ∀ (m : (ℓ : Loc Cert.MfwdRefIdeal.nD Cert.MfwdRefIdeal.τ Cert.MfwdRefIdeal.sig) → Buf (Elt Ideal) ℓ) (g : Dev Cert.MfwdRefIdeal.nD → PrngReg), Pre_MfwdRefIdeal m →
    θ_run (Cert.MfwdRefIdeal.defs (F := Ideal)) (onTc (τ := Cert.MfwdRefIdeal.τ) (Cert.MfwdRefIdeal.main (F := Ideal))) ⟨m, fun _ => 0, g⟩ (fun r => (∀ c : Dev Cert.MfwdRefIdeal.nD,
      r.2.mem ((c.tc : Thread Cert.MfwdRefIdeal.nD Cert.MfwdRefIdeal.τ).loc Cert.MfwdRefIdeal.main_arg0) = m ((c.tc : Thread Cert.MfwdRefIdeal.nD Cert.MfwdRefIdeal.τ).loc Cert.MfwdRefIdeal.main_arg0)
      ∧ r.2.mem ((c.tc : Thread Cert.MfwdRefIdeal.nD Cert.MfwdRefIdeal.τ).loc Cert.MfwdRefIdeal.main_arg1) = m ((c.tc : Thread Cert.MfwdRefIdeal.nD Cert.MfwdRefIdeal.τ).loc Cert.MfwdRefIdeal.main_arg1)
      ∧ r.2.mem ((c.tc : Thread Cert.MfwdRefIdeal.nD Cert.MfwdRefIdeal.τ).loc Cert.MfwdRefIdeal.main_arg2) = m ((c.tc : Thread Cert.MfwdRefIdeal.nD Cert.MfwdRefIdeal.τ).loc Cert.MfwdRefIdeal.main_arg2)
      ∧ r.2.mem ((c.tc : Thread Cert.MfwdRefIdeal.nD Cert.MfwdRefIdeal.τ).loc Cert.MfwdRefIdeal.main_arg3) = m ((c.tc : Thread Cert.MfwdRefIdeal.nD Cert.MfwdRefIdeal.τ).loc Cert.MfwdRefIdeal.main_arg3)
      ∧ r.2.mem ((c.tc : Thread Cert.MfwdRefIdeal.nD Cert.MfwdRefIdeal.τ).loc Cert.MfwdRefIdeal.main_arg4) = m ((c.tc : Thread Cert.MfwdRefIdeal.nD Cert.MfwdRefIdeal.τ).loc Cert.MfwdRefIdeal.main_arg4)
      ∧ r.2.mem ((c.tc : Thread Cert.MfwdRefIdeal.nD Cert.MfwdRefIdeal.τ).loc Cert.MfwdRefIdeal.main_arg5) = m ((c.tc : Thread Cert.MfwdRefIdeal.nD Cert.MfwdRefIdeal.τ).loc Cert.MfwdRefIdeal.main_arg5)
      ∧ r.2.mem ((c.tc : Thread Cert.MfwdRefIdeal.nD Cert.MfwdRefIdeal.τ).loc Cert.MfwdRefIdeal.main_arg6) = m ((c.tc : Thread Cert.MfwdRefIdeal.nD Cert.MfwdRefIdeal.τ).loc Cert.MfwdRefIdeal.main_arg6))
      ∧ r.2.sem = fun _ => 0)

def quiescent_MfwdRefIdeal_pre_mfwd_finite [hMfwdRefIdeal : Cert.MfwdRefIdeal.Facts] [hPre_mfwd_finite : Cert.Pre_mfwd_finite.Facts] : Prop :=
  ∀ (m : (ℓ : Loc Cert.MfwdRefIdeal.nD Cert.MfwdRefIdeal.τ Cert.MfwdRefIdeal.sig) → Buf (Elt Ideal) ℓ) (g : Dev Cert.MfwdRefIdeal.nD → PrngReg), Pre_MfwdRefIdeal_mfwd_finite m →
    θ_run (Cert.MfwdRefIdeal.defs (F := Ideal)) (onTc (τ := Cert.MfwdRefIdeal.τ) (Cert.MfwdRefIdeal.main (F := Ideal))) ⟨m, fun _ => 0, g⟩ (fun r => (∀ c : Dev Cert.MfwdRefIdeal.nD,
      r.2.mem ((c.tc : Thread Cert.MfwdRefIdeal.nD Cert.MfwdRefIdeal.τ).loc Cert.MfwdRefIdeal.main_arg0) = m ((c.tc : Thread Cert.MfwdRefIdeal.nD Cert.MfwdRefIdeal.τ).loc Cert.MfwdRefIdeal.main_arg0)
      ∧ r.2.mem ((c.tc : Thread Cert.MfwdRefIdeal.nD Cert.MfwdRefIdeal.τ).loc Cert.MfwdRefIdeal.main_arg1) = m ((c.tc : Thread Cert.MfwdRefIdeal.nD Cert.MfwdRefIdeal.τ).loc Cert.MfwdRefIdeal.main_arg1)
      ∧ r.2.mem ((c.tc : Thread Cert.MfwdRefIdeal.nD Cert.MfwdRefIdeal.τ).loc Cert.MfwdRefIdeal.main_arg2) = m ((c.tc : Thread Cert.MfwdRefIdeal.nD Cert.MfwdRefIdeal.τ).loc Cert.MfwdRefIdeal.main_arg2)
      ∧ r.2.mem ((c.tc : Thread Cert.MfwdRefIdeal.nD Cert.MfwdRefIdeal.τ).loc Cert.MfwdRefIdeal.main_arg3) = m ((c.tc : Thread Cert.MfwdRefIdeal.nD Cert.MfwdRefIdeal.τ).loc Cert.MfwdRefIdeal.main_arg3)
      ∧ r.2.mem ((c.tc : Thread Cert.MfwdRefIdeal.nD Cert.MfwdRefIdeal.τ).loc Cert.MfwdRefIdeal.main_arg4) = m ((c.tc : Thread Cert.MfwdRefIdeal.nD Cert.MfwdRefIdeal.τ).loc Cert.MfwdRefIdeal.main_arg4)
      ∧ r.2.mem ((c.tc : Thread Cert.MfwdRefIdeal.nD Cert.MfwdRefIdeal.τ).loc Cert.MfwdRefIdeal.main_arg5) = m ((c.tc : Thread Cert.MfwdRefIdeal.nD Cert.MfwdRefIdeal.τ).loc Cert.MfwdRefIdeal.main_arg5)
      ∧ r.2.mem ((c.tc : Thread Cert.MfwdRefIdeal.nD Cert.MfwdRefIdeal.τ).loc Cert.MfwdRefIdeal.main_arg6) = m ((c.tc : Thread Cert.MfwdRefIdeal.nD Cert.MfwdRefIdeal.τ).loc Cert.MfwdRefIdeal.main_arg6))
      ∧ r.2.sem = fun _ => 0)

def preserves_Head_HeadIdeal : Prop :=
  True

def algebraic_HeadIdeal_HeadRefIdeal_pre_head_finite [hHeadIdeal : Cert.HeadIdeal.Facts] [hHeadRefIdeal : Cert.HeadRefIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_head_finite m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)) →
    ∃ (v0 : (c : Dev Cert.HeadIdeal.nD) → Buf (Elt Ideal) ((c.tc : Thread Cert.HeadIdeal.nD Cert.HeadIdeal.τ).loc Cert.HeadIdeal.main_v2_0)) (v1 : (c : Dev Cert.HeadIdeal.nD) → Buf (Elt Ideal) ((c.tc : Thread Cert.HeadIdeal.nD Cert.HeadIdeal.τ).loc Cert.HeadIdeal.main_v2_1)) (v2 : (c : Dev Cert.HeadIdeal.nD) → Buf (Elt Ideal) ((c.tc : Thread Cert.HeadIdeal.nD Cert.HeadIdeal.τ).loc Cert.HeadIdeal.main_v2_2)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v2_0) = v0 c
          ∧ r.2.mem ((c.tc : Thread Cert.HeadIdeal.nD Cert.HeadIdeal.τ).loc Cert.HeadIdeal.main_v2_1) = v1 c
          ∧ r.2.mem ((c.tc : Thread Cert.HeadIdeal.nD Cert.HeadIdeal.τ).loc Cert.HeadIdeal.main_v2_2) = v2 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v51) = v0 c
          ∧ r.2.mem ((c.tc : Thread Cert.HeadRefIdeal.nD Cert.HeadRefIdeal.τ).loc Cert.HeadRefIdeal.main_v53) = v1 c
          ∧ r.2.mem ((c.tc : Thread Cert.HeadRefIdeal.nD Cert.HeadRefIdeal.τ).loc Cert.HeadRefIdeal.main_v59) = v2 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2))

def preserves_Flash_FlashIdeal : Prop :=
  True

def algebraic_FlashIdeal_FlashRefIdeal_pre_flash_finite [hFlashIdeal : Cert.FlashIdeal.Facts] [hFlashRefIdeal : Cert.FlashRefIdeal.Facts] [hPre_flash_finite : Cert.Pre_flash_finite.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_flash_finite m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v48_0)) (v1 : (c : Dev Cert.FlashIdeal.nD) → Buf (Elt Ideal) ((c.tc : Thread Cert.FlashIdeal.nD Cert.FlashIdeal.τ).loc Cert.FlashIdeal.main_v48_1)) (v2 : (c : Dev Cert.FlashIdeal.nD) → Buf (Elt Ideal) ((c.tc : Thread Cert.FlashIdeal.nD Cert.FlashIdeal.τ).loc Cert.FlashIdeal.main_v48_2)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v48_0) = v0 c
          ∧ r.2.mem ((c.tc : Thread Cert.FlashIdeal.nD Cert.FlashIdeal.τ).loc Cert.FlashIdeal.main_v48_1) = v1 c
          ∧ r.2.mem ((c.tc : Thread Cert.FlashIdeal.nD Cert.FlashIdeal.τ).loc Cert.FlashIdeal.main_v48_2) = v2 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v65) = v0 c
          ∧ r.2.mem ((c.tc : Thread Cert.FlashRefIdeal.nD Cert.FlashRefIdeal.τ).loc Cert.FlashRefIdeal.main_v69) = v1 c
          ∧ r.2.mem ((c.tc : Thread Cert.FlashRefIdeal.nD Cert.FlashRefIdeal.τ).loc Cert.FlashRefIdeal.main_v71) = v2 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def preserves_Attn_AttnIdeal : Prop :=
  IdealRules.named_const.Statement Cert.AttnIdeal.κ "inv_log_two" .f32 0x3FB8AA3B#32 (((Real.log 2)⁻¹ : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v13_0)) (v1 : (c : Dev Cert.AttnIdeal.nD) → Buf (Elt Ideal) ((c.tc : Thread Cert.AttnIdeal.nD Cert.AttnIdeal.τ).loc Cert.AttnIdeal.main_v13_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v13_0) = v0 c
          ∧ r.2.mem ((c.tc : Thread Cert.AttnIdeal.nD Cert.AttnIdeal.τ).loc Cert.AttnIdeal.main_v13_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v32) = v0 c
          ∧ r.2.mem ((c.tc : Thread Cert.AttnRefIdeal.nD Cert.AttnRefIdeal.τ).loc Cert.AttnRefIdeal.main_v33) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Cctx_CctxIdeal : Prop :=
  True

def algebraic_CctxIdeal_CctxRefIdeal_pre_cctx_finite [hCctxIdeal : Cert.CctxIdeal.Facts] [hCctxRefIdeal : Cert.CctxRefIdeal.Facts] [hPre_cctx_finite : Cert.Pre_cctx_finite.Facts] : Prop :=
  ∀ (m : (ℓ : Loc Cert.CctxIdeal.nD Cert.CctxIdeal.τ Cert.CctxIdeal.sig) → Buf (Elt Ideal) ℓ) (g : Dev Cert.CctxIdeal.nD → PrngReg)
    (m' : (ℓ : Loc Cert.CctxRefIdeal.nD Cert.CctxRefIdeal.τ Cert.CctxRefIdeal.sig) → Buf (Elt Ideal) ℓ) (g' : Dev Cert.CctxRefIdeal.nD → PrngReg), Pre_CctxIdeal_cctx_finite m →
    (∀ c : Dev Cert.CctxIdeal.nD,
      m' ((c.tc : Thread Cert.CctxRefIdeal.nD Cert.CctxRefIdeal.τ).loc Cert.CctxRefIdeal.main_arg0) = m ((c.tc : Thread Cert.CctxIdeal.nD Cert.CctxIdeal.τ).loc Cert.CctxIdeal.main_arg0)
      ∧ m' ((c.tc : Thread Cert.CctxRefIdeal.nD Cert.CctxRefIdeal.τ).loc Cert.CctxRefIdeal.main_arg1) = m ((c.tc : Thread Cert.CctxIdeal.nD Cert.CctxIdeal.τ).loc Cert.CctxIdeal.main_arg1)
      ∧ m' ((c.tc : Thread Cert.CctxRefIdeal.nD Cert.CctxRefIdeal.τ).loc Cert.CctxRefIdeal.main_arg2) = m ((c.tc : Thread Cert.CctxIdeal.nD Cert.CctxIdeal.τ).loc Cert.CctxIdeal.main_arg2)) →
    ∃ (v0 : (c : Dev Cert.CctxIdeal.nD) → Buf (Elt Ideal) ((c.tc : Thread Cert.CctxIdeal.nD Cert.CctxIdeal.τ).loc Cert.CctxIdeal.main_v1_0)) (v1 : (c : Dev Cert.CctxIdeal.nD) → Buf (Elt Ideal) ((c.tc : Thread Cert.CctxIdeal.nD Cert.CctxIdeal.τ).loc Cert.CctxIdeal.main_v1_1)),
      θ_run (Cert.CctxIdeal.defs (F := Ideal)) (onTc (τ := Cert.CctxIdeal.τ) (Cert.CctxIdeal.main (F := Ideal))) ⟨m, fun _ => 0, g⟩ (fun r => ∀ c : Dev Cert.CctxIdeal.nD,
          r.2.mem ((c.tc : Thread Cert.CctxIdeal.nD Cert.CctxIdeal.τ).loc Cert.CctxIdeal.main_v1_0) = v0 c
          ∧ r.2.mem ((c.tc : Thread Cert.CctxIdeal.nD Cert.CctxIdeal.τ).loc Cert.CctxIdeal.main_v1_1) = v1 c
          ∧ r.2.mem ((c.tc : Thread Cert.CctxIdeal.nD Cert.CctxIdeal.τ).loc Cert.CctxIdeal.main_arg0) = m ((c.tc : Thread Cert.CctxIdeal.nD Cert.CctxIdeal.τ).loc Cert.CctxIdeal.main_arg0)
          ∧ r.2.mem ((c.tc : Thread Cert.CctxIdeal.nD Cert.CctxIdeal.τ).loc Cert.CctxIdeal.main_arg1) = m ((c.tc : Thread Cert.CctxIdeal.nD Cert.CctxIdeal.τ).loc Cert.CctxIdeal.main_arg1)
          ∧ r.2.mem ((c.tc : Thread Cert.CctxIdeal.nD Cert.CctxIdeal.τ).loc Cert.CctxIdeal.main_arg2) = m ((c.tc : Thread Cert.CctxIdeal.nD Cert.CctxIdeal.τ).loc Cert.CctxIdeal.main_arg2))
      ∧ θ_run (Cert.CctxRefIdeal.defs (F := Ideal)) (onTc (τ := Cert.CctxRefIdeal.τ) (Cert.CctxRefIdeal.main (F := Ideal))) ⟨m', fun _ => 0, g'⟩ (fun r => ∀ c : Dev Cert.CctxRefIdeal.nD,
          r.2.mem ((c.tc : Thread Cert.CctxRefIdeal.nD Cert.CctxRefIdeal.τ).loc Cert.CctxRefIdeal.main_v6) = v0 c
          ∧ r.2.mem ((c.tc : Thread Cert.CctxRefIdeal.nD Cert.CctxRefIdeal.τ).loc Cert.CctxRefIdeal.main_v7) = v1 c
          ∧ r.2.mem ((c.tc : Thread Cert.CctxRefIdeal.nD Cert.CctxRefIdeal.τ).loc Cert.CctxRefIdeal.main_arg0) = m' ((c.tc : Thread Cert.CctxRefIdeal.nD Cert.CctxRefIdeal.τ).loc Cert.CctxRefIdeal.main_arg0)
          ∧ r.2.mem ((c.tc : Thread Cert.CctxRefIdeal.nD Cert.CctxRefIdeal.τ).loc Cert.CctxRefIdeal.main_arg1) = m' ((c.tc : Thread Cert.CctxRefIdeal.nD Cert.CctxRefIdeal.τ).loc Cert.CctxRefIdeal.main_arg1)
          ∧ r.2.mem ((c.tc : Thread Cert.CctxRefIdeal.nD Cert.CctxRefIdeal.τ).loc Cert.CctxRefIdeal.main_arg2) = m' ((c.tc : Thread Cert.CctxRefIdeal.nD Cert.CctxRefIdeal.τ).loc Cert.CctxRefIdeal.main_arg2))

def preserves_Ada_AdaIdeal : Prop :=
  True

def algebraic_AdaIdeal_AdaRefIdeal_pre_ada_finite [hAdaIdeal : Cert.AdaIdeal.Facts] [hAdaRefIdeal : Cert.AdaRefIdeal.Facts] [hPre_ada_finite : Cert.Pre_ada_finite.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal_ada_finite m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)
      ∧ m' ((c.tc : Thread Cert.AdaRefIdeal.nD Cert.AdaRefIdeal.τ).loc Cert.AdaRefIdeal.main_arg4) = m ((c.tc : Thread Cert.AdaIdeal.nD Cert.AdaIdeal.τ).loc Cert.AdaIdeal.main_arg4)) →
    ∃ (v0 : (c : Dev Cert.AdaIdeal.nD) → Buf (Elt Ideal) ((c.tc : Thread Cert.AdaIdeal.nD Cert.AdaIdeal.τ).loc Cert.AdaIdeal.main_v1_0)) (v1 : (c : Dev Cert.AdaIdeal.nD) → Buf (Elt Ideal) ((c.tc : Thread Cert.AdaIdeal.nD Cert.AdaIdeal.τ).loc Cert.AdaIdeal.main_v1_1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1_0) = v0 c
          ∧ r.2.mem ((c.tc : Thread Cert.AdaIdeal.nD Cert.AdaIdeal.τ).loc Cert.AdaIdeal.main_v1_1) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
          ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v16) = v0 c
          ∧ r.2.mem ((c.tc : Thread Cert.AdaRefIdeal.nD Cert.AdaRefIdeal.τ).loc Cert.AdaRefIdeal.main_v22) = v1 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3)
          ∧ r.2.mem ((c.tc : Thread Cert.AdaRefIdeal.nD Cert.AdaRefIdeal.τ).loc Cert.AdaRefIdeal.main_arg4) = m' ((c.tc : Thread Cert.AdaRefIdeal.nD Cert.AdaRefIdeal.τ).loc Cert.AdaRefIdeal.main_arg4))

def preserves_Wo_WoIdeal : Prop :=
  True

def algebraic_WoIdeal_WoRefIdeal_pre_wo_finite [hWoIdeal : Cert.WoIdeal.Facts] [hWoRefIdeal : Cert.WoRefIdeal.Facts] [hPre_wo_finite : Cert.Pre_wo_finite.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal_wo_finite m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)
      ∧ m' ((c.tc : Thread Cert.WoRefIdeal.nD Cert.WoRefIdeal.τ).loc Cert.WoRefIdeal.main_arg2) = m ((c.tc : Thread Cert.WoIdeal.nD Cert.WoIdeal.τ).loc Cert.WoIdeal.main_arg2)
      ∧ m' ((c.tc : Thread Cert.WoRefIdeal.nD Cert.WoRefIdeal.τ).loc Cert.WoRefIdeal.main_arg3) = m ((c.tc : Thread Cert.WoIdeal.nD Cert.WoIdeal.τ).loc Cert.WoIdeal.main_arg3)
      ∧ m' ((c.tc : Thread Cert.WoRefIdeal.nD Cert.WoRefIdeal.τ).loc Cert.WoRefIdeal.main_arg4) = m ((c.tc : Thread Cert.WoIdeal.nD Cert.WoIdeal.τ).loc Cert.WoIdeal.main_arg4)) →
    ∃ (v0 : (c : Dev Cert.WoIdeal.nD) → Buf (Elt Ideal) ((c.tc : Thread Cert.WoIdeal.nD Cert.WoIdeal.τ).loc Cert.WoIdeal.main_v9_0)) (v1 : (c : Dev Cert.WoIdeal.nD) → Buf (Elt Ideal) ((c.tc : Thread Cert.WoIdeal.nD Cert.WoIdeal.τ).loc Cert.WoIdeal.main_v9_1)) (v2 : (c : Dev Cert.WoIdeal.nD) → Buf (Elt Ideal) ((c.tc : Thread Cert.WoIdeal.nD Cert.WoIdeal.τ).loc Cert.WoIdeal.main_v9_2)) (v3 : (c : Dev Cert.WoIdeal.nD) → Buf (Elt Ideal) ((c.tc : Thread Cert.WoIdeal.nD Cert.WoIdeal.τ).loc Cert.WoIdeal.main_v9_3)) (v4 : (c : Dev Cert.WoIdeal.nD) → Buf (Elt Ideal) ((c.tc : Thread Cert.WoIdeal.nD Cert.WoIdeal.τ).loc Cert.WoIdeal.main_v9_4)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v9_0) = v0 c
          ∧ r.2.mem ((c.tc : Thread Cert.WoIdeal.nD Cert.WoIdeal.τ).loc Cert.WoIdeal.main_v9_1) = v1 c
          ∧ r.2.mem ((c.tc : Thread Cert.WoIdeal.nD Cert.WoIdeal.τ).loc Cert.WoIdeal.main_v9_2) = v2 c
          ∧ r.2.mem ((c.tc : Thread Cert.WoIdeal.nD Cert.WoIdeal.τ).loc Cert.WoIdeal.main_v9_3) = v3 c
          ∧ r.2.mem ((c.tc : Thread Cert.WoIdeal.nD Cert.WoIdeal.τ).loc Cert.WoIdeal.main_v9_4) = v4 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
          ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
          ∧ r.2.mem ((c.tc : Thread Cert.WoIdeal.nD Cert.WoIdeal.τ).loc Cert.WoIdeal.main_arg4) = m ((c.tc : Thread Cert.WoIdeal.nD Cert.WoIdeal.τ).loc Cert.WoIdeal.main_arg4))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v24) = v0 c
          ∧ r.2.mem ((c.tc : Thread Cert.WoRefIdeal.nD Cert.WoRefIdeal.τ).loc Cert.WoRefIdeal.main_v26) = v1 c
          ∧ r.2.mem ((c.tc : Thread Cert.WoRefIdeal.nD Cert.WoRefIdeal.τ).loc Cert.WoRefIdeal.main_v29) = v2 c
          ∧ r.2.mem ((c.tc : Thread Cert.WoRefIdeal.nD Cert.WoRefIdeal.τ).loc Cert.WoRefIdeal.main_v16) = v3 c
          ∧ r.2.mem ((c.tc : Thread Cert.WoRefIdeal.nD Cert.WoRefIdeal.τ).loc Cert.WoRefIdeal.main_v22) = v4 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2)
          ∧ r.2.mem ((c.tc : Thread Cert.WoRefIdeal.nD Cert.WoRefIdeal.τ).loc Cert.WoRefIdeal.main_arg3) = m' ((c.tc : Thread Cert.WoRefIdeal.nD Cert.WoRefIdeal.τ).loc Cert.WoRefIdeal.main_arg3)
          ∧ r.2.mem ((c.tc : Thread Cert.WoRefIdeal.nD Cert.WoRefIdeal.τ).loc Cert.WoRefIdeal.main_arg4) = m' ((c.tc : Thread Cert.WoRefIdeal.nD Cert.WoRefIdeal.τ).loc Cert.WoRefIdeal.main_arg4))

def preserves_Mlp_MlpIdeal : Prop :=
  True

def algebraic_MlpIdeal_MlpRefIdeal_pre_mlp_finite [hMlpIdeal : Cert.MlpIdeal.Facts] [hMlpRefIdeal : Cert.MlpRefIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_mlp_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v42_0)) (v1 : (c : Dev Cert.MlpIdeal.nD) → Buf (Elt Ideal) ((c.tc : Thread Cert.MlpIdeal.nD Cert.MlpIdeal.τ).loc Cert.MlpIdeal.main_v42_1)) (v2 : (c : Dev Cert.MlpIdeal.nD) → Buf (Elt Ideal) ((c.tc : Thread Cert.MlpIdeal.nD Cert.MlpIdeal.τ).loc Cert.MlpIdeal.main_v42_2)) (v3 : (c : Dev Cert.MlpIdeal.nD) → Buf (Elt Ideal) ((c.tc : Thread Cert.MlpIdeal.nD Cert.MlpIdeal.τ).loc Cert.MlpIdeal.main_v42_3)) (v4 : (c : Dev Cert.MlpIdeal.nD) → Buf (Elt Ideal) ((c.tc : Thread Cert.MlpIdeal.nD Cert.MlpIdeal.τ).loc Cert.MlpIdeal.main_v42_4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v42_0) = v0 c
          ∧ r.2.mem ((c.tc : Thread Cert.MlpIdeal.nD Cert.MlpIdeal.τ).loc Cert.MlpIdeal.main_v42_1) = v1 c
          ∧ r.2.mem ((c.tc : Thread Cert.MlpIdeal.nD Cert.MlpIdeal.τ).loc Cert.MlpIdeal.main_v42_2) = v2 c
          ∧ r.2.mem ((c.tc : Thread Cert.MlpIdeal.nD Cert.MlpIdeal.τ).loc Cert.MlpIdeal.main_v42_3) = v3 c
          ∧ r.2.mem ((c.tc : Thread Cert.MlpIdeal.nD Cert.MlpIdeal.τ).loc Cert.MlpIdeal.main_v42_4) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v86) = v0 c
          ∧ r.2.mem ((c.tc : Thread Cert.MlpRefIdeal.nD Cert.MlpRefIdeal.τ).loc Cert.MlpRefIdeal.main_v88) = v1 c
          ∧ r.2.mem ((c.tc : Thread Cert.MlpRefIdeal.nD Cert.MlpRefIdeal.τ).loc Cert.MlpRefIdeal.main_v90) = v2 c
          ∧ r.2.mem ((c.tc : Thread Cert.MlpRefIdeal.nD Cert.MlpRefIdeal.τ).loc Cert.MlpRefIdeal.main_v92) = v3 c
          ∧ r.2.mem ((c.tc : Thread Cert.MlpRefIdeal.nD Cert.MlpRefIdeal.τ).loc Cert.MlpRefIdeal.main_v93) = v4 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7))

def preserves_Mfwd_MfwdIdeal : Prop :=
  True

def algebraic_MfwdIdeal_MfwdRefIdeal_pre_mfwd_finite [hMfwdIdeal : Cert.MfwdIdeal.Facts] [hMfwdRefIdeal : Cert.MfwdRefIdeal.Facts] [hPre_mfwd_finite : Cert.Pre_mfwd_finite.Facts] : Prop :=
  ∀ (m : (ℓ : Loc Cert.MfwdIdeal.nD Cert.MfwdIdeal.τ Cert.MfwdIdeal.sig) → Buf (Elt Ideal) ℓ) (g : Dev Cert.MfwdIdeal.nD → PrngReg)
    (m' : (ℓ : Loc Cert.MfwdRefIdeal.nD Cert.MfwdRefIdeal.τ Cert.MfwdRefIdeal.sig) → Buf (Elt Ideal) ℓ) (g' : Dev Cert.MfwdRefIdeal.nD → PrngReg), Pre_MfwdIdeal_mfwd_finite m →
    (∀ c : Dev Cert.MfwdIdeal.nD,
      m' ((c.tc : Thread Cert.MfwdRefIdeal.nD Cert.MfwdRefIdeal.τ).loc Cert.MfwdRefIdeal.main_arg0) = m ((c.tc : Thread Cert.MfwdIdeal.nD Cert.MfwdIdeal.τ).loc Cert.MfwdIdeal.main_arg0)
      ∧ m' ((c.tc : Thread Cert.MfwdRefIdeal.nD Cert.MfwdRefIdeal.τ).loc Cert.MfwdRefIdeal.main_arg1) = m ((c.tc : Thread Cert.MfwdIdeal.nD Cert.MfwdIdeal.τ).loc Cert.MfwdIdeal.main_arg1)
      ∧ m' ((c.tc : Thread Cert.MfwdRefIdeal.nD Cert.MfwdRefIdeal.τ).loc Cert.MfwdRefIdeal.main_arg2) = m ((c.tc : Thread Cert.MfwdIdeal.nD Cert.MfwdIdeal.τ).loc Cert.MfwdIdeal.main_arg2)
      ∧ m' ((c.tc : Thread Cert.MfwdRefIdeal.nD Cert.MfwdRefIdeal.τ).loc Cert.MfwdRefIdeal.main_arg3) = m ((c.tc : Thread Cert.MfwdIdeal.nD Cert.MfwdIdeal.τ).loc Cert.MfwdIdeal.main_arg3)
      ∧ m' ((c.tc : Thread Cert.MfwdRefIdeal.nD Cert.MfwdRefIdeal.τ).loc Cert.MfwdRefIdeal.main_arg4) = m ((c.tc : Thread Cert.MfwdIdeal.nD Cert.MfwdIdeal.τ).loc Cert.MfwdIdeal.main_arg4)
      ∧ m' ((c.tc : Thread Cert.MfwdRefIdeal.nD Cert.MfwdRefIdeal.τ).loc Cert.MfwdRefIdeal.main_arg5) = m ((c.tc : Thread Cert.MfwdIdeal.nD Cert.MfwdIdeal.τ).loc Cert.MfwdIdeal.main_arg5)
      ∧ m' ((c.tc : Thread Cert.MfwdRefIdeal.nD Cert.MfwdRefIdeal.τ).loc Cert.MfwdRefIdeal.main_arg6) = m ((c.tc : Thread Cert.MfwdIdeal.nD Cert.MfwdIdeal.τ).loc Cert.MfwdIdeal.main_arg6)) →
    ∃ (v0 : (c : Dev Cert.MfwdIdeal.nD) → Buf (Elt Ideal) ((c.tc : Thread Cert.MfwdIdeal.nD Cert.MfwdIdeal.τ).loc Cert.MfwdIdeal.main_v15_0)) (v1 : (c : Dev Cert.MfwdIdeal.nD) → Buf (Elt Ideal) ((c.tc : Thread Cert.MfwdIdeal.nD Cert.MfwdIdeal.τ).loc Cert.MfwdIdeal.main_v15_1)) (v2 : (c : Dev Cert.MfwdIdeal.nD) → Buf (Elt Ideal) ((c.tc : Thread Cert.MfwdIdeal.nD Cert.MfwdIdeal.τ).loc Cert.MfwdIdeal.main_v15_2)),
      θ_run (Cert.MfwdIdeal.defs (F := Ideal)) (onTc (τ := Cert.MfwdIdeal.τ) (Cert.MfwdIdeal.main (F := Ideal))) ⟨m, fun _ => 0, g⟩ (fun r => ∀ c : Dev Cert.MfwdIdeal.nD,
          r.2.mem ((c.tc : Thread Cert.MfwdIdeal.nD Cert.MfwdIdeal.τ).loc Cert.MfwdIdeal.main_v15_0) = v0 c
          ∧ r.2.mem ((c.tc : Thread Cert.MfwdIdeal.nD Cert.MfwdIdeal.τ).loc Cert.MfwdIdeal.main_v15_1) = v1 c
          ∧ r.2.mem ((c.tc : Thread Cert.MfwdIdeal.nD Cert.MfwdIdeal.τ).loc Cert.MfwdIdeal.main_v15_2) = v2 c
          ∧ r.2.mem ((c.tc : Thread Cert.MfwdIdeal.nD Cert.MfwdIdeal.τ).loc Cert.MfwdIdeal.main_arg0) = m ((c.tc : Thread Cert.MfwdIdeal.nD Cert.MfwdIdeal.τ).loc Cert.MfwdIdeal.main_arg0)
          ∧ r.2.mem ((c.tc : Thread Cert.MfwdIdeal.nD Cert.MfwdIdeal.τ).loc Cert.MfwdIdeal.main_arg1) = m ((c.tc : Thread Cert.MfwdIdeal.nD Cert.MfwdIdeal.τ).loc Cert.MfwdIdeal.main_arg1)
          ∧ r.2.mem ((c.tc : Thread Cert.MfwdIdeal.nD Cert.MfwdIdeal.τ).loc Cert.MfwdIdeal.main_arg2) = m ((c.tc : Thread Cert.MfwdIdeal.nD Cert.MfwdIdeal.τ).loc Cert.MfwdIdeal.main_arg2)
          ∧ r.2.mem ((c.tc : Thread Cert.MfwdIdeal.nD Cert.MfwdIdeal.τ).loc Cert.MfwdIdeal.main_arg3) = m ((c.tc : Thread Cert.MfwdIdeal.nD Cert.MfwdIdeal.τ).loc Cert.MfwdIdeal.main_arg3)
          ∧ r.2.mem ((c.tc : Thread Cert.MfwdIdeal.nD Cert.MfwdIdeal.τ).loc Cert.MfwdIdeal.main_arg4) = m ((c.tc : Thread Cert.MfwdIdeal.nD Cert.MfwdIdeal.τ).loc Cert.MfwdIdeal.main_arg4)
          ∧ r.2.mem ((c.tc : Thread Cert.MfwdIdeal.nD Cert.MfwdIdeal.τ).loc Cert.MfwdIdeal.main_arg5) = m ((c.tc : Thread Cert.MfwdIdeal.nD Cert.MfwdIdeal.τ).loc Cert.MfwdIdeal.main_arg5)
          ∧ r.2.mem ((c.tc : Thread Cert.MfwdIdeal.nD Cert.MfwdIdeal.τ).loc Cert.MfwdIdeal.main_arg6) = m ((c.tc : Thread Cert.MfwdIdeal.nD Cert.MfwdIdeal.τ).loc Cert.MfwdIdeal.main_arg6))
      ∧ θ_run (Cert.MfwdRefIdeal.defs (F := Ideal)) (onTc (τ := Cert.MfwdRefIdeal.τ) (Cert.MfwdRefIdeal.main (F := Ideal))) ⟨m', fun _ => 0, g'⟩ (fun r => ∀ c : Dev Cert.MfwdRefIdeal.nD,
          r.2.mem ((c.tc : Thread Cert.MfwdRefIdeal.nD Cert.MfwdRefIdeal.τ).loc Cert.MfwdRefIdeal.main_v29) = v0 c
          ∧ r.2.mem ((c.tc : Thread Cert.MfwdRefIdeal.nD Cert.MfwdRefIdeal.τ).loc Cert.MfwdRefIdeal.main_v31) = v1 c
          ∧ r.2.mem ((c.tc : Thread Cert.MfwdRefIdeal.nD Cert.MfwdRefIdeal.τ).loc Cert.MfwdRefIdeal.main_v33) = v2 c
          ∧ r.2.mem ((c.tc : Thread Cert.MfwdRefIdeal.nD Cert.MfwdRefIdeal.τ).loc Cert.MfwdRefIdeal.main_arg0) = m' ((c.tc : Thread Cert.MfwdRefIdeal.nD Cert.MfwdRefIdeal.τ).loc Cert.MfwdRefIdeal.main_arg0)
          ∧ r.2.mem ((c.tc : Thread Cert.MfwdRefIdeal.nD Cert.MfwdRefIdeal.τ).loc Cert.MfwdRefIdeal.main_arg1) = m' ((c.tc : Thread Cert.MfwdRefIdeal.nD Cert.MfwdRefIdeal.τ).loc Cert.MfwdRefIdeal.main_arg1)
          ∧ r.2.mem ((c.tc : Thread Cert.MfwdRefIdeal.nD Cert.MfwdRefIdeal.τ).loc Cert.MfwdRefIdeal.main_arg2) = m' ((c.tc : Thread Cert.MfwdRefIdeal.nD Cert.MfwdRefIdeal.τ).loc Cert.MfwdRefIdeal.main_arg2)
          ∧ r.2.mem ((c.tc : Thread Cert.MfwdRefIdeal.nD Cert.MfwdRefIdeal.τ).loc Cert.MfwdRefIdeal.main_arg3) = m' ((c.tc : Thread Cert.MfwdRefIdeal.nD Cert.MfwdRefIdeal.τ).loc Cert.MfwdRefIdeal.main_arg3)
          ∧ r.2.mem ((c.tc : Thread Cert.MfwdRefIdeal.nD Cert.MfwdRefIdeal.τ).loc Cert.MfwdRefIdeal.main_arg4) = m' ((c.tc : Thread Cert.MfwdRefIdeal.nD Cert.MfwdRefIdeal.τ).loc Cert.MfwdRefIdeal.main_arg4)
          ∧ r.2.mem ((c.tc : Thread Cert.MfwdRefIdeal.nD Cert.MfwdRefIdeal.τ).loc Cert.MfwdRefIdeal.main_arg5) = m' ((c.tc : Thread Cert.MfwdRefIdeal.nD Cert.MfwdRefIdeal.τ).loc Cert.MfwdRefIdeal.main_arg5)
          ∧ r.2.mem ((c.tc : Thread Cert.MfwdRefIdeal.nD Cert.MfwdRefIdeal.τ).loc Cert.MfwdRefIdeal.main_arg6) = m' ((c.tc : Thread Cert.MfwdRefIdeal.nD Cert.MfwdRefIdeal.τ).loc Cert.MfwdRefIdeal.main_arg6))

def Claim : Prop :=
  ∃ (hHead : Cert.Head.Facts) (hHeadIdeal : Cert.HeadIdeal.Facts) (hHeadRefIdeal : Cert.HeadRefIdeal.Facts) (hFlash : Cert.Flash.Facts) (hFlashIdeal : Cert.FlashIdeal.Facts) (hFlashRefIdeal : Cert.FlashRefIdeal.Facts) (hAttn : Cert.Attn.Facts) (hAttnIdeal : Cert.AttnIdeal.Facts) (hAttnRefIdeal : Cert.AttnRefIdeal.Facts) (hCctx : Cert.Cctx.Facts) (hCctxIdeal : Cert.CctxIdeal.Facts) (hCctxRefIdeal : Cert.CctxRefIdeal.Facts) (hAda : Cert.Ada.Facts) (hAdaIdeal : Cert.AdaIdeal.Facts) (hAdaRefIdeal : Cert.AdaRefIdeal.Facts) (hWo : Cert.Wo.Facts) (hWoIdeal : Cert.WoIdeal.Facts) (hWoRefIdeal : Cert.WoRefIdeal.Facts) (hMlp : Cert.Mlp.Facts) (hMlpIdeal : Cert.MlpIdeal.Facts) (hMlpRefIdeal : Cert.MlpRefIdeal.Facts) (hMfwd : Cert.Mfwd.Facts) (hMfwdIdeal : Cert.MfwdIdeal.Facts) (hMfwdRefIdeal : Cert.MfwdRefIdeal.Facts) (hPre_head_finite : Cert.Pre_head_finite.Facts) (hPre_flash_finite : Cert.Pre_flash_finite.Facts) (hPre_attn_finite : Cert.Pre_attn_finite.Facts) (hPre_cctx_finite : Cert.Pre_cctx_finite.Facts) (hPre_ada_finite : Cert.Pre_ada_finite.Facts) (hPre_wo_finite : Cert.Pre_wo_finite.Facts) (hPre_mlp_finite : Cert.Pre_mlp_finite.Facts) (hPre_mfwd_finite : Cert.Pre_mfwd_finite.Facts),
    quiescent_Head (hHead := hHead)
    ∧ quiescent_HeadIdeal (hHeadIdeal := hHeadIdeal)
    ∧ quiescent_HeadIdeal_pre_head_finite (hHeadIdeal := hHeadIdeal) (hPre_head_finite := hPre_head_finite)
    ∧ quiescent_HeadRefIdeal (hHeadRefIdeal := hHeadRefIdeal)
    ∧ quiescent_HeadRefIdeal_pre_head_finite (hHeadRefIdeal := hHeadRefIdeal) (hPre_head_finite := hPre_head_finite)
    ∧ quiescent_Flash (hFlash := hFlash)
    ∧ quiescent_FlashIdeal (hFlashIdeal := hFlashIdeal)
    ∧ quiescent_FlashIdeal_pre_flash_finite (hFlashIdeal := hFlashIdeal) (hPre_flash_finite := hPre_flash_finite)
    ∧ quiescent_FlashRefIdeal (hFlashRefIdeal := hFlashRefIdeal)
    ∧ quiescent_FlashRefIdeal_pre_flash_finite (hFlashRefIdeal := hFlashRefIdeal) (hPre_flash_finite := hPre_flash_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Cctx (hCctx := hCctx)
    ∧ quiescent_CctxIdeal (hCctxIdeal := hCctxIdeal)
    ∧ quiescent_CctxIdeal_pre_cctx_finite (hCctxIdeal := hCctxIdeal) (hPre_cctx_finite := hPre_cctx_finite)
    ∧ quiescent_CctxRefIdeal (hCctxRefIdeal := hCctxRefIdeal)
    ∧ quiescent_CctxRefIdeal_pre_cctx_finite (hCctxRefIdeal := hCctxRefIdeal) (hPre_cctx_finite := hPre_cctx_finite)
    ∧ quiescent_Ada (hAda := hAda)
    ∧ quiescent_AdaIdeal (hAdaIdeal := hAdaIdeal)
    ∧ quiescent_AdaIdeal_pre_ada_finite (hAdaIdeal := hAdaIdeal) (hPre_ada_finite := hPre_ada_finite)
    ∧ quiescent_AdaRefIdeal (hAdaRefIdeal := hAdaRefIdeal)
    ∧ quiescent_AdaRefIdeal_pre_ada_finite (hAdaRefIdeal := hAdaRefIdeal) (hPre_ada_finite := hPre_ada_finite)
    ∧ quiescent_Wo (hWo := hWo)
    ∧ quiescent_WoIdeal (hWoIdeal := hWoIdeal)
    ∧ quiescent_WoIdeal_pre_wo_finite (hWoIdeal := hWoIdeal) (hPre_wo_finite := hPre_wo_finite)
    ∧ quiescent_WoRefIdeal (hWoRefIdeal := hWoRefIdeal)
    ∧ quiescent_WoRefIdeal_pre_wo_finite (hWoRefIdeal := hWoRefIdeal) (hPre_wo_finite := hPre_wo_finite)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_Mfwd (hMfwd := hMfwd)
    ∧ quiescent_MfwdIdeal (hMfwdIdeal := hMfwdIdeal)
    ∧ quiescent_MfwdIdeal_pre_mfwd_finite (hMfwdIdeal := hMfwdIdeal) (hPre_mfwd_finite := hPre_mfwd_finite)
    ∧ quiescent_MfwdRefIdeal (hMfwdRefIdeal := hMfwdRefIdeal)
    ∧ quiescent_MfwdRefIdeal_pre_mfwd_finite (hMfwdRefIdeal := hMfwdRefIdeal) (hPre_mfwd_finite := hPre_mfwd_finite)
    ∧ preserves_Head_HeadIdeal
    ∧ algebraic_HeadIdeal_HeadRefIdeal_pre_head_finite (hHeadIdeal := hHeadIdeal) (hHeadRefIdeal := hHeadRefIdeal) (hPre_head_finite := hPre_head_finite)
    ∧ preserves_Flash_FlashIdeal
    ∧ algebraic_FlashIdeal_FlashRefIdeal_pre_flash_finite (hFlashIdeal := hFlashIdeal) (hFlashRefIdeal := hFlashRefIdeal) (hPre_flash_finite := hPre_flash_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Cctx_CctxIdeal
    ∧ algebraic_CctxIdeal_CctxRefIdeal_pre_cctx_finite (hCctxIdeal := hCctxIdeal) (hCctxRefIdeal := hCctxRefIdeal) (hPre_cctx_finite := hPre_cctx_finite)
    ∧ preserves_Ada_AdaIdeal
    ∧ algebraic_AdaIdeal_AdaRefIdeal_pre_ada_finite (hAdaIdeal := hAdaIdeal) (hAdaRefIdeal := hAdaRefIdeal) (hPre_ada_finite := hPre_ada_finite)
    ∧ preserves_Wo_WoIdeal
    ∧ algebraic_WoIdeal_WoRefIdeal_pre_wo_finite (hWoIdeal := hWoIdeal) (hWoRefIdeal := hWoRefIdeal) (hPre_wo_finite := hPre_wo_finite)
    ∧ preserves_Mlp_MlpIdeal
    ∧ algebraic_MlpIdeal_MlpRefIdeal_pre_mlp_finite (hMlpIdeal := hMlpIdeal) (hMlpRefIdeal := hMlpRefIdeal) (hPre_mlp_finite := hPre_mlp_finite)
    ∧ preserves_Mfwd_MfwdIdeal
    ∧ algebraic_MfwdIdeal_MfwdRefIdeal_pre_mfwd_finite (hMfwdIdeal := hMfwdIdeal) (hMfwdRefIdeal := hMfwdRefIdeal) (hPre_mfwd_finite := hPre_mfwd_finite)
-- ==== Pre_ada_finite.lean ====
abbrev S8x1024 : Shape := ⟨2, ![8, 1024]⟩
abbrev S1024 : Shape := ⟨1, ![1024]⟩
abbrev S4x1024x768 : Shape := ⟨3, ![4, 1024, 768]⟩
abbrev S4x8x768 : Shape := ⟨3, ![4, 8, 768]⟩
abbrev S_ : Shape := ⟨0, ![]⟩

class Facts : Prop where
  bcast_S_S8x1024 : S_.BroadcastsInDim S8x1024 (![] : Fin 0 → Fin S8x1024.rank)
  bcast_S_S1024 : S_.BroadcastsInDim S1024 (![] : Fin 0 → Fin S1024.rank)
  bcast_S_S4x1024x768 : S_.BroadcastsInDim S4x1024x768 (![] : Fin 0 → Fin S4x1024x768.rank)
  bcast_S_S4x8x768 : S_.BroadcastsInDim S4x8x768 (![] : Fin 0 → Fin S4x8x768.rank)

variable [Facts]

def fn {F : FTy → Type} [FloatOps F] (main_arg0 : FVec F S8x1024 .f32) (main_arg1 : FVec F S1024 .f32) (main_arg2 : FVec F S4x1024x768 .f32) (main_arg3 : FVec F S4x8x768 .f32) (main_arg4 : FVec F S4x8x768 .f32) : IVec S8x1024 1 × IVec S1024 1 × IVec S4x1024x768 1 × IVec S4x8x768 1 × IVec S4x8x768 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4x1024x768 .f32 := Host.absf main_arg2
  let main_cst_1 : FVec F S_ .f32 := constant S_ .f32 0x7F800000#32
  let main_v7 : FVec F S4x1024x768 .f32 := broadcastInDim S4x1024x768 ![] bcast_S_S4x1024x768 main_cst_1
  let main_v8 : IVec S4x1024x768 1 := cmpf .olt main_v6 main_v7
  let main_v9 : FVec F S4x8x768 .f32 := Host.absf main_arg3
  let main_cst_2 : FVec F S_ .f32 := constant S_ .f32 0x7F800000#32
  let main_v10 : FVec F S4x8x768 .f32 := broadcastInDim S4x8x768 ![] bcast_S_S4x8x768 main_cst_2
  let main_v11 : IVec S4x8x768 1 := cmpf .olt main_v9 main_v10
  let main_v12 : FVec F S4x8x768 .f32 := Host.absf main_arg4
  let main_cst_3 : FVec F S_ .f32 := constant S_ .f32 0x7F800000#32
  let main_v13 : FVec F S4x8x768 .f32 := broadcastInDim S4x8x768 ![] bcast_S_S4x8x768 main_cst_3
  let main_v14 : IVec S4x8x768 1 := cmpf .olt main_v12 main_v13
  (main_v2, main_v5, main_v8, main_v11, main_v14)
-- ==== Pre_attn_finite.lean ====
abbrev S1x8192x8x128 : Shape := ⟨4, ![1, 8192, 8, 128]⟩
abbrev S1x8448x4x128 : Shape := ⟨4, ![1, 8448, 4, 128]⟩
abbrev S_ : Shape := ⟨0, ![]⟩

class Facts : Prop where
  bcast_S_S1x8192x8x128 : S_.BroadcastsInDim S1x8192x8x128 (![] : Fin 0 → Fin S1x8192x8x128.rank)
  bcast_S_S1x8448x4x128 : S_.BroadcastsInDim S1x8448x4x128 (![] : Fin 0 → Fin S1x8448x4x128.rank)

variable [Facts]

def fn {F : FTy → Type} [FloatOps F] (main_arg0 : FVec F S1x8192x8x128 .f32) (main_arg1 : FVec F S1x8448x4x128 .f32) (main_arg2 : FVec F S1x8448x4x128 .f32) : IVec S1x8192x8x128 1 × IVec S1x8448x4x128 1 × IVec S1x8448x4x128 1 :=
  let main_v0 : FVec F S1x8192x8x128 .f32 := Host.absf main_arg0
  let main_cst : FVec F S_ .f32 := constant S_ .f32 0x7F800000#32
  let main_v1 : FVec F S1x8192x8x128 .f32 := broadcastInDim S1x8192x8x128 ![] bcast_S_S1x8192x8x128 main_cst
  let main_v2 : IVec S1x8192x8x128 1 := cmpf .olt main_v0 main_v1
  let main_v3 : FVec F S1x8448x4x128 .f32 := Host.absf main_arg1
  let main_cst_0 : FVec F S_ .f32 := constant S_ .f32 0x7F800000#32
  let main_v4 : FVec F S1x8448x4x128 .f32 := broadcastInDim S1x8448x4x128 ![] bcast_S_S1x8448x4x128 main_cst_0
  let main_v5 : IVec S1x8448x4x128 1 := cmpf .olt main_v3 main_v4
  let main_v6 : FVec F S1x8448x4x128 .f32 := Host.absf main_arg2
  let main_cst_1 : FVec F S_ .f32 := constant S_ .f32 0x7F800000#32
  let main_v7 : FVec F S1x8448x4x128 .f32 := broadcastInDim S1x8448x4x128 ![] bcast_S_S1x8448x4x128 main_cst_1
  let main_v8 : IVec S1x8448x4x128 1 := cmpf .olt main_v6 main_v7
  (main_v2, main_v5, main_v8)
-- ==== Pre_cctx_finite.lean ====
abbrev S1024 : Shape := ⟨1, ![1024]⟩
abbrev S8x8x1024 : Shape := ⟨3, ![8, 8, 1024]⟩
abbrev S8x8x128 : Shape := ⟨3, ![8, 8, 128]⟩
abbrev S_ : Shape := ⟨0, ![]⟩

class Facts : Prop where
  bcast_S_S1024 : S_.BroadcastsInDim S1024 (![] : Fin 0 → Fin S1024.rank)
  bcast_S_S8x8x1024 : S_.BroadcastsInDim S8x8x1024 (![] : Fin 0 → Fin S8x8x1024.rank)

variable [Facts]

def fn {F : FTy → Type} [FloatOps F] (main_arg0 : FVec F S1024 .f32) (main_arg1 : FVec F S8x8x1024 .f32) (main_arg2 : FVec F S8x8x128 .f32) : IVec S1024 1 × IVec S8x8x1024 1 :=
  let main_v0 : FVec F S1024 .f32 := Host.absf main_arg0
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S8x8x1024 .f32 := Host.absf main_arg1
  let main_cst_0 : FVec F S_ .f32 := constant S_ .f32 0x7F800000#32
  let main_v4 : FVec F S8x8x1024 .f32 := broadcastInDim S8x8x1024 ![] bcast_S_S8x8x1024 main_cst_0
  let main_v5 : IVec S8x8x1024 1 := cmpf .olt main_v3 main_v4
  (main_v2, main_v5)
-- ==== Pre_flash_finite.lean ====
abbrev S1x8192x8x128 : Shape := ⟨4, ![1, 8192, 8, 128]⟩
abbrev S1x8448x4x128 : Shape := ⟨4, ![1, 8448, 4, 128]⟩
abbrev S1x8192x1024 : Shape := ⟨3, ![1, 8192, 1024]⟩
abbrev S_ : Shape := ⟨0, ![]⟩

class Facts : Prop where
  bcast_S_S1x8192x8x128 : S_.BroadcastsInDim S1x8192x8x128 (![] : Fin 0 → Fin S1x8192x8x128.rank)
  bcast_S_S1x8448x4x128 : S_.BroadcastsInDim S1x8448x4x128 (![] : Fin 0 → Fin S1x8448x4x128.rank)
  bcast_S_S1x8192x1024 : S_.BroadcastsInDim S1x8192x1024 (![] : Fin 0 → Fin S1x8192x1024.rank)

variable [Facts]

def fn {F : FTy → Type} [FloatOps F] (main_arg0 : FVec F S1x8192x8x128 .f32) (main_arg1 : FVec F S1x8448x4x128 .f32) (main_arg2 : FVec F S1x8448x4x128 .f32) (main_arg3 : FVec F S1x8192x1024 .f32) : IVec S1x8192x8x128 1 × IVec S1x8448x4x128 1 × IVec S1x8448x4x128 1 × IVec S1x8192x1024 1 :=
  let main_v0 : FVec F S1x8192x8x128 .f32 := Host.absf main_arg0
  let main_cst : FVec F S_ .f32 := constant S_ .f32 0x7F800000#32
  let main_v1 : FVec F S1x8192x8x128 .f32 := broadcastInDim S1x8192x8x128 ![] bcast_S_S1x8192x8x128 main_cst
  let main_v2 : IVec S1x8192x8x128 1 := cmpf .olt main_v0 main_v1
  let main_v3 : FVec F S1x8448x4x128 .f32 := Host.absf main_arg1
  let main_cst_0 : FVec F S_ .f32 := constant S_ .f32 0x7F800000#32
  let main_v4 : FVec F S1x8448x4x128 .f32 := broadcastInDim S1x8448x4x128 ![] bcast_S_S1x8448x4x128 main_cst_0
  let main_v5 : IVec S1x8448x4x128 1 := cmpf .olt main_v3 main_v4
  let main_v6 : FVec F S1x8448x4x128 .f32 := Host.absf main_arg2
  let main_cst_1 : FVec F S_ .f32 := constant S_ .f32 0x7F800000#32
  let main_v7 : FVec F S1x8448x4x128 .f32 := broadcastInDim S1x8448x4x128 ![] bcast_S_S1x8448x4x128 main_cst_1
  let main_v8 : IVec S1x8448x4x128 1 := cmpf .olt main_v6 main_v7
  let main_v9 : FVec F S1x8192x1024 .f32 := Host.absf main_arg3
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  (main_v2, main_v5, main_v8, main_v11)
-- ==== Pre_head_finite.lean ====
abbrev S8192x1024 : Shape := ⟨2, ![8192, 1024]⟩
abbrev S1024 : Shape := ⟨1, ![1024]⟩
abbrev S1x8192x1024 : Shape := ⟨3, ![1, 8192, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1x8192x1024 : S_.BroadcastsInDim S1x8192x1024 (![] : Fin 0 → Fin S1x8192x1024.rank)

variable [Facts]

def fn {F : FTy → Type} [FloatOps F] (main_arg0 : FVec F S8192x1024 .f32) (main_arg1 : FVec F S1024 .f32) (main_arg2 : FVec F S1x8192x1024 .f32) : IVec S8192x1024 1 × IVec S1024 1 × IVec S1x8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1x8192x1024 .f32 := Host.absf main_arg2
  let main_cst_1 : FVec F S_ .f32 := constant S_ .f32 0x7F800000#32
  let main_v7 : FVec F S1x8192x1024 .f32 := broadcastInDim S1x8192x1024 ![] bcast_S_S1x8192x1024 main_cst_1
  let main_v8 : IVec S1x8192x1024 1 := cmpf .olt main_v6 main_v7
  (main_v2, main_v5, main_v8)
-- ==== Pre_mfwd_finite.lean ====
abbrev S1x8192x1024 : Shape := ⟨3, ![1, 8192, 1024]⟩
abbrev S1x1024 : Shape := ⟨2, ![1, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn_part1 {F : FTy → Type} [FloatOps F] (main_arg6 : FVec F S4096x1024 .f32) (main_v2 : IVec S1x8192x1024 1) (main_v5 : IVec S1x1024 1) (main_v8 : IVec S1x1024 1) (main_v11 : IVec S1x1024 1) (main_v14 : IVec S1024 1) (main_v17 : IVec S1024x4096 1) : IVec S1x8192x1024 1 × IVec S1x1024 1 × IVec S1x1024 1 × IVec S1x1024 1 × IVec S1024 1 × IVec S1024x4096 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S1x8192x1024 .f32) (main_arg1 : FVec F S1x1024 .f32) (main_arg2 : FVec F S1x1024 .f32) (main_arg3 : FVec F S1x1024 .f32) (main_arg4 : FVec F S1024 .f32) (main_arg5 : FVec F S1024x4096 .f32) (main_arg6 : FVec F S4096x1024 .f32) : IVec S1x8192x1024 1 × IVec S1x1024 1 × IVec S1x1024 1 × IVec S1x1024 1 × IVec S1024 1 × IVec S1024x4096 1 × IVec S4096x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x4096 .f32 := Host.absf main_arg5
  let main_cst_4 : FVec F S_ .f32 := constant S_ .f32 0x7F800000#32
  let main_v16 : FVec F S1024x4096 .f32 := broadcastInDim S1024x4096 ![] bcast_S_S1024x4096 main_cst_4
  let main_v17 : IVec S1024x4096 1 := cmpf .olt main_v15 main_v16
  fn_part1 (F := F) main_arg6 main_v2 main_v5 main_v8 main_v11 main_v14 main_v17
-- ==== Pre_mlp_finite.lean ====
abbrev S1x8192x1024 : Shape := ⟨3, ![1, 8192, 1024]⟩
abbrev S1x1024 : Shape := ⟨2, ![1, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn_part1 {F : FTy → Type} [FloatOps F] (main_arg6 : FVec F S4096x1024 .f32) (main_arg7 : FVec F S1x8192x1024 .f32) (main_v2 : IVec S1x8192x1024 1) (main_v5 : IVec S1x1024 1) (main_v8 : IVec S1x1024 1) (main_v11 : IVec S1x1024 1) (main_v14 : IVec S1024 1) (main_v17 : IVec S1024x4096 1) : IVec S1x8192x1024 1 × IVec S1x1024 1 × IVec S1x1024 1 × IVec S1x1024 1 × IVec S1024 1 × IVec S1024x4096 1 × IVec S4096x1024 1 × IVec S1x8192x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  let main_v21 : FVec F S1x8192x1024 .f32 := Host.absf main_arg7
  let main_cst_6 : FVec F S_ .f32 := constant S_ .f32 0x7F800000#32
  let main_v22 : FVec F S1x8192x1024 .f32 := broadcastInDim S1x8192x1024 ![] bcast_S_S1x8192x1024 main_cst_6
  let main_v23 : IVec S1x8192x1024 1 := cmpf .olt main_v21 main_v22
  (main_v2, main_v5, main_v8, main_v11, main_v14, main_v17, main_v20, main_v23)

def fn {F : FTy → Type} [FloatOps F] (main_arg0 : FVec F S1x8192x1024 .f32) (main_arg1 : FVec F S1x1024 .f32) (main_arg2 : FVec F S1x1024 .f32) (main_arg3 : FVec F S1x1024 .f32) (main_arg4 : FVec F S1024 .f32) (main_arg5 : FVec F S1024x4096 .f32) (main_arg6 : FVec F S4096x1024 .f32) (main_arg7 : FVec F S1x8192x1024 .f32) : IVec S1x8192x1024 1 × IVec S1x1024 1 × IVec S1x1024 1 × IVec S1x1024 1 × IVec S1024 1 × IVec S1024x4096 1 × IVec S4096x1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x4096 .f32 := Host.absf main_arg5
  let main_cst_4 : FVec F S_ .f32 := constant S_ .f32 0x7F800000#32
  let main_v16 : FVec F S1024x4096 .f32 := broadcastInDim S1024x4096 ![] bcast_S_S1024x4096 main_cst_4
  let main_v17 : IVec S1024x4096 1 := cmpf .olt main_v15 main_v16
  fn_part1 (F := F) main_arg6 main_arg7 main_v2 main_v5 main_v8 main_v11 main_v14 main_v17
-- ==== Pre_wo_finite.lean ====
abbrev S1x8192x1024 : Shape := ⟨3, ![1, 8192, 1024]⟩
abbrev S1024x1024 : Shape := ⟨2, ![1024, 1024]⟩
abbrev S1x1024 : Shape := ⟨2, ![1, 1024]⟩
abbrev S_ : Shape := ⟨0, ![]⟩

class Facts : Prop where
  bcast_S_S1x8192x1024 : S_.BroadcastsInDim S1x8192x1024 (![] : Fin 0 → Fin S1x8192x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S1x8192x1024 .f32) (main_arg1 : FVec F S1x8192x1024 .f32) (main_arg2 : FVec F S1024x1024 .f32) (main_arg3 : FVec F S1x1024 .f32) (main_arg4 : FVec F S1x8192x1024 .f32) : IVec S1x8192x1024 1 × IVec S1024x1024 1 × IVec S1x1024 1 × IVec S1x8192x1024 1 :=
  let main_v0 : FVec F S1x8192x1024 .f32 := Host.absf main_arg1
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1024x1024 .f32 := Host.absf main_arg2
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x8192x1024 .f32 := Host.absf main_arg4
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  (main_v2, main_v5, main_v8, main_v11)
-- ==== Head.lean ====
abbrev S8192x1024 : Shape := ⟨2, ![8192, 1024]⟩
abbrev S1024 : Shape := ⟨1, ![1024]⟩
abbrev S1x8192x1024 : Shape := ⟨3, ![1, 8192, 1024]⟩
abbrev S1x1024 : Shape := ⟨2, ![1, 1024]⟩
abbrev S8x128 : Shape := ⟨2, ![8, 128]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8x128, .f32⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S8x1024, .f32⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v54 : BitVec 1 := Scalar.cmpi .eq arg0 c15_i32
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== HeadRefIdeal.lean ====
abbrev S8192x1024 : Shape := ⟨2, ![8192, 1024]⟩
abbrev S1024 : Shape := ⟨1, ![1024]⟩
abbrev S1x8192x1024 : Shape := ⟨3, ![1, 8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩
abbrev S8x128 : Shape := ⟨2, ![8, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8x1024, .i32⟩
  | .hbm, ⟨74, _⟩ => ⟨S8x128, .f32⟩
  | .hbm, ⟨75, _⟩ => ⟨S_, .i32⟩
  | .hbm, ⟨76, _⟩ => ⟨S8x1024, .i32⟩
  | .hbm, ⟨77, _⟩ => ⟨S8x1024, .i1⟩
  | .hbm, ⟨78, _⟩ => ⟨S1x1024, .f32⟩
  | .hbm, ⟨79, _⟩ => ⟨S8x1024, .f32⟩
  | .hbm, ⟨80, _⟩ => ⟨S_, .f32⟩
  | .hbm, ⟨81, _⟩ => ⟨S8x1024, .f32⟩
  | .hbm, ⟨82, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_cst_9 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_cst_11 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_12 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_cst_14 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_cst_16 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_17 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Flash.lean ====
abbrev S1x8192x8x128 : Shape := ⟨4, ![1, 8192, 8, 128]⟩
abbrev S1x8448x4x128 : Shape := ⟨4, ![1, 8448, 4, 128]⟩
abbrev S1x8192x1024 : Shape := ⟨3, ![1, 8192, 1024]⟩
abbrev S_ : Shape := ⟨0, ![]⟩
abbrev S8192x8x128 : Shape := ⟨3, ![8192, 8, 128]⟩
abbrev S8192x4x2x128 : Shape := ⟨4, ![8192, 4, 2, 128]⟩
abbrev S8448x4x128 : Shape := ⟨3, ![8448, 4, 128]⟩
abbrev S4x8448x8192x2 : Shape := ⟨4, ![4, 8448, 8192, 2]⟩
abbrev S4x2x8192x8448 : Shape := ⟨4, ![4, 2, 8192, 8448]⟩
abbrev S4x2x8192 : Shape := ⟨3, ![4, 2, 8192]⟩
abbrev S4x2x8192x1 : Shape := ⟨4, ![4, 2, 8192, 1]⟩
abbrev S4x128x2x8192 : Shape := ⟨4, ![4, 128, 2, 8192]⟩
abbrev S4x8192x2 : Shape := ⟨3, ![4, 8192, 2]⟩
abbrev S8192x4x2 : Shape := ⟨3, ![8192, 4, 2]⟩
abbrev S8192x1024 : Shape := ⟨2, ![8192, 1024]⟩
abbrev S8448x4x256 : Shape := ⟨3, ![8448, 4, 256]⟩
abbrev S8448x1024 : Shape := ⟨2, ![8448, 1024]⟩
abbrev S1024x8192 : Shape := ⟨2, ![1024, 8192]⟩
abbrev S8448x512 : Shape := ⟨2, ![8448, 512]⟩
abbrev S512x8448 : Shape := ⟨2, ![512, 8448]⟩
abbrev S2048x256 : Shape := ⟨2, ![2048, 256]⟩
abbrev S256x2048 : Shape := ⟨2, ![256, 2048]⟩
abbrev S768x128 : Shape := ⟨2, ![768, 128]⟩
abbrev S768x256 : Shape := ⟨2, ![768, 256]⟩
abbrev S1x2048x2 : Shape := ⟨3, ![1, 2048, 2]⟩
abbrev S8192x256 : Shape := ⟨2, ![8192, 256]⟩
abbrev S128x768 : Shape := ⟨2, ![128, 768]⟩
abbrev S2048x128 : Shape := ⟨2, ![2048, 128]⟩
abbrev S2048x768 : Shape := ⟨2, ![2048, 768]⟩
abbrev S1x2048x1 : Shape := ⟨3, ![1, 2048, 1]⟩
abbrev S2048x1 : Shape := ⟨2, ![2048, 1]⟩
abbrev S128x2048 : Shape := ⟨2, ![128, 2048]⟩

abbrev nBuf : Space → Nat
  | .hbm => 62
  | .vmem => 22
  | .smem => 0
  | _ => 0

abbrev bufTy : (tb : Table) → Fin (tcTables nBuf tb) → BufTy
  | .hbm, ⟨0, _⟩ => ⟨S1x8192x8x128, .f32⟩
  | .hbm, ⟨1, _⟩ => ⟨S1x8448x4x128, .f32⟩
  | .hbm, ⟨2, _⟩ => ⟨S1x8448x4x128, .f32⟩
  | .hbm, ⟨3, _⟩ => ⟨S1x8192x1024, .f32⟩
  | .hbm, ⟨4, _⟩ => ⟨S_, .f32⟩
  | .hbm, ⟨5, _⟩ => ⟨S_, .f32⟩
  | .hbm, ⟨6, _⟩ => ⟨S8192x8x128, .f32⟩
  | .hbm, ⟨7, _⟩ => ⟨S8192x4x2x128, .f32⟩
  | .hbm, ⟨8, _⟩ => ⟨S8448x4x128, .f32⟩
  | .hbm, ⟨9, _⟩ => ⟨S4x8448x8192x2, .f32⟩
  | .hbm, ⟨10, _⟩ => ⟨S4x2x8192x8448, .f32⟩
  | .hbm, ⟨11, _⟩ => ⟨S_, .f32⟩
  | .hbm, ⟨12, _⟩ => ⟨S4x2x8192x8448, .f32⟩
  | .hbm, ⟨13, _⟩ => ⟨S4x2x8192x8448, .f32⟩
  | .hbm, ⟨14, _⟩ => ⟨S_, .f32⟩
  | .hbm, ⟨15, _⟩ => ⟨S4x2x8192, .f32⟩
  | .hbm, ⟨16, _⟩ => ⟨S4x2x8192x1, .f32⟩
  | .hbm, ⟨17, _⟩ => ⟨S4x2x8192x8448, .f32⟩
  | .hbm, ⟨18, _⟩ => ⟨S4x2x8192x8448, .f32⟩
  | .hbm, ⟨19, _⟩ => ⟨S4x2x8192x8448, .f32⟩
  | .hbm, ⟨20, _⟩ => ⟨S_, .f32⟩
  | .hbm, ⟨21, _⟩ => ⟨S4x2x8192, .f32⟩
  | .hbm, ⟨22, _⟩ => ⟨S4x2x8192x1, .f32⟩
  | .hbm, ⟨23, _⟩ => ⟨S4x2x8192x8448, .f32⟩
  | .hbm, ⟨24, _⟩ => ⟨S4x2x8192x8448, .f32⟩
  | .hbm, ⟨25, _⟩ => ⟨S8448x4x128, .f32⟩
  | .hbm, ⟨26, _⟩ => ⟨S4x128x2x8192, .f32⟩
  | .hbm, ⟨27, _⟩ => ⟨S8192x4x2x128, .f32⟩
  | .hbm, ⟨28, _⟩ => ⟨S4x2x8192x1, .f32⟩
  | .hbm, ⟨29, _⟩ => ⟨S4x2x8192x1, .f32⟩
  | .hbm, ⟨30, _⟩ => ⟨S4x2x8192, .f32⟩
  | .hbm, ⟨31, _⟩ => ⟨S4x2x8192, .f32⟩
  | .hbm, ⟨32, _⟩ => ⟨S4x2x8192, .f32⟩
  | .hbm, ⟨33, _⟩ => ⟨S4x8192x2, .f32⟩
  | .hbm, ⟨34, _⟩ => ⟨S8192x4x2x128, .f32⟩
  | .hbm, ⟨35, _⟩ => ⟨S8192x4x2x128, .f32⟩
  | .hbm, ⟨36, _⟩ => ⟨S_, .f32⟩
  | .hbm, ⟨37, _⟩ => ⟨S8192x4x2, .f32⟩
  | .hbm, ⟨38, _⟩ => ⟨S4x8192x2, .f32⟩
  | .hbm, ⟨39, _⟩ => ⟨S8192x1024, .f32⟩
  | .hbm, ⟨40, _⟩ => ⟨S_, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8448x4x128, .f32⟩
  | .hbm, ⟨45, _⟩ => ⟨S_, .f32⟩
  | .hbm, ⟨46, _⟩ => ⟨S8448x4x128, .f32⟩
  | .hbm, ⟨47, _⟩ => ⟨S8448x4x256, .f32⟩
  | .hbm, ⟨48, _⟩ => ⟨S8448x1024, .f32⟩
  | .hbm, ⟨49, _⟩ => ⟨S8192x1024, .f32⟩
  | .hbm, ⟨50, _⟩ => ⟨S8192x1024, .bf16⟩
  | .hbm, ⟨51, _⟩ => ⟨S1024x8192, .f32⟩
  | .hbm, ⟨52, _⟩ => ⟨S1024x8192, .bf16⟩
  | .hbm, ⟨53, _⟩ => ⟨S8448x512, .f32⟩
  | .hbm, ⟨54, _⟩ => ⟨S8448x512, .bf16⟩
  | .hbm, ⟨55, _⟩ => ⟨S8448x1024, .bf16⟩
  | .hbm, ⟨56, _⟩ => ⟨S8192x1024, .bf16⟩
  | .hbm, ⟨57, _⟩ => ⟨S1024x8192, .f32⟩
  | .hbm, ⟨58, _⟩ => ⟨S1024x8192, .bf16⟩
  | .hbm, ⟨59, _⟩ => ⟨S8192x1024, .f32⟩
  | .hbm, ⟨60, _⟩ => ⟨S512x8448, .f32⟩
  | .hbm, ⟨61, _⟩ => ⟨S512x8448, .f32⟩
  | .local _ .vmem, ⟨0, _⟩ => ⟨S2048x256, .bf16⟩
  | .local _ .vmem, ⟨1, _⟩ => ⟨S2048x256, .bf16⟩
  | .local _ .vmem, ⟨2, _⟩ => ⟨S256x2048, .bf16⟩
  | .local _ .vmem, ⟨3, _⟩ => ⟨S256x2048, .bf16⟩
  | .local _ .vmem, ⟨4, _⟩ => ⟨S768x128, .bf16⟩
  | .local _ .vmem, ⟨5, _⟩ => ⟨S768x128, .bf16⟩
  | .local _ .vmem, ⟨6, _⟩ => ⟨S768x256, .bf16⟩
  | .local _ .vmem, ⟨7, _⟩ => ⟨S768x256, .bf16⟩
  | .local _ .vmem, ⟨8, _⟩ => ⟨S2048x256, .bf16⟩
  | .local _ .vmem, ⟨9, _⟩ => ⟨S2048x256, .bf16⟩
  | .local _ .vmem, ⟨10, _⟩ => ⟨S256x2048, .bf16⟩
  | .local _ .vmem, ⟨11, _⟩ => ⟨S256x2048, .bf16⟩
  | .local _ .vmem, ⟨12, _⟩ => ⟨S1x2048x2, .f32⟩
  | .local _ .vmem, ⟨13, _⟩ => ⟨S1x2048x2, .f32⟩
  | .local _ .vmem, ⟨14, _⟩ => ⟨S1x2048x2, .f32⟩
  | .local _ .vmem, ⟨15, _⟩ => ⟨S1x2048x2, .f32⟩
  | .local _ .vmem, ⟨16, _⟩ => ⟨S8192x256, .f32⟩
  | .local _ .vmem, ⟨17, _⟩ => ⟨S8192x256, .f32⟩
  | .local _ .vmem, ⟨18, _⟩ => ⟨S128x768, .f32⟩
  | .local _ .vmem, ⟨19, _⟩ => ⟨S128x768, .f32⟩
  | .local _ .vmem, ⟨20, _⟩ => ⟨S128x768, .f32⟩
  | .local _ .vmem, ⟨21, _⟩ => ⟨S128x768, .f32⟩
  | _, _ => ⟨S1x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48_0 : Ref sig .tc := ⟨.hbm, 59, rfl⟩
abbrev main_v48_1 : Ref sig .tc := ⟨.hbm, 60, rfl⟩
abbrev main_v48_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 11, 4], ![false, false, false]⟩

def k0_mult1 (i : grid0.Coords) : BitVec 32 :=
  let arg2 : BitVec 32 := BitVec.ofNat 32 (i 2).val
  let c2048_i32 : BitVec 32 := 2048#32
  let v0 : BitVec 32 := Scalar.muli arg2 c2048_i32
  v0
def k0_cond2 (i : grid0.Coords) : BitVec 1 :=
  let arg1 : BitVec 32 := BitVec.ofNat 32 (i 1).val
  let c0_i32_1 : BitVec 32 := 0#32
  let v5 : BitVec 1 := Scalar.cmpi .eq arg1 c0_i32_1
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg2 : BitVec 32 := BitVec.ofNat 32 (i 2).val
  let c2048_i32 : BitVec 32 := 2048#32
  let v0 : BitVec 32 := Scalar.muli arg2 c2048_i32
  let v1 : BitVec 32 := v0
  let v85 : Index := Scalar.indexCast v1
  let c0_54 : Index := 0#32
  ![v85.toNat, 0]
def k0_off2 (i : grid0.Coords) : Fin 2 → Nat :=
  let arg2 : BitVec 32 := BitVec.ofNat 32 (i 2).val
  let c2048_i32 : BitVec 32 := 2048#32
  let v0 : BitVec 32 := Scalar.muli arg2 c2048_i32
  let v1 : BitVec 32 := v0
  let v36 : Index := Scalar.indexCast v1
  let c0_23 : Index := 0#32
  ![v36.toNat, 0]
def k0_off3 (i : grid0.Coords) : Fin 2 → Nat :=
  let arg2 : BitVec 32 := BitVec.ofNat 32 (i 2).val
  let c2048_i32 : BitVec 32 := 2048#32
  let v0 : BitVec 32 := Scalar.muli arg2 c2048_i32
  let v1 : BitVec 32 := v0
  let v67 : Index := Scalar.indexCast v1
  let c128_42 : Index := 128#32
  ![v67.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x2048x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x2048x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S8192x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S128x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S128x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== FlashRefIdeal.lean ====
abbrev S1x8192x8x128 : Shape := ⟨4, ![1, 8192, 8, 128]⟩
abbrev S1x8448x4x128 : Shape := ⟨4, ![1, 8448, 4, 128]⟩
abbrev S1x8192x1024 : Shape := ⟨3, ![1, 8192, 1024]⟩
abbrev S1x8192x4x2x128 : Shape := ⟨5, ![1, 8192, 4, 2, 128]⟩
abbrev S1x4x8448x8192x2 : Shape := ⟨5, ![1, 4, 8448, 8192, 2]⟩
abbrev S1x4x2x8192x8448 : Shape := ⟨5, ![1, 4, 2, 8192, 8448]⟩
abbrev S_ : Shape := ⟨0, ![]⟩
abbrev S1x4x2x8192 : Shape := ⟨4, ![1, 4, 2, 8192]⟩
abbrev S1x4x2x8192x1 : Shape := ⟨5, ![1, 4, 2, 8192, 1]⟩
abbrev S1x4x128x2x8192 : Shape := ⟨5, ![1, 4, 128, 2, 8192]⟩
abbrev S1x4x128x8448 : Shape := ⟨4, ![1, 4, 128, 8448]⟩
abbrev S4x2x8192 : Shape := ⟨3, ![4, 2, 8192]⟩
abbrev S1x4x8192x2x128 : Shape := ⟨5, ![1, 4, 8192, 2, 128]⟩
abbrev S1x4x8448x128 : Shape := ⟨4, ![1, 4, 8448, 128]⟩
abbrev S8192x1024 : Shape := ⟨2, ![8192, 1024]⟩
abbrev S8448x512 : Shape := ⟨2, ![8448, 512]⟩
abbrev S512x8448 : Shape := ⟨2, ![512, 8448]⟩

abbrev nBuf : Space → Nat
  | .hbm => 92
  | .vmem => 0
  | .smem => 0
  | _ => 0

abbrev bufTy : (tb : Table) → Fin (tcTables nBuf tb) → BufTy
  | .hbm, ⟨0, _⟩ => ⟨S1x8192x8x128, .f32⟩
  | .hbm, ⟨1, _⟩ => ⟨S1x8448x4x128, .f32⟩
  | .hbm, ⟨2, _⟩ => ⟨S1x8448x4x128, .f32⟩
  | .hbm, ⟨3, _⟩ => ⟨S1x8192x1024, .f32⟩
  | .hbm, ⟨4, _⟩ => ⟨S1x8192x4x2x128, .f32⟩
  | .hbm, ⟨5, _⟩ => ⟨S1x4x8448x8192x2, .f32⟩
  | .hbm, ⟨6, _⟩ => ⟨S1x4x2x8192x8448, .f32⟩
  | .hbm, ⟨7, _⟩ => ⟨S_, .f32⟩
  | .hbm, ⟨8, _⟩ => ⟨S1x4x2x8192x8448, .f32⟩
  | .hbm, ⟨9, _⟩ => ⟨S1x4x2x8192x8448, .f32⟩
  | .hbm, ⟨10, _⟩ => ⟨S_, .f32⟩
  | .hbm, ⟨11, _⟩ => ⟨S1x4x2x8192, .f32⟩
  | .hbm, ⟨12, _⟩ => ⟨S1x4x2x8192x1, .f32⟩
  | .hbm, ⟨13, _⟩ => ⟨S1x4x2x8192x8448, .f32⟩
  | .hbm, ⟨14, _⟩ => ⟨S1x4x2x8192x8448, .i1⟩
  | .hbm, ⟨15, _⟩ => ⟨S1x4x2x8192x8448, .f32⟩
  | .hbm, ⟨16, _⟩ => ⟨S_, .f32⟩
  | .hbm, ⟨17, _⟩ => ⟨S1x4x2x8192, .f32⟩
  | .hbm, ⟨18, _⟩ => ⟨S_, .f32⟩
  | .hbm, ⟨19, _⟩ => ⟨S1x4x2x8192, .f32⟩
  | .hbm, ⟨20, _⟩ => ⟨S1x4x2x8192, .f32⟩
  | .hbm, ⟨21, _⟩ => ⟨S_, .f32⟩
  | .hbm, ⟨22, _⟩ => ⟨S1x4x2x8192, .f32⟩
  | .hbm, ⟨23, _⟩ => ⟨S1x4x2x8192, .i1⟩
  | .hbm, ⟨24, _⟩ => ⟨S_, .f32⟩
  | .hbm, ⟨25, _⟩ => ⟨S1x4x2x8192, .f32⟩
  | .hbm, ⟨26, _⟩ => ⟨S1x4x2x8192, .i1⟩
  | .hbm, ⟨27, _⟩ => ⟨S_, .f32⟩
  | .hbm, ⟨28, _⟩ => ⟨S1x4x2x8192, .f32⟩
  | .hbm, ⟨29, _⟩ => ⟨S_, .f32⟩
  | .hbm, ⟨30, _⟩ => ⟨S1x4x2x8192, .f32⟩
  | .hbm, ⟨31, _⟩ => ⟨S_, .f32⟩
  | .hbm, ⟨32, _⟩ => ⟨S1x4x2x8192, .f32⟩
  | .hbm, ⟨33, _⟩ => ⟨S1x4x2x8192, .f32⟩
  | .hbm, ⟨34, _⟩ => ⟨S1x4x2x8192, .f32⟩
  | .hbm, ⟨35, _⟩ => ⟨S1x4x2x8192x1, .f32⟩
  | .hbm, ⟨36, _⟩ => ⟨S1x4x2x8192x8448, .f32⟩
  | .hbm, ⟨37, _⟩ => ⟨S1x4x2x8192x8448, .f32⟩
  | .hbm, ⟨38, _⟩ => ⟨S1x4x2x8192x8448, .f32⟩
  | .hbm, ⟨39, _⟩ => ⟨S_, .f32⟩
  | .hbm, ⟨40, _⟩ => ⟨S1x4x2x8192, .f32⟩
  | .hbm, ⟨41, _⟩ => ⟨S1x4x2x8192x1, .f32⟩
  | .hbm, ⟨42, _⟩ => ⟨S1x4x2x8192x8448, .f32⟩
  | .hbm, ⟨43, _⟩ => ⟨S1x4x2x8192x8448, .f32⟩
  | .hbm, ⟨44, _⟩ => ⟨S1x4x2x8192x1, .f32⟩
  | .hbm, ⟨45, _⟩ => ⟨S_, .f32⟩
  | .hbm, ⟨46, _⟩ => ⟨S1x4x2x8192x1, .f32⟩
  | .hbm, ⟨47, _⟩ => ⟨S1x4x2x8192x1, .f32⟩
  | .hbm, ⟨48, _⟩ => ⟨S1x4x128x2x8192, .f32⟩
  | .hbm, ⟨49, _⟩ => ⟨S1x8192x4x2x128, .f32⟩
  | .hbm, ⟨50, _⟩ => ⟨S1x8192x1024, .f32⟩
  | .hbm, ⟨51, _⟩ => ⟨S1x8192x4x2x128, .f32⟩
  | .hbm, ⟨52, _⟩ => ⟨S1x4x128x2x8192, .f32⟩
  | .hbm, ⟨53, _⟩ => ⟨S1x4x2x8192x8448, .f32⟩
  | .hbm, ⟨54, _⟩ => ⟨S1x4x128x8448, .f32⟩
  | .hbm, ⟨55, _⟩ => ⟨S1x8448x4x128, .f32⟩
  | .hbm, ⟨56, _⟩ => ⟨S1x4x2x8192x8448, .f32⟩
  | .hbm, ⟨57, _⟩ => ⟨S1x4x2x8192x8448, .f32⟩
  | .hbm, ⟨58, _⟩ => ⟨S1x4x2x8192x8448, .f32⟩
  | .hbm, ⟨59, _⟩ => ⟨S_, .f32⟩
  | .hbm, ⟨60, _⟩ => ⟨S1x4x2x8192, .f32⟩
  | .hbm, ⟨61, _⟩ => ⟨S1x4x2x8192x1, .f32⟩
  | .hbm, ⟨62, _⟩ => ⟨S1x4x2x8192x1, .f32⟩
  | .hbm, ⟨63, _⟩ => ⟨S1x4x2x8192x8448, .f32⟩
  | .hbm, ⟨64, _⟩ => ⟨S1x4x2x8192x8448, .f32⟩
  | .hbm, ⟨65, _⟩ => ⟨S_, .f32⟩
  | .hbm, ⟨66, _⟩ => ⟨S4x2x8192, .f32⟩
  | .hbm, ⟨67, _⟩ => ⟨S1x4x2x8192, .f32⟩
  | .hbm, ⟨68, _⟩ => ⟨S1x4x2x8192x8448, .f32⟩
  | .hbm, ⟨69, _⟩ => ⟨S1x4x2x8192x8448, .f32⟩
  | .hbm, ⟨70, _⟩ => ⟨S1x4x2x8192x8448, .f32⟩
  | .hbm, ⟨71, _⟩ => ⟨S_, .f32⟩
  | .hbm, ⟨72, _⟩ => ⟨S1x4x2x8192x8448, .f32⟩
  | .hbm, ⟨73, _⟩ => ⟨S1x4x2x8192x8448, .f32⟩
  | .hbm, ⟨74, _⟩ => ⟨S1x4x8448x8192x2, .f32⟩
  | .hbm, ⟨75, _⟩ => ⟨S1x4x8192x2x128, .f32⟩
  | .hbm, ⟨76, _⟩ => ⟨S1x8192x4x2x128, .f32⟩
  | .hbm, ⟨77, _⟩ => ⟨S1x4x8448x128, .f32⟩
  | .hbm, ⟨78, _⟩ => ⟨S1x8448x4x128, .f32⟩
  | .hbm, ⟨79, _⟩ => ⟨S1x8192x8x128, .f32⟩
  | .hbm, ⟨80, _⟩ => ⟨S_, .f32⟩
  | .hbm, ⟨81, _⟩ => ⟨S_, .f32⟩
  | .hbm, ⟨82, _⟩ => ⟨S8192x1024, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S8448x512, .f32⟩
  | .hbm, ⟨87, _⟩ => ⟨S512x8448, .f32⟩
  | .hbm, ⟨88, _⟩ => ⟨S512x8448, .f32⟩
  | .hbm, ⟨89, _⟩ => ⟨S512x8448, .f32⟩
  | .hbm, ⟨90, _⟩ => ⟨S8448x512, .f32⟩
  | .hbm, ⟨91, _⟩ => ⟨S512x8448, .f32⟩
  | _, _ => ⟨S1x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_13 : Ref sig .tc := ⟨.hbm, 80, rfl⟩
abbrev main_v62 : Ref sig .tc := ⟨.hbm, 81, rfl⟩
abbrev main_v63 : Ref sig .tc := ⟨.hbm, 82, rfl⟩
abbrev main_cst_14 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== Attn.lean ====
abbrev S1x8192x8x128 : Shape := ⟨4, ![1, 8192, 8, 128]⟩
abbrev S1x8448x4x128 : Shape := ⟨4, ![1, 8448, 4, 128]⟩
abbrev S_ : Shape := ⟨0, ![]⟩
abbrev S8192x1024 : Shape := ⟨2, ![8192, 1024]⟩
abbrev S8448x4x128 : Shape := ⟨3, ![8448, 4, 128]⟩
abbrev S8448x4x256 : Shape := ⟨3, ![8448, 4, 256]⟩
abbrev S8448x1024 : Shape := ⟨2, ![8448, 1024]⟩
abbrev S8448x512 : Shape := ⟨2, ![8448, 512]⟩
abbrev S4x8192x2 : Shape := ⟨3, ![4, 8192, 2]⟩
abbrev S1024x256 : Shape := ⟨2, ![1024, 256]⟩
abbrev S768x128 : Shape := ⟨2, ![768, 128]⟩
abbrev S768x256 : Shape := ⟨2, ![768, 256]⟩
abbrev S1x1024x2 : Shape := ⟨3, ![1, 1024, 2]⟩
abbrev S2x1024x128 : Shape := ⟨3, ![2, 1024, 128]⟩
abbrev S2x1024x256 : Shape := ⟨3, ![2, 1024, 256]⟩
abbrev S2x1024x768 : Shape := ⟨3, ![2, 1024, 768]⟩
abbrev S1024x128 : Shape := ⟨2, ![1024, 128]⟩
abbrev S1024x768 : Shape := ⟨2, ![1024, 768]⟩
abbrev S1x1024x768 : Shape := ⟨3, ![1, 1024, 768]⟩
abbrev S1x1024x128 : Shape := ⟨3, ![1, 1024, 128]⟩
abbrev S1024 : Shape := ⟨1, ![1024]⟩
abbrev S1024x1 : Shape := ⟨2, ![1024, 1]⟩
abbrev S1x1024x256 : Shape := ⟨3, ![1, 1024, 256]⟩
abbrev S1x1024x1 : Shape := ⟨3, ![1, 1024, 1]⟩

abbrev nBuf : Space → Nat
  | .hbm => 21
  | .vmem => 13
  | .smem => 0
  | _ => 0

abbrev bufTy : (tb : Table) → Fin (tcTables nBuf tb) → BufTy
  | .hbm, ⟨0, _⟩ => ⟨S1x8192x8x128, .f32⟩
  | .hbm, ⟨1, _⟩ => ⟨S1x8448x4x128, .f32⟩
  | .hbm, ⟨2, _⟩ => ⟨S1x8448x4x128, .f32⟩
  | .hbm, ⟨3, _⟩ => ⟨S_, .f32⟩
  | .hbm, ⟨4, _⟩ => ⟨S_, .f32⟩
  | .hbm, ⟨5, _⟩ => ⟨S8192x1024, .f32⟩
  | .hbm, ⟨6, _⟩ => ⟨S_, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8448x4x128, .f32⟩
  | .hbm, ⟨11, _⟩ => ⟨S_, .f32⟩
  | .hbm, ⟨12, _⟩ => ⟨S8448x4x128, .f32⟩
  | .hbm, ⟨13, _⟩ => ⟨S8448x4x256, .f32⟩
  | .hbm, ⟨14, _⟩ => ⟨S8448x1024, .f32⟩
  | .hbm, ⟨15, _⟩ => ⟨S8192x1024, .bf16⟩
  | .hbm, ⟨16, _⟩ => ⟨S8448x512, .f32⟩
  | .hbm, ⟨17, _⟩ => ⟨S8448x512, .bf16⟩
  | .hbm, ⟨18, _⟩ => ⟨S8448x1024, .bf16⟩
  | .hbm, ⟨19, _⟩ => ⟨S8192x1024, .bf16⟩
  | .hbm, ⟨20, _⟩ => ⟨S4x8192x2, .f32⟩
  | .local _ .vmem, ⟨0, _⟩ => ⟨S1024x256, .bf16⟩
  | .local _ .vmem, ⟨1, _⟩ => ⟨S1024x256, .bf16⟩
  | .local _ .vmem, ⟨2, _⟩ => ⟨S768x128, .bf16⟩
  | .local _ .vmem, ⟨3, _⟩ => ⟨S768x128, .bf16⟩
  | .local _ .vmem, ⟨4, _⟩ => ⟨S768x256, .bf16⟩
  | .local _ .vmem, ⟨5, _⟩ => ⟨S768x256, .bf16⟩
  | .local _ .vmem, ⟨6, _⟩ => ⟨S1024x256, .bf16⟩
  | .local _ .vmem, ⟨7, _⟩ => ⟨S1024x256, .bf16⟩
  | .local _ .vmem, ⟨8, _⟩ => ⟨S1x1024x2, .f32⟩
  | .local _ .vmem, ⟨9, _⟩ => ⟨S1x1024x2, .f32⟩
  | .local _ .vmem, ⟨10, _⟩ => ⟨S2x1024x128, .f32⟩
  | .local _ .vmem, ⟨11, _⟩ => ⟨S2x1024x256, .f32⟩
  | .local _ .vmem, ⟨12, _⟩ => ⟨S2x1024x768, .f32⟩
  | _, _ => ⟨S1x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 11], ![false, false, false]⟩

def k0_cond2 (i : grid0.Coords) : BitVec 1 :=
  let arg2 : BitVec 32 := BitVec.ofNat 32 (i 2).val
  let c10_i32 : BitVec 32 := 10#32
  let v71 : BitVec 1 := Scalar.cmpi .eq arg2 c10_i32
  let v72 : BitVec 32 := Scalar.extui v71
  let c0_i32_47 : BitVec 32 := 0#32
  let v73 : BitVec 1 := Scalar.cmpi .ne v72 c0_i32_47
  v73

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== AttnIdeal.lean ====
variable {F : FTy → Type} [FloatOps F] [Named F]
def κ : String → Option EReal := fun
  | "inv_log_two" => some (((Real.log 2)⁻¹ : ℝ) : EReal)
  | _ => none
-- ==== AttnRefIdeal.lean ====
abbrev S1x8192x8x128 : Shape := ⟨4, ![1, 8192, 8, 128]⟩
abbrev S1x8448x4x128 : Shape := ⟨4, ![1, 8448, 4, 128]⟩
abbrev S1x8192x4x2x128 : Shape := ⟨5, ![1, 8192, 4, 2, 128]⟩
abbrev S1x4x8448x8192x2 : Shape := ⟨5, ![1, 4, 8448, 8192, 2]⟩
abbrev S1x4x2x8192x8448 : Shape := ⟨5, ![1, 4, 2, 8192, 8448]⟩
abbrev S_ : Shape := ⟨0, ![]⟩
abbrev S1x4x2x8192 : Shape := ⟨4, ![1, 4, 2, 8192]⟩
abbrev S1x4x2x8192x1 : Shape := ⟨5, ![1, 4, 2, 8192, 1]⟩
abbrev S1x4x128x2x8192 : Shape := ⟨5, ![1, 4, 128, 2, 8192]⟩
abbrev S8192x1024 : Shape := ⟨2, ![8192, 1024]⟩
abbrev S4x2x8192x8448 : Shape := ⟨4, ![4, 2, 8192, 8448]⟩
abbrev S4x2x8192 : Shape := ⟨3, ![4, 2, 8192]⟩
abbrev S4x2x8192x1 : Shape := ⟨4, ![4, 2, 8192, 1]⟩
abbrev S4x8192x2 : Shape := ⟨3, ![4, 8192, 2]⟩

abbrev nBuf : Space → Nat
  | .hbm => 44
  | .vmem => 0
  | .smem => 0
  | _ => 0

abbrev bufTy : (tb : Table) → Fin (tcTables nBuf tb) → BufTy
  | .hbm, ⟨0, _⟩ => ⟨S1x8192x8x128, .f32⟩
  | .hbm, ⟨1, _⟩ => ⟨S1x8448x4x128, .f32⟩
  | .hbm, ⟨2, _⟩ => ⟨S1x8448x4x128, .f32⟩
  | .hbm, ⟨3, _⟩ => ⟨S1x8192x4x2x128, .f32⟩
  | .hbm, ⟨4, _⟩ => ⟨S1x4x8448x8192x2, .f32⟩
  | .hbm, ⟨5, _⟩ => ⟨S1x4x2x8192x8448, .f32⟩
  | .hbm, ⟨6, _⟩ => ⟨S_, .f32⟩
  | .hbm, ⟨7, _⟩ => ⟨S1x4x2x8192x8448, .f32⟩
  | .hbm, ⟨8, _⟩ => ⟨S1x4x2x8192x8448, .f32⟩
  | .hbm, ⟨9, _⟩ => ⟨S_, .f32⟩
  | .hbm, ⟨10, _⟩ => ⟨S1x4x2x8192, .f32⟩
  | .hbm, ⟨11, _⟩ => ⟨S_, .f32⟩
  | .hbm, ⟨12, _⟩ => ⟨S1x4x2x8192, .f32⟩
  | .hbm, ⟨13, _⟩ => ⟨S1x4x2x8192, .f32⟩
  | .hbm, ⟨14, _⟩ => ⟨S1x4x2x8192x1, .f32⟩
  | .hbm, ⟨15, _⟩ => ⟨S1x4x2x8192x8448, .f32⟩
  | .hbm, ⟨16, _⟩ => ⟨S1x4x2x8192x8448, .f32⟩
  | .hbm, ⟨17, _⟩ => ⟨S1x4x2x8192x8448, .f32⟩
  | .hbm, ⟨18, _⟩ => ⟨S_, .f32⟩
  | .hbm, ⟨19, _⟩ => ⟨S1x4x2x8192, .f32⟩
  | .hbm, ⟨20, _⟩ => ⟨S1x4x2x8192x1, .f32⟩
  | .hbm, ⟨21, _⟩ => ⟨S1x4x2x8192x8448, .f32⟩
  | .hbm, ⟨22, _⟩ => ⟨S1x4x2x8192x8448, .f32⟩
  | .hbm, ⟨23, _⟩ => ⟨S1x4x128x2x8192, .f32⟩
  | .hbm, ⟨24, _⟩ => ⟨S1x8192x4x2x128, .f32⟩
  | .hbm, ⟨25, _⟩ => ⟨S8192x1024, .f32⟩
  | .hbm, ⟨26, _⟩ => ⟨S4x2x8192x8448, .f32⟩
  | .hbm, ⟨27, _⟩ => ⟨S_, .f32⟩
  | .hbm, ⟨28, _⟩ => ⟨S4x2x8192, .f32⟩
  | .hbm, ⟨29, _⟩ => ⟨S4x2x8192x8448, .f32⟩
  | .hbm, ⟨30, _⟩ => ⟨S4x2x8192x1, .f32⟩
  | .hbm, ⟨31, _⟩ => ⟨S4x2x8192x8448, .f32⟩
  | .hbm, ⟨32, _⟩ => ⟨S4x2x8192x8448, .f32⟩
  | .hbm, ⟨33, _⟩ => ⟨S4x2x8192x8448, .f32⟩
  | .hbm, ⟨34, _⟩ => ⟨S_, .f32⟩
  | .hbm, ⟨35, _⟩ => ⟨S4x2x8192, .f32⟩
  | .hbm, ⟨36, _⟩ => ⟨S4x2x8192, .f32⟩
  | .hbm, ⟨37, _⟩ => ⟨S4x2x8192, .f32⟩
  | .hbm, ⟨38, _⟩ => ⟨S_, .f32⟩
  | .hbm, ⟨39, _⟩ => ⟨S_, .f32⟩
  | .hbm, ⟨40, _⟩ => ⟨S4x2x8192, .f32⟩
  | .hbm, ⟨41, _⟩ => ⟨S4x2x8192, .f32⟩
  | .hbm, ⟨42, _⟩ => ⟨S8192x1024, .bf16⟩
  | .hbm, ⟨43, _⟩ => ⟨S4x8192x2, .f32⟩
  | _, _ => ⟨S1x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Cctx.lean ====
abbrev S1024 : Shape := ⟨1, ![1024]⟩
abbrev S8x8x1024 : Shape := ⟨3, ![8, 8, 1024]⟩
abbrev S8x8x128 : Shape := ⟨3, ![8, 8, 128]⟩
abbrev S1x1024 : Shape := ⟨2, ![1, 1024]⟩
abbrev S8x128 : Shape := ⟨2, ![8, 128]⟩
abbrev S1x8x1024 : Shape := ⟨3, ![1, 8, 1024]⟩
abbrev S8x1024 : Shape := ⟨2, ![8, 1024]⟩
abbrev S1x8x128 : Shape := ⟨3, ![1, 8, 128]⟩

abbrev nBuf : Space → Nat
  | .hbm => 6
  | .vmem => 5
  | .smem => 0
  | _ => 0

abbrev bufTy : (tb : Table) → Fin (tcTables nBuf tb) → BufTy
  | .hbm, ⟨0, _⟩ => ⟨S1024, .f32⟩
  | .hbm, ⟨1, _⟩ => ⟨S8x8x1024, .f32⟩
  | .hbm, ⟨2, _⟩ => ⟨S8x8x128, .f32⟩
  | .hbm, ⟨3, _⟩ => ⟨S1x1024, .f32⟩
  | .hbm, ⟨4, _⟩ => ⟨S1x1024, .f32⟩
  | .hbm, ⟨5, _⟩ => ⟨S8x128, .f32⟩
  | .local _ .vmem, ⟨0, _⟩ => ⟨S8x8x1024, .f32⟩
  | .local _ .vmem, ⟨1, _⟩ => ⟨S1x1024, .f32⟩
  | .local _ .vmem, ⟨2, _⟩ => ⟨S8x8x128, .f32⟩
  | .local _ .vmem, ⟨3, _⟩ => ⟨S1x1024, .f32⟩
  | .local _ .vmem, ⟨4, _⟩ => ⟨S8x128, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== CctxRefIdeal.lean ====
abbrev S1024 : Shape := ⟨1, ![1024]⟩
abbrev S8x8x1024 : Shape := ⟨3, ![8, 8, 1024]⟩
abbrev S8x8x128 : Shape := ⟨3, ![8, 8, 128]⟩
abbrev S_ : Shape := ⟨0, ![]⟩
abbrev S1x1024 : Shape := ⟨2, ![1, 1024]⟩
abbrev S8x1024 : Shape := ⟨2, ![8, 1024]⟩
abbrev S8x128 : Shape := ⟨2, ![8, 128]⟩

abbrev nBuf : Space → Nat
  | .hbm => 29
  | .vmem => 0
  | .smem => 0
  | _ => 0

abbrev bufTy : (tb : Table) → Fin (tcTables nBuf tb) → BufTy
  | .hbm, ⟨0, _⟩ => ⟨S1024, .f32⟩
  | .hbm, ⟨1, _⟩ => ⟨S8x8x1024, .f32⟩
  | .hbm, ⟨2, _⟩ => ⟨S8x8x128, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S_, .f32⟩
  | .hbm, ⟨18, _⟩ => ⟨S8x1024, .f32⟩
  | .hbm, ⟨19, _⟩ => ⟨S1x1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S_, .f32⟩
  | .hbm, ⟨28, _⟩ => ⟨S8x128, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩

abbrev nD : Nat := 1
abbrev τ : Topo := Topo.v7x

variable {F : FTy → Type} [FloatOps F]
-- ==== Ada.lean ====
abbrev S8x1024 : Shape := ⟨2, ![8, 1024]⟩
abbrev S1024 : Shape := ⟨1, ![1024]⟩
abbrev S4x1024x768 : Shape := ⟨3, ![4, 1024, 768]⟩
abbrev S4x8x768 : Shape := ⟨3, ![4, 8, 768]⟩
abbrev S1x1024 : Shape := ⟨2, ![1, 1024]⟩
abbrev S1x1024x768 : Shape := ⟨3, ![1, 1024, 768]⟩
abbrev S1x8x768 : Shape := ⟨3, ![1, 8, 768]⟩
abbrev S16x1024 : Shape := ⟨2, ![16, 1024]⟩
abbrev S1x1x768 : Shape := ⟨3, ![1, 1, 768]⟩
abbrev S1x768 : Shape := ⟨2, ![1, 768]⟩
abbrev S8x768 : Shape := ⟨2, ![8, 768]⟩
abbrev S16x768 : Shape := ⟨2, ![16, 768]⟩
abbrev S1024x768 : Shape := ⟨2, ![1024, 768]⟩

abbrev nBuf : Space → Nat
  | .hbm => 8
  | .vmem => 11
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x768, .f32⟩
  | .hbm, ⟨3, _⟩ => ⟨S4x8x768, .f32⟩
  | .hbm, ⟨4, _⟩ => ⟨S4x8x768, .f32⟩
  | .hbm, ⟨5, _⟩ => ⟨S1x1024, .f32⟩
  | .hbm, ⟨6, _⟩ => ⟨S4x1024x768, .f32⟩
  | .hbm, ⟨7, _⟩ => ⟨S8x1024, .f32⟩
  | .local _ .vmem, ⟨0, _⟩ => ⟨S8x1024, .f32⟩
  | .local _ .vmem, ⟨1, _⟩ => ⟨S1x1024, .f32⟩
  | .local _ .vmem, ⟨2, _⟩ => ⟨S1x1024x768, .f32⟩
  | .local _ .vmem, ⟨3, _⟩ => ⟨S1x1024x768, .f32⟩
  | .local _ .vmem, ⟨4, _⟩ => ⟨S1x8x768, .f32⟩
  | .local _ .vmem, ⟨5, _⟩ => ⟨S1x8x768, .f32⟩
  | .local _ .vmem, ⟨6, _⟩ => ⟨S1x8x768, .f32⟩
  | .local _ .vmem, ⟨7, _⟩ => ⟨S1x8x768, .f32⟩
  | .local _ .vmem, ⟨8, _⟩ => ⟨S1x1024x768, .f32⟩
  | .local _ .vmem, ⟨9, _⟩ => ⟨S1x1024x768, .f32⟩
  | .local _ .vmem, ⟨10, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdaRefIdeal.lean ====
abbrev S8x1024 : Shape := ⟨2, ![8, 1024]⟩
abbrev S1024 : Shape := ⟨1, ![1024]⟩
abbrev S4x1024x768 : Shape := ⟨3, ![4, 1024, 768]⟩
abbrev S4x8x768 : Shape := ⟨3, ![4, 8, 768]⟩
abbrev S_ : Shape := ⟨0, ![]⟩
abbrev S1x1024 : Shape := ⟨2, ![1, 1024]⟩
abbrev S4x768x8 : Shape := ⟨3, ![4, 768, 8]⟩
abbrev S4x768x1 : Shape := ⟨3, ![4, 768, 1]⟩
abbrev S4x1x768 : Shape := ⟨3, ![4, 1, 768]⟩
abbrev S4x768 : Shape := ⟨2, ![4, 768]⟩
abbrev S4x768x1024 : Shape := ⟨3, ![4, 768, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x768, .f32⟩
  | .hbm, ⟨3, _⟩ => ⟨S4x8x768, .f32⟩
  | .hbm, ⟨4, _⟩ => ⟨S4x8x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1x1024, .f32⟩
  | .hbm, ⟨24, _⟩ => ⟨S4x768x8, .f32⟩
  | .hbm, ⟨25, _⟩ => ⟨S4x8x768, .f32⟩
  | .hbm, ⟨26, _⟩ => ⟨S4x768x1, .f32⟩
  | .hbm, ⟨27, _⟩ => ⟨S4x1x768, .f32⟩
  | .hbm, ⟨28, _⟩ => ⟨S_, .f32⟩
  | .hbm, ⟨29, _⟩ => ⟨S4x768, .f32⟩
  | .hbm, ⟨30, _⟩ => ⟨S4x1x768, .f32⟩
  | .hbm, ⟨31, _⟩ => ⟨S4x768x1, .f32⟩
  | .hbm, ⟨32, _⟩ => ⟨S1x1024, .f32⟩
  | .hbm, ⟨33, _⟩ => ⟨S4x768x1024, .f32⟩
  | .hbm, ⟨34, _⟩ => ⟨S4x1024x768, .f32⟩
  | .hbm, ⟨35, _⟩ => ⟨S4x768x8, .f32⟩
  | .hbm, ⟨36, _⟩ => ⟨S4x768x1024, .f32⟩
  | .hbm, ⟨37, _⟩ => ⟨S4x1024x768, .f32⟩
  | .hbm, ⟨38, _⟩ => ⟨S4x1024x768, .f32⟩
  | .hbm, ⟨39, _⟩ => ⟨S8x1024, .i32⟩
  | .hbm, ⟨40, _⟩ => ⟨S_, .i32⟩
  | .hbm, ⟨41, _⟩ => ⟨S8x1024, .i32⟩
  | .hbm, ⟨42, _⟩ => ⟨S8x1024, .i1⟩
  | .hbm, ⟨43, _⟩ => ⟨S8x1024, .f32⟩
  | .hbm, ⟨44, _⟩ => ⟨S_, .f32⟩
  | .hbm, ⟨45, _⟩ => ⟨S8x1024, .f32⟩
  | .hbm, ⟨46, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_call1_v0 : Ref sig .tc := ⟨.hbm, 14, rfl⟩
abbrev main_call1_v1 : Ref sig .tc := ⟨.hbm, 15, rfl⟩
abbrev main_call1_cst : Ref sig .tc := ⟨.hbm, 16, rfl⟩
abbrev main_call1_v2 : Ref sig .tc := ⟨.hbm, 17, rfl⟩
abbrev main_call1_v3 : Ref sig .tc := ⟨.hbm, 18, rfl⟩
abbrev main_call1_cst_0 : Ref sig .tc := ⟨.hbm, 19, rfl⟩
abbrev main_call1_v4 : Ref sig .tc := ⟨.hbm, 20, rfl⟩
abbrev main_call1_v5 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_0 : Ref sig .tc := ⟨.hbm, 44, rfl⟩
abbrev main_v21 : Ref sig .tc := ⟨.hbm, 45, rfl⟩
abbrev main_v22 : Ref sig .tc := ⟨.hbm, 46, rfl⟩

abbrev nD : Nat := 1
abbrev τ : Topo := Topo.v7x

variable {F : FTy → Type} [FloatOps F]
-- ==== Wo.lean ====
abbrev S1x8192x1024 : Shape := ⟨3, ![1, 8192, 1024]⟩
abbrev S1024x1024 : Shape := ⟨2, ![1024, 1024]⟩
abbrev S1x1024 : Shape := ⟨2, ![1, 1024]⟩
abbrev S1x1x1024 : Shape := ⟨3, ![1, 1, 1024]⟩
abbrev S2x8x1024 : Shape := ⟨3, ![2, 8, 1024]⟩
abbrev S8192x1024 : Shape := ⟨2, ![8192, 1024]⟩
abbrev S1024x8192 : Shape := ⟨2, ![1024, 8192]⟩
abbrev S4x8192x2 : Shape := ⟨3, ![4, 8192, 2]⟩
abbrev S8x1024 : Shape := ⟨2, ![8, 1024]⟩
abbrev S256x1024 : Shape := ⟨2, ![256, 1024]⟩
abbrev S1x8x1024 : Shape := ⟨3, ![1, 8, 1024]⟩
abbrev S1024x256 : Shape := ⟨2, ![1024, 256]⟩
abbrev S4x256x2 : Shape := ⟨3, ![4, 256, 2]⟩
abbrev S1024 : Shape := ⟨1, ![1024]⟩
abbrev S256x128 : Shape := ⟨2, ![256, 128]⟩
abbrev S256 : Shape := ⟨1, ![256]⟩
abbrev S256x1 : Shape := ⟨2, ![256, 1]⟩
abbrev S256x2 : Shape := ⟨2, ![256, 2]⟩
abbrev S1x256x2 : Shape := ⟨3, ![1, 256, 2]⟩

abbrev nBuf : Space → Nat
  | .hbm => 19
  | .vmem => 17
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1024x1024, .f32⟩
  | .hbm, ⟨3, _⟩ => ⟨S1x1024, .f32⟩
  | .hbm, ⟨4, _⟩ => ⟨S1x8192x1024, .f32⟩
  | .hbm, ⟨5, _⟩ => ⟨S1x1x1024, .f32⟩
  | .hbm, ⟨6, _⟩ => ⟨S2x8x1024, .f32⟩
  | .hbm, ⟨7, _⟩ => ⟨S8192x1024, .f32⟩
  | .hbm, ⟨8, _⟩ => ⟨S8192x1024, .bf16⟩
  | .hbm, ⟨9, _⟩ => ⟨S1024x1024, .bf16⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S8192x1024, .f32⟩
  | .hbm, ⟨14, _⟩ => ⟨S8192x1024, .bf16⟩
  | .hbm, ⟨15, _⟩ => ⟨S8192x1024, .bf16⟩
  | .hbm, ⟨16, _⟩ => ⟨S1024x8192, .bf16⟩
  | .hbm, ⟨17, _⟩ => ⟨S4x8192x2, .f32⟩
  | .hbm, ⟨18, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1x8x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1024x256, .bf16⟩
  | .local _ .vmem, ⟨13, _⟩ => ⟨S1024x256, .bf16⟩
  | .local _ .vmem, ⟨14, _⟩ => ⟨S4x256x2, .f32⟩
  | .local _ .vmem, ⟨15, _⟩ => ⟨S4x256x2, .f32⟩
  | .local _ .vmem, ⟨16, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v9_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== WoRefIdeal.lean ====
abbrev S1x8192x1024 : Shape := ⟨3, ![1, 8192, 1024]⟩
abbrev S1024x1024 : Shape := ⟨2, ![1024, 1024]⟩
abbrev S1x1024 : Shape := ⟨2, ![1, 1024]⟩
abbrev S1x1x1024 : Shape := ⟨3, ![1, 1, 1024]⟩
abbrev S_ : Shape := ⟨0, ![]⟩
abbrev S1024 : Shape := ⟨1, ![1024]⟩
abbrev S8192x4x2x128 : Shape := ⟨4, ![8192, 4, 2, 128]⟩
abbrev S8192x4x2 : Shape := ⟨3, ![8192, 4, 2]⟩
abbrev S4x8192x2 : Shape := ⟨3, ![4, 8192, 2]⟩
abbrev S8x1024 : Shape := ⟨2, ![8, 1024]⟩
abbrev S8192x1024 : Shape := ⟨2, ![8192, 1024]⟩
abbrev S1024x8192 : Shape := ⟨2, ![1024, 8192]⟩

abbrev nBuf : Space → Nat
  | .hbm => 40
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1024x1024, .f32⟩
  | .hbm, ⟨3, _⟩ => ⟨S1x1024, .f32⟩
  | .hbm, ⟨4, _⟩ => ⟨S1x8192x1024, .f32⟩
  | .hbm, ⟨5, _⟩ => ⟨S1x8192x1024, .f32⟩
  | .hbm, ⟨6, _⟩ => ⟨S1x1x1024, .f32⟩
  | .hbm, ⟨7, _⟩ => ⟨S1x8192x1024, .f32⟩
  | .hbm, ⟨8, _⟩ => ⟨S1x8192x1024, .f32⟩
  | .hbm, ⟨9, _⟩ => ⟨S1x8192x1024, .f32⟩
  | .hbm, ⟨10, _⟩ => ⟨S1x8192x1024, .f32⟩
  | .hbm, ⟨11, _⟩ => ⟨S1x8192x1024, .f32⟩
  | .hbm, ⟨12, _⟩ => ⟨S1x8192x1024, .f32⟩
  | .hbm, ⟨13, _⟩ => ⟨S_, .f32⟩
  | .hbm, ⟨14, _⟩ => ⟨S1x1024, .f32⟩
  | .hbm, ⟨15, _⟩ => ⟨S1x1x1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S1x8192x1024, .f32⟩
  | .hbm, ⟨20, _⟩ => ⟨S1x8192x1024, .f32⟩
  | .hbm, ⟨21, _⟩ => ⟨S8192x4x2x128, .f32⟩
  | .hbm, ⟨22, _⟩ => ⟨S_, .f32⟩
  | .hbm, ⟨23, _⟩ => ⟨S8192x4x2, .f32⟩
  | .hbm, ⟨24, _⟩ => ⟨S4x8192x2, .f32⟩
  | .hbm, ⟨25, _⟩ => ⟨S8x1024, .i32⟩
  | .hbm, ⟨26, _⟩ => ⟨S_, .i32⟩
  | .hbm, ⟨27, _⟩ => ⟨S8x1024, .i32⟩
  | .hbm, ⟨28, _⟩ => ⟨S8x1024, .i1⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8192x1024, .f32⟩
  | .hbm, ⟨34, _⟩ => ⟨S8192x1024, .bf16⟩
  | .hbm, ⟨35, _⟩ => ⟨S8192x1024, .f32⟩
  | .hbm, ⟨36, _⟩ => ⟨S8192x1024, .bf16⟩
  | .hbm, ⟨37, _⟩ => ⟨S8192x1024, .f32⟩
  | .hbm, ⟨38, _⟩ => ⟨S1024x8192, .f32⟩
  | .hbm, ⟨39, _⟩ => ⟨S1024x8192, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Mlp.lean ====
abbrev S1x8192x1024 : Shape := ⟨3, ![1, 8192, 1024]⟩
abbrev S1x1024 : Shape := ⟨2, ![1, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x1024 : Shape := ⟨2, ![8, 1024]⟩
abbrev S1x8x1024 : Shape := ⟨3, ![1, 8, 1024]⟩
abbrev S2x8x1024 : Shape := ⟨3, ![2, 8, 1024]⟩
abbrev S8192x1024 : Shape := ⟨2, ![8192, 1024]⟩
abbrev S8192 : Shape := ⟨1, ![8192]⟩
abbrev S8192x1 : Shape := ⟨2, ![8192, 1]⟩
abbrev S8192x4096 : Shape := ⟨2, ![8192, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S512x1024 : Shape := ⟨2, ![512, 1024]⟩
abbrev S512x4096 : Shape := ⟨2, ![512, 4096]⟩
abbrev S1x1x1024 : Shape := ⟨3, ![1, 1, 1024]⟩
abbrev S512 : Shape := ⟨1, ![512]⟩
abbrev S512x1 : Shape := ⟨2, ![512, 1]⟩
abbrev S512x512 : Shape := ⟨2, ![512, 512]⟩
abbrev S1x512x1024 : Shape := ⟨3, ![1, 512, 1024]⟩
abbrev S1x1024x512 : Shape := ⟨3, ![1, 1024, 512]⟩
abbrev S1024x512 : Shape := ⟨2, ![1024, 512]⟩

abbrev nBuf : Space → Nat
  | .hbm => 63
  | .vmem => 21
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1x8192x1024, .f32⟩
  | .hbm, ⟨8, _⟩ => ⟨S_, .f32⟩
  | .hbm, ⟨9, _⟩ => ⟨S1x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S1x8x1024, .f32⟩
  | .hbm, ⟨14, _⟩ => ⟨S1x8x1024, .f32⟩
  | .hbm, ⟨15, _⟩ => ⟨S2x8x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x1024, .f32⟩
  | .hbm, ⟨48, _⟩ => ⟨S1024x8x512, .f32⟩
  | .hbm, ⟨49, _⟩ => ⟨S8x1024x512, .f32⟩
  | .hbm, ⟨50, _⟩ => ⟨S8x1024x512, .bf16⟩
  | .hbm, ⟨51, _⟩ => ⟨S8x512x1024, .f32⟩
  | .hbm, ⟨52, _⟩ => ⟨S8x512x1024, .bf16⟩
  | .hbm, ⟨53, _⟩ => ⟨S8192x1024, .f32⟩
  | .hbm, ⟨54, _⟩ => ⟨S8192x1024, .f32⟩
  | .hbm, ⟨55, _⟩ => ⟨S8192x4096, .bf16⟩
  | .hbm, ⟨56, _⟩ => ⟨S8192x1024, .bf16⟩
  | .hbm, ⟨57, _⟩ => ⟨S1x1024, .f32⟩
  | .hbm, ⟨58, _⟩ => ⟨S8192x1024, .f32⟩
  | .hbm, ⟨59, _⟩ => ⟨S8192x1024, .bf16⟩
  | .hbm, ⟨60, _⟩ => ⟨S8192x4096, .bf16⟩
  | .hbm, ⟨61, _⟩ => ⟨S8192x1024, .bf16⟩
  | .hbm, ⟨62, _⟩ => ⟨S1x8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S512x1024, .bf16⟩
  | .local _ .vmem, ⟨7, _⟩ => ⟨S512x1024, .bf16⟩
  | .local _ .vmem, ⟨8, _⟩ => ⟨S1x8x1024, .f32⟩
  | .local _ .vmem, ⟨9, _⟩ => ⟨S1x1024, .f32⟩
  | .local _ .vmem, ⟨10, _⟩ => ⟨S8x1024x512, .bf16⟩
  | .local _ .vmem, ⟨11, _⟩ => ⟨S8x512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x4096, .bf16⟩
  | .local _ .vmem, ⟨17, _⟩ => ⟨S512x4096, .bf16⟩
  | .local _ .vmem, ⟨18, _⟩ => ⟨S512x1024, .bf16⟩
  | .local _ .vmem, ⟨19, _⟩ => ⟨S512x1024, .bf16⟩
  | .local _ .vmem, ⟨20, _⟩ => ⟨S1x8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42_0 : Ref sig .tc := ⟨.hbm, 58, rfl⟩
abbrev main_v42_1 : Ref sig .tc := ⟨.hbm, 59, rfl⟩
abbrev main_v42_2 : Ref sig .tc := ⟨.hbm, 60, rfl⟩
abbrev main_v42_3 : Ref sig .tc := ⟨.hbm, 61, rfl⟩
abbrev main_v42_4 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MlpRefIdeal.lean ====
abbrev S1x8192x1024 : Shape := ⟨3, ![1, 8192, 1024]⟩
abbrev S1x1024 : Shape := ⟨2, ![1, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x4096 : Shape := ⟨3, ![1, 8192, 4096]⟩
abbrev S8192 : Shape := ⟨1, ![8192]⟩
abbrev S8x1024 : Shape := ⟨2, ![8, 1024]⟩
abbrev S8192x1024 : Shape := ⟨2, ![8192, 1024]⟩
abbrev S8192x4096 : Shape := ⟨2, ![8192, 4096]⟩
abbrev S1x8x1024 : Shape := ⟨3, ![1, 8, 1024]⟩

abbrev nBuf : Space → Nat
  | .hbm => 125
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1x8192x1024, .f32⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S1x8192x1024, .f32⟩
  | .hbm, ⟨24, _⟩ => ⟨S1x8192x1024, .f32⟩
  | .hbm, ⟨25, _⟩ => ⟨S1x1x1024, .f32⟩
  | .hbm, ⟨26, _⟩ => ⟨S1x8192x1024, .f32⟩
  | .hbm, ⟨27, _⟩ => ⟨S1x8192x1024, .f32⟩
  | .hbm, ⟨28, _⟩ => ⟨S1x1x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S1x8192x1024, .f32⟩
  | .hbm, ⟨33, _⟩ => ⟨S1x8192x1024, .f32⟩
  | .hbm, ⟨34, _⟩ => ⟨S1x1x1024, .f32⟩
  | .hbm, ⟨35, _⟩ => ⟨S1x8192x1024, .f32⟩
  | .hbm, ⟨36, _⟩ => ⟨S1x8192x1024, .f32⟩
  | .hbm, ⟨37, _⟩ => ⟨S1x8192x4096, .f32⟩
  | .hbm, ⟨38, _⟩ => ⟨S_, .f32⟩
  | .hbm, ⟨39, _⟩ => ⟨S1x8192x4096, .f32⟩
  | .hbm, ⟨40, _⟩ => ⟨S1x8192x4096, .f32⟩
  | .hbm, ⟨41, _⟩ => ⟨S_, .f32⟩
  | .hbm, ⟨42, _⟩ => ⟨S1x8192x4096, .f32⟩
  | .hbm, ⟨43, _⟩ => ⟨S1x8192x4096, .i1⟩
  | .hbm, ⟨44, _⟩ => ⟨S_, .f32⟩
  | .hbm, ⟨45, _⟩ => ⟨S1x8192x4096, .f32⟩
  | .hbm, ⟨46, _⟩ => ⟨S1x8192x4096, .f32⟩
  | .hbm, ⟨47, _⟩ => ⟨S_, .f32⟩
  | .hbm, ⟨48, _⟩ => ⟨S1x8192x4096, .f32⟩
  | .hbm, ⟨49, _⟩ => ⟨S1x8192x4096, .f32⟩
  | .hbm, ⟨50, _⟩ => ⟨S1x8192x1024, .f32⟩
  | .hbm, ⟨51, _⟩ => ⟨S1x1x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S1x8192x1024, .f32⟩
  | .hbm, ⟨57, _⟩ => ⟨S1x8192x1024, .f32⟩
  | .hbm, ⟨58, _⟩ => ⟨S1x8192x1024, .f32⟩
  | .hbm, ⟨59, _⟩ => ⟨S_, .f32⟩
  | .hbm, ⟨60, _⟩ => ⟨S1x1024, .f32⟩
  | .hbm, ⟨61, _⟩ => ⟨S1x1x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S1x8192x4096, .f32⟩
  | .hbm, ⟨66, _⟩ => ⟨S1x8192x4096, .f32⟩
  | .hbm, ⟨67, _⟩ => ⟨S_, .f32⟩
  | .hbm, ⟨68, _⟩ => ⟨S1x8192x4096, .f32⟩
  | .hbm, ⟨69, _⟩ => ⟨S1x8192x4096, .f32⟩
  | .hbm, ⟨70, _⟩ => ⟨S1x8192x1024, .f32⟩
  | .hbm, ⟨71, _⟩ => ⟨S_, .f32⟩
  | .hbm, ⟨72, _⟩ => ⟨S1x1024, .f32⟩
  | .hbm, ⟨73, _⟩ => ⟨S1x1x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S1x8192x1024, .f32⟩
  | .hbm, ⟨78, _⟩ => ⟨S_, .f32⟩
  | .hbm, ⟨79, _⟩ => ⟨S1x1024, .f32⟩
  | .hbm, ⟨80, _⟩ => ⟨S1x1x1024, .f32⟩
  | .hbm, ⟨81, _⟩ => ⟨S1x8192x1024, .f32⟩
  | .hbm, ⟨82, _⟩ => ⟨S1x8192x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S1x8192x1024, .f32⟩
  | .hbm, ⟨87, _⟩ => ⟨S_, .f32⟩
  | .hbm, ⟨88, _⟩ => ⟨S1x1024, .f32⟩
  | .hbm, ⟨89, _⟩ => ⟨S1x1x1024, .f32⟩
  | .hbm, ⟨90, _⟩ => ⟨S1x8192x1024, .f32⟩
  | .hbm, ⟨91, _⟩ => ⟨S1x8192x1024, .f32⟩
  | .hbm, ⟨92, _⟩ => ⟨S_, .f32⟩
  | .hbm, ⟨93, _⟩ => ⟨S1024, .f32⟩
  | .hbm, ⟨94, _⟩ => ⟨S1x8192x1024, .f32⟩
  | .hbm, ⟨95, _⟩ => ⟨S_, .f32⟩
  | .hbm, ⟨96, _⟩ => ⟨S1x8192, .f32⟩
  | .hbm, ⟨97, _⟩ => ⟨S1x8192x1, .f32⟩
  | .hbm, ⟨98, _⟩ => ⟨S1x8192x1024, .f32⟩
  | .hbm, ⟨99, _⟩ => ⟨S1x8192x1024, .f32⟩
  | .hbm, ⟨100, _⟩ => ⟨S1x8192x1, .f32⟩
  | .hbm, ⟨101, _⟩ => ⟨S_, .f32⟩
  | .hbm, ⟨102, _⟩ => ⟨S1x8192x1, .f32⟩
  | .hbm, ⟨103, _⟩ => ⟨S1x8192x1, .f32⟩
  | .hbm, ⟨104, _⟩ => ⟨S_, .f32⟩
  | .hbm, ⟨105, _⟩ => ⟨S8192, .f32⟩
  | .hbm, ⟨106, _⟩ => ⟨S1x8192, .f32⟩
  | .hbm, ⟨107, _⟩ => ⟨S1x8192x1024, .f32⟩
  | .hbm, ⟨108, _⟩ => ⟨S1x8192x1024, .f32⟩
  | .hbm, ⟨109, _⟩ => ⟨S1x8192x1024, .f32⟩
  | .hbm, ⟨110, _⟩ => ⟨S1x8192x1024, .f32⟩
  | .hbm, ⟨111, _⟩ => ⟨S1x8192x1024, .f32⟩
  | .hbm, ⟨112, _⟩ => ⟨S_, .f32⟩
  | .hbm, ⟨113, _⟩ => ⟨S1x1024, .f32⟩
  | .hbm, ⟨114, _⟩ => ⟨S1x1024, .f32⟩
  | .hbm, ⟨115, _⟩ => ⟨S8x1024, .f32⟩
  | .hbm, ⟨116, _⟩ => ⟨S1x8192x1024, .f32⟩
  | .hbm, ⟨117, _⟩ => ⟨S8192x1024, .f32⟩
  | .hbm, ⟨118, _⟩ => ⟨S8192x1024, .f32⟩
  | .hbm, ⟨119, _⟩ => ⟨S8192x1024, .bf16⟩
  | .hbm, ⟨120, _⟩ => ⟨S8192x4096, .f32⟩
  | .hbm, ⟨121, _⟩ => ⟨S8192x4096, .bf16⟩
  | .hbm, ⟨122, _⟩ => ⟨S8192x1024, .f32⟩
  | .hbm, ⟨123, _⟩ => ⟨S8192x1024, .bf16⟩
  | .hbm, ⟨124, _⟩ => ⟨S1x8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_v67 : Ref sig .tc := ⟨.hbm, 94, rfl⟩
abbrev main_cst_16 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_17 : Ref sig .tc := ⟨.hbm, 101, rfl⟩
abbrev main_v73 : Ref sig .tc := ⟨.hbm, 102, rfl⟩
abbrev main_v74 : Ref sig .tc := ⟨.hbm, 103, rfl⟩
abbrev main_cst_18 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_19 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩

abbrev nD : Nat := 1
abbrev τ : Topo := Topo.v7x

variable {F : FTy → Type} [FloatOps F]
-- ==== Mfwd.lean ====
abbrev S1x8192x1024 : Shape := ⟨3, ![1, 8192, 1024]⟩
abbrev S1x1024 : Shape := ⟨2, ![1, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S3x1024 : Shape := ⟨2, ![3, 1024]⟩
abbrev S6x1024 : Shape := ⟨2, ![6, 1024]⟩
abbrev S2x1024 : Shape := ⟨2, ![2, 1024]⟩
abbrev S8x1024 : Shape := ⟨2, ![8, 1024]⟩
abbrev S1x8x1024 : Shape := ⟨3, ![1, 8, 1024]⟩
abbrev S2x8x1024 : Shape := ⟨3, ![2, 8, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8192x1024 : Shape := ⟨2, ![8192, 1024]⟩
abbrev S8192x4096 : Shape := ⟨2, ![8192, 4096]⟩
abbrev S512x1024 : Shape := ⟨2, ![512, 1024]⟩
abbrev S512x4096 : Shape := ⟨2, ![512, 4096]⟩
abbrev S1x1x1024 : Shape := ⟨3, ![1, 1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 28
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S_, .f32⟩
  | .hbm, ⟨8, _⟩ => ⟨S3x1024, .f32⟩
  | .hbm, ⟨9, _⟩ => ⟨S6x1024, .f32⟩
  | .hbm, ⟨10, _⟩ => ⟨S_, .f32⟩
  | .hbm, ⟨11, _⟩ => ⟨S2x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S1x8x1024, .f32⟩
  | .hbm, ⟨16, _⟩ => ⟨S1x8x1024, .f32⟩
  | .hbm, ⟨17, _⟩ => ⟨S2x8x1024, .f32⟩
  | .hbm, ⟨18, _⟩ => ⟨S1024x8x512, .f32⟩
  | .hbm, ⟨19, _⟩ => ⟨S8x1024x512, .f32⟩
  | .hbm, ⟨20, _⟩ => ⟨S8x1024x512, .bf16⟩
  | .hbm, ⟨21, _⟩ => ⟨S8x512x1024, .f32⟩
  | .hbm, ⟨22, _⟩ => ⟨S8x512x1024, .bf16⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x4096, .bf16⟩
  | .hbm, ⟨27, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x1024, .f32⟩
  | .local _ .vmem, ⟨4, _⟩ => ⟨S8x1024x512, .bf16⟩
  | .local _ .vmem, ⟨5, _⟩ => ⟨S8x512x1024, .bf16⟩
  | .local _ .vmem, ⟨6, _⟩ => ⟨S512x1024, .f32⟩
  | .local _ .vmem, ⟨7, _⟩ => ⟨S512x1024, .f32⟩
  | .local _ .vmem, ⟨8, _⟩ => ⟨S512x4096, .bf16⟩
  | .local _ .vmem, ⟨9, _⟩ => ⟨S512x4096, .bf16⟩
  | .local _ .vmem, ⟨10, _⟩ => ⟨S512x1024, .bf16⟩
  | .local _ .vmem, ⟨11, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MfwdRefIdeal.lean ====
abbrev S1x8192x1024 : Shape := ⟨3, ![1, 8192, 1024]⟩
abbrev S1x1024 : Shape := ⟨2, ![1, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x4096 : Shape := ⟨3, ![1, 8192, 4096]⟩
abbrev S8192x1024 : Shape := ⟨2, ![8192, 1024]⟩
abbrev S8192x4096 : Shape := ⟨2, ![8192, 4096]⟩

abbrev nBuf : Space → Nat
  | .hbm => 47
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x8192x1024, .f32⟩
  | .hbm, ⟨28, _⟩ => ⟨S1x8192x1024, .f32⟩
  | .hbm, ⟨29, _⟩ => ⟨S1x1x1024, .f32⟩
  | .hbm, ⟨30, _⟩ => ⟨S1x8192x1024, .f32⟩
  | .hbm, ⟨31, _⟩ => ⟨S1x8192x1024, .f32⟩
  | .hbm, ⟨32, _⟩ => ⟨S1x8192x4096, .f32⟩
  | .hbm, ⟨33, _⟩ => ⟨S_, .f32⟩
  | .hbm, ⟨34, _⟩ => ⟨S1x8192x4096, .f32⟩
  | .hbm, ⟨35, _⟩ => ⟨S1x8192x4096, .f32⟩
  | .hbm, ⟨36, _⟩ => ⟨S1x8192x4096, .f32⟩
  | .hbm, ⟨37, _⟩ => ⟨S1x8192x1024, .f32⟩
  | .hbm, ⟨38, _⟩ => ⟨S1x1x1024, .f32⟩
  | .hbm, ⟨39, _⟩ => ⟨S1x8192x1024, .f32⟩
  | .hbm, ⟨40, _⟩ => ⟨S1x8192x1024, .f32⟩
  | .hbm, ⟨41, _⟩ => ⟨S1x8192x1024, .f32⟩
  | .hbm, ⟨42, _⟩ => ⟨S8192x1024, .f32⟩
  | .hbm, ⟨43, _⟩ => ⟨S8192x4096, .f32⟩
  | .hbm, ⟨44, _⟩ => ⟨S8192x4096, .bf16⟩
  | .hbm, ⟨45, _⟩ => ⟨S8192x1024, .f32⟩
  | .hbm, ⟨46, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.Lift.lean ====
/- Extended reals that are real numbers: the operations of the programs at `Ideal`, on real arguments, and the float
   constants of the programs. Every value lemma of this directory carries real arrays through its program with these. -/
module

public import Idealize.ShloMosaic.Lib.Pipeline.ValueKit
public import Idealize.ShloMosaic.Lib.Pipeline.ReadBack
public import Idealize.ShloMosaic.Lib.Pointwise
public import Idealize.ShloMosaic.Lib.WritesUnit

@[expose] public section

noncomputable section

namespace Cert.Lift

open Idealize.ShloMosaic

/-- A finite sum of reals is a real. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A quotient of reals is a real where the divisor is not zero. -/
theorem div_coe (x y : ℝ) (hy : y ≠ 0) : Ideal.div (x : EReal) (y : EReal) = ((x / y : ℝ) : EReal) := by
  rw [Ideal.div_coe hy, ← EReal.coe_mul]; congr 1; ring

/-- The reciprocal root of a positive real is a real. -/
theorem rsqrt_coe (x : ℝ) (hx : 0 < x) : Ideal.rsqrt (x : EReal) = (((Real.sqrt x)⁻¹ : ℝ) : EReal) := by
  rw [Ideal.rsqrt_coe, if_neg (not_lt.mpr hx.le), if_neg hx.ne']

theorem mul_coe (x y : ℝ) : (x : EReal) * (y : EReal) = ((x * y : ℝ) : EReal) := (EReal.coe_mul x y).symm
theorem add_coe (x y : ℝ) : (x : EReal) + (y : EReal) = ((x + y : ℝ) : EReal) := (EReal.coe_add x y).symm
theorem sub_coe (x y : ℝ) : (x : EReal) - (y : EReal) = ((x - y : ℝ) : EReal) := (EReal.coe_sub x y).symm
theorem neg_coe (x : ℝ) : -(x : EReal) = ((-x : ℝ) : EReal) := (EReal.coe_neg x).symm

/-- What a `|x| < ∞` comparison says of an extended real: it is a real number. -/
theorem real_of_lt (x : EReal) (h : FloatOps.cmpf (F := Ideal) (φ := .f32) .olt (FloatOps.hostAbsf (F := Ideal) (φ := .f32) x)
    (FloatOps.ofBits (F := Ideal) .f32 0x7F800000#32) = 1#1) : ∃ r : ℝ, x = (r : EReal) := by
  have hb : (FloatOps.ofBits (F := Ideal) .f32 0x7F800000#32 : EReal) = ⊤ := by
    simp [Ideal.ofBits, Ideal.ieee]
  rw [hb] at h
  induction x with
  | coe r => exact ⟨r, rfl⟩
  | top => exact absurd h (by simp [FloatOps.cmpf, FloatOps.hostAbsf, Ideal.cmp])
  | bot => exact absurd h (by simp [FloatOps.cmpf, FloatOps.hostAbsf, Ideal.cmp])

/-- An array all of whose elements are real is the image of a real array. -/
theorem exists_real {ι : Type} (v : ι → EReal) (h : ∀ i, ∃ r : ℝ, v i = (r : EReal)) : ∃ r : ι → ℝ, v = fun i => ((r i : ℝ) : EReal) := by
  choose r hr using h
  exact ⟨r, funext hr⟩

/-- An array whose every element compares below infinity is the image of a real array. -/
theorem exists_real_of_cmp {s : Shape} (v : FVec Ideal s .f32) (w : FVec Ideal s .f32) (hw : ∀ i, w i = FloatOps.ofBits .f32 0x7F800000#32)
    (h : cmpf .olt (Host.absf v) w = fun _ => 1#1) : ∃ r : s.Idx → ℝ, v = fun i => ((r i : ℝ) : EReal) :=
  exists_real v fun i => real_of_lt (v i) (by have := congrFun h i; rw [← hw i]; exact this)

/-! ## The float constants -/

theorem c0 : Ideal.ofBits .f32 0x00000000#32 = ((0 : ℝ) : EReal) := by
  simp [Ideal.ofBits, Ideal.ieee, -EReal.coe_mul]
theorem c1 : Ideal.ofBits .f32 0x3F800000#32 = ((1 : ℝ) : EReal) := by
  simp [Ideal.ofBits, Ideal.ieee, -EReal.coe_mul] <;> norm_num
theorem c2 : Ideal.ofBits .f32 0x40000000#32 = ((2 : ℝ) : EReal) := by
  simp [Ideal.ofBits, Ideal.ieee, -EReal.coe_mul] <;> norm_num
theorem cHalf : Ideal.ofBits .f32 0x3F000000#32 = ((1 / 2 : ℝ) : EReal) := by
  simp [Ideal.ofBits, Ideal.ieee, -EReal.coe_mul] <;> norm_num
theorem cNegHalf : Ideal.ofBits .f32 0xBF000000#32 = ((-(1 / 2) : ℝ) : EReal) := by
  simp [Ideal.ofBits, Ideal.ieee, -EReal.coe_mul] <;> norm_num
theorem c1024 : Ideal.ofBits .f32 0x44800000#32 = ((1024 : ℝ) : EReal) := by
  simp [Ideal.ofBits, Ideal.ieee, -EReal.coe_mul] <;> norm_num
theorem cInv1024 : Ideal.ofBits .f32 0x3A800000#32 = ((1 / 1024 : ℝ) : EReal) := by
  simp [Ideal.ofBits, Ideal.ieee, -EReal.coe_mul] <;> norm_num
theorem cInv2048 : Ideal.ofBits .f32 0x3A000000#32 = ((1 / 2048 : ℝ) : EReal) := by
  simp [Ideal.ofBits, Ideal.ieee, -EReal.coe_mul] <;> norm_num

/-- The norm's ε: the real number its float word is. -/
def eps : ℝ := 8796093 / 8796093022208
theorem cEps : Ideal.ofBits .f32 0x358637BD#32 = ((eps : ℝ) : EReal) := by
  simp [Ideal.ofBits, Ideal.ieee, eps, -EReal.coe_mul] <;> norm_num
theorem eps_pos : 0 < eps := by unfold eps; norm_num

/-! ## One row of a block written over what it holds -/

open Idealize.ShloMosaic.ValueIdx in
/-- A row stored into a block: the payload at that row, what the block held elsewhere. -/
theorem read_writes_row {sig : RefSig} {κ : Kind} {sp : Space} {e : EltTy} {Val : EltTy → Type} {n k : ℕ}
    (v : View sig κ sp ⟨2, ![n, k]⟩ e) (f : v.ty.Contents Val) (r : ℕ) (inb)
    (w : (⟨2, ![1, k]⟩ : Shape).Idx → Val e) (L : List (View.Piece Val (⟨2, ![n, k]⟩ : Shape) e)) (a : Fin n) (b : Fin k) :
    v.read Val (v.writes Val f ((⟨Rect.unit (s := ⟨2, ![n, k]⟩) ![r, 0] ![1, k] inb, w⟩ : View.Piece Val (⟨2, ![n, k]⟩ : Shape) e) :: L)) (ValueIdx.ix2 a b)
      = if a.val = r then w (ValueIdx.ix2 0 b) else v.read Val (v.writes Val f L) (ValueIdx.ix2 a b) := by
  split
  · rename_i h
    exact View.read_writes_cons_unit_of_mem v f inb w L _ (ValueIdx.ix2 0 b) rfl (fun c => by
      match c with
      | ⟨0, _⟩ => show a.val = r + 0; omega
      | ⟨1, _⟩ => show b.val = 0 + b.val; omega)
  · rename_i h
    exact View.read_writes_cons_unit_of_not_mem v f inb w L _ rfl (0 : Fin 2) (by
      show a.val < r ∨ r + 1 ≤ a.val; omega)

open Idealize.ShloMosaic.ValueIdx in
/-- The same, of stores over nothing. -/
theorem canon_row {e : EltTy} {Val : EltTy → Type} [∀ e, Nonempty (Val e)] {n k : ℕ} (r : ℕ) (inb)
    (w : (⟨2, ![1, k]⟩ : Shape).Idx → Val e) (L : List (View.Piece Val (⟨2, ![n, k]⟩ : Shape) e)) (a : Fin n) (b : Fin k) :
    View.canon ((⟨Rect.unit (s := ⟨2, ![n, k]⟩) ![r, 0] ![1, k] inb, w⟩ : View.Piece Val (⟨2, ![n, k]⟩ : Shape) e) :: L) (ValueIdx.ix2 a b)
      = if a.val = r then w (ValueIdx.ix2 0 b) else View.canon L (ValueIdx.ix2 a b) := by
  split
  · rename_i h
    have : (ValueIdx.ix2 a b : (⟨2, ![n, k]⟩ : Shape).Idx) = (Rect.unit (s := ⟨2, ![n, k]⟩) ![r, 0] ![1, k] inb).emb (ValueIdx.ix2 0 b) := by
      funext c; apply Fin.ext
      match c with
      | ⟨0, _⟩ => show a.val = r + 1 * 0; omega
      | ⟨1, _⟩ => show b.val = 0 + 1 * b.val; omega
    rw [this]; exact View.canon_cons_emb (Rect.unit (s := ⟨2, ![n, k]⟩) ![r, 0] ![1, k] inb) w L _
  · rename_i h
    refine View.canon_cons_of_not_mem _ L ?_
    rw [Rect.mem_set_unit]
    intro hc
    have := hc (0 : Fin 2)
    have h1 : r ≤ a.val ∧ a.val < r + 1 := this
    omega

open Idealize.ShloMosaic.ValueIdx in
/-- Loading one row of a block reads that row. -/
theorem ld_row {e : EltTy} {Val : EltTy → Type} {n k : ℕ} (v : (⟨2, ![n, k]⟩ : Shape).Idx → Val e) (r : ℕ) (inb) (b : Fin k) (a : Fin n) (ha : a.val = r) :
    View.ld v (Rect.unit (s := ⟨2, ![n, k]⟩) ![r, 0] ![1, k] inb) (ValueIdx.ix2 0 b) = v (ValueIdx.ix2 a b) := by
  refine congrArg v ?_
  funext c; apply Fin.ext
  match c with
  | ⟨0, _⟩ => show r + 1 * 0 = a.val; omega
  | ⟨1, _⟩ => show 0 + 1 * b.val = b.val; omega

/-- A choice on "this row is row 0". -/
theorem select_row {α : Type} (n : ℕ) (h : n < 4294967296) (a b : α) :
    Scalar.select (IntOp.cmpi CmpIPredicate.eq (BitVec.ofNat 32 n) 0#32) a b = if n = 0 then a else b := by
  have hi : (BitVec.ofNat 32 n = 0#32) ↔ n = 0 := by
    rw [BitVec.toNat_eq]; simp; omega
  by_cases hn : n = 0
  · simp [hn, Scalar.select, IntOp.cmpi]
  · have : ¬ BitVec.ofNat 32 n = 0#32 := fun h => hn (hi.mp h)
    have hb : (BitVec.ofNat 32 n == 0#32) = false := beq_eq_false_iff_ne.mpr this
    simp [hn, Scalar.select, IntOp.cmpi, hb]

end Cert.Lift

end
-- ==== Proof.HeadRow.lean ====
/- The loss head on real numbers, one row at a time, as the kernel writes it; and the kernel's stored values read at it. -/
module

public import proofs.«01_k».proof.Proof.Lift
public import proofs.«01_k».proof.Proof.Gen.HeadIdeal.Value

@[expose] public section

set_option maxRecDepth 16384

noncomputable section

namespace Cert.HeadRow

open Cert.Lift Cert.HeadIdeal Cert.HeadIdeal.Gen Idealize.ShloMosaic Idealize.ShloMosaic.TcCoe Idealize.SL.Sem

/-- The reciprocal root mean square of a row. -/
def rs (x : Fin 1024 → ℝ) : ℝ := (Real.sqrt ((∑ k, x k * x k) / 1024 + eps))⁻¹

/-- The row's error against its target. -/
def er (g x t : Fin 1024 → ℝ) (k : Fin 1024) : ℝ := x k * rs x * g k - t k

/-- The row's gradient, as the kernel writes it. -/
def dh (g x t : Fin 1024 → ℝ) (k : Fin 1024) : ℝ :=
  rs x * (er g x t k * (1 / 1024) * g k - x k * rs x * ((∑ j, er g x t j * (1 / 1024) * g j * (x j * rs x)) / 1024))

theorem ms_pos (x : Fin 1024 → ℝ) : 0 < (∑ k, x k * x k) / 1024 + eps := by
  have h : 0 ≤ ∑ k, x k * x k := Finset.sum_nonneg fun k _ => mul_self_nonneg _
  have := eps_pos
  positivity

variable (x t : Fin 512 → Fin 1024 → ℝ) (g : Fin 1024 → ℝ)

/-- A block of real rows. -/
abbrev blk (x : Fin 512 → Fin 1024 → ℝ) : FVec Ideal S512x1024 .f32 := fun y => ((x (y 0) (y 1) : ℝ) : EReal)
abbrev gain (g : Fin 1024 → ℝ) : FVec Ideal S1x1024 .f32 := fun y => ((g (y 1) : ℝ) : EReal)

theorem pay6 : k0_pay6 (F := Ideal) (blk x) = fun y => ((rs (x (y 0)) : ℝ) : EReal) := by
  funext y
  pointwise [k0_pay6]
  simp only [mul_coe, sum_coe, c1024, cEps, div_coe _ (1024 : ℝ) (by norm_num), add_coe, rsqrt_coe _ (ms_pos _)]
  rfl

theorem pay8 : k0_pay8 (F := Ideal) (gain g) (blk x) (blk t) = blk fun p => er g (x p) (t p) := by
  funext y
  pointwise [k0_pay8, k0_pay7, k0_pay5]
  rw [pay6]
  simp only [mul_coe, sub_coe]
  rfl

theorem pay10 : k0_pay10 (F := Ideal) (gain g) (blk x) (blk t) = fun y => ((dh g (x (y 0)) (t (y 0)) (y 1) : ℝ) : EReal) := by
  funext y
  pointwise [k0_pay10, k0_pay9, k0_pay7, k0_pay5]
  rw [pay6, pay8]
  simp only [blk]
  simp only [mul_coe, sub_coe, sum_coe, cInv1024, c1024, div_coe _ (1024 : ℝ) (by norm_num)]
  rfl

theorem pay11 : k0_pay11 (F := Ideal) (gain g) (blk x) (blk t)
    = fun y => ((∑ p, er g (x p) (t p) (y 1) * (1 / 1024) * (x p (y 1) * rs (x p)) : ℝ) : EReal) := by
  funext y
  pointwise [k0_pay11, k0_pay9, k0_pay7]
  rw [pay6, pay8]
  simp only [blk]
  simp only [mul_coe, sum_coe, cInv1024]
  rfl

theorem pay1 (a : FVec Ideal S1x1024 .f32) (b : Vec Ideal S1x1024 .f32) (y) : k0_pay1 (F := Ideal) a b y = b y + a y := by
  pointwise [k0_pay1]

theorem pay3 (e : Fin 512 → Fin 1024 → ℝ) (b : Vec Ideal S1x1024 .f32) (y) :
    k0_pay3 (F := Ideal) (blk e) b y = b y + ((∑ p, e p (y 1) * e p (y 1) : ℝ) : EReal) := by
  pointwise [k0_pay3]
  simp only [mul_coe, sum_coe]
  rfl

theorem pay4 (s : Fin 1024 → ℝ) : k0_pay4 (F := Ideal) (gain s) = fun _ => (((∑ k, s k) * (1 / 2048) : ℝ) : EReal) := by
  funext y
  pointwise [k0_pay4]
  simp only [mul_coe, sum_coe, cInv2048]
  rfl

theorem pay2 (y) : k0_pay2 (F := Ideal) y = ((0 : ℝ) : EReal) := by
  pointwise [k0_pay2]; rfl

theorem pay12 (y) : k0_pay12 (F := Ideal) y = ((0 : ℝ) : EReal) := by
  pointwise [k0_pay12]; rfl

end Cert.HeadRow
end
-- ==== Proof.HeadArray.lean ====
/- The loss head's three result arrays on real arguments: the kernel's blocks and its running sums put together. -/
module

public import proofs.«01_k».proof.Proof.HeadRow

@[expose] public section

set_option maxRecDepth 16384

noncomputable section

namespace Cert.HeadArray

open Cert.Lift Cert.HeadRow Cert.HeadIdeal Cert.HeadIdeal.Gen Idealize.ShloMosaic Idealize.ShloMosaic.TcCoe Idealize.SL.Sem

variable (m : (ℓ : Loc nD τ sig) → Buf (Elt Ideal) ℓ) (c : Dev nD) (H : S8192x1024.Idx → ℝ) (g : S1024.Idx → ℝ) (T : S1x8192x1024.Idx → ℝ)
  (hH : m ((c : Thread nD τ).loc main_arg0) = fun i => ((H i : ℝ) : EReal))
  (hg : m ((c : Thread nD τ).loc main_arg1) = fun i => ((g i : ℝ) : EReal))
  (hT : m ((c : Thread nD τ).loc main_arg2) = fun i => ((T i : ℝ) : EReal))

/-- Rows `512·n …` of an array. -/
def rows (X : Fin 8192 → Fin 1024 → ℝ) (n : ℕ) (p : Fin 512) : Fin 1024 → ℝ :=
  X ⟨(512 * n + p.val) % 8192, Nat.mod_lt _ (by decide)⟩

theorem idx : ∀ t : Fin cfg0.N, win0_0.index t = ![t.val, 0] ∧ win0_1.index t = ![0, 0] ∧ win0_2.index t = ![t.val, 0] :=
  (by decide +kernel : ∀ t : Fin grid0.N, _)

include hH in
theorem blk0 (t : Fin cfg0.N) : (iblk m c 0 t : Vec Ideal S512x1024 .f32) = blk (rows (fun a k => H (ValueIdx.ix2 a k)) t.val) := by
  funext y
  blk_simp [iblk]
  entry_read
  rw [hH]
  refine congrArg (fun i => ((H i : ℝ) : EReal)) ?_
  blk_ext [idx t]
include hg in
theorem blk1 (t : Fin cfg0.N) : (iblk m c 1 t : Vec Ideal S1x1024 .f32) = gain (fun k => g (ValueIdx.ix1 k)) := by
  funext y
  blk_simp [iblk]
  entry_read
  rw [hg]
  pointwise
  refine congrArg (fun i => ((g i : ℝ) : EReal)) ?_
  blk_ext [idx t]
include hT in
theorem blk2 (t : Fin cfg0.N) : (iblk m c 2 t : Vec Ideal S512x1024 .f32) = blk (rows (fun a k => T (ValueIdx.ix3 0 a k)) t.val) := by
  funext y
  blk_simp [iblk]
  entry_read
  rw [hT]
  pointwise
  refine congrArg (fun i => ((T i : ℝ) : EReal)) ?_
  blk_ext [idx t]

/-- The sum of a function over the sixteen blocks' rows is its sum over the array's rows. -/
theorem sum_rows (f : (Fin 1024 → ℝ) → (Fin 1024 → ℝ) → ℝ) (X Y : Fin 8192 → Fin 1024 → ℝ) :
    ∑ n ∈ Finset.range 16, ∑ p, f (rows X n p) (rows Y n p) = ∑ a, f (X a) (Y a) := by
  rw [Finset.sum_range, ← Fintype.sum_prod_type']
  refine Fintype.sum_equiv (finProdFinEquiv (m := 16) (n := 512)) _ _ fun x => ?_
  have h : ∀ Z : Fin 8192 → Fin 1024 → ℝ, rows Z x.1.val x.2 = Z (finProdFinEquiv x) := fun Z => by
    refine congrArg Z (Fin.ext ?_)
    show (512 * x.1.val + x.2.val) % 8192 = x.2.val + 512 * x.1.val
    have := x.1.isLt; have := x.2.isLt; omega
  rw [h, h]

/-- What point `n` adds to column `b` of the gain's gradient, and to column `b` of the squared error. -/
def gterm (g : Fin 1024 → ℝ) (b : Fin 1024) (x t : Fin 1024 → ℝ) : ℝ := er g x t b * (1 / 1024) * (x b * rs x)
def eterm (g : Fin 1024 → ℝ) (b : Fin 1024) (x t : Fin 1024 → ℝ) : ℝ := er g x t b * er g x t b

section
variable (X Y : Fin 8192 → Fin 1024 → ℝ) (G : Fin 1024 → ℝ)
  (h0 : ∀ t : Fin cfg0.N, (iblk m c 0 t : Vec Ideal S512x1024 .f32) = blk (rows X t.val))
  (h1 : ∀ t : Fin cfg0.N, (iblk m c 1 t : Vec Ideal S1x1024 .f32) = gain G)
  (h2 : ∀ t : Fin cfg0.N, (iblk m c 2 t : Vec Ideal S512x1024 .f32) = blk (rows Y t.val))

include h0 h1 h2

/-- Every point leaves its rows' gradient in the first result's block. -/
theorem point3 (t : Fin cfg0.N) : (outsAt0 m c t.val t.isLt).1 = blk fun p => dh G (rows X t.val p) (rows Y t.val p) := by
  have hN : t.val < 16 := t.isLt
  have hp := pay10 (rows X t.val) (rows Y t.val) G
  rw [← h0, ← h1 t, ← h2] at hp
  by_cases ha : t.val % 16 = 0
  · rw [outsAt0_A m c t ha ha (by omega)]; frame_out; exact hp
  · by_cases hc : t.val % 16 = 15
    · rw [outsAt0_C m c t ha ha hc]; frame_out; exact hp
    · rw [outsAt0_B m c t ha ha hc]; frame_out; exact hp

/-- After point `n` the third result's block holds, in row 0, the sums over the points so far. -/
theorem point5 : ∀ (n : ℕ) (hn : n < cfg0.N) (a : Fin 8) (b : Fin 1024), (outsAt0 m c n hn).2.2.1 (ValueIdx.ix2 a b)
    = ((if a.val = 0 then ∑ i ∈ Finset.range (n + 1), ∑ p, gterm G b (rows X i p) (rows Y i p) else 0 : ℝ) : EReal) := by
  intro n
  induction n with
  | zero =>
    intro hn a b
    rw [outsAt0_A m c ⟨0, hn⟩ (by simp) (by simp) (by simp)]
    frame_out
    rw [canon_row]
    split
    · rename_i ha
      rw [pay1, h0, h1, h2, pay11, View.readCov_fill _ _ _ _ _ (by decide), ld_row _ _ _ _ a ha, pay12, add_coe]
      simp [gterm]
    · rw [View.canon_cons_unit_lit _ _ _ (by decide), pay12]
  | succ n ih =>
    intro hn a b
    have hN : n + 1 < 16 := hn
    have key : (outsAt0 m c (n + 1) hn).2.2.1 (ValueIdx.ix2 a b) = if a.val = 0 then
        (outsAt0 m c n (Nat.lt_of_succ_lt hn)).2.2.1 (ValueIdx.ix2 a b) + ((∑ p, gterm G b (rows X (n + 1) p) (rows Y (n + 1) p) : ℝ) : EReal)
        else (outsAt0 m c n (Nat.lt_of_succ_lt hn)).2.2.1 (ValueIdx.ix2 a b) := by
      by_cases hc : (n + 1) % 16 = 15
      on_goal 1 => rw [outsAt0_C m c ⟨n + 1, hn⟩ (by dsimp only; omega) (by dsimp only; omega) hc]
      on_goal 2 => rw [outsAt0_B m c ⟨n + 1, hn⟩ (by dsimp only; omega) (by dsimp only; omega) hc]
      all_goals
        frame_out
        rw [read_writes_row]
        split
        · rename_i ha
          rw [pay1, h0, h1, h2, pay11, ld_row _ _ _ _ a ha]
          rfl
        · rw [View.writes_nil, Memref.IsWhole.read_unread]
          rfl
    rw [key, ih, Finset.sum_range_succ _ (n + 1)]
    split
    · rw [add_coe]
    · rfl

/-- After point `n` row 0 of the scratch holds the sums of the squared errors over the points so far. -/
theorem scratch : ∀ (n : ℕ) (hn : n < cfg0.N) (b : Fin 1024), (outsAt0 m c n hn).2.2.2 (ValueIdx.ix2 0 b)
    = ((∑ i ∈ Finset.range (n + 1), ∑ p, eterm G b (rows X i p) (rows Y i p) : ℝ) : EReal) := by
  intro n
  induction n with
  | zero =>
    intro hn b
    rw [outsAt0_A m c ⟨0, hn⟩ (by simp) (by simp) (by simp)]
    frame_out
    rw [canon_row, if_pos (show ((0 : Fin 8) : ℕ) = 0 from rfl), h0, h1, h2, pay8, View.readCov_fill _ _ _ _ _ (by decide), pay3, ld_row _ 0 _ _ (0 : Fin 8) rfl, pay2, add_coe]
    simp [eterm]
  | succ n ih =>
    intro hn b
    have hN : n + 1 < 16 := hn
    have key : (outsAt0 m c (n + 1) hn).2.2.2 (ValueIdx.ix2 0 b) =
        (outsAt0 m c n (Nat.lt_of_succ_lt hn)).2.2.2 (ValueIdx.ix2 0 b) + ((∑ p, eterm G b (rows X (n + 1) p) (rows Y (n + 1) p) : ℝ) : EReal) := by
      by_cases hc : (n + 1) % 16 = 15
      on_goal 1 => rw [outsAt0_C m c ⟨n + 1, hn⟩ (by dsimp only; omega) (by dsimp only; omega) hc]
      on_goal 2 => rw [outsAt0_B m c ⟨n + 1, hn⟩ (by dsimp only; omega) (by dsimp only; omega) hc]
      all_goals
        frame_out
        simp only [read_unread_whole]
        rw [read_writes_row, if_pos (show ((0 : Fin 8) : ℕ) = 0 from rfl), h0, h1, h2, pay8, pay3, ld_row _ 0 _ _ (0 : Fin 8) rfl]
        rfl
    rw [key, ih, Finset.sum_range_succ _ (n + 1), add_coe]

/-- The last point leaves the loss in every word of the second result. -/
theorem point4 : (outsAt0 m c 15 (by decide)).2.1 = fun _ => (((∑ k, ∑ a, eterm G k (X a) (Y a)) * (1 / 2048) : ℝ) : EReal) := by
  have hs : ∀ b, (outsAt0 m c 15 (by decide)).2.2.2 (ValueIdx.ix2 0 b) = ((∑ a, eterm G b (X a) (Y a) : ℝ) : EReal) := fun b => by
    rw [scratch m c X Y G h0 h1 h2]
    exact congrArg _ (sum_rows (eterm G b) X Y)
  rw [outsAt0_C m c ⟨15, by decide⟩ (by decide) (by decide) (by decide)] at hs ⊢
  frame_out at hs
  frame_out
  rw [View.readCov_cons_toLoadRect]
  have hg : (k0_pay3 (k0_pay8 (iblk m c 1 ⟨15, by decide⟩) (iblk m c 0 ⟨15, by decide⟩) (iblk m c 2 ⟨15, by decide⟩))
      (View.ld (View.read (Elt Ideal) (View.whole cc0_scratch0) ((Memref.isWhole_whole cc0_scratch0).unread (outsAt0 m c (15 - 1) (by decide)).2.2.2))
        (Rect.unit ![0, 0] ![1, 1024] inb_S8x1024_S1x1024_0_0)) : Vec Ideal S1x1024 .f32)
      = gain fun b => ∑ a, eterm G b (X a) (Y a) := by
    funext y
    have h := hs (y 1)
    rw [ValueIdx.eq_ix2 y, show y 0 = (0 : Fin 1) from Subsingleton.elim (α := Fin 1) _ _]
    exact ((read_writes_row _ _ 0 _ _ _ 0 (y 1)).trans (if_pos (show ((0 : Fin 8) : ℕ) = 0 from rfl))).symm.trans h
  exact (congrArg k0_pay4 hg).trans (pay4 _)

end

section
/-- The three arguments by row and column. -/
def hX (H : S8192x1024.Idx → ℝ) (a : Fin 8192) (k : Fin 1024) : ℝ := H (ValueIdx.ix2 a k)
def gX (g : S1024.Idx → ℝ) (k : Fin 1024) : ℝ := g (ValueIdx.ix1 k)
def tX (T : S1x8192x1024.Idx → ℝ) (a : Fin 8192) (k : Fin 1024) : ℝ := T (ValueIdx.ix3 0 a k)

include hH hg hT

theorem result3 : Value.G3 m c = fun i => ((dh (gX g) (hX H (i 0)) (tX T (i 0)) (i 1) : ℝ) : EReal) := by
  funext i
  have hi : (i 0).val < 8192 := (i 0).isLt
  have hp : Value.pt3Of i < cfg0.N := by show 1 * ((i 0).val / 512 - 0) + 1 * ((i 1).val / 1024 - 0) < 16; have := (i 1).isLt; have : (i 1).val < 1024 := this; omega
  rw [Value.G3, dif_pos hp, ← Value.outsAt0_sweep m c _ hp, point3 m c (hX H) (tX T) (gX g) (blk0 m c H hH) (blk1 m c g hg) (blk2 m c T hT) ⟨_, hp⟩]
  have hr : ∀ Z : Fin 8192 → Fin 1024 → ℝ, rows Z (Value.pt3Of i) (Value.loc3Of i 0) = Z (i 0) := fun Z => by
    refine congrArg Z (Fin.ext ?_)
    show (512 * (1 * ((i 0).val / 512 - 0) + 1 * ((i 1).val / 1024 - 0)) + (i 0).val % 512) % 8192 = (i 0).val
    have : (i 1).val < 1024 := (i 1).isLt
    omega
  have hk : Value.loc3Of i 1 = i 1 := Fin.ext (Nat.mod_eq_of_lt (i 1).isLt)
  show ((dh (gX g) (rows _ (Value.pt3Of i) (Value.loc3Of i 0)) (rows _ (Value.pt3Of i) (Value.loc3Of i 0)) (Value.loc3Of i 1) : ℝ) : EReal) = _
  rw [hr, hr, hk]

theorem result4 : Value.G4 m c = fun _ => (((∑ k, ∑ a, eterm (gX g) k (hX H a) (tX T a)) * (1 / 2048) : ℝ) : EReal) := by
  rw [Value.G4_last, ← Value.outsAt0_sweep m c 15 (by decide)]
  exact point4 m c (hX H) (tX T) (gX g) (blk0 m c H hH) (blk1 m c g hg) (blk2 m c T hT)

theorem result5 : Value.G5 m c = fun i =>
    ((if (i 0).val = 0 then ∑ a, gterm (gX g) (i 1) (hX H a) (tX T a) else 0 : ℝ) : EReal) := by
  rw [Value.G5_last, ← Value.outsAt0_sweep m c 15 (by decide)]
  funext i
  rw [ValueIdx.eq_ix2 i]
  refine (point5 m c (hX H) (tX T) (gX g) (blk0 m c H hH) (blk1 m c g hg) (blk2 m c T hT) 15 _ _ _).trans ?_
  rw [sum_rows]
  rfl

end

end Cert.HeadArray
end
-- ==== Proof.HeadRef.lean ====
module

public import proofs.«01_k».proof.Proof.HeadArray
public import proofs.«01_k».proof.Proof.Gen.HeadRefIdeal.Read
@[expose] public section

/-! What the derivative of reference.py's lines for the final norm and the loss computes on real arguments. -/

noncomputable section
open Idealize.ShloMosaic Cert.Lift
open Cert.HeadRefIdeal
open Cert.HeadRefIdeal.Read
open Cert.HeadRow (rs er)
open Cert.HeadArray (hX gX tX)

namespace Cert.HeadRef

variable (H : S8192x1024.Idx → ℝ) (g : S1024.Idx → ℝ) (T : S1x8192x1024.Idx → ℝ)

/-- An array of reals as the ideal array it stands for. -/
abbrev up {s : Shape} (f : s.Idx → ℝ) : (⟨s, .f32⟩ : BufTy).Contents (Elt Ideal) := fun i => ((f i : ℝ) : EReal)

/-- The mean square of a row, with the guard. -/
def ms (x : Fin 1024 → ℝ) : ℝ := (∑ k, x k * x k) / 1024 + eps

theorem v8 (i : S8192x1.Idx) : val_main_v8 (F := Ideal) (up H) i = ((ms (hX H (i 0)) : ℝ) : EReal) := by
  pointwise [val_main_v8, val_main_v6, val_main_v4, val_main_v3, val_main_v0, val_main_cst_0, val_main_v5, val_main_cst_1, val_main_v7, val_main_cst_2]
  simp only [mul_coe, sum_coe, c0, c1024, cEps, div_coe _ (1024 : ℝ) (by norm_num), add_coe, zero_add]
  rfl

theorem v9 (i : S8192x1.Idx) : val_main_v9 (F := Ideal) (up H) i = ((rs (hX H (i 0)) : ℝ) : EReal) :=
  (congrArg Ideal.rsqrt (v8 H i)).trans (rsqrt_coe _ (HeadRow.ms_pos _))

theorem hX_eta (i : S8192x1024.Idx) : hX H (i 0) (i 1) = H i := congrArg H (ValueIdx.eq_ix2 i).symm

theorem v14 (i : S8192x1024.Idx) : val_main_v14 (F := Ideal) (up H) i = ((hX H (i 0) (i 1) * rs (hX H (i 0)) : ℝ) : EReal) := by
  pointwise [val_main_v14, val_main_v13]
  rw [v9, mul_coe]
  show (((H i) * _ : ℝ) : EReal) = _
  rw [← hX_eta H i]; rfl

theorem v19 (i : S8192x1024.Idx) : val_main_v19 (F := Ideal) (up H) (up g) (up T) i = ((er (gX g) (hX H (i 0)) (tX T (i 0)) (i 1) : ℝ) : EReal) := by
  pointwise [val_main_v19, val_main_v17, val_main_v16, val_main_v15, val_main_v18]
  rw [v14, mul_coe, sub_coe]
  rfl

/-- The cotangent of the normed row. -/
def ct (g x t : Fin 1024 → ℝ) (k : Fin 1024) : ℝ := 1 / 2 / 1024 * (2 * er g x t k)

theorem v33 (i : S8192x1024.Idx) : val_main_v33 (F := Ideal) (up H) (up g) (up T) i = ((ct (gX g) (hX H (i 0)) (tX T (i 0)) (i 1) : ℝ) : EReal) := by
  pointwise [val_main_v33, val_main_v32, val_main_v31, val_main_v29, val_main_v28, val_main_cst_9, val_main_cst_10, val_main_v30, val_main_cst_11, val_main_v22, val_main_v21, val_main_cst_4]
  rw [v19]
  simp only [mul_coe, c1, c2, cHalf, c1024, div_coe _ (1024 : ℝ) (by norm_num)]
  rfl

theorem v38 (i : S8192x1024.Idx) : val_main_v38 (F := Ideal) (up H) (up g) (up T) i = ((ct (gX g) (hX H (i 0)) (tX T (i 0)) (i 1) * gX g (i 1) : ℝ) : EReal) := by
  pointwise [val_main_v38, val_main_v37, val_main_v15]
  rw [v33, mul_coe]
  rfl

theorem v39 (i : S1024.Idx) : val_main_v39 (F := Ideal) (up H) (up g) (up T) i
    = ((∑ a, hX H a (i 0) * rs (hX H a) * ct (gX g) (hX H a) (tX T a) (i 0) : ℝ) : EReal) := by
  pointwise [val_main_v39, val_main_v36, val_main_v35, val_main_v34, val_main_cst_12, val_main_cst_13]
  simp only [v14, v33, mul_coe, sum_coe, c0, add_coe, zero_add]
  simp only [Finset.univ_unique, Finset.sum_singleton]
  rfl

/-- The row's gradient, as the derivative writes it. -/
def dhRef (g x t : Fin 1024 → ℝ) (k : Fin 1024) : ℝ :=
  ct g x t k * g k * rs x + (∑ j, x j * (ct g x t j * g j)) * (-(1 / 2) * (rs x / ms x)) / 1024 * (2 * x k)

theorem v51 (i : S8192x1024.Idx) : val_main_v51 (F := Ideal) (up H) (up g) (up T) i = ((dhRef (gX g) (hX H (i 0)) (tX T (i 0)) (i 1) : ℝ) : EReal) := by
  pointwise [val_main_v51, val_main_v44, val_main_v43, val_main_v50, val_main_v49, val_main_v48, val_main_v47, val_main_v45, val_main_v42, val_main_v41,
    val_main_v40, val_main_v12, val_main_v11, val_main_v10, val_main_v46, val_main_v2, val_main_v1, val_main_cst, val_main_cst_3, val_main_cst_14, val_main_cst_15, val_main_cst_16]
  simp only [v38, v9, v8, mul_coe, sum_coe, c0, c2, cNegHalf, c1024, add_coe, zero_add, div_coe _ (1024 : ℝ) (by norm_num), div_coe _ (ms _) (HeadRow.ms_pos _).ne']
  simp only [Finset.univ_unique, Finset.sum_singleton]
  rw [← hX_eta H i]; rfl

theorem v53 (i : S8x128.Idx) : val_main_v53 (F := Ideal) (up H) (up g) (up T) i
    = ((1 / 2 * ∑ a, (∑ k, er (gX g) (hX H a) (tX T a) k * er (gX g) (hX H a) (tX T a) k) / 1024 : ℝ) : EReal) := by
  pointwise [val_main_v53, val_main_v27, val_main_v26, val_main_v25, val_main_v24, val_main_v23, val_main_v20, val_main_cst_5, val_main_cst_6, val_main_cst_7, val_main_cst_8]
  simp only [v19, mul_coe, sum_coe, c0, cHalf, c1024, add_coe, zero_add, div_coe _ (1024 : ℝ) (by norm_num)]
  rfl

theorem v59 (i : S8x1024.Idx) : val_main_v59 (F := Ideal) (up H) (up g) (up T) i
    = ((if (i 0).val = 0 then ∑ a, hX H a (i 1) * rs (hX H a) * ct (gX g) (hX H a) (tX T a) (i 1) else 0 : ℝ) : EReal) := by
  pointwise [val_main_v59, val_main_v57, val_main_v56, val_main_v58, val_main_cst_17, val_main_v55, val_main_v54, val_main_v52, val_main_c]
  rw [v39]
  exact (select_row _ (by have h : (i 0).val < 8 := (i 0).isLt; omega) _ _).trans (apply_ite (fun r : ℝ => (r : EReal)) _ _ _).symm

/-- The kernel's gradient of a row is the derivative's. -/
theorem dh_eq (g x t : Fin 1024 → ℝ) (k : Fin 1024) : HeadRow.dh g x t k = dhRef g x t k := by
  have hm : 0 < ms x := HeadRow.ms_pos x
  have hr : rs x / ms x = rs x * (rs x * rs x) := by
    have : rs x * rs x = (ms x)⁻¹ := by
      show (Real.sqrt (ms x))⁻¹ * (Real.sqrt (ms x))⁻¹ = _
      rw [← mul_inv, Real.mul_self_sqrt hm.le]
    rw [this, div_eq_mul_inv]
  have h1 : ∑ j, er g x t j * (1 / 1024) * g j * (x j * rs x) = rs x / 1024 * ∑ j, x j * (er g x t j * g j) := by
    rw [Finset.mul_sum]; exact Finset.sum_congr rfl fun j _ => by ring
  have h2 : ∑ j, x j * (ct g x t j * g j) = 1 / 1024 * ∑ j, x j * (er g x t j * g j) := by
    rw [Finset.mul_sum]; exact Finset.sum_congr rfl fun j _ => by unfold ct; ring
  unfold HeadRow.dh dhRef
  rw [h1, h2, hr]
  unfold ct
  ring

theorem dg_eq (g : Fin 1024 → ℝ) (k : Fin 1024) (x t : Fin 1024 → ℝ) : HeadArray.gterm g k x t = x k * rs x * ct g x t k := by
  unfold HeadArray.gterm ct; ring

theorem loss_eq (g : Fin 1024 → ℝ) (X T : Fin 8192 → Fin 1024 → ℝ) :
    (∑ k, ∑ a, HeadArray.eterm g k (X a) (T a)) * (1 / 2048) = 1 / 2 * ∑ a, (∑ k, er g (X a) (T a) k * er g (X a) (T a) k) / 1024 := by
  rw [Finset.sum_comm, ← Finset.sum_div]
  unfold HeadArray.eterm
  ring

end Cert.HeadRef
end
-- ==== Proof.HeadEq.lean ====
module

public import proofs.«01_k».proof.Defs
public import proofs.«01_k».proof.Proof.HeadRef
public import proofs.«01_k».proof.Proof.Gen.Pre_head_finite
@[expose] public section

/-! The loss head: on finite arguments the call and the derivative of reference.py's lines end with equal results. -/

noncomputable section
open Idealize.ShloMosaic Idealize.SL.Sem Cert.Lift
open Cert.HeadRef (up)

namespace Cert.HeadEq

theorem algebraic : algebraic_HeadIdeal_HeadRefIdeal_pre_head_finite := by
  intro m g m' g' hpre hargs
  refine ⟨HeadIdeal.Value.G3 m, HeadIdeal.Value.G4 m, HeadIdeal.Value.G5 m, HeadIdeal.Value.run m g, ?_⟩
  refine (θ_run HeadRefIdeal.defs _ _).mono (fun r h c => ?_) (HeadRefIdeal.Value.run (F := Ideal) m' g')
  obtain ⟨a0, a1, a2⟩ := hargs c
  obtain ⟨p0, p1, p2⟩ := hpre c
  obtain ⟨H, hH⟩ := exists_real_of_cmp (s := HeadIdeal.S8192x1024) _ _ (fun _ => rfl) p0
  obtain ⟨G, hG⟩ := exists_real_of_cmp (s := HeadIdeal.S1024) _ _ (fun _ => rfl) p1
  obtain ⟨T, hT⟩ := exists_real_of_cmp (s := HeadIdeal.S1x8192x1024) _ _ (fun _ => rfl) p2
  obtain ⟨r0, r1, r2, k⟩ := h c
  rw [HeadRefIdeal.Read.val_main_v51_eq, a0, a1, a2, hH, hG, hT] at r0
  rw [a0, a1, a2, hH, hG, hT] at r1 r2
  refine ⟨r0.trans ?_, (r1.trans (HeadRefIdeal.Read.val_main_v53_eq _ _ _)).trans ?_, (r2.trans (HeadRefIdeal.Read.val_main_v59_eq _ _ _)).trans ?_, k⟩
  · rw [HeadArray.result3 m c H G T hH hG hT]
    funext i
    exact (HeadRef.v51 H G T i).trans (congrArg (fun s : ℝ => (s : EReal)) (HeadRef.dh_eq _ _ _ _).symm)
  · rw [HeadArray.result4 m c H G T hH hG hT]
    funext i
    exact (HeadRef.v53 H G T i).trans (congrArg (fun s : ℝ => (s : EReal)) (HeadRef.loss_eq _ _ _).symm)
  · rw [HeadArray.result5 m c H G T hH hG hT]
    funext i
    refine (HeadRef.v59 H G T i).trans ?_
    exact congrArg (fun s : ℝ => ((if (i 0).val = 0 then s else 0 : ℝ) : EReal))
      (Finset.sum_congr rfl fun a _ => (HeadRef.dg_eq (HeadArray.gX G) (i 1) (HeadArray.hX H a) (HeadArray.tX T a)).symm)

/-- The reference keeps its arguments and leaves every counter at zero. -/
theorem frameRef (m) (g) : θ_run (HeadRefIdeal.defs (F := Ideal)) (onTc (τ := HeadRefIdeal.τ) (HeadRefIdeal.main (F := Ideal))) ⟨m, fun _ => 0, g⟩ fun r =>
    (∀ c : Dev HeadRefIdeal.nD, r.2.mem ((c.tc : Thread HeadRefIdeal.nD HeadRefIdeal.τ).loc HeadRefIdeal.main_arg0) = m ((c.tc : Thread HeadRefIdeal.nD HeadRefIdeal.τ).loc HeadRefIdeal.main_arg0)
      ∧ r.2.mem ((c.tc : Thread HeadRefIdeal.nD HeadRefIdeal.τ).loc HeadRefIdeal.main_arg1) = m ((c.tc : Thread HeadRefIdeal.nD HeadRefIdeal.τ).loc HeadRefIdeal.main_arg1)
      ∧ r.2.mem ((c.tc : Thread HeadRefIdeal.nD HeadRefIdeal.τ).loc HeadRefIdeal.main_arg2) = m ((c.tc : Thread HeadRefIdeal.nD HeadRefIdeal.τ).loc HeadRefIdeal.main_arg2))
      ∧ r.2.sem = fun _ => 0 :=
  (θ_run HeadRefIdeal.defs _ _).mono (fun r h => ⟨fun c => (h c).2.2.2, sem_eq_zero_of_no_sems (by decide) _⟩) (HeadRefIdeal.Value.run (F := Ideal) m g)

end Cert.HeadEq
end
-- ==== Proof.FlashSpec.lean ====
/- The gradient of attention on real arguments, with grouped heads (four heads of keys, two heads of queries on each):
    what one head's scores, weights and gradients are, as derivatives of a softmax. Both programs are read against these. -/
module

public import proofs.«01_k».proof.Proof.Lift

@[expose] public section

noncomputable section
open Idealize.ShloMosaic Cert.Lift

namespace Cert.FlashSpec

/-- The scale of the scores: the real number its float word is. -/
def scale : ℝ := 11863283 / 134217728

theorem cScale : Ideal.ofBits .f32 0x3DB504F3#32 = ((scale : ℝ) : EReal) := by
  simp [Ideal.ofBits, Ideal.ieee, scale, -EReal.coe_mul] <;> norm_num

theorem scale_pos : 0 < scale := by unfold scale; norm_num

theorem log_two : Ideal.log ((2 : ℝ) : EReal) = ((Real.log 2 : ℝ) : EReal) := by
  rw [Ideal.log_coe]; simp

theorem log_two_pos : 0 < Real.log 2 := Real.log_pos (by norm_num)

theorem cNegInf : Ideal.ofBits .f32 0xFF800000#32 = (⊥ : EReal) := by
  simp [Ideal.ofBits, Ideal.ieee]

/-- The query head of group `g` and place `r`. -/
def head (g : Fin 4) (r : Fin 2) : Fin 8 := ⟨g.val * 2 + r.val, by omega⟩

/-- Column `d` of group `g`'s head `r`, heads side by side. -/
def column (g : Fin 4) (r : Fin 2) (d : Fin 128) : Fin 1024 := ⟨g.val * 256 + r.val * 128 + d.val, by omega⟩

variable (Q : (⟨4, ![1, 8192, 8, 128]⟩ : Shape).Idx → ℝ) (K V : (⟨4, ![1, 8448, 4, 128]⟩ : Shape).Idx → ℝ)
  (C : (⟨3, ![1, 8192, 1024]⟩ : Shape).Idx → ℝ)

/-- An array of reals as the ideal array it stands for. -/
abbrev up {s : Shape} (f : s.Idx → ℝ) : (⟨s, .f32⟩ : BufTy).Contents (Elt Ideal) := fun i => ((f i : ℝ) : EReal)

def q (g : Fin 4) (r : Fin 2) (i : Fin 8192) (d : Fin 128) : ℝ := Q (ValueIdx.ix4 0 i (head g r) d)
def k (g : Fin 4) (j : Fin 8448) (d : Fin 128) : ℝ := K (ValueIdx.ix4 0 j g d)
def ct (g : Fin 4) (r : Fin 2) (i : Fin 8192) (d : Fin 128) : ℝ := C (ValueIdx.ix3 0 i (column g r d))

/-- A score. -/
def score (g : Fin 4) (r : Fin 2) (i : Fin 8192) (j : Fin 8448) : ℝ := (∑ d, k K g j d * q Q g r i d) * scale

/-- The greatest score of a row, as the extended real it is folded into. -/
def topE (g : Fin 4) (r : Fin 2) (i : Fin 8192) : EReal :=
  (Finset.univ : Finset (Fin 8448)).fold max ⊥ fun j => ((score Q K g r i j : ℝ) : EReal)

def top (g : Fin 4) (r : Fin 2) (i : Fin 8192) : ℝ := (topE Q K g r i).toReal

theorem topE_eq (g : Fin 4) (r : Fin 2) (i : Fin 8192) : topE Q K g r i = ((top Q K g r i : ℝ) : EReal) := by
  obtain ⟨j, -, hj⟩ := Finset.exists_mem_eq_sup (Finset.univ : Finset (Fin 8448)) ⟨0, Finset.mem_univ _⟩
    (fun j => ((score Q K g r i j : ℝ) : EReal))
  have h : topE Q K g r i = ((score Q K g r i j : ℝ) : EReal) := hj
  unfold top; rw [h, EReal.toReal_coe]

/-- A weight before it is divided by the row's sum. -/
def ex (g : Fin 4) (r : Fin 2) (i : Fin 8192) (j : Fin 8448) : ℝ := Real.exp (score Q K g r i j - top Q K g r i)
/-- The row's sum. -/
def den (g : Fin 4) (r : Fin 2) (i : Fin 8192) : ℝ := ∑ j, ex Q K g r i j

theorem den_pos (g : Fin 4) (r : Fin 2) (i : Fin 8192) : 0 < den Q K g r i :=
  Finset.sum_pos (fun _ _ => Real.exp_pos _) ⟨0, Finset.mem_univ _⟩

/-- A weight. -/
def wt (g : Fin 4) (r : Fin 2) (i : Fin 8192) (j : Fin 8448) : ℝ := ex Q K g r i j / den Q K g r i
/-- The gradient of a weight. -/
def dwt (g : Fin 4) (r : Fin 2) (i : Fin 8192) (j : Fin 8448) : ℝ := ∑ t, ct C g r i t * k V g j t
/-- The row's rowDot product of weights and their gradients. -/
def rowDot (g : Fin 4) (r : Fin 2) (i : Fin 8192) : ℝ := ∑ j, wt Q K g r i j * dwt V C g r i j
/-- The gradient of a score before the scale. -/
def ds (g : Fin 4) (r : Fin 2) (i : Fin 8192) (j : Fin 8448) : ℝ :=
  wt Q K g r i j * (dwt V C g r i j - rowDot Q K V C g r i)

/-- The three gradients, in the units the kernel returns them: of the queries before the scale, of the keys for scores in
    units of log 2. -/
def dq (g : Fin 4) (r : Fin 2) (i : Fin 8192) (d : Fin 128) : ℝ := ∑ j, ds Q K V C g r i j * k K g j d
def dk (g : Fin 4) (j : Fin 8448) (d : Fin 128) : ℝ :=
  ∑ r, ∑ i, ds Q K V C g r i j * (q Q g r i d * (scale / Real.log 2))
def dv (g : Fin 4) (j : Fin 8448) (d : Fin 128) : ℝ := ∑ r, ∑ i, ct C g r i d * wt Q K g r i j

/-! ## The three results as arrays -/

def grp (n : Fin 1024) : Fin 4 := ⟨n.val / 256, by omega⟩
def place (n : Fin 1024) : Fin 2 := ⟨n.val / 128 % 2, by omega⟩
def feature (n : Fin 1024) : Fin 128 := ⟨n.val % 128, by omega⟩
def grpOf (n : Fin 512) : Fin 4 := ⟨n.val / 128, by omega⟩
def featureOf (n : Fin 512) : Fin 128 := ⟨n.val % 128, by omega⟩

def dqArr (i : (⟨2, ![8192, 1024]⟩ : Shape).Idx) : ℝ := dq Q K V C (grp (i 1)) (place (i 1)) (i 0) (feature (i 1))
def dkArr (i : (⟨2, ![512, 8448]⟩ : Shape).Idx) : ℝ := dk Q K V C (grpOf (i 0)) (i 1) (featureOf (i 0))
def dvArr (i : (⟨2, ![512, 8448]⟩ : Shape).Idx) : ℝ := dv Q K C (grpOf (i 0)) (i 1) (featureOf (i 0))

end Cert.FlashSpec

end
-- ==== Proof.FlashRef.lean ====
module

public import proofs.«01_k».proof.Proof.FlashSpec
public import proofs.«01_k».proof.Proof.Gen.FlashRefIdeal.Read
@[expose] public section

/-! What the derivative of reference.py's lines for attention computes on real arguments. -/

noncomputable section
open Idealize.ShloMosaic Cert.Lift Cert.FlashSpec
open Cert.FlashRefIdeal
open Cert.FlashRefIdeal.Read

namespace Cert.FlashRef

variable (Q : S1x8192x8x128.Idx → ℝ) (K V : S1x8448x4x128.Idx → ℝ) (C : S1x8192x1024.Idx → ℝ)

theorem v0 (i : S1x8192x4x2x128.Idx) : val_main_v0 (F := Ideal) (up Q) i = ((q Q (i 2) (i 3) (i 1) (i 4) : ℝ) : EReal) := by
  pointwise [val_main_v0]
  rfl

theorem v4 (i : S1x4x2x8192x8448.Idx) : val_main_v4 (F := Ideal) (up Q) (up K) i = ((score Q K (i 1) (i 2) (i 3) (i 4) : ℝ) : EReal) := by
  pointwise [val_main_v4, val_main_v2, val_main_v1, val_main_v3, val_main_cst]
  simp only [v0, mul_coe, sum_coe, cScale]
  rfl

theorem v5 (i : S1x4x2x8192.Idx) : val_main_v5 (F := Ideal) (up Q) (up K) i = ((top Q K (i 1) (i 2) (i 3) : ℝ) : EReal) := by
  pointwise [val_main_v5, val_main_cst_0]
  simp only [v4, cNegInf]
  exact topE_eq Q K (i 1) (i 2) (i 3)

theorem v12 (i : S1x4x2x8192.Idx) : val_main_v12 (F := Ideal) (up Q) (up K) i = ((top Q K (i 1) (i 2) (i 3) : ℝ) : EReal) := by
  rw [val_main_v12_apply, v5]
  pointwise [val_main_v11, val_main_cst_2]
  rw [cNegInf]
  exact max_bot_left _

theorem v23 (i : S1x4x2x8192x8448.Idx) : val_main_v23 (F := Ideal) (up Q) (up K) i = ((top Q K (i 1) (i 2) (i 3) : ℝ) : EReal) := by
  rw [val_main_v23_apply, val_main_v22_apply, v12]
  rfl

theorem v25 (i : S1x4x2x8192x8448.Idx) : val_main_v25 (F := Ideal) (up Q) (up K) i = ((ex Q K (i 1) (i 2) (i 3) (i 4) : ℝ) : EReal) := by
  rw [val_main_v25_apply, val_main_v24_apply, v4, v23]
  exact (congrArg Ideal.exp (sub_coe _ _)).trans (Ideal.exp_coe _)

theorem v27 (i : S1x4x2x8192x1.Idx) : val_main_v27 (F := Ideal) (up Q) (up K) i = ((den Q K (i 1) (i 2) (i 3) : ℝ) : EReal) := by
  pointwise [val_main_v27, val_main_v26, val_main_cst_8]
  simp only [v25, sum_coe, c0, add_coe, zero_add]
  rfl

theorem v29 (i : S1x4x2x8192x8448.Idx) : val_main_v29 (F := Ideal) (up Q) (up K) i = ((wt Q K (i 1) (i 2) (i 3) (i 4) : ℝ) : EReal) := by
  pointwise [val_main_v29, val_main_v28]
  rw [v25, v27]
  exact div_coe _ _ (den_pos Q K _ _ _).ne'

theorem v37 (i : S1x4x128x2x8192.Idx) : val_main_v37 (F := Ideal) (up C) i = ((ct C (i 1) (i 3) (i 4) (i 2) : ℝ) : EReal) := by
  pointwise [val_main_v37, val_main_v36]
  rfl

theorem v38 (i : S1x4x2x8192x8448.Idx) : val_main_v38 (F := Ideal) (up V) (up C) i = ((dwt V C (i 1) (i 2) (i 3) (i 4) : ℝ) : EReal) := by
  pointwise [val_main_v38]
  simp only [v37, mul_coe, sum_coe]
  refine congrArg (fun s : ℝ => (s : EReal)) (Finset.sum_congr rfl fun t _ => ?_)
  exact congrArg₂ (· * ·) rfl (congrArg (fun a => V (ValueIdx.ix4 a (i 4) (i 1) t)) (Subsingleton.elim (α := Fin 1) _ _))

/-- The gradient of a score, as the derivative of the lines writes it. -/
def dsRef (g : Fin 4) (r : Fin 2) (i : Fin 8192) (j : Fin 8448) : ℝ :=
  (dwt V C g r i j / den Q K g r i + -(∑ j, dwt V C g r i j * (1 / (den Q K g r i * den Q K g r i)) * ex Q K g r i j)) * ex Q K g r i j * scale

theorem dsRef_eq (g : Fin 4) (r : Fin 2) (i : Fin 8192) (j : Fin 8448) : dsRef Q K V C g r i j = ds Q K V C g r i j * scale := by
  have h := (den_pos Q K g r i).ne'
  have e : ∑ j, dwt V C g r i j * (1 / (den Q K g r i * den Q K g r i)) * ex Q K g r i j = rowDot Q K V C g r i / den Q K g r i := by
    unfold rowDot; rw [Finset.sum_div]
    exact Finset.sum_congr rfl fun j _ => by unfold wt; field_simp
  unfold dsRef ds; rw [e]; unfold wt; field_simp
  ring

theorem v32 (i : S1x4x2x8192x1.Idx) : val_main_v32 (F := Ideal) (up Q) (up K) i
    = ((1 / (den Q K (i 1) (i 2) (i 3) * den Q K (i 1) (i 2) (i 3)) : ℝ) : EReal) := by
  pointwise [val_main_v32, val_main_v31, val_main_cst_9, val_main_v30]
  rw [v27, mul_coe, ← EReal.coe_one]
  exact div_coe _ _ (mul_self_pos.mpr (den_pos Q K _ _ _).ne').ne'

theorem v43 (i : S1x4x2x8192x8448.Idx) : val_main_v43 (F := Ideal) (up Q) (up K) (up V) (up C) i
    = ((dwt V C (i 1) (i 2) (i 3) (i 4) * (1 / (den Q K (i 1) (i 2) (i 3) * den Q K (i 1) (i 2) (i 3))) * ex Q K (i 1) (i 2) (i 3) (i 4) : ℝ) : EReal) := by
  pointwise [val_main_v43, val_main_v42, val_main_v41]
  rw [v32, v38, v25, mul_coe, mul_coe]
  rfl

theorem v46 (i : S1x4x2x8192x1.Idx) : val_main_v46 (F := Ideal) (up Q) (up K) (up V) (up C) i
    = ((-(∑ j, dwt V C (i 1) (i 2) (i 3) j * (1 / (den Q K (i 1) (i 2) (i 3) * den Q K (i 1) (i 2) (i 3))) * ex Q K (i 1) (i 2) (i 3) j) : ℝ) : EReal) := by
  pointwise [val_main_v46, val_main_v45, val_main_v44, val_main_cst_10]
  simp only [v43, sum_coe, neg_coe]
  rfl

/-- A sum over two axes of one place is the element there. -/
theorem sum_ones (h : S1x4x2x8192x1.ReducesTo [0, 4] S4x2x8192) (x : S1x4x2x8192x1.Idx → EReal) (j : S4x2x8192.Idx) :
    ∑ i ∈ Finset.univ.filter (fun i => h.drop i = j), x i = x (ValueIdx.ix5 0 (j 0) (j 1) (j 2) 0) := by
  refine (Finset.sum_filter_eq_sum_of_fiber _ (fun _ : Unit => (ValueIdx.ix5 0 (j 0) (j 1) (j 2) 0 : S1x4x2x8192x1.Idx))
    (fun _ _ _ => rfl) (fun i => ⟨fun e => ⟨(), ?_⟩, ?_⟩) x).trans (by simp)
  · subst e
    funext a
    match a with
    | ⟨0, _⟩ => exact Subsingleton.elim (α := Fin 1) _ _
    | ⟨1, _⟩ => rfl
    | ⟨2, _⟩ => rfl
    | ⟨3, _⟩ => rfl
    | ⟨4, _⟩ => exact Subsingleton.elim (α := Fin 1) _ _
  · rintro ⟨_, rfl⟩
    funext b
    match b with
    | ⟨0, _⟩ => rfl
    | ⟨1, _⟩ => rfl
    | ⟨2, _⟩ => rfl

theorem reduce_ones (x : S1x4x2x8192x1.Idx → EReal) (h : S1x4x2x8192x1.ReducesTo [0, 4] S4x2x8192) (hu : 0 < S_.numel) (j : S4x2x8192.Idx) :
    Host.reduceAdd (F := Ideal) (φ := .f32) x (val_main_cst_11 (F := Ideal)) h hu j = x (ValueIdx.ix5 0 (j 0) (j 1) (j 2) 0) := by
  rw [Host.reduceAdd_apply, Ideal.hostReduceAdd_def, Ideal.hostReduceAdd, sum_ones]
  exact (congrArg (· + x _) c0).trans (by rw [EReal.coe_zero, zero_add])

theorem v50 (i : S1x4x2x8192.Idx) : val_main_v50 (F := Ideal) (up Q) (up K) (up V) (up C) i
    = ((-(∑ j, dwt V C (i 1) (i 2) (i 3) j * (1 / (den Q K (i 1) (i 2) (i 3) * den Q K (i 1) (i 2) (i 3))) * ex Q K (i 1) (i 2) (i 3) j) : ℝ) : EReal) := by
  rw [val_main_v50_apply]
  unfold val_main_v49
  rw [reduce_ones, v46]
  rfl

theorem v48 (i : S1x4x2x8192x8448.Idx) : val_main_v48 (F := Ideal) (up Q) (up K) (up V) (up C) i
    = ((dwt V C (i 1) (i 2) (i 3) (i 4) / den Q K (i 1) (i 2) (i 3) : ℝ) : EReal) := by
  pointwise [val_main_v48, val_main_v47]
  rw [v38, v27]
  exact div_coe _ _ (den_pos Q K _ _ _).ne'

theorem v55 (i : S1x4x2x8192x8448.Idx) : val_main_v55 (F := Ideal) (up Q) (up K) (up V) (up C) i
    = ((ds Q K V C (i 1) (i 2) (i 3) (i 4) * scale : ℝ) : EReal) := by
  pointwise [val_main_v55, val_main_v54, val_main_cst_12, val_main_v53, val_main_v52, val_main_v51]
  rw [v48, v50, v25, cScale, add_coe, mul_coe, mul_coe]
  exact congrArg (fun s : ℝ => (s : EReal)) (dsRef_eq Q K V C (i 1) (i 2) (i 3) (i 4))

/-- The first result. -/
theorem v65 (i : S8192x1024.Idx) : val_main_v65 (F := Ideal) (up Q) (up K) (up V) (up C) i = ((dqArr Q K V C i : ℝ) : EReal) := by
  pointwise [val_main_v65, val_main_v64, val_main_cst_14, val_main_v63, val_main_v61, val_main_v58, val_main_v57, val_main_v56]
  simp only [v55, mul_coe, sum_coe, cScale, div_coe _ _ scale_pos.ne']
  refine congrArg (fun s : ℝ => (s : EReal)) ?_
  unfold dqArr dq
  rw [Finset.sum_div]
  refine Finset.sum_congr rfl fun j _ => ?_
  show ds Q K V C (grp (i 1)) (place (i 1)) (i 0) j * scale * k K (grp (i 1)) j (feature (i 1)) / scale = _
  have := scale_pos.ne'
  field_simp

/-- The second result. -/
theorem v69 (i : S512x8448.Idx) : val_main_v69 (F := Ideal) (up Q) (up K) (up V) (up C) i = ((dkArr Q K V C i : ℝ) : EReal) := by
  pointwise [val_main_v69, val_main_v68, val_main_v62, val_main_cst_13, val_main_v67, val_main_v66, val_main_v60, val_main_v59, val_main_v56]
  simp only [v55, v0, mul_coe, sum_coe, c2]
  rw [log_two, div_coe _ _ log_two_pos.ne']
  refine congrArg (fun s : ℝ => (s : EReal)) ?_
  unfold dkArr dk
  rw [Finset.sum_div, Finset.sum_comm]
  simp only [Finset.sum_div]
  refine Finset.sum_congr rfl fun a _ => Finset.sum_congr rfl fun r _ => ?_
  show ds Q K V C (grpOf (i 0)) r a (i 1) * scale * q Q (grpOf (i 0)) r a (featureOf (i 0)) / Real.log 2 = _
  ring

/-- The third result. -/
theorem v71 (i : S512x8448.Idx) : val_main_v71 (F := Ideal) (up Q) (up K) (up C) i = ((dvArr Q K C i : ℝ) : EReal) := by
  pointwise [val_main_v71, val_main_v70, val_main_v40, val_main_v39]
  simp only [v29, v37, mul_coe, sum_coe]
  rfl

end Cert.FlashRef

end
-- ==== Proof.FlashHost.lean ====
module

public import proofs.«01_k».proof.Proof.FlashSpec
public import proofs.«01_k».proof.Proof.Gen.FlashIdeal.Frame
@[expose] public section

/-! What the arrays handed to the attention kernel hold, on real arguments. -/

set_option maxRecDepth 16384

noncomputable section
open Idealize.ShloMosaic Idealize.ShloMosaic.TcCoe Cert.Lift Cert.FlashSpec
open Cert.FlashIdeal
open Cert.FlashIdeal.Gen

namespace Cert.FlashHost

/-! ## The host lines as functions of the arrays they read -/

def hLog2 : FVec Ideal S_ .f32 := Host.log (constant S_ .f32 0x40000000#32)
def hScore (x0 : FVec Ideal S1x8192x8x128 .f32) (x1 : FVec Ideal S1x8448x4x128 .f32) : FVec Ideal S4x2x8192x8448 .f32 :=
  mulf (transpose S4x2x8192x8448 [0, 3, 2, 1] (Host.dotGeneral dot_S8448x4x128_S8192x4x2x128_S4x8448x8192x2_2_3_0_02_1_1 none
    (shapeCast S8448x4x128 x1 shapeCasts_S1x8448x4x128_S8448x4x128)
    (shapeCast S8192x4x2x128 (shapeCast S8192x8x128 x0 shapeCasts_S1x8192x8x128_S8192x8x128) shapeCasts_S8192x8x128_S8192x4x2x128))
    transposes_S4x8448x8192x2_S4x2x8192x8448_0_3_2_1) (broadcastInDim S4x2x8192x8448 ![] bcast_S_S4x2x8192x8448 (constant S_ .f32 0x3DB504F3#32))
def hMax (s : FVec Ideal S4x2x8192x8448 .f32) : FVec Ideal S4x2x8192x1 .f32 :=
  broadcastInDim S4x2x8192x1 ![0, 1, 2] bcast_S4x2x8192_S4x2x8192x1_0_1_2 (Host.reduce FloatOps.maximumf s (constant S_ .f32 0xFF800000#32) reducesTo_S4x2x8192x8448_S4x2x8192_d3 h_S_)
def hExp (s : FVec Ideal S4x2x8192x8448 .f32) (mx : FVec Ideal S4x2x8192x1 .f32) : FVec Ideal S4x2x8192x8448 .f32 :=
  Host.exp (subf s (broadcastInDim S4x2x8192x8448 ![0, 1, 2, 3] bcast_S4x2x8192x1_S4x2x8192x8448_0_1_2_3 mx))
def hDen (e : FVec Ideal S4x2x8192x8448 .f32) : FVec Ideal S4x2x8192x1 .f32 :=
  broadcastInDim S4x2x8192x1 ![0, 1, 2] bcast_S4x2x8192_S4x2x8192x1_0_1_2 (Host.reduceAdd e (constant S_ .f32 0x00000000#32) reducesTo_S4x2x8192x8448_S4x2x8192_d3 h_S_)
def hWt (e : FVec Ideal S4x2x8192x8448 .f32) (l : FVec Ideal S4x2x8192x1 .f32) : FVec Ideal S4x2x8192x8448 .f32 :=
  Host.divf e (broadcastInDim S4x2x8192x8448 ![0, 1, 2, 3] bcast_S4x2x8192x1_S4x2x8192x8448_0_1_2_3 l)
def hOut (p : FVec Ideal S4x2x8192x8448 .f32) (x2 : FVec Ideal S1x8448x4x128 .f32) : FVec Ideal S8192x4x2x128 .f32 :=
  transpose S8192x4x2x128 [3, 0, 2, 1] (Host.dotGeneral dot_S8448x4x128_S4x2x8192x8448_S4x128x2x8192_0_3_2_12_1_0 none
    (shapeCast S8448x4x128 x2 shapeCasts_S1x8448x4x128_S8448x4x128) p) transposes_S4x128x2x8192_S8192x4x2x128_3_0_2_1
def hLse (mx l : FVec Ideal S4x2x8192x1 .f32) : FVec Ideal S4x8192x2 .f32 :=
  transpose S4x8192x2 [0, 2, 1] (Host.divf (shapeCast S4x2x8192 (addf mx (Host.log l)) shapeCasts_S4x2x8192x1_S4x2x8192)
    (broadcastInDim S4x2x8192 ![] bcast_S_S4x2x8192 hLog2)) transposes_S4x2x8192_S4x8192x2_0_2_1
def hDelta (x3 : FVec Ideal S1x8192x1024 .f32) (o : FVec Ideal S8192x4x2x128 .f32) : FVec Ideal S4x8192x2 .f32 :=
  transpose S4x8192x2 [1, 0, 2] (Host.reduceAdd (mulf (shapeCast S8192x4x2x128 x3 shapeCasts_S1x8192x1024_S8192x4x2x128) o)
    (constant S_ .f32 0x00000000#32) reducesTo_S8192x4x2x128_S8192x4x2_d3 h_S_) transposes_S8192x4x2_S4x8192x2_1_0_2
def hQ (x0 : FVec Ideal S1x8192x8x128 .f32) : FVec Ideal S8192x1024 .f32 :=
  mulf (shapeCast S8192x1024 x0 shapeCasts_S1x8192x8x128_S8192x1024)
    (broadcastInDim S8192x1024 ![] bcast_S_S8192x1024 (Host.divf (constant S_ .f32 0x3DB504F3#32) hLog2))
def hV1 (x2 : FVec Ideal S1x8448x4x128 .f32) : FVec Ideal S8448x1024 .f32 :=
  shapeCast S8448x1024 (concatenate S8448x4x256 2 [⟨S8448x4x128, shapeCast S8448x4x128 x2 shapeCasts_S1x8448x4x128_S8448x4x128⟩,
    ⟨S8448x4x128, broadcastInDim S8448x4x128 ![] bcast_S_S8448x4x128 (constant S_ .f32 0x3F800000#32)⟩] concatenates_S8448x4x128_S8448x4x128_S8448x4x256_d2)
    shapeCasts_S8448x4x256_S8448x1024

variable (m : (ℓ : Loc nD τ sig) → Buf (Elt Ideal) ℓ) (c : Dev nD)

/-- The arguments. -/
abbrev a0 : FVec Ideal S1x8192x8x128 .f32 := m ((c : Thread nD τ).loc main_arg0)
abbrev a1 : FVec Ideal S1x8448x4x128 .f32 := m ((c : Thread nD τ).loc main_arg1)
abbrev a2 : FVec Ideal S1x8448x4x128 .f32 := m ((c : Thread nD τ).loc main_arg2)
abbrev a3 : FVec Ideal S1x8192x1024 .f32 := m ((c : Thread nD τ).loc main_arg3)

theorem read_q : V m c main_v39 = truncf .bf16 (hQ (a0 m c)) bitsLt_bf16_f32 := by entry_read; rfl
theorem read_qt : V m c main_v41 = truncf .bf16 (transpose S1024x8192 [1, 0] (hQ (a0 m c)) transposes_S8192x1024_S1024x8192_1_0) bitsLt_bf16_f32 := by entry_read; rfl
theorem read_k : V m c main_v43 = truncf .bf16 (shapeCast S8448x512 (a1 m c) shapeCasts_S1x8448x4x128_S8448x512) bitsLt_bf16_f32 := by entry_read; rfl
theorem read_v1 : V m c main_v44 = truncf .bf16 (hV1 (a2 m c)) bitsLt_bf16_f32 := by entry_read; rfl
theorem read_do : V m c main_v45 = truncf .bf16 (shapeCast S8192x1024 (a3 m c) shapeCasts_S1x8192x1024_S8192x1024) bitsLt_bf16_f32 := by entry_read; rfl
theorem read_dot : V m c main_v47 = truncf .bf16 (transpose S1024x8192 [1, 0] (shapeCast S8192x1024 (a3 m c) shapeCasts_S1x8192x1024_S8192x1024) transposes_S8192x1024_S1024x8192_1_0) bitsLt_bf16_f32 := by entry_read; rfl
theorem read_lse : V m c main_v25 = hLse (hMax (hScore (a0 m c) (a1 m c))) (hDen (hExp (hScore (a0 m c) (a1 m c)) (hMax (hScore (a0 m c) (a1 m c))))) := by entry_read; rfl
theorem read_delta : V m c main_v29 = hDelta (a3 m c) (hOut (hWt (hExp (hScore (a0 m c) (a1 m c)) (hMax (hScore (a0 m c) (a1 m c))))
    (hDen (hExp (hScore (a0 m c) (a1 m c)) (hMax (hScore (a0 m c) (a1 m c)))))) (a2 m c)) := by entry_read; rfl

/-! ## On real arguments -/

variable (Q : S1x8192x8x128.Idx → ℝ) (K V : S1x8448x4x128.Idx → ℝ) (C : S1x8192x1024.Idx → ℝ)

theorem log2_real (i : S_.Idx) : hLog2 i = ((Real.log 2 : ℝ) : EReal) := by
  pointwise [hLog2]
  rw [c2, log_two]

theorem score_real (i : S4x2x8192x8448.Idx) : hScore (up Q) (up K) i = ((score Q K (i 0) (i 1) (i 2) (i 3) : ℝ) : EReal) := by
  pointwise [hScore]
  simp only [mul_coe, sum_coe, cScale]
  rfl

theorem max_real (s : FVec Ideal S4x2x8192x8448 .f32) (hs : ∀ i, s i = ((score Q K (i 0) (i 1) (i 2) (i 3) : ℝ) : EReal)) (i : S4x2x8192x1.Idx) :
    hMax s i = ((top Q K (i 0) (i 1) (i 2) : ℝ) : EReal) := by
  pointwise [hMax]
  simp only [hs, cNegInf]
  exact topE_eq Q K (i 0) (i 1) (i 2)

theorem exp_real (s : FVec Ideal S4x2x8192x8448 .f32) (mx : FVec Ideal S4x2x8192x1 .f32)
    (hs : ∀ i, s i = ((score Q K (i 0) (i 1) (i 2) (i 3) : ℝ) : EReal))
    (hm : ∀ i, mx i = ((top Q K (i 0) (i 1) (i 2) : ℝ) : EReal)) (i : S4x2x8192x8448.Idx) :
    hExp s mx i = ((ex Q K (i 0) (i 1) (i 2) (i 3) : ℝ) : EReal) := by
  pointwise [hExp]
  rw [hs, hm, sub_coe, Ideal.exp_coe]
  rfl

theorem den_real (e : FVec Ideal S4x2x8192x8448 .f32)
    (he : ∀ i, e i = ((ex Q K (i 0) (i 1) (i 2) (i 3) : ℝ) : EReal)) (i : S4x2x8192x1.Idx) :
    hDen e i = ((den Q K (i 0) (i 1) (i 2) : ℝ) : EReal) := by
  pointwise [hDen]
  simp only [he, sum_coe, c0, add_coe, zero_add]
  rfl

theorem log_den (g : Fin 4) (r : Fin 2) (i : Fin 8192) : Ideal.log ((den Q K g r i : ℝ) : EReal) = ((Real.log (den Q K g r i) : ℝ) : EReal) := by
  rw [Ideal.log_coe, if_neg (not_le.mpr (den_pos Q K g r i))]

theorem lse_real (mx l : FVec Ideal S4x2x8192x1 .f32) (hm : ∀ i, mx i = ((top Q K (i 0) (i 1) (i 2) : ℝ) : EReal))
    (hl : ∀ i, l i = ((den Q K (i 0) (i 1) (i 2) : ℝ) : EReal)) (i : S4x8192x2.Idx) :
    hLse mx l i = (((top Q K (i 0) (i 2) (i 1) + Real.log (den Q K (i 0) (i 2) (i 1))) / Real.log 2 : ℝ) : EReal) := by
  pointwise [hLse]
  rw [hm, hl, log2_real]
  refine (congrArg (Ideal.div · _) ((congrArg (_ + ·) (log_den Q K _ _ _)).trans (add_coe _ _))).trans ?_
  exact div_coe _ _ log_two_pos.ne'

/-- The forward pass's output. -/
def out (g : Fin 4) (r : Fin 2) (i : Fin 8192) (t : Fin 128) : ℝ := ∑ j, k V g j t * wt Q K g r i j

theorem wt_real (e : FVec Ideal S4x2x8192x8448 .f32) (l : FVec Ideal S4x2x8192x1 .f32)
    (he : ∀ i, e i = ((ex Q K (i 0) (i 1) (i 2) (i 3) : ℝ) : EReal))
    (hl : ∀ i, l i = ((den Q K (i 0) (i 1) (i 2) : ℝ) : EReal)) (i : S4x2x8192x8448.Idx) :
    hWt e l i = ((wt Q K (i 0) (i 1) (i 2) (i 3) : ℝ) : EReal) := by
  pointwise [hWt]
  rw [he, hl]
  exact div_coe _ _ (den_pos Q K _ _ _).ne'

theorem out_real (p : FVec Ideal S4x2x8192x8448 .f32) (hp : ∀ i, p i = ((wt Q K (i 0) (i 1) (i 2) (i 3) : ℝ) : EReal)) (i : S8192x4x2x128.Idx) :
    hOut p (up V) i = ((out Q K V (i 1) (i 2) (i 0) (i 3) : ℝ) : EReal) := by
  pointwise [hOut]
  simp only [hp, mul_coe, sum_coe]
  rfl

theorem delta_real (o : FVec Ideal S8192x4x2x128 .f32) (ho : ∀ i, o i = ((out Q K V (i 1) (i 2) (i 0) (i 3) : ℝ) : EReal)) (i : S4x8192x2.Idx) :
    hDelta (up C) o i = ((rowDot Q K V C (i 0) (i 2) (i 1) : ℝ) : EReal) := by
  pointwise [hDelta]
  simp only [ho, mul_coe, sum_coe, c0, add_coe, zero_add]
  refine congrArg (fun s : ℝ => (s : EReal)) ?_
  show ∑ t, ct C (i 0) (i 2) (i 1) t * out Q K V (i 0) (i 2) (i 1) t = _
  unfold out rowDot dwt
  simp only [Finset.mul_sum]
  rw [Finset.sum_comm]
  exact Finset.sum_congr rfl fun j _ => Finset.sum_congr rfl fun t _ => by ring

theorem q_real (i : S8192x1024.Idx) : hQ (up Q) i = ((q Q (grp (i 1)) (place (i 1)) (i 0) (feature (i 1)) * (scale / Real.log 2) : ℝ) : EReal) := by
  pointwise [hQ]
  rw [log2_real, cScale, div_coe _ _ log_two_pos.ne', mul_coe]
  refine congrArg (fun s : ℝ => ((s * (scale / Real.log 2) : ℝ) : EReal)) (congrArg Q ?_)
  funext a
  match a with
  | ⟨0, _⟩ => rfl
  | ⟨1, _⟩ => rfl
  | ⟨2, _⟩ => exact Fin.ext (by show (i 1).val / 128 = (i 1).val / 256 * 2 + (i 1).val / 128 % 2; omega)
  | ⟨3, _⟩ => rfl

theorem v_real (i : S8448x1024.Idx) (h : (i 1).val % 256 < 128) :
    hV1 (up V) i = ((k V (grp (i 1)) (i 0) (feature (i 1)) : ℝ) : EReal) := by
  pointwise [hV1]
  rw [dif_pos h]
  refine congrArg (fun a => ((V a : ℝ) : EReal)) ?_
  funext a
  match a with
  | ⟨0, _⟩ => rfl
  | ⟨1, _⟩ => rfl
  | ⟨2, _⟩ => rfl
  | ⟨3, _⟩ => exact Fin.ext (by show (i 1).val % 256 = (i 1).val % 128; omega)

/-! ## The arrays at the region's entry -/

variable (h0 : a0 m c = up Q) (h1 : a1 m c = up K)
  (h2 : a2 m c = up V) (h3 : a3 m c = up C)

include h0 in
theorem entry_q (i : S8192x1024.Idx) : Gen.V m c main_v39 i = ((q Q (grp (i 1)) (place (i 1)) (i 0) (feature (i 1)) * (scale / Real.log 2) : ℝ) : EReal) := by
  rw [read_q, h0]; exact q_real Q i

include h0 in
theorem entry_qt (i : S1024x8192.Idx) : Gen.V m c main_v41 i = ((q Q (grp (i 0)) (place (i 0)) (i 1) (feature (i 0)) * (scale / Real.log 2) : ℝ) : EReal) := by
  rw [read_qt, h0]; pointwise; exact q_real Q _

include h1 in
theorem entry_k (i : S8448x512.Idx) : Gen.V m c main_v43 i = ((k K (grpOf (i 1)) (i 0) (featureOf (i 1)) : ℝ) : EReal) := by
  rw [read_k, h1]; pointwise; rfl

include h2 in
theorem entry_v (i : S8448x1024.Idx) (h : (i 1).val % 256 < 128) : Gen.V m c main_v44 i = ((k V (grp (i 1)) (i 0) (feature (i 1)) : ℝ) : EReal) := by
  rw [read_v1, h2]; exact v_real V i h

theorem ct_flat (a : Fin 8192) (n : Fin 1024) : C (ValueIdx.ix3 0 a n) = ct C (grp n) (place n) a (feature n) :=
  congrArg C (by
    funext b
    match b with
    | ⟨0, _⟩ => rfl
    | ⟨1, _⟩ => rfl
    | ⟨2, _⟩ => exact Fin.ext (by show n.val = n.val / 256 * 256 + n.val / 128 % 2 * 128 + n.val % 128; omega))

include h3 in
theorem entry_do (i : S8192x1024.Idx) : Gen.V m c main_v45 i = ((ct C (grp (i 1)) (place (i 1)) (i 0) (feature (i 1)) : ℝ) : EReal) := by
  rw [read_do, h3]; pointwise
  exact congrArg (fun s : ℝ => (s : EReal)) (ct_flat C (i 0) (i 1))

include h3 in
theorem entry_dot (i : S1024x8192.Idx) : Gen.V m c main_v47 i = ((ct C (grp (i 0)) (place (i 0)) (i 1) (feature (i 0)) : ℝ) : EReal) := by
  rw [read_dot, h3]; pointwise
  exact congrArg (fun s : ℝ => (s : EReal)) (ct_flat C (i 1) (i 0))

include h0 h1 in
theorem entry_lse (i : S4x8192x2.Idx) : Gen.V m c main_v25 i = (((top Q K (i 0) (i 2) (i 1) + Real.log (den Q K (i 0) (i 2) (i 1))) / Real.log 2 : ℝ) : EReal) := by
  rw [read_lse, h0, h1]
  have hm := max_real Q K _ (score_real Q K)
  exact lse_real Q K _ _ hm (den_real Q K _ (exp_real Q K _ _ (score_real Q K) hm)) i

include h0 h1 h2 h3 in
theorem entry_delta (i : S4x8192x2.Idx) : Gen.V m c main_v29 i = ((rowDot Q K V C (i 0) (i 2) (i 1) : ℝ) : EReal) := by
  rw [read_delta, h0, h1, h2, h3]
  have he := exp_real Q K _ _ (score_real Q K) (max_real Q K _ (score_real Q K))
  exact delta_real Q K V C _ (out_real Q K V _ (wt_real Q K _ _ he (den_real Q K _ he))) i

end Cert.FlashHost

end
-- ==== Proof.FlashRun.lean ====
/- One grid point of the attention's backward call: what its body leaves in the three result windows, for any float
   operations. The windows' contents before it may be anything: the body clears a window (or the rows of the queries'
   one) at the points where its accumulation starts, and adds to it at every point. -/
module

public import proofs.«01_k».proof.Proof.Gen.FlashIdeal.Frame
public import proofs.«01_k».proof.Proof.Gen.FlashIdeal.Skeleton
public import Idealize.ShloMosaic.Lib.VecWindow

@[expose] public section

set_option maxRecDepth 16384

noncomputable section

namespace Cert.FlashRun

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ (UR sig nD τ) ℕ

/-! ## Where the accumulations start -/

/-- The body clears the windows of the keys' and the values' gradients: the first block of queries. -/
abbrev startsKeys (i : grid0.Coords) : Prop := (Scalar.cmpi .ne (Scalar.extui (Scalar.cmpi .eq (BitVec.ofNat 32 (i 2).val) 0#32)) 0#32) = 1#1
/-- In closed form over the points. -/
theorem startsKeys_iff : ∀ t : Fin cfg0.N, startsKeys (grid0.coords t) ↔ t.val % 4 = 0 :=
  (fun t => by
    have ht : t.val < 176 := Nat.lt_of_lt_of_eq t.isLt N_0
    have e0 : (grid0.coords t 0).val = t.val / 44 % 4 := Pipeline.Grid.coords_val t 0 (by decide) rfl
    have e1 : (grid0.coords t 1).val = t.val / 4 % 11 := Pipeline.Grid.coords_val t 1 (by decide) rfl
    have e2 : (grid0.coords t 2).val = t.val / 1 % 4 := Pipeline.Grid.coords_val t 2 (by decide) rfl
    simp only [startsKeys, e0, e1, e2]
    word_cmp
   : ∀ t : Fin grid0.N, startsKeys (grid0.coords t) ↔ t.val % 4 = 0)

/-- The body clears its rows of the queries' gradient: the first block of keys. -/
abbrev startsQueries (i : grid0.Coords) : Prop := k0_cond2 i = 1#1
/-- In closed form over the points. -/
theorem startsQueries_iff : ∀ t : Fin cfg0.N, startsQueries (grid0.coords t) ↔ t.val / 4 % 11 = 0 :=
  (fun t => by
    have ht : t.val < 176 := Nat.lt_of_lt_of_eq t.isLt N_0
    have e0 : (grid0.coords t 0).val = t.val / 44 % 4 := Pipeline.Grid.coords_val t 0 (by decide) rfl
    have e1 : (grid0.coords t 1).val = t.val / 4 % 11 := Pipeline.Grid.coords_val t 1 (by decide) rfl
    have e2 : (grid0.coords t 2).val = t.val / 1 % 4 := Pipeline.Grid.coords_val t 2 (by decide) rfl
    simp only [startsQueries, k0_cond2, e0, e1, e2]
    word_cmp
   : ∀ t : Fin grid0.N, startsQueries (grid0.coords t) ↔ t.val / 4 % 11 = 0)

/-! ## What one point adds -/

section Values

variable (x0 : Vec F S2048x256 .bf16) (x1 : Vec F S256x2048 .bf16) (x2 : Vec F S768x128 .bf16) (x3 : Vec F S768x256 .bf16)
  (x4 : Vec F S2048x256 .bf16) (x5 : Vec F S256x2048 .bf16) (x6 x7 : Vec F S1x2048x2 .f32)

/-- The first head's columns of a block of queries, the second head's. -/
abbrev left (x : Vec F S2048x256 .bf16) : Vec F S2048x128 .bf16 := window x ![0, 0] S2048x128.size inb_S2048x256_S2048x128_0_0
abbrev right (x : Vec F S2048x256 .bf16) : Vec F S2048x128 .bf16 := window x ![0, 128] S2048x128.size inb_S2048x256_S2048x128_0_128
/-- The same of a transposed block. -/
abbrev upper (x : Vec F S256x2048 .bf16) : Vec F S128x2048 .bf16 := window x ![0, 0] S128x2048.size inb_S256x2048_S128x2048_0_0
abbrev lower (x : Vec F S256x2048 .bf16) : Vec F S128x2048 .bf16 := window x ![128, 0] S128x2048.size inb_S256x2048_S128x2048_128_0
/-- The first head's column of a pair of row statistics, the second head's. -/
abbrev first (x : Vec F S1x2048x2 .f32) : Vec F S1x2048x1 .f32 := window x ![0, 0, 0] S1x2048x1.size inb_S1x2048x2_S1x2048x1_0_0_0
abbrev second (x : Vec F S1x2048x2 .f32) : Vec F S1x2048x1 .f32 := window x ![0, 0, 1] S1x2048x1.size inb_S1x2048x2_S1x2048x1_0_0_1
/-- The values' columns of the block that also carries the ones. -/
abbrev vals (x : Vec F S768x256 .bf16) : Vec F S768x128 .bf16 := window x ![0, 0] S768x128.size inb_S768x256_S768x128_0_0

/-- The gradient of the scores, of the first head and of the second. -/
def ds0 : FVec F S2048x768 .bf16 := k0_pay10 x2 (vals x3) (left x0) (first x6) (left x4) (first x7)
def ds1 : FVec F S2048x768 .bf16 := k0_pay17 (k0_pay7 x2) (k0_pay8 (vals x3)) (right x0) (second x6) (right x4) (second x7)

/-- The keys' window after the body, from what the accumulation stood at. -/
def keysAfter (Y : Vec F S128x768 .f32) : Vec F S128x768 .f32 :=
  k0_pay3 (k0_pay14 (ds0 x0 x2 x3 x4 x6 x7) (upper x1)) (ds1 x0 x2 x3 x4 x6 x7) (k0_pay19 (lower x1))
    (constant S128x768 .f32 0x00000000#32) Y

/-- The values' window after the body. -/
def valsAfter (Y : Vec F S128x768 .f32) : Vec F S128x768 .f32 :=
  k0_pay2 (k0_pay13 (k0_pay11 (upper x5)) (k0_pay12 x2 (left x0) (first x6)))
    (k0_pay18 (k0_pay7 x2) (right x0) (second x6) (lower x5)) Y

/-- The queries' window after the body: the two heads' columns of the point's rows. -/
def queriesAfter (i : grid0.Coords) (Y : Vec F S8192x256 .f32) : Vec F S8192x256 .f32 :=
  put (put Y ![2048 * (i 2).val, 0] S2048x128.size
      (k0_pay15 (k0_pay7 x2) (ds0 x0 x2 x3 x4 x6 x7) (window Y (k0_off2 i) S2048x128.size (k0_off2_inb i))))
    ![2048 * (i 2).val, 128] S2048x128.size
    (k0_pay1 (k0_pay7 x2) (ds1 x0 x2 x3 x4 x6 x7) (window Y (k0_off3 i) S2048x128.size (k0_off3_inb i)))

/-- What an accumulation starts from: zeros at the points that clear it. -/
def keysFrom (i : grid0.Coords) (Y : Vec F S128x768 .f32) : Vec F S128x768 .f32 := if startsKeys i then k0_pay4 else Y
def queriesFrom (i : grid0.Coords) (Y : Vec F S8192x256 .f32) : Vec F S8192x256 .f32 :=
  if startsQueries i then put Y ![2048 * (i 2).val, 0] S2048x256.size (k0_pay6 (F := F)) else Y

end Values

/-! ## The body -/

/-- A load is a window of what the buffer reads. -/
theorem readAt_window {sig : RefSig} {κ : Kind} {sp : Space} {s : Shape} {e : EltTy} {Val : EltTy → Type} (v : View sig κ sp s e)
    (f : v.ty.Contents Val) (off size : Fin s.rank → ℕ) (inb : ∀ a, off a + size a ≤ s.size a) :
    v.readAt Val (Rect.unit off size inb).toLoadRect f = window (v.read Val f) off size inb := View.readAt_unit v f inb rfl inb

/-- A load of a buffer that holds `x`: the window of `x`. -/
theorem load_window {sig : RefSig} {κ : Kind} {sp : Space} {s : Shape} {e : EltTy} {Val : EltTy → Type} [∀ e, Nonempty (Val e)]
    (M : Memref sig κ sp s e) (h : M.IsWhole) (x : s.Idx → Val e) (off : Fin s.rank → ℕ) (size : Fin s.rank → ℕ)
    (inb : ∀ a, off a + size a ≤ s.size a) :
    M.view.readAt Val (Rect.unit off size inb).toLoadRect (h.unread x) = window x off size inb :=
  (readAt_window M.view _ off size inb).trans (congrArg (fun z => window z off size inb) (h.read_unread x))

section Cleared

variable {sig : RefSig} {κ : Kind} {sp : Space} {s : Shape} {e : EltTy} {Val : EltTy → Type} [∀ e, Nonempty (Val e)]
  (v : View sig κ sp s e) (Y : s.Idx → Val e) {off off' size : Fin s.rank → ℕ} (inb : ∀ a, off a + size a ≤ s.size a)
  (w : (Rect.unit off size inb).shape.Idx → Val e) (h : off = off')
  {o sz : Fin s.rank → ℕ} (ib : ∀ a, o a + sz a ≤ s.size a) (hin : ∀ a, off' a ≤ o a ∧ o a + sz a ≤ off' a + size a)

include h hin in
/-- A load inside a store that alone covers it does not see what the buffer held. -/
theorem load_cleared :
    v.readCov [⟨Rect.unit off size inb, w⟩] (Rect.unit o sz ib).toLoadRect = window (put Y off' size w) o sz ib := by
  subst h
  refine (readAt_window v _ o sz ib).trans ?_
  rw [View.read_writes_cons_put v _ inb w [] rfl]
  exact (window_put_of_inside _ _ _ _ _ ib w hin).trans (window_put_of_inside _ _ _ _ _ ib w hin).symm

include h hin in
/-- The same past a store beside it. -/
theorem load_cleared_beside {o₂ o₂' sz₂ : Fin s.rank → ℕ} (ib₂ : ∀ a, o₂ a + sz₂ a ≤ s.size a) (w₂ : (Rect.unit o₂ sz₂ ib₂).shape.Idx → Val e)
    (h₂ : o₂ = o₂') (a : Fin s.rank) (ha : o a + sz a ≤ o₂' a ∨ o₂' a + sz₂ a ≤ o a) :
    v.readCov [⟨Rect.unit o₂ sz₂ ib₂, w₂⟩, ⟨Rect.unit off size inb, w⟩] (Rect.unit o sz ib).toLoadRect = window (put Y off' size w) o sz ib := by
  subst h; subst h₂
  refine (readAt_window v _ o sz ib).trans ?_
  rw [View.read_writes_cons_put v _ ib₂ w₂ _ rfl, View.read_writes_cons_put v _ inb w [] rfl]
  refine (window_put_of_disjoint _ o₂ sz₂ o sz ib w₂ a ha).trans ?_
  exact (window_put_of_inside _ _ _ _ _ ib w hin).trans (window_put_of_inside _ _ _ _ _ ib w hin).symm

end Cleared

/-- The window of a buffer's own sizes is the buffer. -/
theorem window_all {s : Shape} {α : Type} (x : s.Idx → α) (off : Fin s.rank → ℕ) (inb : ∀ a, off a + s.size a ≤ s.size a) :
    window x off s.size inb = x := by
  funext y
  exact congrArg x (funext fun a => Fin.ext (by show off a + 1 * (y a).val = (y a).val; have := inb a; omega))

/-- The two heads' columns of a point's rows lie in the rows it clears. -/
theorem inside2 (i : grid0.Coords) (a : Fin 2) : ![2048 * (i 2).val, 0] a ≤ k0_off2 i a ∧ k0_off2 i a + S2048x128.size a ≤ ![2048 * (i 2).val, 0] a + S2048x256.size a := by
  rw [k0_off2_eq i]; fin_cases a <;> simp [S2048x128, S2048x256]
theorem inside3 (i : grid0.Coords) (a : Fin 2) : ![2048 * (i 2).val, 0] a ≤ k0_off3 i a ∧ k0_off3 i a + S2048x128.size a ≤ ![2048 * (i 2).val, 0] a + S2048x256.size a := by
  rw [k0_off3_eq i]; fin_cases a <;> simp [S2048x128, S2048x256]

-- (the run's proof term is large: checking it walks past the default budget)
set_option maxHeartbeats 4000000 in
/-- THE BODY'S TRIPLE, at any grid point, from any contents of the result windows. -/
theorem body_triple (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S768x128 .bf16) (harg5 : arg5.IsWhole) (arg6 : Memref sig .tc .vmem S768x256 .bf16) (harg6 : arg6.IsWhole) (arg7 : Memref sig .tc .vmem S2048x256 .bf16) (harg7 : arg7.IsWhole) (arg8 : Memref sig .tc .vmem S256x2048 .bf16) (harg8 : arg8.IsWhole) (arg9 : Memref sig .tc .vmem S1x2048x2 .f32) (harg9 : arg9.IsWhole) (arg10 : Memref sig .tc .vmem S1x2048x2 .f32) (harg10 : arg10.IsWhole) (arg11 : Memref sig .tc .vmem S8192x256 .f32) (harg11 : arg11.IsWhole) (arg12 : Memref sig .tc .vmem S128x768 .f32) (harg12 : arg12.IsWhole) (arg13 : Memref sig .tc .vmem S128x768 .f32) (harg13 : arg13.IsWhole)
    (x0 : Vec F S2048x256 .bf16) (x1 : Vec F S256x2048 .bf16) (x2 : Vec F S768x128 .bf16) (x3 : Vec F S768x256 .bf16) (x4 : Vec F S2048x256 .bf16) (x5 : Vec F S256x2048 .bf16) (x6 : Vec F S1x2048x2 .f32) (x7 : Vec F S1x2048x2 .f32) (Y8 : Vec F S8192x256 .f32) (Y9 Y10 : Vec F S128x768 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare Y8 ∗ owns (c : Thread nD τ) arg12 fullShare Y9 ∗ owns (c : Thread nD τ) arg13 fullShare Y10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (queriesAfter x0 x2 x3 x4 x6 x7 i (queriesFrom i Y8))
              ∗ owns (c : Thread nD τ) arg12 fullShare (keysAfter x0 x1 x2 x3 x4 x6 x7 (keysFrom i Y9))
              ∗ owns (c : Thread nD τ) arg13 fullShare (valsAfter x0 x2 x5 x6 (keysFrom i Y10))) -∗ K ⟨⟩))
          ⊢ wp frame (wpE (defs₀ (F := F)) Variants.none c none) E (cc0_flash_bwd i arg3 harg3 arg4 harg4 arg5 harg5 arg6 harg6 arg7 harg7 arg8 harg8 arg9 harg9 arg10 harg10 arg11 harg11 arg12 harg12 arg13 harg13) K := by
    intro E K
    simp only [cc0_flash_bwd_eq_skeleton]; unfold cc0_flash_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    have l0 : View.readAt (Elt F) arg3.view (Rect.unit ![0, 0] ![2048, 128] inb_S2048x256_S2048x128_0_0).toLoadRect (harg3.unread x0) = left x0 := load_window arg3 harg3 x0 _ _ _
    have r0 : View.readAt (Elt F) arg3.view (Rect.unit ![0, 128] ![2048, 128] inb_S2048x256_S2048x128_0_128).toLoadRect (harg3.unread x0) = right x0 := load_window arg3 harg3 x0 _ _ _
    have l1 : View.readAt (Elt F) arg4.view (Rect.unit ![0, 0] ![128, 2048] inb_S256x2048_S128x2048_0_0).toLoadRect (harg4.unread x1) = upper x1 := load_window arg4 harg4 x1 _ _ _
    have r1 : View.readAt (Elt F) arg4.view (Rect.unit ![128, 0] ![128, 2048] inb_S256x2048_S128x2048_128_0).toLoadRect (harg4.unread x1) = lower x1 := load_window arg4 harg4 x1 _ _ _
    have l2 : View.readAt (Elt F) arg5.view (Rect.unit ![0, 0] ![768, 128] inb_S768x128_S768x128_0_0).toLoadRect (harg5.unread x2) = x2 := (load_window arg5 harg5 x2 _ _ _).trans (window_all x2 _ _)
    have l3 : View.readAt (Elt F) arg6.view (Rect.unit ![0, 0] ![768, 128] inb_S768x256_S768x128_0_0).toLoadRect (harg6.unread x3) = vals x3 := load_window arg6 harg6 x3 _ _ _
    have l4 : View.readAt (Elt F) arg7.view (Rect.unit ![0, 0] ![2048, 128] inb_S2048x256_S2048x128_0_0).toLoadRect (harg7.unread x4) = left x4 := load_window arg7 harg7 x4 _ _ _
    have r4 : View.readAt (Elt F) arg7.view (Rect.unit ![0, 128] ![2048, 128] inb_S2048x256_S2048x128_0_128).toLoadRect (harg7.unread x4) = right x4 := load_window arg7 harg7 x4 _ _ _
    have l5 : View.readAt (Elt F) arg8.view (Rect.unit ![0, 0] ![128, 2048] inb_S256x2048_S128x2048_0_0).toLoadRect (harg8.unread x5) = upper x5 := load_window arg8 harg8 x5 _ _ _
    have r5 : View.readAt (Elt F) arg8.view (Rect.unit ![128, 0] ![128, 2048] inb_S256x2048_S128x2048_128_0).toLoadRect (harg8.unread x5) = lower x5 := load_window arg8 harg8 x5 _ _ _
    have l6 : View.readAt (Elt F) arg9.view (Rect.unit ![0, 0, 0] ![1, 2048, 1] inb_S1x2048x2_S1x2048x1_0_0_0).toLoadRect (harg9.unread x6) = first x6 := load_window arg9 harg9 x6 _ _ _
    have r6 : View.readAt (Elt F) arg9.view (Rect.unit ![0, 0, 1] ![1, 2048, 1] inb_S1x2048x2_S1x2048x1_0_0_1).toLoadRect (harg9.unread x6) = second x6 := load_window arg9 harg9 x6 _ _ _
    have l7 : View.readAt (Elt F) arg10.view (Rect.unit ![0, 0, 0] ![1, 2048, 1] inb_S1x2048x2_S1x2048x1_0_0_0).toLoadRect (harg10.unread x7) = first x7 := load_window arg10 harg10 x7 _ _ _
    have r7 : View.readAt (Elt F) arg10.view (Rect.unit ![0, 0, 1] ![1, 2048, 1] inb_S1x2048x2_S1x2048x1_0_0_1).toLoadRect (harg10.unread x7) = second x7 := load_window arg10 harg10 x7 _ _ _
    have l9 : View.readAt (Elt F) arg12.view (Rect.unit ![0, 0] ![128, 768] inb_S128x768_S128x768_0_0).toLoadRect (harg12.unread Y9) = Y9 := (load_window arg12 harg12 Y9 _ _ _).trans (window_all Y9 _ _)
    have l10 : View.readAt (Elt F) arg13.view (Rect.unit ![0, 0] ![128, 768] inb_S128x768_S128x768_0_0).toLoadRect (harg13.unread Y10) = Y10 := (load_window arg13 harg13 Y10 _ _ _).trans (window_all Y10 _ _)
    by_cases hc0 : startsKeys i <;> by_cases hc1 : startsQueries i
    all_goals
      sl_exec (disch := first | sl_exact hc0 | sl_exact hc1)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _; isplitr; · ipureintro; exact harg10.read_unread _
        iexact H7
      isplitl [H8]
      · iexists _; isplitr; swap; · iexact H8
        ipureintro
        sl_unfold_run_names
        refine (View.read_writes_cons_put arg11.view _ _ _ _ (k0_off3_eq i)).trans ?_
        rw [View.read_writes_cons_put arg11.view _ _ _ _ (k0_off2_eq i)]
        first
          | rw [show queriesFrom (F := F) i Y8 = put Y8 ![2048 * (i 2).val, 0] S2048x256.size (k0_pay6 (F := F)) from if_pos hc1]
            rw [View.read_writes_cons_put arg11.view _ _ _ _ (k0_off1_eq i), View.writes_nil, harg11.read_unread]
            have e2 : arg11.view.readCov [⟨Rect.unit (s := S8192x256) (k0_off1 i) S2048x256.size (k0_off1_inb i hc1), k0_pay6⟩] (Rect.unit (s := S8192x256) (k0_off2 i) S2048x128.size (k0_off2_inb i)).toLoadRect
                = window (put Y8 ![2048 * (i 2).val, 0] S2048x256.size (k0_pay6 (F := F))) (k0_off2 i) S2048x128.size (k0_off2_inb i) :=
              load_cleared arg11.view Y8 _ _ (k0_off1_eq i) _ (inside2 i)
            have e3 : ∀ w, arg11.view.readCov [⟨Rect.unit (s := S8192x256) (k0_off2 i) S2048x128.size (k0_off2_inb i), w⟩, ⟨Rect.unit (s := S8192x256) (k0_off1 i) S2048x256.size (k0_off1_inb i hc1), k0_pay6⟩]
                  (Rect.unit (s := S8192x256) (k0_off3 i) ![2048, 128] (k0_off3_inb i)).toLoadRect
                = window (put Y8 ![2048 * (i 2).val, 0] S2048x256.size (k0_pay6 (F := F))) (k0_off3 i) S2048x128.size (k0_off3_inb i) := fun w =>
              load_cleared_beside arg11.view Y8 _ _ (k0_off1_eq i) _ (inside3 i) _ w (k0_off2_eq i) (1 : Fin 2) (Or.inr (by rw [k0_off3_eq i]; exact le_refl 128))
            try simp only [l0, r0, l2, l3, l4, r4, l6, r6, l7, r7, e2, e3]
            rfl
          | rw [show queriesFrom (F := F) i Y8 = Y8 from if_neg hc1]
            have e2 : View.readAt (Elt F) arg11.view (Rect.unit (s := S8192x256) (k0_off2 i) S2048x128.size (k0_off2_inb i)).toLoadRect (harg11.unread Y8)
                = window Y8 (k0_off2 i) S2048x128.size (k0_off2_inb i) := load_window arg11 harg11 Y8 _ _ _
            have e3 : View.readAt (Elt F) arg11.view (Rect.unit (s := S8192x256) (k0_off3 i) ![2048, 128] (k0_off3_inb i)).toLoadRect (harg11.unread Y8)
                = window Y8 (k0_off3 i) S2048x128.size (k0_off3_inb i) := load_window arg11 harg11 Y8 _ _ _
            rw [View.writes_nil, harg11.read_unread]
            try simp only [l0, r0, l2, l3, l4, r4, l6, r6, l7, r7, e2, e3]
            rfl
      isplitl [H9]
      · iexists _; isplitr; swap; · iexact H9
        ipureintro
        sl_unfold_run_names
        refine (View.read_writes_full arg12.view _ _ _ _).trans ?_
        first
          | rw [show keysFrom (F := F) i Y9 = k0_pay4 from if_pos hc0]
            try simp only [l0, r0, l1, r1, l2, l3, l4, r4, l6, r6, l7, r7]
            exact congrArg (keysAfter x0 x1 x2 x3 x4 x6 x7) (View.readCov_full arg12.view _ _ _ _)
          | rw [show keysFrom (F := F) i Y9 = Y9 from if_neg hc0]
            try simp only [l0, r0, l1, r1, l2, l3, l4, r4, l6, r6, l7, r7, l9]
            rfl
      iexists _; isplitr; swap; · iexact H10
      ipureintro
      sl_unfold_run_names
      refine (View.read_writes_full arg13.view _ _ _ _).trans ?_
      first
        | rw [show keysFrom (F := F) i Y10 = k0_pay4 from if_pos hc0]
          try simp only [l0, r0, l2, l5, r5, l6, r6]
          exact congrArg (valsAfter x0 x2 x5 x6) (View.readCov_full arg13.view _ _ _ _)
        | rw [show keysFrom (F := F) i Y10 = Y10 from if_neg hc0]
          try simp only [l0, r0, l2, l5, r5, l6, r6, l10]
          rfl

end Cert.FlashRun

end
-- ==== Proof.FlashBlock.lean ====
module

public import proofs.«01_k».proof.Proof.FlashSpec
public import proofs.«01_k».proof.Proof.FlashRun
@[expose] public section

/-! What one point of the attention's backward call computes, on real blocks: the weights and the gradient of the scores of
    one head over a block of queries and a block of keys, and the parts they add to the three results. -/

set_option maxRecDepth 16384

noncomputable section
open Idealize.ShloMosaic Cert.Lift Cert.FlashSpec
open Cert.FlashIdeal
open Cert.FlashIdeal.Gen
open Cert.FlashRun

namespace Cert.FlashBlock

/-- Row `a` of block `i` of the queries, row `b` of block `j` of the keys. -/
def row (i : ℕ) (a : Fin 2048) : Fin 8192 := ⟨(2048 * i + a.val) % 8192, Nat.mod_lt _ (by decide)⟩
def key (j : ℕ) (b : Fin 768) : Fin 8448 := ⟨(768 * j + b.val) % 8448, Nat.mod_lt _ (by decide)⟩

variable (Q : S1x8192x8x128.Idx → ℝ) (K V : S1x8448x4x128.Idx → ℝ) (C : S1x8192x1024.Idx → ℝ)

/-- The row's logarithm of its sum, in units of log 2. -/
def lse (g : Fin 4) (r : Fin 2) (i : Fin 8192) : ℝ := (top Q K g r i + Real.log (den Q K g r i)) / Real.log 2
/-- A query in the units the kernel takes it. -/
def qs (g : Fin 4) (r : Fin 2) (i : Fin 8192) (d : Fin 128) : ℝ := q Q g r i d * (scale / Real.log 2)

/-- Two to the power of the score less the row's logarithm, in units of log 2, is the weight. -/
theorem wt_eq (g : Fin 4) (r : Fin 2) (i : Fin 8192) (j : Fin 8448) :
    Real.rpow 2 ((∑ d, qs Q g r i d * k K g j d) - lse Q K g r i) = wt Q K g r i j := by
  have h2 := log_two_pos.ne'
  have e : (∑ d, qs Q g r i d * k K g j d) - lse Q K g r i
      = (score Q K g r i j - top Q K g r i - Real.log (den Q K g r i)) / Real.log 2 := by
    have : ∑ d, qs Q g r i d * k K g j d = score Q K g r i j / Real.log 2 := by
      unfold score qs; rw [Finset.sum_mul, Finset.sum_div]
      exact Finset.sum_congr rfl fun d _ => by ring
    rw [this]; unfold lse; ring
  rw [e]
  refine (Real.rpow_def_of_pos (show (0 : ℝ) < 2 by norm_num) _).trans ?_
  rw [mul_div_cancel₀ _ h2, Real.exp_sub, Real.exp_log (den_pos Q K g r i)]
  rfl

section Point

variable (g : Fin 4) (r : Fin 2) (i j : ℕ) (xk xv : Vec Ideal S768x128 .bf16) (xq xc : Vec Ideal S2048x128 .bf16) (xqt xct : Vec Ideal S128x2048 .bf16)
  (xl xd : Vec Ideal S1x2048x1 .f32)
  (hk : ∀ y, xk y = ((k K g (key j (y 0)) (y 1) : ℝ) : EReal)) (hv : ∀ y, xv y = ((k V g (key j (y 0)) (y 1) : ℝ) : EReal))
  (hq : ∀ y, xq y = ((qs Q g r (row i (y 0)) (y 1) : ℝ) : EReal)) (hc : ∀ y, xc y = ((ct C g r (row i (y 0)) (y 1) : ℝ) : EReal))
  (hqt : ∀ y, xqt y = ((qs Q g r (row i (y 1)) (y 0) : ℝ) : EReal)) (hct : ∀ y, xct y = ((ct C g r (row i (y 1)) (y 0) : ℝ) : EReal))
  (hl : ∀ y, xl y = ((lse Q K g r (row i (y 1)) : ℝ) : EReal)) (hd : ∀ y, xd y = ((rowDot Q K V C g r (row i (y 1)) : ℝ) : EReal))

include hk hq hl in
theorem weights (y : S2048x768.Idx) : k0_pay9 xk xq xl y = ((wt Q K g r (row i (y 0)) (key j (y 1)) : ℝ) : EReal) := by
  pointwise [k0_pay9, k0_pay7]
  simp only [hk, hq, hl, c0, mul_coe, sum_coe, add_coe, sub_coe]
  exact (Ideal.exp2_coe _).trans (congrArg (fun s : ℝ => (s : EReal)) (wt_eq Q K g r (row i (y 0)) (key j (y 1))))

include hk hq hl hv hc hd in
theorem scores (y : S2048x768.Idx) : k0_pay10 xk xv xq xl xc xd y = ((ds Q K V C g r (row i (y 0)) (key j (y 1)) : ℝ) : EReal) := by
  have hw := weights Q K g r i j xk xq xl hk hq hl
  revert hw
  generalize hp : k0_pay9 xk xq xl = p
  intro hw
  pointwise [k0_pay10, k0_pay8]
  rw [hp, hw]
  simp only [hv, hc, hd, c0, mul_coe, sum_coe, add_coe, sub_coe, zero_add]
  rfl

/-- The parts one head adds at a point. -/
def kPart (d : Fin 128) (b : Fin 768) : ℝ := ∑ a, qs Q g r (row i a) d * ds Q K V C g r (row i a) (key j b)
def vPart (d : Fin 128) (b : Fin 768) : ℝ := ∑ a, ct C g r (row i a) d * wt Q K g r (row i a) (key j b)
def qPart (a : Fin 8192) (d : Fin 128) : ℝ := ∑ b, ds Q K V C g r a (key j b) * k K g (key j b) d

include hqt in
theorem keysPart (s : FVec Ideal S2048x768 .bf16) (hs : ∀ y, s y = ((ds Q K V C g r (row i (y 0)) (key j (y 1)) : ℝ) : EReal))
    (y : S128x768.Idx) : k0_pay14 s xqt y = ((kPart Q K V C g r i j (y 0) (y 1) : ℝ) : EReal) := by
  pointwise [k0_pay14]
  simp only [hqt, hs, c0, mul_coe, sum_coe, add_coe, zero_add]
  rfl

include hct in
theorem valsPart (p : FVec Ideal S2048x768 .bf16) (hp : ∀ y, p y = ((wt Q K g r (row i (y 0)) (key j (y 1)) : ℝ) : EReal))
    (y : S128x768.Idx) : k0_pay13 (k0_pay11 xct) p y = ((vPart Q K C g r i j (y 0) (y 1) : ℝ) : EReal) := by
  pointwise [k0_pay13, k0_pay11]
  simp only [hct, hp, c0, mul_coe, sum_coe, add_coe, zero_add]
  rfl

include hk in
theorem queriesPart (s : FVec Ideal S2048x768 .bf16) (hs : ∀ y, s y = ((ds Q K V C g r (row i (y 0)) (key j (y 1)) : ℝ) : EReal))
    (Y : Vec Ideal S2048x128 .f32) (y : S2048x128.Idx) :
    k0_pay15 (k0_pay7 xk) s Y y = Y y + ((qPart Q K V C g r j (row i (y 0)) (y 1) : ℝ) : EReal) := by
  pointwise [k0_pay15, k0_pay7]
  simp only [hk, hs, c0, mul_coe, sum_coe, add_coe, zero_add]
  rfl

end Point

end Cert.FlashBlock

end
-- ==== Proof.FlashDat.lean ====
/- The attention's backward call run over its whole grid, for any float operations: what the body leaves in a result window
   is stated as a relation to what it found there (`rdat`), so that nothing is assumed of the contents the windows start
   with; the run (`run`) names the three results by that relation, and the frame follows. -/
module

public import proofs.«01_k».proof.Proof.FlashRun

@[expose] public section

set_option maxRecDepth 16384

noncomputable section

namespace Cert.FlashDat

open Cert.FlashIdeal Cert.FlashIdeal.Gen Cert.FlashRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds and leaves -/

/-- The inputs' windows: their arrays as the region finds them, their blocks at every point. The results' windows are
    constrained below. -/
def base (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem base_A (c : Dev nD) (w : Fin cfg0.W) : (base m c).A w = V m c (Pipeline.arrRef spec0 w) := by
  dsimp only [base]

/-- The three results' windows after the body at a point, from their contents before it. -/
def queriesStep (c : Dev nD) (t : Fin cfg0.N) (Y : Vec F S8192x256 .f32) : Vec F S8192x256 .f32 :=
  queriesAfter (iblk m c 0 t) (iblk m c 2 t) (iblk m c 3 t) (iblk m c 4 t) (iblk m c 6 t) (iblk m c 7 t) (grid0.coords t)
    (queriesFrom (grid0.coords t) Y)
def keysStep (c : Dev nD) (t : Fin cfg0.N) (Y : Vec F S128x768 .f32) : Vec F S128x768 .f32 :=
  keysAfter (iblk m c 0 t) (iblk m c 1 t) (iblk m c 2 t) (iblk m c 3 t) (iblk m c 4 t) (iblk m c 6 t) (iblk m c 7 t)
    (keysFrom (grid0.coords t) Y)
def valsStep (c : Dev nD) (t : Fin cfg0.N) (Y : Vec F S128x768 .f32) : Vec F S128x768 .f32 :=
  valsAfter (iblk m c 0 t) (iblk m c 2 t) (iblk m c 5 t) (iblk m c 6 t) (keysFrom (grid0.coords t) Y)

/-- The results' windows, constrained: each is its step of what was found. -/
def results (c : Dev nD) : (w : Fin cfg0.W) →
    Option (Fin cfg0.N → (Y X : (cfg0.win w).block.Idx → Elt F (cfg0.win w).elt) → Prop)
  | ⟨8, _⟩ => some fun t Y X => X = queriesStep m c t Y
  | ⟨9, _⟩ => some fun t Y X => X = keysStep m c t Y
  | ⟨10, _⟩ => some fun t Y X => X = valsStep m c t Y
  | _ => none

def rdat (c : Dev nD) : RDat τ (Elt F) Unit ℕ (UR sig nD τ) ℕ cfg0 c := (base m c).toR.override (results m c)

/-- An input's window holds its block whenever the body runs. -/
theorem found {c : Dev nD} {w : Fin cfg0.W} {t : Fin cfg0.N} {B X : (cfg0.win w).block.Idx → Elt F (cfg0.win w).elt}
    (hw : results m c w = none) (hb : ∀ d, (base m c).before w t d = B) (h : (rdat m c).Finds w t X) : X = B := by
  obtain ⟨d, rfl⟩ := (base m c).toR_finds w t X (((base m c).toR.override_finds hw t X).mp h)
  exact hb d

/-- and the body may leave it there. -/
theorem left_block {c : Dev nD} {w : Fin cfg0.W} {t : Fin cfg0.N} {Y B : (cfg0.win w).block.Idx → Elt F (cfg0.win w).elt}
    (hw : results m c w = none) (ha : (base m c).after w t = B) (hi : cfg0.idle w (cfg0.grid.coords t) = false) (hl : cfg0.loose w = false) :
    (rdat m c).after w t Y B := by
  rw [show (rdat m c).after w = (base m c).toR.after w from (base m c).toR.override_after_of_eq_none hw]
  refine (Pipeline.Dat.Leaves.live_iff (base m c) (.inl hi)).mpr ?_
  rw [hl]; exact ha.symm

/-! ## The body obligation -/

set_option maxHeartbeats 3200000 in
theorem body_obligation (c : Dev nD) : (rdat (F := F) m c).BodyObligation (defs₀ (F := F)) Variants.none () Set.univ := fun t Y hY => by
  have e0 : Y 0 = iblk m c 0 t := found m rfl (before0_0_of m (base m c) (base_A m c 0) (fun _ => by dsimp only [base]) t) (hY 0)
  have e1 : Y 1 = iblk m c 1 t := found m rfl (before0_1_of m (base m c) (base_A m c 1) (fun _ => by dsimp only [base]) t) (hY 1)
  have e2 : Y 2 = iblk m c 2 t := found m rfl (before0_2_of m (base m c) (base_A m c 2) (fun _ => by dsimp only [base]) t) (hY 2)
  have e3 : Y 3 = iblk m c 3 t := found m rfl (before0_3_of m (base m c) (base_A m c 3) (fun _ => by dsimp only [base]) t) (hY 3)
  have e4 : Y 4 = iblk m c 4 t := found m rfl (before0_4_of m (base m c) (base_A m c 4) (fun _ => by dsimp only [base]) t) (hY 4)
  have e5 : Y 5 = iblk m c 5 t := found m rfl (before0_5_of m (base m c) (base_A m c 5) (fun _ => by dsimp only [base]) t) (hY 5)
  have e6 : Y 6 = iblk m c 6 t := found m rfl (before0_6_of m (base m c) (base_A m c 6) (fun _ => by dsimp only [base]) t) (hY 6)
  have e7 : Y 7 = iblk m c 7 t := found m rfl (before0_7_of m (base m c) (base_A m c 7) (fun _ => by dsimp only [base]) t) (hY 7)
  have e8 : (rdat m c).after 8 t (Y 8) (queriesStep m c t (Y 8)) := rfl
  have e9 : (rdat m c).after 9 t (Y 9) (keysStep m c t (Y 9)) := rfl
  have e10 : (rdat m c).after 10 t (Y 10) (valsStep m c t (Y 10)) := rfl
  rw [bigSep_W0, bigSep_W0, show defs₀ (F := F) .tc cfg0.body (cfg0.bodyArgs t (cfg0.slots t)) = bodyAt0 t by unfold defs₀; rw [Defs.onTc_tc]]
  rw [e0, e1, e2, e3, e4, e5, e6, e7]
  rw [show (rdat m c).Φ t.succ = (rdat m c).Φ t.castSucc from rfl,
    show (rdat m c).owesAt () t.succ = (rdat m c).owesAt () t.castSucc from rfl]
  unfold bodyAt0
  iintro ⟨HΦ, Ho, H0, H1, H2, H3, H4, H5, H6, H7, H8, H9, H10⟩
  iapply ((body_triple c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (Y 8) (Y 9) (Y 10)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Ho]; · iexact Ho
  isplitl [H0]; · iexists _; isplitr; swap; · iexact H0
                  ipureintro; exact left_block m rfl (by dsimp only [base]) rfl rfl
  isplitl [H1]; · iexists _; isplitr; swap; · iexact H1
                  ipureintro; exact left_block m rfl (by dsimp only [base]) rfl rfl
  isplitl [H2]; · iexists _; isplitr; swap; · iexact H2
                  ipureintro; exact left_block m rfl (by dsimp only [base]) rfl rfl
  isplitl [H3]; · iexists _; isplitr; swap; · iexact H3
                  ipureintro; exact left_block m rfl (by dsimp only [base]) rfl rfl
  isplitl [H4]; · iexists _; isplitr; swap; · iexact H4
                  ipureintro; exact left_block m rfl (by dsimp only [base]) rfl rfl
  isplitl [H5]; · iexists _; isplitr; swap; · iexact H5
                  ipureintro; exact left_block m rfl (by dsimp only [base]) rfl rfl
  isplitl [H6]; · iexists _; isplitr; swap; · iexact H6
                  ipureintro; exact left_block m rfl (by dsimp only [base]) rfl rfl
  isplitl [H7]; · iexists _; isplitr; swap; · iexact H7
                  ipureintro; exact left_block m rfl (by dsimp only [base]) rfl rfl
  isplitl [H8]; · iexists _; isplitr; swap; · iexact H8
                  ipureintro; exact e8
  isplitl [H9]; · iexists _; isplitr; swap; · iexact H9
                  ipureintro; exact e9
  iexists _; isplitr; swap; · iexact H10
  ipureintro; exact e10

/-! ## The run and the frame -/

set_option backward.isDefEq.respectTransparency.types false in
/-- THE RUN: every result array holds what the relation allows, and every semaphore ends at zero. -/
theorem run : θ_run defs (onTc (τ := τ) (main (F := F))) (s₀ m ρ) (fun r => RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := base_A m) (hΦ := fun _ _ => rfl)

variable {m} in
/-- Off that post, the arguments end unchanged. -/
theorem kept {r : PUnit × MemSt nD τ sig (Elt F)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c)⟩

/-- The arguments end unchanged, and the counters at zero: of any float operations. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨kept h.1, h.2⟩) (run m ρ)

end Cert.FlashDat

end
-- ==== Proof.FlashRows.lean ====
module

public import proofs.«01_k».proof.Proof.FlashHost
public import proofs.«01_k».proof.Proof.FlashBlock
public import proofs.«01_k».proof.Proof.FlashDat
@[expose] public section

/-! The blocks a point of the attention's backward call reads, by head, row and feature, and what the point adds to the
    three results' windows. -/

set_option maxRecDepth 16384

noncomputable section
open Idealize.ShloMosaic Idealize.ShloMosaic.TcCoe Idealize.ShloMosaic.Tactic Idealize.ShloMosaic.VecWindow Cert.Lift Cert.FlashSpec
open Cert.FlashIdeal
open Cert.FlashIdeal.Gen
open Cert.FlashRun Cert.FlashDat Cert.FlashHost Cert.FlashBlock

namespace Cert.FlashRows

variable (m : (ℓ : Loc nD τ sig) → Buf (Elt Ideal) ℓ) (c : Dev nD)
variable (Q : S1x8192x8x128.Idx → ℝ) (K V : S1x8448x4x128.Idx → ℝ) (C : S1x8192x1024.Idx → ℝ)

/-- The group of heads, the block of keys and the block of queries of a point. -/
def gOf (t : ℕ) : Fin 4 := ⟨t / 44 % 4, Nat.mod_lt _ (by decide)⟩
abbrev jOf (t : ℕ) : ℕ := t / 4 % 11
abbrev iOf (t : ℕ) : ℕ := t % 4
/-- A column of the group's two heads. -/
def col (g : Fin 4) (n : Fin 256) : Fin 1024 := ⟨256 * g.val + n.val, by omega⟩

theorem idx : ∀ t : Fin cfg0.N, win0_0.index t = ![t.val % 4, t.val / 44 % 4] ∧ win0_1.index t = ![t.val / 44 % 4, t.val % 4]
    ∧ win0_2.index t = ![t.val / 4 % 11, t.val / 44 % 4] ∧ win0_3.index t = ![t.val / 4 % 11, t.val / 44 % 4]
    ∧ win0_4.index t = ![t.val % 4, t.val / 44 % 4] ∧ win0_5.index t = ![t.val / 44 % 4, t.val % 4]
    ∧ win0_6.index t = ![t.val / 44 % 4, t.val % 4, 0] ∧ win0_7.index t = ![t.val / 44 % 4, t.val % 4, 0]
    ∧ win0_8.index t = ![0, t.val / 44 % 4] ∧ win0_9.index t = ![t.val / 44 % 4, t.val / 4 % 11] ∧ win0_10.index t = ![t.val / 44 % 4, t.val / 4 % 11] :=
  (by decide +kernel : ∀ t : Fin grid0.N, _)

variable (t : Fin cfg0.N)

theorem at_q (y : S2048x256.Idx) : (iblk m c 0 t : Vec Ideal S2048x256 .bf16) y = Gen.V m c main_v39 (ValueIdx.ix2 (row (iOf t) (y 0)) (col (gOf t) (y 1))) := by
  blk_simp [iblk]
  refine congrArg (Gen.V m c main_v39) ?_
  blk_ext [idx t, row, col, gOf, iOf]
theorem at_qt (y : S256x2048.Idx) : (iblk m c 1 t : Vec Ideal S256x2048 .bf16) y = Gen.V m c main_v41 (ValueIdx.ix2 (col (gOf t) (y 0)) (row (iOf t) (y 1))) := by
  blk_simp [iblk]
  refine congrArg (Gen.V m c main_v41) ?_
  blk_ext [idx t, row, col, gOf, iOf]
theorem at_k (y : S768x128.Idx) : (iblk m c 2 t : Vec Ideal S768x128 .bf16) y
    = Gen.V m c main_v43 (ValueIdx.ix2 (key (jOf t) (y 0)) ⟨128 * (gOf t).val + (y 1).val, by have := (y 1).isLt; have := (gOf t).isLt; simp at *; omega⟩) := by
  blk_simp [iblk]
  refine congrArg (Gen.V m c main_v43) ?_
  blk_ext [idx t, key, gOf, jOf]
theorem at_v (y : S768x256.Idx) : (iblk m c 3 t : Vec Ideal S768x256 .bf16) y = Gen.V m c main_v44 (ValueIdx.ix2 (key (jOf t) (y 0)) (col (gOf t) (y 1))) := by
  blk_simp [iblk]
  refine congrArg (Gen.V m c main_v44) ?_
  blk_ext [idx t, key, col, gOf, jOf]
theorem at_do (y : S2048x256.Idx) : (iblk m c 4 t : Vec Ideal S2048x256 .bf16) y = Gen.V m c main_v45 (ValueIdx.ix2 (row (iOf t) (y 0)) (col (gOf t) (y 1))) := by
  blk_simp [iblk]
  refine congrArg (Gen.V m c main_v45) ?_
  blk_ext [idx t, row, col, gOf, iOf]
theorem at_dot (y : S256x2048.Idx) : (iblk m c 5 t : Vec Ideal S256x2048 .bf16) y = Gen.V m c main_v47 (ValueIdx.ix2 (col (gOf t) (y 0)) (row (iOf t) (y 1))) := by
  blk_simp [iblk]
  refine congrArg (Gen.V m c main_v47) ?_
  blk_ext [idx t, row, col, gOf, iOf]
theorem at_lse (y : S1x2048x2.Idx) : (iblk m c 6 t : Vec Ideal S1x2048x2 .f32) y = Gen.V m c main_v25 (ValueIdx.ix3 (gOf t) (row (iOf t) (y 1)) (y 2)) := by
  blk_simp [iblk]
  refine congrArg (Gen.V m c main_v25) ?_
  blk_ext [idx t, row, gOf, iOf]
theorem at_delta (y : S1x2048x2.Idx) : (iblk m c 7 t : Vec Ideal S1x2048x2 .f32) y = Gen.V m c main_v29 (ValueIdx.ix3 (gOf t) (row (iOf t) (y 1)) (y 2)) := by
  blk_simp [iblk]
  refine congrArg (Gen.V m c main_v29) ?_
  blk_ext [idx t, row, gOf, iOf]

/-! ## The heads' halves of the blocks -/

/-- A feature of one of the group's two heads among the group's columns. -/
def two (r : Fin 2) (d : Fin 128) : Fin 256 := ⟨128 * r.val + d.val, by omega⟩

theorem grp_two (g : Fin 4) (r : Fin 2) (d : Fin 128) : grp (col g (two r d)) = g := Fin.ext (by simp only [grp, col, two]; omega)
theorem place_two (g : Fin 4) (r : Fin 2) (d : Fin 128) : place (col g (two r d)) = r := Fin.ext (by simp only [place, col, two]; omega)
theorem feature_two (g : Fin 4) (r : Fin 2) (d : Fin 128) : feature (col g (two r d)) = d := Fin.ext (by simp only [feature, col, two]; omega)

/-- A window read at the index its offsets name. -/
theorem window_at {α : Type} {s : Shape} (x : s.Idx → α) (off size : Fin s.rank → ℕ) (inb : ∀ a, off a + size a ≤ s.size a)
    (y : (Rect.unit off size inb).shape.Idx) (z : s.Idx) (h : ∀ a, (z a).val = off a + 1 * (y a).val) : window x off size inb y = x z :=
  congrArg x (funext fun a => Fin.ext (show off a + 1 * (y a).val = (z a).val from (h a).symm))

section Halves
variable {F : FTy → Type} [FloatOps F]

theorem left_apply (x : Vec F S2048x256 .bf16) (y : S2048x128.Idx) : left x y = x (ValueIdx.ix2 (y 0) (two 0 (y 1))) :=
  window_at _ _ _ _ _ _ fun a => by fin_cases a <;> simp [two, ValueIdx.ix2]
theorem right_apply (x : Vec F S2048x256 .bf16) (y : S2048x128.Idx) : right x y = x (ValueIdx.ix2 (y 0) (two 1 (y 1))) :=
  window_at _ _ _ _ _ _ fun a => by fin_cases a <;> simp [two, ValueIdx.ix2]
theorem upper_apply (x : Vec F S256x2048 .bf16) (y : S128x2048.Idx) : upper x y = x (ValueIdx.ix2 (two 0 (y 0)) (y 1)) :=
  window_at _ _ _ _ _ _ fun a => by fin_cases a <;> simp [two, ValueIdx.ix2]
theorem lower_apply (x : Vec F S256x2048 .bf16) (y : S128x2048.Idx) : lower x y = x (ValueIdx.ix2 (two 1 (y 0)) (y 1)) :=
  window_at _ _ _ _ _ _ fun a => by fin_cases a <;> simp [two, ValueIdx.ix2]
theorem vals_apply (x : Vec F S768x256 .bf16) (y : S768x128.Idx) : vals x y = x (ValueIdx.ix2 (y 0) (two 0 (y 1))) :=
  window_at _ _ _ _ _ _ fun a => by fin_cases a <;> simp [two, ValueIdx.ix2]
theorem first_apply (x : Vec F S1x2048x2 .f32) (y : S1x2048x1.Idx) : first x y = x (ValueIdx.ix3 0 (y 1) 0) :=
  window_at _ _ _ _ _ _ fun a => by fin_cases a <;> simp [ValueIdx.ix3] <;> omega
theorem second_apply (x : Vec F S1x2048x2 .f32) (y : S1x2048x1.Idx) : second x y = x (ValueIdx.ix3 0 (y 1) 1) :=
  window_at _ _ _ _ _ _ fun a => by fin_cases a <;> simp [ValueIdx.ix3] <;> omega
end Halves

end Cert.FlashRows

end
-- ==== Proof.FlashStep.lean ====
module

public import proofs.«01_k».proof.Proof.FlashRows
@[expose] public section

/-! What a point adds to the three results' windows of the attention's backward call, on real arrays. -/

set_option maxRecDepth 16384

noncomputable section
open Idealize.ShloMosaic Idealize.ShloMosaic.TcCoe Idealize.ShloMosaic.Tactic Idealize.ShloMosaic.VecWindow Cert.Lift Cert.FlashSpec
open Cert.FlashIdeal
open Cert.FlashIdeal.Gen
open Cert.FlashRun Cert.FlashDat Cert.FlashHost Cert.FlashBlock Cert.FlashRows

namespace Cert.FlashStep

variable (m : (ℓ : Loc nD τ sig) → Buf (Elt Ideal) ℓ) (c : Dev nD)
variable (Q : S1x8192x8x128.Idx → ℝ) (K V : S1x8448x4x128.Idx → ℝ) (C : S1x8192x1024.Idx → ℝ)
variable (h0 : a0 m c = up Q) (h1 : a1 m c = up K) (h2 : a2 m c = up V) (h3 : a3 m c = up C)
variable (t : Fin cfg0.N)

/-! ## The operands of a point -/

abbrev x0 : Vec Ideal S2048x256 .bf16 := iblk m c 0 t
abbrev x1 : Vec Ideal S256x2048 .bf16 := iblk m c 1 t
abbrev x2 : Vec Ideal S768x128 .bf16 := iblk m c 2 t
abbrev x3 : Vec Ideal S768x256 .bf16 := iblk m c 3 t
abbrev x4 : Vec Ideal S2048x256 .bf16 := iblk m c 4 t
abbrev x5 : Vec Ideal S256x2048 .bf16 := iblk m c 5 t
abbrev x6 : Vec Ideal S1x2048x2 .f32 := iblk m c 6 t
abbrev x7 : Vec Ideal S1x2048x2 .f32 := iblk m c 7 t

include h0 in
theorem q_two (a : Fin 2048) (r : Fin 2) (d : Fin 128) : x0 m c t (ValueIdx.ix2 a (two r d)) = ((qs Q (gOf t) r (row (iOf t) a) d : ℝ) : EReal) := by
  refine (at_q m c t _).trans ((entry_q m c Q h0 _).trans (congrArg (fun s : ℝ => (s : EReal)) ?_))
  show q Q (grp (col (gOf t) (two r d))) (place (col (gOf t) (two r d))) (row (iOf t) a) (feature (col (gOf t) (two r d))) * _ = _
  rw [grp_two, place_two, feature_two]; rfl
include h0 in
theorem qt_two (a : Fin 2048) (r : Fin 2) (d : Fin 128) : x1 m c t (ValueIdx.ix2 (two r d) a) = ((qs Q (gOf t) r (row (iOf t) a) d : ℝ) : EReal) := by
  refine (at_qt m c t _).trans ((entry_qt m c Q h0 _).trans (congrArg (fun s : ℝ => (s : EReal)) ?_))
  show q Q (grp (col (gOf t) (two r d))) (place (col (gOf t) (two r d))) (row (iOf t) a) (feature (col (gOf t) (two r d))) * _ = _
  rw [grp_two, place_two, feature_two]; rfl
include h1 in
theorem k_at (y : S768x128.Idx) : x2 m c t y = ((k K (gOf t) (key (jOf t) (y 0)) (y 1) : ℝ) : EReal) := by
  refine (at_k m c t _).trans ((entry_k m c K h1 _).trans (congrArg (fun s : ℝ => (s : EReal)) ?_))
  have h := (y 1).isLt
  simp at h
  refine congrArg₂ (fun g d => k K g (key (jOf t) (y 0)) d) (Fin.ext ?_) (Fin.ext ?_)
  · show (128 * (gOf t).val + (y 1).val) / 128 = (gOf t).val
    omega
  · show (128 * (gOf t).val + (y 1).val) % 128 = (y 1).val
    omega
include h2 in
theorem v_at (y : S768x128.Idx) : vals (x3 m c t) y = ((k V (gOf t) (key (jOf t) (y 0)) (y 1) : ℝ) : EReal) := by
  rw [vals_apply]
  refine (at_v m c t _).trans ((entry_v m c V h2 _ ?_).trans (congrArg (fun s : ℝ => (s : EReal)) ?_))
  · show (256 * (gOf t).val + (128 * (0 : Fin 2).val + (y 1).val)) % 256 < 128
    have h := (y 1).isLt
    simp at h ⊢
    omega
  · show k V (grp (col (gOf t) (two 0 (y 1)))) (key (jOf t) (y 0)) (feature (col (gOf t) (two 0 (y 1)))) = _
    exact congrArg₂ (fun g d => k V g (key (jOf t) (y 0)) d) (grp_two _ _ _) (feature_two _ _ _)
include h3 in
theorem ct_two (a : Fin 2048) (r : Fin 2) (d : Fin 128) : x4 m c t (ValueIdx.ix2 a (two r d)) = ((ct C (gOf t) r (row (iOf t) a) d : ℝ) : EReal) := by
  refine (at_do m c t _).trans ((entry_do m c C h3 _).trans (congrArg (fun s : ℝ => (s : EReal)) ?_))
  show ct C (grp (col (gOf t) (two r d))) (place (col (gOf t) (two r d))) (row (iOf t) a) (feature (col (gOf t) (two r d))) = _
  rw [grp_two, place_two, feature_two]
include h3 in
theorem ctt_two (a : Fin 2048) (r : Fin 2) (d : Fin 128) : x5 m c t (ValueIdx.ix2 (two r d) a) = ((ct C (gOf t) r (row (iOf t) a) d : ℝ) : EReal) := by
  refine (at_dot m c t _).trans ((entry_dot m c C h3 _).trans (congrArg (fun s : ℝ => (s : EReal)) ?_))
  show ct C (grp (col (gOf t) (two r d))) (place (col (gOf t) (two r d))) (row (iOf t) a) (feature (col (gOf t) (two r d))) = _
  rw [grp_two, place_two, feature_two]
include h0 h1 in
theorem lse_at (a : Fin 2048) (r : Fin 2) : x6 m c t (ValueIdx.ix3 0 a r) = ((lse Q K (gOf t) r (row (iOf t) a) : ℝ) : EReal) :=
  (at_lse m c t _).trans (entry_lse m c Q K h0 h1 _)
include h0 h1 h2 h3 in
theorem dot_at (a : Fin 2048) (r : Fin 2) : x7 m c t (ValueIdx.ix3 0 a r) = ((rowDot Q K V C (gOf t) r (row (iOf t) a) : ℝ) : EReal) :=
  (at_delta m c t _).trans (entry_delta m c Q K V C h0 h1 h2 h3 _)

/-! ## The gradient of the scores and the weights, of the two heads -/

include h0 h1 h2 h3 in
theorem ds0_at (y : S2048x768.Idx) : ds0 (x0 m c t) (x2 m c t) (x3 m c t) (x4 m c t) (x6 m c t) (x7 m c t) y
    = ((ds Q K V C (gOf t) 0 (row (iOf t) (y 0)) (key (jOf t) (y 1)) : ℝ) : EReal) :=
  scores Q K V C (gOf t) 0 (iOf t) (jOf t) _ _ _ _ _ _ (k_at m c K h1 t) (v_at m c V h2 t)
    (fun y => (left_apply _ y).trans (q_two m c Q h0 t _ 0 _)) (fun y => (left_apply _ y).trans (ct_two m c C h3 t _ 0 _))
    (fun y => (first_apply _ y).trans (lse_at m c Q K h0 h1 t _ 0)) (fun y => (first_apply _ y).trans (dot_at m c Q K V C h0 h1 h2 h3 t _ 0)) y
include h0 h1 h2 h3 in
theorem ds1_at (y : S2048x768.Idx) : ds1 (x0 m c t) (x2 m c t) (x3 m c t) (x4 m c t) (x6 m c t) (x7 m c t) y
    = ((ds Q K V C (gOf t) 1 (row (iOf t) (y 0)) (key (jOf t) (y 1)) : ℝ) : EReal) :=
  scores Q K V C (gOf t) 1 (iOf t) (jOf t) _ _ _ _ _ _ (k_at m c K h1 t) (v_at m c V h2 t)
    (fun y => (right_apply _ y).trans (q_two m c Q h0 t _ 1 _)) (fun y => (right_apply _ y).trans (ct_two m c C h3 t _ 1 _))
    (fun y => (second_apply _ y).trans (lse_at m c Q K h0 h1 t _ 1)) (fun y => (second_apply _ y).trans (dot_at m c Q K V C h0 h1 h2 h3 t _ 1)) y

include h0 h1 in
theorem wt0_at (y : S2048x768.Idx) : k0_pay12 (x2 m c t) (left (x0 m c t)) (first (x6 m c t)) y
    = ((wt Q K (gOf t) 0 (row (iOf t) (y 0)) (key (jOf t) (y 1)) : ℝ) : EReal) :=
  weights Q K (gOf t) 0 (iOf t) (jOf t) _ _ _ (k_at m c K h1 t) (fun y => (left_apply _ y).trans (q_two m c Q h0 t _ 0 _))
    (fun y => (first_apply _ y).trans (lse_at m c Q K h0 h1 t _ 0)) y
include h0 h1 in
theorem wt1_at (y : S2048x768.Idx) : k0_pay12 (x2 m c t) (right (x0 m c t)) (second (x6 m c t)) y
    = ((wt Q K (gOf t) 1 (row (iOf t) (y 0)) (key (jOf t) (y 1)) : ℝ) : EReal) :=
  weights Q K (gOf t) 1 (iOf t) (jOf t) _ _ _ (k_at m c K h1 t) (fun y => (right_apply _ y).trans (q_two m c Q h0 t _ 1 _))
    (fun y => (second_apply _ y).trans (lse_at m c Q K h0 h1 t _ 1)) y

/-! ## The keys' and the values' windows -/

/-- Both heads' parts. -/
def kBoth (g : Fin 4) (i j : ℕ) (d : Fin 128) (b : Fin 768) : ℝ := kPart Q K V C g 0 i j d b + kPart Q K V C g 1 i j d b
def vBoth (g : Fin 4) (i j : ℕ) (d : Fin 128) (b : Fin 768) : ℝ := vPart Q K C g 0 i j d b + vPart Q K C g 1 i j d b

theorem add_keys (A Y : Vec Ideal S128x768 .f32) (B : FVec Ideal S2048x768 .bf16) (x : Vec Ideal S128x2048 .bf16) (y : S128x768.Idx) :
    k0_pay3 A B (k0_pay19 x) (constant S128x768 .f32 0x00000000#32) Y y = Y y + (A y + k0_pay14 B x y) := by
  pointwise [k0_pay3, k0_pay14, k0_pay19]

theorem add_vals (A Y : Vec Ideal S128x768 .f32) (B : Vec Ideal S128x768 .f32) (y : S128x768.Idx) : k0_pay2 A B Y y = Y y + (A y + B y) := by
  pointwise [k0_pay2]

theorem second_vals (xk : Vec Ideal S768x128 .bf16) (xq : Vec Ideal S2048x128 .bf16) (xl : Vec Ideal S1x2048x1 .f32) (x : Vec Ideal S128x2048 .bf16) :
    k0_pay18 (k0_pay7 xk) xq xl x = k0_pay13 (k0_pay11 x) (k0_pay12 xk xq xl) := rfl

include h0 h1 h2 h3 in
theorem keysStep_at (Y : Vec Ideal S128x768 .f32) (y : S128x768.Idx) :
    keysStep m c t Y y = keysFrom (F := Ideal) (grid0.coords t) Y y + ((kBoth Q K V C (gOf t) (iOf t) (jOf t) (y 0) (y 1) : ℝ) : EReal) := by
  have e0 := keysPart Q K V C (gOf t) 0 (iOf t) (jOf t) (upper (x1 m c t)) (fun y => (upper_apply _ y).trans (qt_two m c Q h0 t _ 0 _)) _
    (ds0_at m c Q K V C h0 h1 h2 h3 t) y
  have e1 := keysPart Q K V C (gOf t) 1 (iOf t) (jOf t) (lower (x1 m c t)) (fun y => (lower_apply _ y).trans (qt_two m c Q h0 t _ 1 _)) _
    (ds1_at m c Q K V C h0 h1 h2 h3 t) y
  unfold keysStep keysAfter
  rw [add_keys]
  rw [e0, e1, add_coe]; rfl

include h0 h1 h3 in
theorem valsStep_at (Y : Vec Ideal S128x768 .f32) (y : S128x768.Idx) :
    valsStep m c t Y y = keysFrom (F := Ideal) (grid0.coords t) Y y + ((vBoth Q K C (gOf t) (iOf t) (jOf t) (y 0) (y 1) : ℝ) : EReal) := by
  have e0 := valsPart Q K C (gOf t) 0 (iOf t) (jOf t) (upper (x5 m c t)) (fun y => (upper_apply _ y).trans (ctt_two m c C h3 t _ 0 _)) _
    (wt0_at m c Q K h0 h1 t) y
  have e1 := valsPart Q K C (gOf t) 1 (iOf t) (jOf t) (lower (x5 m c t)) (fun y => (lower_apply _ y).trans (ctt_two m c C h3 t _ 1 _)) _
    (wt1_at m c Q K h0 h1 t) y
  unfold valsStep valsAfter
  rw [add_vals, second_vals]
  rw [e0, e1, add_coe]; rfl

/-! ## The queries' window -/

/-- What one point adds to a row of the block, of the head that owns the column. -/
def qAdd (g : Fin 4) (j : ℕ) (a : Fin 8192) (n : Fin 256) : ℝ :=
  qPart Q K V C g ⟨n.val / 128, by omega⟩ j a ⟨n.val % 128, Nat.mod_lt _ (by decide)⟩

theorem iOf_coord : (grid0.coords t 2).val = iOf t.val :=
  (Pipeline.Grid.coords_val t 2 (by decide) rfl : (grid0.coords t 2).val = t.val / 1 % 4).trans (by rw [Nat.div_one])

/-- A window put is its payload at the window's own indices. -/
theorem put_in {α : Type} {s : Shape} (x : s.Idx → α) (off size : Fin s.rank → ℕ) (w : ((a : Fin s.rank) → Fin (size a)) → α) (y : s.Idx)
    (z : (a : Fin s.rank) → Fin (size a)) (h : ∀ a, (y a).val = off a + (z a).val) : put x off size w y = w z := by
  have hm : ∀ a, off a ≤ (y a).val ∧ (y a).val < off a + size a := fun a => by have := h a; have := (z a).isLt; omega
  refine (dif_pos hm : put x off size w y = _).trans (congrArg w (funext fun a => Fin.ext ?_))
  show (y a).val - off a = (z a).val
  have := h a
  omega
theorem put_out {α : Type} {s : Shape} (x : s.Idx → α) (off size : Fin s.rank → ℕ) (w : ((a : Fin s.rank) → Fin (size a)) → α) (y : s.Idx)
    (a : Fin s.rank) (h : (y a).val < off a ∨ off a + size a ≤ (y a).val) : put x off size w y = x y :=
  dif_neg fun hm => by have := hm a; omega

/-- Off the point's rows the window keeps what it held. -/
theorem queriesStep_off (Y : Vec Ideal S8192x256 .f32) (y : S8192x256.Idx) (hy : (y 0).val / 2048 ≠ iOf t.val) : queriesStep m c t Y y = Y y := by
  have hi := iOf_coord t
  have out : (y 0).val < 2048 * (grid0.coords t 2).val ∨ 2048 * (grid0.coords t 2).val + 2048 ≤ (y 0).val := by rw [hi]; omega
  unfold queriesStep queriesAfter
  refine (put_out _ _ _ _ y 0 out).trans ((put_out _ _ _ _ y 0 out).trans ?_)
  unfold queriesFrom
  split
  · exact put_out _ _ _ _ y 0 out
  · rfl

include h0 h1 h2 h3 in
/-- On them it gains the head's part. -/
theorem queriesStep_on (Y : Vec Ideal S8192x256 .f32) (y : S8192x256.Idx) (hy : (y 0).val / 2048 = iOf t.val) :
    queriesStep m c t Y y = queriesFrom (grid0.coords t) Y y + ((qAdd Q K V C (gOf t) (jOf t) (y 0) (y 1) : ℝ) : EReal) := by
  have hi := iOf_coord t
  have hlt : (y 0).val < 8192 := (y 0).isLt
  have hlt1 : (y 1).val < 256 := (y 1).isLt
  have hrow : row (iOf t.val) ⟨(y 0).val % 2048, Nat.mod_lt _ (by decide)⟩ = y 0 := Fin.ext (by
    show (2048 * iOf t.val + (y 0).val % 2048) % 8192 = (y 0).val
    omega)
  unfold queriesStep queriesAfter
  generalize queriesFrom (grid0.coords t) Y = Z
  by_cases h : (y 1).val < 128
  · refine (put_out _ _ _ _ y 1 (Or.inl h)).trans ?_
    refine (put_in (s := S8192x256) _ _ S2048x128.size _ y (ValueIdx.ix2 (⟨(y 0).val % 2048, Nat.mod_lt _ (by decide)⟩ : Fin 2048) (⟨(y 1).val, h⟩ : Fin 128)) ?_).trans ?_
    · intro a; fin_cases a
      · show (y 0).val = 2048 * (grid0.coords t 2).val + (y 0).val % 2048
        omega
      · show (y 1).val = 0 + (y 1).val
        omega
    refine (queriesPart Q K V C (gOf t) 0 (iOf t) (jOf t) _ (k_at m c K h1 t) _ (ds0_at m c Q K V C h0 h1 h2 h3 t) _ _).trans ?_
    refine congrArg₂ (· + ·) (window_at _ _ _ _ _ y ?_) (congrArg (fun s : ℝ => (s : EReal)) ?_)
    · intro a; refine Eq.trans ?_ (congrArg (fun o : ℕ => o + 1 * _) (congrFun (k0_off2_eq (grid0.coords t)) a).symm); fin_cases a
      · show (y 0).val = 2048 * (grid0.coords t 2).val + 1 * ((y 0).val % 2048)
        omega
      · show (y 1).val = 0 + 1 * (y 1).val
        omega
    · show qPart Q K V C (gOf t) 0 (jOf t) (row (iOf t.val) ⟨(y 0).val % 2048, Nat.mod_lt _ (by decide)⟩) ⟨(y 1).val, h⟩ = _
      rw [hrow]
      exact congrArg₂ (fun r d => qPart Q K V C (gOf t) r (jOf t) (y 0) d) (Fin.ext (by show 0 = (y 1).val / 128; omega))
        (Fin.ext (by show (y 1).val = (y 1).val % 128; omega))
  · refine (put_in (s := S8192x256) _ _ S2048x128.size _ y (ValueIdx.ix2 (⟨(y 0).val % 2048, Nat.mod_lt _ (by decide)⟩ : Fin 2048) (⟨(y 1).val - 128, by omega⟩ : Fin 128)) ?_).trans ?_
    · intro a; fin_cases a
      · show (y 0).val = 2048 * (grid0.coords t 2).val + (y 0).val % 2048
        omega
      · show (y 1).val = 128 + ((y 1).val - 128)
        omega
    refine (queriesPart Q K V C (gOf t) 1 (iOf t) (jOf t) _ (k_at m c K h1 t) _ (ds1_at m c Q K V C h0 h1 h2 h3 t) _ _).trans ?_
    refine congrArg₂ (· + ·) (window_at _ _ _ _ _ y ?_) (congrArg (fun s : ℝ => (s : EReal)) ?_)
    · intro a; refine Eq.trans ?_ (congrArg (fun o : ℕ => o + 1 * _) (congrFun (k0_off3_eq (grid0.coords t)) a).symm); fin_cases a
      · show (y 0).val = 2048 * (grid0.coords t 2).val + 1 * ((y 0).val % 2048)
        omega
      · show (y 1).val = 128 + 1 * ((y 1).val - 128)
        omega
    · show qPart Q K V C (gOf t) 1 (jOf t) (row (iOf t.val) ⟨(y 0).val % 2048, Nat.mod_lt _ (by decide)⟩) ⟨(y 1).val - 128, by omega⟩ = _
      rw [hrow]
      exact congrArg₂ (fun r d => qPart Q K V C (gOf t) r (jOf t) (y 0) d) (Fin.ext (by show 1 = (y 1).val / 128; omega))
        (Fin.ext (by show (y 1).val - 128 = (y 1).val % 128; omega))

/-- What the accumulations start from. -/
theorem keysFrom_start (Y : Vec Ideal S128x768 .f32) (y : S128x768.Idx) (h : t.val % 4 = 0) : keysFrom (grid0.coords t) Y y = ((0 : ℝ) : EReal) := by
  unfold keysFrom
  rw [if_pos ((startsKeys_iff t).mpr h)]
  pointwise [k0_pay4]
  exact EReal.coe_zero.symm
theorem keysFrom_later (Y : Vec Ideal S128x768 .f32) (h : t.val % 4 ≠ 0) : keysFrom (grid0.coords t) Y = Y := by
  unfold keysFrom
  rw [if_neg fun hs => h ((startsKeys_iff t).mp hs)]
theorem queriesFrom_start (Y : Vec Ideal S8192x256 .f32) (y : S8192x256.Idx) (h : t.val / 4 % 11 = 0) (hy : (y 0).val / 2048 = iOf t.val) :
    queriesFrom (grid0.coords t) Y y = ((0 : ℝ) : EReal) := by
  have hi := iOf_coord t
  unfold queriesFrom
  rw [if_pos ((startsQueries_iff t).mpr h)]
  refine (put_in (s := S8192x256) _ _ S2048x256.size _ y (ValueIdx.ix2 (⟨(y 0).val % 2048, Nat.mod_lt _ (by decide)⟩ : Fin 2048) (y 1)) ?_).trans ?_
  · intro a; fin_cases a
    · show (y 0).val = 2048 * (grid0.coords t 2).val + (y 0).val % 2048
      omega
    · show (y 1).val = 0 + (y 1).val
      omega
  · pointwise [k0_pay6]
    exact EReal.coe_zero.symm
theorem queriesFrom_later (Y : Vec Ideal S8192x256 .f32) (h : t.val / 4 % 11 ≠ 0) : queriesFrom (grid0.coords t) Y = Y := by
  unfold queriesFrom
  rw [if_neg fun hs => h ((startsQueries_iff t).mp hs)]

end Cert.FlashStep

end
-- ==== Proof.FlashArray.lean ====
module

public import proofs.«01_k».proof.Proof.FlashStep
public import Idealize.ShloMosaic.Lib.Pipeline.ArrRel
@[expose] public section

/-! The three result arrays of the attention's backward call: what the windows hold at each point, by induction over the
    points, and the arrays they are written back to. -/

set_option maxRecDepth 16384

noncomputable section
open Idealize.ShloMosaic Idealize.ShloMosaic.TcCoe Idealize.ShloMosaic.Tactic Idealize.ShloMosaic.VecWindow Cert.Lift Cert.FlashSpec
open Cert.FlashIdeal
open Cert.FlashIdeal.Gen
open Cert.FlashRun Cert.FlashDat Cert.FlashHost Cert.FlashBlock Cert.FlashRows Cert.FlashStep
open Idealize.SL Idealize.SL.RA
open Idealize.ShloMosaic.Pipeline (Dat RDat Cfg Window cellOf)

namespace Cert.FlashArray

variable (m : (ℓ : Loc nD τ sig) → Buf (Elt Ideal) ℓ) (c : Dev nD)
variable (Q : S1x8192x8x128.Idx → ℝ) (K V : S1x8448x4x128.Idx → ℝ) (C : S1x8192x1024.Idx → ℝ)
variable (h0 : a0 m c = up Q) (h1 : a1 m c = up K) (h2 : a2 m c = up V) (h3 : a3 m c = up C)

/-- The point before. -/
def prev (t : Fin cfg0.N) : Fin cfg0.N := ⟨t.val - 1, Nat.lt_of_le_of_lt (Nat.sub_le _ _) t.isLt⟩

theorem gOf_prev (t : Fin cfg0.N) (h : t.val % 44 ≠ 0) : gOf (prev t).val = gOf t.val := Fin.ext (by show (t.val - 1) / 44 % 4 = t.val / 44 % 4; omega)

/-- What a result's window finds at a point is what the point before left, where that one did not write it back. -/
theorem left_before (w : Fin cfg0.W) (t : Fin cfg0.N) (hf : (cfg0.win w).fetch t = false) (ht : t.val ≠ 0)
    (hflush : ¬ (cfg0.win w).flush (prev t) = true) {Y : (cfg0.win w).block.Idx → Elt Ideal (cfg0.win w).elt} (h : (rdat m c).Finds w t Y) :
    (rdat m c).Leaves w (prev t) Y :=
  (((rdat m c).finds_of_pos hf ht Y).mp h).resolve_left hflush

include h0 h1 h2 h3 in
theorem keys_left (n : ℕ) : ∀ (t : Fin cfg0.N), t.val = n → ∀ X : Vec Ideal S128x768 .f32, (rdat m c).Leaves 9 t X → ∀ y,
    X y = ((∑ i ∈ Finset.range (t.val % 4 + 1), kBoth Q K V C (gOf t) i (jOf t) (y 0) (y 1) : ℝ) : EReal) := by
  induction n with
  | zero =>
    rintro t ht X ⟨Y, -, hX⟩ y
    obtain rfl : X = keysStep m c t Y := hX
    rw [keysStep_at m c Q K V C h0 h1 h2 h3, keysFrom_start t Y y (by omega), add_coe, iOf, show t.val % 4 = 0 by omega]
    simp
  | succ n ih =>
    rintro t ht X ⟨Y, hY, hX⟩ y
    obtain rfl : X = keysStep m c t Y := hX
    rw [keysStep_at m c Q K V C h0 h1 h2 h3]
    by_cases h : t.val % 4 = 0
    · rw [keysFrom_start t Y y h, add_coe, iOf, h]
      simp
    · have hl := left_before m c 9 t rfl (by omega) (fun hf => by have := (flush0_9 (prev t)).mp hf; simp only [prev] at this; omega) hY
      have e := ih (prev t) (by simp only [prev]; omega) Y hl y
      rw [keysFrom_later t Y h, e, add_coe, gOf_prev t (by omega), show jOf (prev t).val = jOf t.val by simp only [prev, jOf]; omega,
        show (prev t).val % 4 + 1 = t.val % 4 by simp only [prev]; omega, Finset.sum_range_succ]

include h0 h1 h3 in
theorem vals_left (n : ℕ) : ∀ (t : Fin cfg0.N), t.val = n → ∀ X : Vec Ideal S128x768 .f32, (rdat m c).Leaves 10 t X → ∀ y,
    X y = ((∑ i ∈ Finset.range (t.val % 4 + 1), vBoth Q K C (gOf t) i (jOf t) (y 0) (y 1) : ℝ) : EReal) := by
  induction n with
  | zero =>
    rintro t ht X ⟨Y, -, hX⟩ y
    obtain rfl : X = valsStep m c t Y := hX
    rw [valsStep_at m c Q K C h0 h1 h3, keysFrom_start t Y y (by omega), add_coe, iOf, show t.val % 4 = 0 by omega]
    simp
  | succ n ih =>
    rintro t ht X ⟨Y, hY, hX⟩ y
    obtain rfl : X = valsStep m c t Y := hX
    rw [valsStep_at m c Q K C h0 h1 h3]
    by_cases h : t.val % 4 = 0
    · rw [keysFrom_start t Y y h, add_coe, iOf, h]
      simp
    · have hl := left_before m c 10 t rfl (by omega) (fun hf => by have := (flush0_10 (prev t)).mp hf; simp only [prev] at this; omega) hY
      have e := ih (prev t) (by simp only [prev]; omega) Y hl y
      rw [keysFrom_later t Y h, e, add_coe, gOf_prev t (by omega), show jOf (prev t).val = jOf t.val by simp only [prev, jOf]; omega,
        show (prev t).val % 4 + 1 = t.val % 4 by simp only [prev]; omega, Finset.sum_range_succ]

/-- How many blocks of keys a row of block `a` has met by the end of a point. -/
def met (t a : ℕ) : ℕ := if a ≤ t % 4 then t / 4 % 11 + 1 else t / 4 % 11

theorem met_own (t : ℕ) (h : t / 4 % 11 ≠ 0) : met (t - 1) (t % 4) = t / 4 % 11 := by
  unfold met; split_ifs <;> omega
theorem met_other (t a : ℕ) (ha : a < 4) (hy : a ≠ t % 4) (h44 : t % 44 ≠ 0) : met (t - 1) a = met t a := by
  unfold met; split_ifs <;> omega
theorem met_last (t a : ℕ) (ha : a < 4) (h : t % 44 = 43) : met t a = 11 := by
  unfold met; split_ifs <;> omega

include h0 h1 h2 h3 in
theorem queries_left (n : ℕ) : ∀ (t : Fin cfg0.N), t.val = n → ∀ X : Vec Ideal S8192x256 .f32, (rdat m c).Leaves 8 t X → ∀ y : S8192x256.Idx,
    0 < met t.val ((y 0).val / 2048) →
    X y = ((∑ j ∈ Finset.range (met t.val ((y 0).val / 2048)), qAdd Q K V C (gOf t) j (y 0) (y 1) : ℝ) : EReal) := by
  induction n with
  | zero =>
    rintro t ht X ⟨Y, -, hX⟩ y hm
    obtain rfl : X = queriesStep m c t Y := hX
    have hy : (y 0).val / 2048 = iOf t.val := by simp only [met] at hm; split at hm <;> simp only [iOf] <;> omega
    rw [queriesStep_on m c Q K V C h0 h1 h2 h3 t Y y hy, queriesFrom_start t Y y (by omega) hy, add_coe,
      show met t.val ((y 0).val / 2048) = 1 by rw [hy, met, iOf, if_pos (le_refl _)]; omega, jOf, show t.val / 4 % 11 = 0 by omega]
    simp
  | succ n ih =>
    rintro t ht X ⟨Y, hY, hX⟩ y hm
    obtain rfl : X = queriesStep m c t Y := hX
    have hlt : (y 0).val < 8192 := (y 0).isLt
    have hN : t.val < 176 := Nat.lt_of_lt_of_eq t.isLt N_0
    have hl : t.val % 44 ≠ 0 → (rdat m c).Leaves 8 (prev t) Y := fun h =>
      left_before m c 8 t rfl (by omega) (fun hf => by have := (flush0_8 (prev t)).mp hf; simp only [prev] at this; omega) hY
    by_cases hy : (y 0).val / 2048 = iOf t.val
    · rw [queriesStep_on m c Q K V C h0 h1 h2 h3 t Y y hy]
      have hm1 : met t.val ((y 0).val / 2048) = jOf t.val + 1 := by rw [hy, met, iOf, if_pos (le_refl _)]
      rw [hm1]
      by_cases hj : t.val / 4 % 11 = 0
      · rw [queriesFrom_start t Y y hj hy, add_coe, jOf, hj]
        simp
      · have hp : met (prev t).val ((y 0).val / 2048) = jOf t.val := by
          rw [hy]; exact met_own t.val hj
        have e := ih (prev t) (by simp only [prev]; omega) Y (hl (by omega)) y (by rw [hp]; simp only [jOf]; omega)
        rw [queriesFrom_later t Y hj, e, hp, add_coe, gOf_prev t (by omega), Finset.sum_range_succ]
    · rw [queriesStep_off m c t Y y hy]
      have h44 : t.val % 44 ≠ 0 := fun h => by
        simp only [met] at hm; simp only [iOf] at hy; split at hm <;> omega
      have hp : met (prev t).val ((y 0).val / 2048) = met t.val ((y 0).val / 2048) :=
        met_other t.val _ (by omega) hy h44
      have e := ih (prev t) (by simp only [prev]; omega) Y (hl h44) y (by rw [hp]; exact hm)
      rw [e, hp, gOf_prev t h44]

/-! ## The blocks' sums are the arrays' -/

theorem sum_rows (f : Fin 8192 → ℝ) : ∑ i ∈ Finset.range 4, ∑ a : Fin 2048, f (row i a) = ∑ a, f a := by
  rw [Finset.sum_range, ← Finset.sum_product']
  refine Fintype.sum_equiv (finProdFinEquiv (m := 4) (n := 2048)) _ _ fun x => congrArg f (Fin.ext ?_)
  show (2048 * x.1.val + x.2.val) % 8192 = x.2.val + 2048 * x.1.val
  omega
theorem sum_keys (f : Fin 8448 → ℝ) : ∑ j ∈ Finset.range 11, ∑ b : Fin 768, f (key j b) = ∑ b, f b := by
  rw [Finset.sum_range, ← Finset.sum_product']
  refine Fintype.sum_equiv (finProdFinEquiv (m := 11) (n := 768)) _ _ fun x => congrArg f (Fin.ext ?_)
  show (768 * x.1.val + x.2.val) % 8448 = x.2.val + 768 * x.1.val
  omega

theorem k_total (g : Fin 4) (j : ℕ) (d : Fin 128) (b : Fin 768) : ∑ i ∈ Finset.range 4, kBoth Q K V C g i j d b = dk Q K V C g (key j b) d := by
  unfold kBoth kPart dk
  rw [Finset.sum_add_distrib, sum_rows (fun a => qs Q g 0 a d * ds Q K V C g 0 a (key j b)), sum_rows (fun a => qs Q g 1 a d * ds Q K V C g 1 a (key j b)),
    Fin.sum_univ_two]
  refine congrArg₂ (· + ·) (Finset.sum_congr rfl fun a _ => ?_) (Finset.sum_congr rfl fun a _ => ?_) <;> exact mul_comm _ _
theorem v_total (g : Fin 4) (j : ℕ) (d : Fin 128) (b : Fin 768) : ∑ i ∈ Finset.range 4, vBoth Q K C g i j d b = dv Q K C g (key j b) d := by
  unfold vBoth vPart dv
  rw [Finset.sum_add_distrib, sum_rows (fun a => ct C g 0 a d * wt Q K g 0 a (key j b)), sum_rows (fun a => ct C g 1 a d * wt Q K g 1 a (key j b)),
    Fin.sum_univ_two]
theorem q_total (g : Fin 4) (a : Fin 8192) (n : Fin 256) : ∑ j ∈ Finset.range 11, qAdd Q K V C g j a n
    = dq Q K V C g ⟨n.val / 128, by omega⟩ a ⟨n.val % 128, Nat.mod_lt _ (by decide)⟩ :=
  sum_keys fun b => ds Q K V C g ⟨n.val / 128, by omega⟩ a b * k K g b ⟨n.val % 128, Nat.mod_lt _ (by decide)⟩

/-! ## The arrays -/

variable (after : (w' : Fin cfg0.W) → Fin cfg0.N → (cfg0.win w').block.Idx → Elt Ideal (cfg0.win w').elt)
  (hL : ∀ (w : Fin cfg0.W) (u : Fin cfg0.N), (cfg0.win w).flush u = true → (rdat m c).Leaves w u (after w u))

include h0 h1 h2 h3 in
theorem queries_last (t : Fin cfg0.N) (h : t.val % 44 = 43) (X : Vec Ideal S8192x256 .f32) (hX : (rdat m c).Leaves 8 t X) (y : S8192x256.Idx) :
    X y = ((dqArr Q K V C (ValueIdx.ix2 (y 0) (col (gOf t) (y 1))) : ℝ) : EReal) := by
  have hy : (y 0).val < 8192 := (y 0).isLt
  have hmet : met t.val ((y 0).val / 2048) = 11 := met_last _ _ (by omega) h
  refine (queries_left m c Q K V C h0 h1 h2 h3 _ t rfl X hX y (by rw [hmet]; decide)).trans (congrArg (fun s : ℝ => (s : EReal)) ?_)
  rw [hmet]
  refine (q_total Q K V C (gOf t) (y 0) (y 1)).trans ?_
  have hn : (y 1).val < 256 := (y 1).isLt
  have e : (y 1) = two ⟨(y 1).val / 128, by omega⟩ ⟨(y 1).val % 128, Nat.mod_lt _ (by decide)⟩ :=
    Fin.ext (by show (y 1).val = 128 * ((y 1).val / 128) + (y 1).val % 128; omega)
  show _ = dq Q K V C (grp (col (gOf t) (y 1))) (place (col (gOf t) (y 1))) (y 0) (feature (col (gOf t) (y 1)))
  generalize hr : (⟨(y 1).val / 128, by omega⟩ : Fin 2) = r at e ⊢
  generalize hd : (⟨(y 1).val % 128, Nat.mod_lt _ (by decide)⟩ : Fin 128) = d at e ⊢
  rw [show grp (col (gOf t) (y 1)) = gOf t from (congrArg (fun n => grp (col (gOf t) n)) e).trans (grp_two _ _ _),
    show place (col (gOf t) (y 1)) = r from (congrArg (fun n => place (col (gOf t) n)) e).trans (place_two _ _ _),
    show feature (col (gOf t) (y 1)) = d from (congrArg (fun n => feature (col (gOf t) n)) e).trans (feature_two _ _ _)]

/-- Feature `d` of group `g` among the rows of a transposed gradient. -/
def feat (g : Fin 4) (d : Fin 128) : Fin 512 := ⟨128 * g.val + d.val, by omega⟩
theorem grpOf_feat (g : Fin 4) (d : Fin 128) : grpOf (feat g d) = g := Fin.ext (by simp only [grpOf, feat]; omega)
theorem featureOf_feat (g : Fin 4) (d : Fin 128) : featureOf (feat g d) = d := Fin.ext (by simp only [featureOf, feat]; omega)

include h0 h1 h2 h3 in
theorem keys_last (t : Fin cfg0.N) (h : t.val % 4 = 3) (X : Vec Ideal S128x768 .f32) (hX : (rdat m c).Leaves 9 t X) (y : S128x768.Idx) :
    X y = ((dkArr Q K V C (ValueIdx.ix2 (feat (gOf t) (y 0)) (key (jOf t) (y 1))) : ℝ) : EReal) := by
  refine (keys_left m c Q K V C h0 h1 h2 h3 _ t rfl X hX y).trans (congrArg (fun s : ℝ => (s : EReal)) ?_)
  rw [h]
  refine (k_total Q K V C (gOf t) (jOf t) (y 0) (y 1)).trans ?_
  show _ = dk Q K V C (grpOf (feat (gOf t) (y 0))) (key (jOf t) (y 1)) (featureOf (feat (gOf t) (y 0)))
  exact (congrArg₂ (fun g d => dk Q K V C g (key (jOf t) (y 1)) d) (grpOf_feat (gOf t) (y 0)) (featureOf_feat (gOf t) (y 0))).symm

include h0 h1 h3 in
theorem vals_last (t : Fin cfg0.N) (h : t.val % 4 = 3) (X : Vec Ideal S128x768 .f32) (hX : (rdat m c).Leaves 10 t X) (y : S128x768.Idx) :
    X y = ((dvArr Q K C (ValueIdx.ix2 (feat (gOf t) (y 0)) (key (jOf t) (y 1))) : ℝ) : EReal) := by
  refine (vals_left m c Q K C h0 h1 h3 _ t rfl X hX y).trans (congrArg (fun s : ℝ => (s : EReal)) ?_)
  rw [h]
  refine (v_total Q K C (gOf t) (jOf t) (y 0) (y 1)).trans ?_
  show _ = dv Q K C (grpOf (feat (gOf t) (y 0))) (key (jOf t) (y 1)) (featureOf (feat (gOf t) (y 0)))
  exact (congrArg₂ (fun g d => dv Q K C g (key (jOf t) (y 1)) d) (grpOf_feat (gOf t) (y 0)) (featureOf_feat (gOf t) (y 0))).symm

include h0 h1 h2 h3 hL in
theorem dq_array : ((rdat m c).withAfter after).arrAt 8 cfg0.N = (fun i : S8192x1024.Idx => ((dqArr Q K V C i : ℝ) : EReal)) := by
  refine Dat.arrAt_eq_of_covers _ 8 _ (by decide +kernel) fun t hf y => ?_
  blk_simp
  refine (queries_last m c Q K V C h0 h1 h2 h3 t ((flush0_8 t).mp hf) (after 8 t) (hL 8 t hf) y).trans (congrArg (fun i => ((dqArr Q K V C i : ℝ) : EReal)) ?_)
  blk_ext [idx t, col, gOf]

include h0 h1 h2 h3 hL in
theorem dk_array : ((rdat m c).withAfter after).arrAt 9 cfg0.N = (fun i : S512x8448.Idx => ((dkArr Q K V C i : ℝ) : EReal)) := by
  refine Dat.arrAt_eq_of_covers _ 9 _ (by decide +kernel) fun t hf y => ?_
  blk_simp
  refine (keys_last m c Q K V C h0 h1 h2 h3 t ((flush0_9 t).mp hf) (after 9 t) (hL 9 t hf) y).trans (congrArg (fun i => ((dkArr Q K V C i : ℝ) : EReal)) ?_)
  blk_ext [idx t, feat, key, gOf, jOf]

include h0 h1 h3 hL in
theorem dv_array : ((rdat m c).withAfter after).arrAt 10 cfg0.N = (fun i : S512x8448.Idx => ((dvArr Q K C i : ℝ) : EReal)) := by
  refine Dat.arrAt_eq_of_covers _ 10 _ (by decide +kernel) fun t hf y => ?_
  blk_simp
  refine (vals_last m c Q K C h0 h1 h3 t ((flush0_10 t).mp hf) (after 10 t) (hL 10 t hf) y).trans (congrArg (fun i => ((dvArr Q K C i : ℝ) : EReal)) ?_)
  blk_ext [idx t, feat, key, gOf, jOf]

end Cert.FlashArray

end
-- ==== Proof.FlashEq.lean ====
module

public import proofs.«01_k».proof.Defs
public import proofs.«01_k».proof.Proof.FlashRef
public import proofs.«01_k».proof.Proof.FlashArray
public import proofs.«01_k».proof.Proof.Gen.FlashRefIdeal.Read
public import proofs.«01_k».proof.Proof.Gen.FlashRefIdeal.Run
public import proofs.«01_k».proof.Proof.Gen.Pre_flash_finite
@[expose] public section

/-! The attention's backward call: on finite arguments the call and the derivative of reference.py's lines end with equal
    gradients. -/

noncomputable section
open Idealize.ShloMosaic Idealize.SL.Sem Cert.Lift Cert.FlashSpec
open Idealize.ShloMosaic.Rounds
open Idealize.ShloMosaic.Pipeline (RDat)

namespace Cert.FlashEq

/-- What an array's window ends holding: stated of any configuration, so that its window is not opened. -/
theorem out_eq {cfg₁ : Pipeline.Cfg FlashIdeal.sig FlashIdeal.Λ₀} {rdat : (c : Dev FlashIdeal.nD) → RDat FlashIdeal.τ (Elt Ideal) Unit ℕ (UR FlashIdeal.sig FlashIdeal.nD FlashIdeal.τ) ℕ cfg₁ c}
    {V : (c : Dev FlashIdeal.nD) → (b : Ref FlashIdeal.sig .tc) → Buf (Elt Ideal) ((c.tc : Thread FlashIdeal.nD FlashIdeal.τ).loc b)} {r : PUnit × MemSt FlashIdeal.nD FlashIdeal.τ FlashIdeal.sig (Elt Ideal)}
    (h : RDat.FramePost cfg₁ rdat V r) (c : Dev FlashIdeal.nD) (w : Fin cfg₁.W) (G : Buf (Elt Ideal) ((cfg₁.spec w).arr.view.loc (c.tc : Thread FlashIdeal.nD FlashIdeal.τ)))
    (hG : ∀ after : (w' : Fin cfg₁.W) → Fin cfg₁.N → (cfg₁.win w').block.Idx → Elt Ideal (cfg₁.win w').elt,
      (∀ (w : Fin cfg₁.W) (u : Fin cfg₁.N), (cfg₁.win w).flush u = true → (rdat c).Leaves w u (after w u)) → ((rdat c).withAfter after).arrAt w cfg₁.N = G) :
    r.2.mem ((cfg₁.spec w).arr.view.loc (c.tc : Thread FlashIdeal.nD FlashIdeal.τ)) = G := by
  obtain ⟨after, hL, hA⟩ := h.exists_exact c
  exact (hA w).trans (hG after hL)

theorem algebraic : algebraic_FlashIdeal_FlashRefIdeal_pre_flash_finite := by
  intro m g m' g' hpre hargs
  choose p0 p1 p2 p3 using hpre
  have x0 := fun c => exists_real_of_cmp (s := FlashIdeal.S1x8192x8x128) _ _ (fun _ => rfl) (p0 c)
  have x1 := fun c => exists_real_of_cmp (s := FlashIdeal.S1x8448x4x128) _ _ (fun _ => rfl) (p1 c)
  have x2 := fun c => exists_real_of_cmp (s := FlashIdeal.S1x8448x4x128) _ _ (fun _ => rfl) (p2 c)
  have x3 := fun c => exists_real_of_cmp (s := FlashIdeal.S1x8192x1024) _ _ (fun _ => rfl) (p3 c)
  choose Q hQ using x0
  choose K hK using x1
  choose V hV using x2
  choose C hC using x3
  refine ⟨fun c i => ((dqArr (Q c) (K c) (V c) (C c) i : ℝ) : EReal), fun c i => ((dkArr (Q c) (K c) (V c) (C c) i : ℝ) : EReal),
    fun c i => ((dvArr (Q c) (K c) (C c) i : ℝ) : EReal), ?_, ?_⟩
  · refine (θ_run FlashIdeal.defs _ _).mono (fun r h c => ?_) (FlashDat.run (F := Ideal) m g)
    refine ⟨?_, ?_, ?_, ?_⟩
    · exact out_eq h.1 c 8 _ fun after hL => FlashArray.dq_array m c (Q c) (K c) (V c) (C c) (hQ c) (hK c) (hV c) (hC c) after hL
    · exact out_eq h.1 c 9 _ fun after hL => FlashArray.dk_array m c (Q c) (K c) (V c) (C c) (hQ c) (hK c) (hV c) (hC c) after hL
    · exact out_eq h.1 c 10 _ fun after hL => FlashArray.dv_array m c (Q c) (K c) (C c) (hQ c) (hK c) (hC c) after hL
    · exact FlashDat.kept h.1 c
  · refine (θ_run FlashRefIdeal.defs _ _).mono (fun r h c => ?_) (FlashRefIdeal.Value.run (F := Ideal) m' g')
    obtain ⟨a0, a1, a2, a3⟩ := hargs c
    obtain ⟨r0, r1, r2, k⟩ := h c
    rw [FlashRefIdeal.Read.val_main_v65_eq, a0, a1, a2, a3, hQ, hK, hV, hC] at r0
    rw [FlashRefIdeal.Read.val_main_v69_eq, a0, a1, a2, a3, hQ, hK, hV, hC] at r1
    rw [FlashRefIdeal.Read.val_main_v71_eq, a0, a1, a3, hQ, hK, hC] at r2
    exact ⟨r0.trans (funext fun i => FlashRef.v65 _ _ _ _ i), r1.trans (funext fun i => FlashRef.v69 _ _ _ _ i),
      r2.trans (funext fun i => FlashRef.v71 _ _ _ i), k⟩

/-- The reference keeps its arguments and leaves every counter at zero. -/
theorem frameRef (m) (g) : θ_run (FlashRefIdeal.defs (F := Ideal)) (onTc (τ := FlashRefIdeal.τ) (FlashRefIdeal.main (F := Ideal))) ⟨m, fun _ => 0, g⟩ fun r =>
    (∀ c : Dev FlashRefIdeal.nD, r.2.mem ((c.tc : Thread FlashRefIdeal.nD FlashRefIdeal.τ).loc FlashRefIdeal.main_arg0) = m ((c.tc : Thread FlashRefIdeal.nD FlashRefIdeal.τ).loc FlashRefIdeal.main_arg0)
      ∧ r.2.mem ((c.tc : Thread FlashRefIdeal.nD FlashRefIdeal.τ).loc FlashRefIdeal.main_arg1) = m ((c.tc : Thread FlashRefIdeal.nD FlashRefIdeal.τ).loc FlashRefIdeal.main_arg1)
      ∧ r.2.mem ((c.tc : Thread FlashRefIdeal.nD FlashRefIdeal.τ).loc FlashRefIdeal.main_arg2) = m ((c.tc : Thread FlashRefIdeal.nD FlashRefIdeal.τ).loc FlashRefIdeal.main_arg2)
      ∧ r.2.mem ((c.tc : Thread FlashRefIdeal.nD FlashRefIdeal.τ).loc FlashRefIdeal.main_arg3) = m ((c.tc : Thread FlashRefIdeal.nD FlashRefIdeal.τ).loc FlashRefIdeal.main_arg3))
      ∧ r.2.sem = fun _ => 0 :=
  (θ_run FlashRefIdeal.defs _ _).mono (fun r h => ⟨fun c => (h c).2.2.2, sem_eq_zero_of_no_sems (by decide) _⟩) (FlashRefIdeal.Value.run (F := Ideal) m g)

end Cert.FlashEq
end
-- ==== Proof.FlashFrame.lean ====
module

public import proofs.«01_k».proof.Defs
public import proofs.«01_k».proof.Proof.FlashDat
public import proofs.«01_k».proof.Proof.Gen.Flash
public import Idealize.ShloMosaic.Lib.Tactic
@[expose] public section

/-! The attention's backward call as printed is its idealization's own text, so the run at any float operations is its run too. -/

noncomputable section
open Idealize.ShloMosaic Idealize.ShloMosaic.Tactic Idealize.SL.Sem

namespace Cert.FlashFrame

/-- The frame of the idealization's text, read at the float operations of the machine. -/
def Same : Prop :=
  ∀ (m : (ℓ : Loc FlashIdeal.nD FlashIdeal.τ FlashIdeal.sig) → Buf (Elt Bits) ℓ) (g : Dev FlashIdeal.nD → PrngReg),
    (Pre_Flash (m : (ℓ : Loc Flash.nD Flash.τ Flash.sig) → Buf (Elt Bits) ℓ)) →
    θ_run (FlashIdeal.defs (F := Bits)) (onTc (τ := FlashIdeal.τ) (FlashIdeal.main (F := Bits))) ⟨m, fun _ => 0, g⟩ (fun r => (∀ c : Dev FlashIdeal.nD,
      r.2.mem ((c.tc : Thread FlashIdeal.nD FlashIdeal.τ).loc FlashIdeal.main_arg0) = m ((c.tc : Thread FlashIdeal.nD FlashIdeal.τ).loc FlashIdeal.main_arg0)
      ∧ r.2.mem ((c.tc : Thread FlashIdeal.nD FlashIdeal.τ).loc FlashIdeal.main_arg1) = m ((c.tc : Thread FlashIdeal.nD FlashIdeal.τ).loc FlashIdeal.main_arg1)
      ∧ r.2.mem ((c.tc : Thread FlashIdeal.nD FlashIdeal.τ).loc FlashIdeal.main_arg2) = m ((c.tc : Thread FlashIdeal.nD FlashIdeal.τ).loc FlashIdeal.main_arg2)
      ∧ r.2.mem ((c.tc : Thread FlashIdeal.nD FlashIdeal.τ).loc FlashIdeal.main_arg3) = m ((c.tc : Thread FlashIdeal.nD FlashIdeal.τ).loc FlashIdeal.main_arg3))
      ∧ r.2.sem = fun _ => 0)

theorem same : quiescent_Flash (hFlash := Cert.Flash.Gen.facts) = Same := by sl_kernel_rfl

theorem frame : quiescent_Flash (hFlash := Cert.Flash.Gen.facts) := same.symm ▸ fun m g _ => FlashDat.frame (F := Bits) m g

end Cert.FlashFrame
end
-- ==== Proof.AttnSpec.lean ====
module

public import proofs.«01_k».proof.Proof.FlashSpec
@[expose] public section

/-! Attention itself on real arguments: the output of one row, and the logarithm of the row's sum of exponentials in
    units of log 2. A running maximum may be any number: both come out the same for every shift of the scores. -/

noncomputable section
open Idealize.ShloMosaic Cert.Lift Cert.FlashSpec

namespace Cert.AttnSpec

variable (Q : (⟨4, ![1, 8192, 8, 128]⟩ : Shape).Idx → ℝ) (K V : (⟨4, ![1, 8448, 4, 128]⟩ : Shape).Idx → ℝ)
  (g : Fin 4) (r : Fin 2) (i : Fin 8192)

/-- A score in units of log 2. -/
def sg (j : Fin 8448) : ℝ := score Q K g r i j / Real.log 2
/-- The row's output, and its log-sum. -/
def out (d : Fin 128) : ℝ := ∑ j, k V g j d * wt Q K g r i j
def lse : ℝ := (top Q K g r i + Real.log (den Q K g r i)) / Real.log 2

/-- A score's power of two, shifted by any number. -/
def pw (μ : ℝ) (j : Fin 8448) : ℝ := Real.rpow 2 (sg Q K g r i j - μ)

theorem pw_eq (μ : ℝ) (j : Fin 8448) :
    pw Q K g r i μ j = ex Q K g r i j * Real.exp (top Q K g r i - μ * Real.log 2) := by
  have h := log_two_pos.ne'
  show (2 : ℝ) ^ (sg Q K g r i j - μ) = _
  unfold ex sg
  rw [Real.rpow_def_of_pos (by norm_num), ← Real.exp_add]
  congr 1
  field_simp
  ring

theorem sum_pw (μ : ℝ) : ∑ j, pw Q K g r i μ j = den Q K g r i * Real.exp (top Q K g r i - μ * Real.log 2) := by
  simp only [pw_eq, den, Finset.sum_mul]

theorem sum_pw_pos (μ : ℝ) : 0 < ∑ j, pw Q K g r i μ j := by
  rw [sum_pw]; exact mul_pos (den_pos Q K g r i) (Real.exp_pos _)

theorem out_eq (μ : ℝ) (d : Fin 128) : (∑ j, pw Q K g r i μ j * k V g j d) / (∑ j, pw Q K g r i μ j) = out Q K V g r i d := by
  have h := (den_pos Q K g r i).ne'
  have e := (Real.exp_pos (top Q K g r i - μ * Real.log 2)).ne'
  rw [sum_pw, div_eq_iff (mul_ne_zero h e)]
  unfold out
  rw [Finset.sum_mul]
  refine Finset.sum_congr rfl fun j _ => ?_
  rw [pw_eq]; unfold wt; field_simp

theorem lse_eq (μ : ℝ) : μ + Real.log (∑ j, pw Q K g r i μ j) * (Real.log 2)⁻¹ = lse Q K g r i := by
  have h := log_two_pos.ne'
  rw [sum_pw, Real.log_mul (den_pos Q K g r i).ne' (Real.exp_pos _).ne', Real.log_exp]
  unfold lse
  field_simp
  ring

/-- A query in the units the kernel takes it, a score of such queries, and the values beside ones. -/
def qs (d : Fin 128) : ℝ := q Q g r i d * (scale / Real.log 2)
theorem score_qs (j : Fin 8448) : ∑ d, qs Q g r i d * k K g j d = sg Q K g r i j := by
  unfold sg score qs; rw [Finset.sum_mul, Finset.sum_div]
  exact Finset.sum_congr rfl fun d _ => by ring
def col (c : Fin 256) : Fin 128 := ⟨c.val % 128, Nat.mod_lt _ (by decide)⟩
def half (c : Fin 256) : Fin 2 := ⟨c.val / 128, by omega⟩
def w (j : Fin 8448) (c : Fin 256) : ℝ := if c.val < 128 then k V g j (col c) else 1

/-- Row `a` of block `n` of the queries, row `b` of block `n` of the keys. -/
def row (n : ℕ) (a : Fin 1024) : Fin 8192 := ⟨(1024 * n + a.val) % 8192, Nat.mod_lt _ (by decide)⟩
def key (n : ℕ) (b : Fin 768) : Fin 8448 := ⟨(768 * n + b.val) % 8448, Nat.mod_lt _ (by decide)⟩

end Cert.AttnSpec

end
-- ==== Proof.AttnHost.lean ====
module

public import proofs.«01_k».proof.Proof.AttnSpec
public import proofs.«01_k».proof.Proof.FlashHost
public import proofs.«01_k».proof.Proof.Gen.AttnIdeal.Frame
@[expose] public section

/-! What the arrays handed to the forward attention kernel hold on real arguments, and its blocks of them. -/

set_option maxRecDepth 16384

noncomputable section
open Idealize.ShloMosaic Idealize.ShloMosaic.TcCoe Cert.Lift Cert.FlashSpec Cert.AttnSpec
open Cert.AttnIdeal
open Cert.AttnIdeal.Gen

namespace Cert.AttnHost

variable (m : (ℓ : Loc nD τ sig) → Buf (Elt Ideal) ℓ) (c : Dev nD)

/-- The arguments. -/
abbrev a0 : FVec Ideal S1x8192x8x128 .f32 := m ((c : Thread nD τ).loc main_arg0)
abbrev a1 : FVec Ideal S1x8448x4x128 .f32 := m ((c : Thread nD τ).loc main_arg1)
abbrev a2 : FVec Ideal S1x8448x4x128 .f32 := m ((c : Thread nD τ).loc main_arg2)

theorem read_q : V m c main_v9 = truncf .bf16 (FlashHost.hQ (a0 m c)) bitsLt_bf16_f32 := by entry_read; rfl
theorem read_k : V m c main_v11 = truncf .bf16 (shapeCast S8448x512 (a1 m c) shapeCasts_S1x8448x4x128_S8448x512) bitsLt_bf16_f32 := by entry_read; rfl
theorem read_v : V m c main_v12 = truncf .bf16 (FlashHost.hV1 (a2 m c)) bitsLt_bf16_f32 := by entry_read; rfl

variable (Q : S1x8192x8x128.Idx → ℝ) (K V : S1x8448x4x128.Idx → ℝ) (h0 : a0 m c = up Q) (h1 : a1 m c = up K) (h2 : a2 m c = up V)

include h0 in
theorem entry_q (i : S8192x1024.Idx) : Gen.V m c main_v9 i = ((qs Q (grp (i 1)) (place (i 1)) (i 0) (feature (i 1)) : ℝ) : EReal) := by
  rw [read_q, h0]; exact FlashHost.q_real Q i

include h1 in
theorem entry_k (i : S8448x512.Idx) : Gen.V m c main_v11 i = ((k K (grpOf (i 1)) (i 0) (featureOf (i 1)) : ℝ) : EReal) := by
  rw [read_k, h1]; pointwise; rfl

/-- The column's place in its head's 256 columns. -/
def within (n : Fin 1024) : Fin 256 := ⟨n.val % 256, Nat.mod_lt _ (by decide)⟩

theorem one_real (i : S8448x1024.Idx) (h : ¬ (i 1).val % 256 < 128) : FlashHost.hV1 (up V) i = ((1 : ℝ) : EReal) := by
  pointwise [FlashHost.hV1]
  rw [dif_neg h]
  exact EReal.coe_one.symm

include h2 in
theorem entry_v (i : S8448x1024.Idx) : Gen.V m c main_v12 i = ((w V (grp (i 1)) (i 0) (within (i 1)) : ℝ) : EReal) := by
  rw [read_v, h2]
  by_cases h : (i 1).val % 256 < 128
  · refine (FlashHost.v_real V i h).trans (congrArg (fun s : ℝ => (s : EReal)) ?_)
    unfold w
    rw [if_pos (show (within (i 1)).val < 128 from h)]
    exact congrArg (k V (grp (i 1)) (i 0)) (Fin.ext (by show (i 1).val % 128 = (i 1).val % 256 % 128; omega))
  · refine (one_real V i h).trans (congrArg (fun s : ℝ => (s : EReal)) ?_)
    unfold w
    rw [if_neg (show ¬ (within (i 1)).val < 128 from h)]

/-! ## The blocks at one grid point -/

theorem idx : ∀ t : Fin cfg0.N, win0_0.index t = ![t.val / 11 % 8, t.val / 88] ∧ win0_1.index t = ![t.val % 11, t.val / 88] ∧ win0_2.index t = ![t.val % 11, t.val / 88] :=
  (by decide +kernel : ∀ t : Fin grid0.N, _)

/-- The group, block of queries and block of keys of a grid point. -/
def gOf (t : Fin cfg0.N) : Fin 4 := ⟨t.val / 88, by have : t.val < 352 := t.isLt; omega⟩
def iOf (t : Fin cfg0.N) : ℕ := t.val / 11 % 8
def jOf (t : Fin cfg0.N) : ℕ := t.val % 11
def wide (g : Fin 4) (c : Fin 256) : Fin 1024 := ⟨256 * g.val + c.val, by omega⟩
def slim (g : Fin 4) (c : Fin 128) : Fin 512 := ⟨128 * g.val + c.val, by omega⟩

include h0 in
theorem blk_q (t : Fin cfg0.N) (a : Fin 1024) (b : Fin 256) :
    (iblk m c 0 t : Vec Ideal S1024x256 .bf16) (ValueIdx.ix2 a b) = ((qs Q (gOf t) (half b) (row (iOf t) a) (col b) : ℝ) : EReal) := by
  have e : (iblk m c 0 t : Vec Ideal S1024x256 .bf16) (ValueIdx.ix2 a b) = Gen.V m c main_v9 (ValueIdx.ix2 (row (iOf t) a) (wide (gOf t) b)) := by
    blk_simp [iblk]
    refine congrArg (Gen.V m c main_v9) ?_
    blk_ext [idx t, row, iOf, wide, gOf]
    · show _ + a.val = _; omega
    · show _ + b.val = _; omega
  rw [e, entry_q m c Q h0]
  congr 2 <;> (apply Fin.ext; simp [grp, place, feature, wide, half, col] <;> omega)

include h1 in
theorem blk_k (t : Fin cfg0.N) (a : Fin 768) (b : Fin 128) :
    (iblk m c 1 t : Vec Ideal S768x128 .bf16) (ValueIdx.ix2 a b) = ((k K (gOf t) (key (jOf t) a) b : ℝ) : EReal) := by
  have e : (iblk m c 1 t : Vec Ideal S768x128 .bf16) (ValueIdx.ix2 a b) = Gen.V m c main_v11 (ValueIdx.ix2 (key (jOf t) a) (slim (gOf t) b)) := by
    blk_simp [iblk]
    refine congrArg (Gen.V m c main_v11) ?_
    blk_ext [idx t, key, jOf, slim, gOf]
    · show _ + a.val = _; omega
    · show _ + b.val = _; omega
  rw [e, entry_k m c K h1]
  congr 2 <;> (apply Fin.ext; simp [grpOf, featureOf, slim] <;> omega)

include h2 in
theorem blk_v (t : Fin cfg0.N) (a : Fin 768) (b : Fin 256) :
    (iblk m c 2 t : Vec Ideal S768x256 .bf16) (ValueIdx.ix2 a b) = ((w V (gOf t) (key (jOf t) a) b : ℝ) : EReal) := by
  have e : (iblk m c 2 t : Vec Ideal S768x256 .bf16) (ValueIdx.ix2 a b) = Gen.V m c main_v12 (ValueIdx.ix2 (key (jOf t) a) (wide (gOf t) b)) := by
    blk_simp [iblk]
    refine congrArg (Gen.V m c main_v12) ?_
    blk_ext [idx t, key, jOf, wide, gOf]
    · show _ + a.val = _; omega
    · show _ + b.val = _; omega
  rw [e, entry_v m c V h2]
  congr 2 <;> (apply Fin.ext; simp [grp, within, wide] <;> omega)

end Cert.AttnHost

end
-- ==== Proof.AttnBlock.lean ====
module

public import proofs.«01_k».proof.Proof.AttnHost
@[expose] public section

/-! One block of keys: the scores, the running maximum, the rescaled sums, and what the last block writes out.
    The maximum's value is never needed, only that it is a number and the same in every lane of a row. -/

set_option maxRecDepth 16384

noncomputable section
open Idealize.ShloMosaic Idealize.ShloMosaic.TcCoe Cert.Lift Cert.FlashSpec Cert.AttnSpec
open Cert.AttnIdeal
open Cert.AttnIdeal.Gen

namespace Cert.AttnBlock

/-- The second head's lines are the first's. -/
theorem pay17_eq : k0_pay17 (F := Ideal) = k0_pay16 := rfl
theorem pay10_eq : k0_pay10 (F := Ideal) = k0_pay6 := rfl
theorem pay3_eq (A : Vec Ideal S1x1024x256 .f32) (M : Vec Ideal S1x1024x128 .f32) : k0_pay3 (F := Ideal) (k0_pay11 A M) = k0_pay7 A M := rfl
theorem pay1_eq (v : FVec Ideal S768x256 .bf16) (S : Vec Ideal S1x1024x768 .f32) (M : Vec Ideal S1x1024x128 .f32) (A : Vec Ideal S1x1024x256 .f32) :
    k0_pay1 (k0_pay27 (F := Ideal) v S M A) = k0_pay22 v (k0_pay18 S) (k0_pay20 S M) (k0_pay21 S M) A := rfl
theorem pay2_eq (S : Vec Ideal S1x1024x768 .f32) (M : Vec Ideal S1x1024x128 .f32) :
    k0_pay2 (k0_pay26 (F := Ideal) S M) = k0_pay23 (k0_pay20 S M) := rfl

theorem score_real (xk : Vec Ideal S768x128 .bf16) (xq : Vec Ideal S1024x128 .bf16) (fk : Fin 768 → Fin 128 → ℝ) (fq : Fin 1024 → Fin 128 → ℝ)
    (hk : ∀ y, xk y = ((fk (y 0) (y 1) : ℝ) : EReal)) (hq : ∀ y, xq y = ((fq (y 0) (y 1) : ℝ) : EReal)) (y : S1x1024x768.Idx) :
    k0_pay16 (F := Ideal) xk xq y = ((∑ d, fq (y 1) d * fk (y 2) d : ℝ) : EReal) := by
  pointwise [k0_pay16, k0_pay14]
  simp only [hk, hq, mul_coe, sum_coe]
  rfl

variable (S : Vec Ideal S1x1024x768 .f32) (M : Vec Ideal S1x1024x128 .f32) (A : Vec Ideal S1x1024x256 .f32) (v : Vec Ideal S768x256 .bf16)
  (σ : Fin 1024 → Fin 768 → ℝ) (acc : Fin 1024 → Fin 256 → ℝ) (u : Fin 768 → Fin 256 → ℝ)
  (hS : ∀ y, S y = ((σ (y 1) (y 2) : ℝ) : EReal)) (hA : ∀ y, A y = ((acc (y 1) (y 2) : ℝ) : EReal)) (hv : ∀ y, v y = ((u (y 0) (y 1) : ℝ) : EReal))

/-- A power of two. -/
theorem exp2_sub (x y : ℝ) : (FloatOps.exp2 (F := Ideal) (φ := .f32) (((x : ℝ) : EReal) - ((y : ℝ) : EReal)) : EReal) = ((Real.rpow 2 (x - y) : ℝ) : EReal) := by
  rw [sub_coe]; exact Ideal.exp2_coe _
theorem exp2_bot (y : ℝ) : (FloatOps.exp2 (F := Ideal) (φ := .f32) ((⊥ : EReal) - ((y : ℝ) : EReal)) : EReal) = ((0 : ℝ) : EReal) := by
  rw [EReal.bot_sub]; rfl

/-- The greatest of a row's scores is a number. -/
theorem fold_real (f : Fin 768 → ℝ) : ∃ μ : ℝ, (Finset.univ : Finset (Fin 768)).fold max (⊥ : EReal) (fun b => ((f b : ℝ) : EReal)) = (μ : EReal) := by
  obtain ⟨j, -, hj⟩ := Finset.exists_mem_eq_sup (Finset.univ : Finset (Fin 768)) ⟨0, Finset.mem_univ _⟩ (fun b => ((f b : ℝ) : EReal))
  exact ⟨f j, hj⟩

theorem max_read (y : S1024x128.Idx) : k0_pay20 (F := Ideal) S M y
    = max (M (ValueIdx.ix3 0 (y 0) (y 1))) ((Finset.univ : Finset (Fin 768)).fold max (⊥ : EReal) fun b => S (ValueIdx.ix3 0 (y 0) b)) := by
  pointwise [k0_pay20, k0_pay19, k0_pay18]
  rw [cNegInf]
  rfl

include hS in
theorem max_next (μ : Fin 1024 → ℝ) (hM : ∀ y, M y = ((μ (y 1) : ℝ) : EReal)) :
    ∃ ν : Fin 1024 → ℝ, ∀ y, k0_pay20 (F := Ideal) S M y = ((ν (y 0) : ℝ) : EReal) := by
  choose φ hφ using fun a => fold_real (σ a)
  refine ⟨fun a => max (μ a) (φ a), fun y => ?_⟩
  rw [max_read, hM]
  simp only [hS]
  exact (congrArg (max _) (hφ (y 0))).trans (EReal.coe_strictMono.monotone.map_max).symm

include hS in
theorem max_first (hM : ∀ y, M y = (⊥ : EReal)) :
    ∃ ν : Fin 1024 → ℝ, ∀ y, k0_pay20 (F := Ideal) S M y = ((ν (y 0) : ℝ) : EReal) := by
  choose φ hφ using fun a => fold_real (σ a)
  refine ⟨φ, fun y => ?_⟩
  rw [max_read, hM]
  simp only [hS]
  exact (max_bot_left _).trans (hφ (y 0))

theorem shrink_next (μ ν : Fin 1024 → ℝ) (hM : ∀ y, M y = ((μ (y 1) : ℝ) : EReal)) (hN : ∀ y, k0_pay20 (F := Ideal) S M y = ((ν (y 0) : ℝ) : EReal))
    (y : S1024x128.Idx) : k0_pay21 (F := Ideal) S M y = ((Real.rpow 2 (μ (y 0) - ν (y 0)) : ℝ) : EReal) := by
  pointwise [k0_pay21, k0_pay19]
  rw [hM, hN]
  exact exp2_sub _ _

theorem shrink_first (ν : Fin 1024 → ℝ) (hM : ∀ y, M y = (⊥ : EReal)) (hN : ∀ y, k0_pay20 (F := Ideal) S M y = ((ν (y 0) : ℝ) : EReal))
    (y : S1024x128.Idx) : k0_pay21 (F := Ideal) S M y = ((0 : ℝ) : EReal) := by
  pointwise [k0_pay21, k0_pay19]
  rw [hM, hN]
  exact exp2_bot _

theorem keep_real (N : Vec Ideal S1024x128 .f32) (ν : Fin 1024 → ℝ) (hN : ∀ y, N y = ((ν (y 0) : ℝ) : EReal)) (y : S1x1024x128.Idx) :
    k0_pay23 (F := Ideal) N y = ((ν (y 1) : ℝ) : EReal) := by
  pointwise [k0_pay23]
  rw [hN]
  rfl

include hS hA hv in
theorem sum_real (N s : Vec Ideal S1024x128 .f32) (ν ρ : Fin 1024 → ℝ) (hN : ∀ y, N y = ((ν (y 0) : ℝ) : EReal)) (hs : ∀ y, s y = ((ρ (y 0) : ℝ) : EReal))
    (y : S1x1024x256.Idx) : k0_pay22 (F := Ideal) (k0_pay15 v) (k0_pay18 S) N s A y
      = ((ρ (y 1) * acc (y 1) (y 2) + ∑ b, Real.rpow 2 (σ (y 1) b - ν (y 1)) * u b (y 2) : ℝ) : EReal) := by
  obtain rfl : N = fun y => ((ν (y 0) : ℝ) : EReal) := funext hN
  obtain rfl : s = fun y => ((ρ (y 0) : ℝ) : EReal) := funext hs
  pointwise [k0_pay22, k0_pay15, k0_pay18]
  simp only [hS, hA, hv, dite_eq_ite, ite_self]
  refine (congrArg₂ (fun p q : EReal => p + q) (mul_coe _ _) ((Finset.sum_congr rfl fun b _ =>
    (congrArg (fun p : EReal => p * _) (exp2_sub _ _)).trans (mul_coe _ _)).trans (sum_coe _ _))).trans (add_coe _ _)

/-- What the last block writes. -/
theorem out_real (y : S1024x128.Idx) (hA : ∀ y, A y = ((acc (y 1) (y 2) : ℝ) : EReal)) (h0 : acc (y 0) 128 ≠ 0)
    (hc : ∀ c : Fin 256, 128 ≤ c.val → acc (y 0) c = acc (y 0) 128) :
    k0_pay6 (F := Ideal) A y = ((acc (y 0) ⟨(y 1).val, lt_trans (y 1).isLt (by decide)⟩ / acc (y 0) 128 : ℝ) : EReal) := by
  pointwise [k0_pay6, k0_pay4, k0_pay5]
  simp only [hA]
  refine (congrArg (fun p : ℝ => Ideal.div _ ((p : ℝ) : EReal)) (hc ⟨128 + (y 1).val, _⟩ (Nat.le_add_right _ _))).trans ?_
  exact div_coe _ _ h0

theorem named_real : Named.named (F := Ideal) Cert.AttnIdeal.κ "inv_log_two" (φ := .f32) 0x3FB8AA3B#32 = (((Real.log 2)⁻¹ : ℝ) : EReal) :=
  IdealRules.named_const.ideal_named_scalar _ _ _ _ rfl

theorem lse_real (y : S1x1024x1.Idx) (μ : Fin 1024 → ℝ) (hM : ∀ y, M y = ((μ (y 1) : ℝ) : EReal)) (hA : ∀ y, A y = ((acc (y 1) (y 2) : ℝ) : EReal))
    (h0 : 0 < acc (y 1) 128) : k0_pay7 (F := Ideal) A M y = ((μ (y 1) + Real.log (acc (y 1) 128) * (Real.log 2)⁻¹ : ℝ) : EReal) := by
  pointwise [k0_pay7, k0_pay4, k0_pay5]
  simp only [hA, hM]
  have e : Ideal.log ((acc (y 1) 128 : ℝ) : EReal) = ((Real.log (acc (y 1) 128) : ℝ) : EReal) := by
    rw [Ideal.log_coe, if_neg (not_le.mpr h0)]
  exact (congrArg₂ (fun p q : EReal => ((μ (y 1) : ℝ) : EReal) + p * q) e named_real).trans ((congrArg (fun p : EReal => _ + p) (mul_coe _ _)).trans (add_coe _ _))

theorem empty_max (y : S2x1024x128.Idx) : k0_pay12 (F := Ideal) y = (⊥ : EReal) := by
  pointwise [k0_pay12]
  exact cNegInf
theorem empty_sum (y : S2x1024x256.Idx) : k0_pay13 (F := Ideal) y = ((0 : ℝ) : EReal) := by
  pointwise [k0_pay13]
  exact EReal.coe_zero.symm

end Cert.AttnBlock

end
-- ==== Proof.AttnStep.lean ====
module

public import proofs.«01_k».proof.Proof.AttnBlock
public import proofs.«01_k».proof.Proof.Gen.AttnIdeal.Value
@[expose] public section

/-! What one grid point leaves in the kernel's scratch and in its output blocks, head by head. -/

set_option maxRecDepth 16384

noncomputable section
open Idealize.ShloMosaic Idealize.ShloMosaic.TcCoe Idealize.SL.Sem Cert.Lift Cert.FlashSpec Cert.AttnSpec Cert.AttnBlock
open Cert.AttnIdeal
open Cert.AttnIdeal.Gen

namespace Cert.AttnStep

/-! ## Planes of an array of two -/

/-- Plane `r`. -/
def plane {Val : Type} {n k : ℕ} (Z : (⟨3, ![2, n, k]⟩ : Shape).Idx → Val) (r : Fin 2) : (⟨3, ![1, n, k]⟩ : Shape).Idx → Val :=
  fun y => Z (ValueIdx.ix3 r (y 1) (y 2))

theorem ld_plane {e : EltTy} {Val : EltTy → Type} {n k : ℕ} (Z : (⟨3, ![2, n, k]⟩ : Shape).Idx → Val e) (o : ℕ) (r : Fin 2) (ho : o = r.val) (inb) :
    (View.ld Z (Rect.unit (s := ⟨3, ![2, n, k]⟩) ![o, 0, 0] ![1, n, k] inb) : (⟨3, ![1, n, k]⟩ : Shape).Idx → Val e) = plane Z r := by
  funext y
  refine congrArg Z ?_
  funext c; apply Fin.ext
  match c with
  | ⟨0, _⟩ => have : (y 0).val < 1 := (y 0).isLt; show o + 1 * (y 0).val = r.val; omega
  | ⟨1, _⟩ => show 0 + 1 * (y 1).val = (y 1).val; omega
  | ⟨2, _⟩ => show 0 + 1 * (y 2).val = (y 2).val; omega

theorem canon_plane {e : EltTy} {Val : EltTy → Type} [∀ e, Nonempty (Val e)] {n k : ℕ} (r : ℕ) (inb)
    (w : (⟨3, ![1, n, k]⟩ : Shape).Idx → Val e) (L : List (View.Piece Val (⟨3, ![2, n, k]⟩ : Shape) e)) (y : (⟨3, ![2, n, k]⟩ : Shape).Idx) :
    View.canon ((⟨Rect.unit (s := ⟨3, ![2, n, k]⟩) ![r, 0, 0] ![1, n, k] inb, w⟩ : View.Piece Val (⟨3, ![2, n, k]⟩ : Shape) e) :: L) y
      = if (y 0).val = r then w (ValueIdx.ix3 0 (y 1) (y 2)) else View.canon L y := by
  split
  · rename_i h
    have : y = (Rect.unit (s := ⟨3, ![2, n, k]⟩) ![r, 0, 0] ![1, n, k] inb).emb (ValueIdx.ix3 0 (y 1) (y 2)) := by
      funext c; apply Fin.ext
      match c with
      | ⟨0, _⟩ => show (y 0).val = r + 1 * 0; omega
      | ⟨1, _⟩ => show (y 1).val = 0 + 1 * (y 1).val; omega
      | ⟨2, _⟩ => show (y 2).val = 0 + 1 * (y 2).val; omega
    conv_lhs => rw [this]
    exact View.canon_cons_emb (Rect.unit (s := ⟨3, ![2, n, k]⟩) ![r, 0, 0] ![1, n, k] inb) w L _
  · rename_i h
    refine View.canon_cons_of_not_mem _ L fun hm => h ?_
    have := (Rect.mem_set_unit (inb := inb)).mp hm 0
    have h1 : r ≤ (y 0).val := this.1
    have h2 : (y 0).val < r + 1 := this.2
    omega

/-- A load of one plane after a store to a plane, and after a store of the whole array. -/
theorem read_plane {sig : RefSig} {κ : Kind} {sp : Space} {e : EltTy} {Val : EltTy → Type} [∀ e, Nonempty (Val e)] {n k : ℕ}
    (v : View sig κ sp ⟨3, ![2, n, k]⟩ e) (r q : ℕ) (inb inb')
    (w : (⟨3, ![1, n, k]⟩ : Shape).Idx → Val e) (L : List (View.Piece Val (⟨3, ![2, n, k]⟩ : Shape) e)) :
    (v.readCov ((⟨Rect.unit (s := ⟨3, ![2, n, k]⟩) ![r, 0, 0] ![1, n, k] inb, w⟩ : View.Piece Val (⟨3, ![2, n, k]⟩ : Shape) e) :: L)
      (Rect.unit (s := ⟨3, ![2, n, k]⟩) ![q, 0, 0] ![1, n, k] inb').toLoadRect : (⟨3, ![1, n, k]⟩ : Shape).Idx → Val e)
      = if q = r then w else v.readCov L (Rect.unit (s := ⟨3, ![2, n, k]⟩) ![q, 0, 0] ![1, n, k] inb').toLoadRect := by
  split
  · rename_i h
    subst h
    exact View.readCov_cons_toLoadRect v (Rect.unit (s := ⟨3, ![2, n, k]⟩) ![q, 0, 0] ![1, n, k] inb) w L
  · rename_i h
    rw [View.readCov_eq_canon', View.readCov_eq_canon']
    funext j
    refine View.canon_cons_of_not_mem _ L fun hm => h ?_
    have := (Rect.mem_set_unit (inb := inb)).mp hm 0
    have hj : (j 0).val < 1 := (j 0).isLt
    have h1 : r ≤ q + 1 * (j 0).val := this.1
    have h2 : q + 1 * (j 0).val < r + 1 := this.2
    omega

theorem read_fill {sig : RefSig} {κ : Kind} {sp : Space} {e : EltTy} {Val : EltTy → Type} [∀ e, Nonempty (Val e)] {n k : ℕ}
    (v : View sig κ sp ⟨3, ![2, n, k]⟩ e) (q : ℕ) (hq : q < 2) (inb inb')
    (Z : (⟨3, ![2, n, k]⟩ : Shape).Idx → Val e) (L : List (View.Piece Val (⟨3, ![2, n, k]⟩ : Shape) e)) :
    (v.readCov ((⟨Rect.unit (s := ⟨3, ![2, n, k]⟩) ![0, 0, 0] ![2, n, k] inb, Z⟩ : View.Piece Val (⟨3, ![2, n, k]⟩ : Shape) e) :: L)
      (Rect.unit (s := ⟨3, ![2, n, k]⟩) ![q, 0, 0] ![1, n, k] inb').toLoadRect : (⟨3, ![1, n, k]⟩ : Shape).Idx → Val e)
      = plane Z ⟨q, hq⟩ :=
  (View.readCov_fill v inb Z L (Rect.unit (s := ⟨3, ![2, n, k]⟩) ![q, 0, 0] ![1, n, k] inb')
    (fun a => match a with | ⟨0, _⟩ => rfl | ⟨1, _⟩ => rfl | ⟨2, _⟩ => rfl)).trans (ld_plane Z q ⟨q, hq⟩ rfl inb')

/-- A column strip of a block of 256 columns. -/
def strip {Val : Type} {n : ℕ} (Z : (⟨2, ![n, 256]⟩ : Shape).Idx → Val) (r : Fin 2) : (⟨2, ![n, 128]⟩ : Shape).Idx → Val :=
  fun y => Z (ValueIdx.ix2 (y 0) ⟨128 * r.val + (y 1).val, by have : (y 1).val < 128 := (y 1).isLt; omega⟩)

theorem ld_strip {e : EltTy} {Val : EltTy → Type} {n : ℕ} (Z : (⟨2, ![n, 256]⟩ : Shape).Idx → Val e) (o : ℕ) (r : Fin 2) (ho : o = 128 * r.val) (inb) :
    (View.ld Z (Rect.unit (s := ⟨2, ![n, 256]⟩) ![0, o] ![n, 128] inb) : (⟨2, ![n, 128]⟩ : Shape).Idx → Val e) = strip Z r := by
  funext y
  refine congrArg Z ?_
  funext c; apply Fin.ext
  match c with
  | ⟨0, _⟩ => show 0 + 1 * (y 0).val = (y 0).val; omega
  | ⟨1, _⟩ => show o + 1 * (y 1).val = 128 * r.val + (y 1).val; omega

theorem canon_strip {e : EltTy} {Val : EltTy → Type} [∀ e, Nonempty (Val e)] {n : ℕ} (o r : ℕ) (ho : o = 128 * r) (inb)
    (w : (⟨2, ![n, 128]⟩ : Shape).Idx → Val e) (L : List (View.Piece Val (⟨2, ![n, 256]⟩ : Shape) e)) (y : (⟨2, ![n, 256]⟩ : Shape).Idx) :
    View.canon ((⟨Rect.unit (s := ⟨2, ![n, 256]⟩) ![0, o] ![n, 128] inb, w⟩ : View.Piece Val (⟨2, ![n, 256]⟩ : Shape) e) :: L) y
      = if (y 1).val / 128 = r then w (ValueIdx.ix2 (y 0) (col (y 1))) else View.canon L y := by
  split
  · rename_i h
    have : y = (Rect.unit (s := ⟨2, ![n, 256]⟩) ![0, o] ![n, 128] inb).emb (ValueIdx.ix2 (y 0) (col (y 1))) := by
      funext c; apply Fin.ext
      match c with
      | ⟨0, _⟩ => show (y 0).val = 0 + 1 * (y 0).val; omega
      | ⟨1, _⟩ => show (y 1).val = o + 1 * ((y 1).val % 128); omega
    conv_lhs => rw [this]
    exact View.canon_cons_emb (Rect.unit (s := ⟨2, ![n, 256]⟩) ![0, o] ![n, 128] inb) w L _
  · rename_i h
    refine View.canon_cons_of_not_mem _ L fun hm => h ?_
    have := (Rect.mem_set_unit (inb := inb)).mp hm 1
    have h1 : o ≤ (y 1).val := this.1
    have h2 : (y 1).val < o + 128 := this.2
    omega

theorem canon_lane {e : EltTy} {Val : EltTy → Type} [∀ e, Nonempty (Val e)] {n : ℕ} (r : ℕ) (inb)
    (w : (⟨3, ![1, n, 1]⟩ : Shape).Idx → Val e) (L : List (View.Piece Val (⟨3, ![1, n, 2]⟩ : Shape) e)) (y : (⟨3, ![1, n, 2]⟩ : Shape).Idx) :
    View.canon ((⟨Rect.unit (s := ⟨3, ![1, n, 2]⟩) ![0, 0, r] ![1, n, 1] inb, w⟩ : View.Piece Val (⟨3, ![1, n, 2]⟩ : Shape) e) :: L) y
      = if (y 2).val = r then w (ValueIdx.ix3 0 (y 1) 0) else View.canon L y := by
  split
  · rename_i h
    have : y = (Rect.unit (s := ⟨3, ![1, n, 2]⟩) ![0, 0, r] ![1, n, 1] inb).emb (ValueIdx.ix3 0 (y 1) 0) := by
      funext c; apply Fin.ext
      match c with
      | ⟨0, _⟩ => have : (y 0).val < 1 := (y 0).isLt; show (y 0).val = 0 + 1 * 0; omega
      | ⟨1, _⟩ => show (y 1).val = 0 + 1 * (y 1).val; omega
      | ⟨2, _⟩ => show (y 2).val = r + 1 * 0; omega
    conv_lhs => rw [this]
    exact View.canon_cons_emb (Rect.unit (s := ⟨3, ![1, n, 2]⟩) ![0, 0, r] ![1, n, 1] inb) w L _
  · rename_i h
    refine View.canon_cons_of_not_mem _ L fun hm => h ?_
    have := (Rect.mem_set_unit (inb := inb)).mp hm 2
    have h1 : r ≤ (y 2).val := this.1
    have h2 : (y 2).val < r + 1 := this.2
    omega

/-! ## One grid point -/

variable (m : (ℓ : Loc nD τ sig) → Buf (Elt Ideal) ℓ) (c : Dev nD) (t : Fin cfg0.N)

/-- The scores of head `r`, and its new maximum and sums over what the planes held. -/
def sc (r : Fin 2) : Vec Ideal S1x1024x768 .f32 := k0_pay16 (F := Ideal) (iblk m c 1 t) (strip (iblk m c 0 t) r)
def newM (Z : Vec Ideal S2x1024x128 .f32) (r : Fin 2) : Vec Ideal S1x1024x128 .f32 := k0_pay23 (k0_pay20 (F := Ideal) (sc m c t r) (plane Z r))
def newA (Z : Vec Ideal S2x1024x128 .f32) (Y : Vec Ideal S2x1024x256 .f32) (r : Fin 2) : Vec Ideal S1x1024x256 .f32 :=
  k0_pay22 (F := Ideal) (k0_pay15 (iblk m c 2 t)) (k0_pay18 (sc m c t r)) (k0_pay20 (sc m c t r) (plane Z r)) (k0_pay21 (sc m c t r) (plane Z r)) (plane Y r)

theorem m_first (h0 : t.val % 11 = 0) (acc) (y) :
    (Value.stAt0 m c t.val t.isLt acc).2.2.1 y = newM m c t (k0_pay12 (F := Ideal)) (y 0) (ValueIdx.ix3 0 (y 1) (y 2)) := by
  rw [Value.stAt0_A m c t acc h0 (by omega)]
  frame_out
  refine (canon_plane 1 _ _ _ y).trans ?_
  split
  · rename_i h
    have h : y 0 = (1 : Fin 2) := Fin.ext h
    rw [pay2_eq, read_plane, if_pos rfl, read_plane, if_neg (by decide), read_fill _ 1 (by decide), pay17_eq, ld_strip _ 128 1 rfl, h]
    rfl
  · rename_i h
    have h : y 0 = (0 : Fin 2) := Fin.ext (by have : (y 0).val < 2 := (y 0).isLt; show (y 0).val = 0; omega)
    refine (canon_plane 0 _ _ _ y).trans ?_
    rw [if_pos (by rw [h]; rfl)]
    rw [read_plane, if_neg (by decide), read_plane, if_pos rfl, read_fill _ 0 (by decide), ld_strip _ 0 0 rfl, h]
    rfl

theorem a_first (h0 : t.val % 11 = 0) (acc) (y) : (Value.stAt0 m c t.val t.isLt acc).2.2.2 y
    = newA m c t (k0_pay12 (F := Ideal)) (k0_pay13 (F := Ideal)) (y 0) (ValueIdx.ix3 0 (y 1) (y 2)) := by
  rw [Value.stAt0_A m c t acc h0 (by omega)]
  frame_out
  refine (canon_plane 1 _ _ _ y).trans ?_
  split
  · rename_i h
    have h : y 0 = (1 : Fin 2) := Fin.ext h
    rw [pay1_eq, read_plane, if_pos rfl, read_plane, if_neg (by decide), read_fill _ 1 (by decide), read_plane, if_neg (by decide),
      read_fill _ 1 (by decide), pay17_eq, ld_strip _ 128 1 rfl, h]
    rfl
  · rename_i h
    have h : y 0 = (0 : Fin 2) := Fin.ext (by have : (y 0).val < 2 := (y 0).isLt; show (y 0).val = 0; omega)
    refine (canon_plane 0 _ _ _ y).trans ?_
    rw [if_pos (by rw [h]; rfl)]
    rw [read_plane, if_neg (by decide), read_plane, if_pos rfl, read_fill _ 0 (by decide), read_fill _ 0 (by decide), ld_strip _ 0 0 rfl, h]
    rfl

theorem m_next (h0 : ¬ t.val % 11 = 0) (acc) (y) :
    (Value.stAt0 m c t.val t.isLt acc).2.2.1 y = newM m c t acc.2.2.1 (y 0) (ValueIdx.ix3 0 (y 1) (y 2)) := by
  (by_cases h1 : t.val % 11 = 10) <;> [rw [Value.stAt0_C m c t acc h0 h1]; rw [Value.stAt0_B m c t acc h0 h1]] <;>
  · frame_out
    refine (canon_plane 1 _ _ _ y).trans ?_
    split
    · rename_i h
      have h : y 0 = (1 : Fin 2) := Fin.ext h
      rw [pay2_eq, read_plane, if_pos rfl, read_unread_whole, pay17_eq, ld_strip _ 128 1 rfl, ld_plane _ 1 1 rfl, h]
      rfl
    · rename_i h
      have h : y 0 = (0 : Fin 2) := Fin.ext (by have : (y 0).val < 2 := (y 0).isLt; show (y 0).val = 0; omega)
      refine (canon_plane 0 _ _ _ y).trans ?_
      rw [if_pos (by rw [h]; rfl)]
      rw [read_plane, if_neg (by decide), read_plane, if_pos rfl, read_unread_whole, ld_plane _ 0 0 rfl, ld_strip _ 0 0 rfl, h]
      rfl

theorem a_next (h0 : ¬ t.val % 11 = 0) (acc) (y) :
    (Value.stAt0 m c t.val t.isLt acc).2.2.2 y = newA m c t acc.2.2.1 acc.2.2.2 (y 0) (ValueIdx.ix3 0 (y 1) (y 2)) := by
  (by_cases h1 : t.val % 11 = 10) <;> [rw [Value.stAt0_C m c t acc h0 h1]; rw [Value.stAt0_B m c t acc h0 h1]] <;>
  · frame_out
    refine (canon_plane 1 _ _ _ y).trans ?_
    split
    · rename_i h
      have h : y 0 = (1 : Fin 2) := Fin.ext h
      rw [pay1_eq, read_plane, if_pos rfl, read_unread_whole, read_unread_whole, pay17_eq, ld_strip _ 128 1 rfl, ld_plane _ 1 1 rfl, ld_plane _ 1 1 rfl, h]
      rfl
    · rename_i h
      have h : y 0 = (0 : Fin 2) := Fin.ext (by have : (y 0).val < 2 := (y 0).isLt; show (y 0).val = 0; omega)
      refine (canon_plane 0 _ _ _ y).trans ?_
      rw [if_pos (by rw [h]; rfl)]
      rw [read_plane, if_neg (by decide), read_plane, if_pos rfl, read_unread_whole, read_unread_whole, ld_plane _ 0 0 rfl, ld_plane _ 0 0 rfl, ld_strip _ 0 0 rfl, h]
      rfl

theorem o_last (h1 : t.val % 11 = 10) (acc) (y) : (Value.stAt0 m c t.val t.isLt acc).1 y
    = k0_pay6 (F := Ideal) (newA m c t acc.2.2.1 acc.2.2.2 (half (y 1))) (ValueIdx.ix2 (y 0) (col (y 1))) := by
  rw [Value.stAt0_C m c t acc (by omega) h1]
  frame_out
  refine (canon_strip 128 1 rfl _ _ _ y).trans ?_
  split
  · rename_i h
    have h : half (y 1) = 1 := Fin.ext h
    rw [pay10_eq, read_plane, if_pos rfl, pay1_eq, read_plane, if_pos rfl, read_unread_whole, read_unread_whole, pay17_eq, ld_strip _ 128 1 rfl,
      ld_plane _ 1 1 rfl, ld_plane _ 1 1 rfl, h]
    rfl
  · rename_i h
    have h : half (y 1) = 0 := Fin.ext (by have : (y 1).val < 256 := (y 1).isLt; show (y 1).val / 128 = 0; omega)
    refine (canon_strip 0 0 rfl _ _ _ y).trans ?_
    rw [if_pos (show (y 1).val / 128 = 0 from congrArg Fin.val h)]
    rw [read_plane, if_neg (by decide), read_plane, if_pos rfl, read_plane, if_neg (by decide), read_plane, if_pos rfl, read_unread_whole, read_unread_whole,
      ld_plane _ 0 0 rfl, ld_plane _ 0 0 rfl, ld_strip _ 0 0 rfl, h]
    rfl

theorem l_last (h1 : t.val % 11 = 10) (acc) (y) : (Value.stAt0 m c t.val t.isLt acc).2.1 y
    = k0_pay7 (F := Ideal) (newA m c t acc.2.2.1 acc.2.2.2 (y 2)) (newM m c t acc.2.2.1 (y 2)) (ValueIdx.ix3 0 (y 1) 0) := by
  rw [Value.stAt0_C m c t acc (by omega) h1]
  frame_out
  refine (canon_lane 1 _ _ _ y).trans ?_
  split
  · rename_i h
    have h : y 2 = (1 : Fin 2) := Fin.ext h
    rw [pay3_eq, pay1_eq, pay2_eq, pay17_eq]
    simp only [read_plane, if_true, if_neg (show ¬ (1 : ℕ) = 0 by decide), if_neg (show ¬ (0 : ℕ) = 1 by decide), read_unread_whole]
    rw [ld_strip _ 128 1 rfl, ld_plane _ 1 1 rfl, ld_plane _ 1 1 rfl, h]
    rfl
  · rename_i h
    have h : y 2 = (0 : Fin 2) := Fin.ext (by have : (y 2).val < 2 := (y 2).isLt; show (y 2).val = 0; omega)
    refine (canon_lane 0 _ _ _ y).trans ?_
    rw [if_pos (by rw [h]; rfl)]
    simp only [read_plane, if_true, if_neg (show ¬ (1 : ℕ) = 0 by decide), if_neg (show ¬ (0 : ℕ) = 1 by decide), read_unread_whole]
    rw [ld_strip _ 0 0 rfl, ld_plane _ 0 0 rfl, ld_plane _ 0 0 rfl, h]
    rfl

end Cert.AttnStep

end
-- ==== Proof.AttnArray.lean ====
module

public import proofs.«01_k».proof.Proof.AttnStep
@[expose] public section

/-! The running sums over the blocks of keys, and the two arrays the kernel writes. -/

set_option maxRecDepth 16384

noncomputable section
open Idealize.ShloMosaic Idealize.ShloMosaic.TcCoe Idealize.SL.Sem Cert.Lift Cert.FlashSpec Cert.AttnSpec Cert.AttnBlock Cert.AttnHost Cert.AttnStep
open Cert.AttnIdeal
open Cert.AttnIdeal.Gen

namespace Cert.AttnArray

variable (m : (ℓ : Loc nD τ sig) → Buf (Elt Ideal) ℓ) (c : Dev nD)
  (Q : S1x8192x8x128.Idx → ℝ) (K V : S1x8448x4x128.Idx → ℝ) (h0 : a0 m c = up Q) (h1 : a1 m c = up K) (h2 : a2 m c = up V)

/-- One block's part of a row's sum, and the sum over the first `n` blocks. -/
def part (g : Fin 4) (r : Fin 2) (i : Fin 8192) (μ : ℝ) (s : ℕ) (l : Fin 256) : ℝ :=
  ∑ b : Fin 768, Real.rpow 2 (sg Q K g r i (key s b) - μ) * w V g (key s b) l
def upto (g : Fin 4) (r : Fin 2) (i : Fin 8192) (μ : ℝ) (n : ℕ) (l : Fin 256) : ℝ := ∑ s ∈ Finset.range n, part Q K V g r i μ s l

theorem move (x μ ν : ℝ) : Real.rpow 2 (μ - ν) * Real.rpow 2 (x - μ) = Real.rpow 2 (x - ν) := by
  have h := Real.rpow_add (show (0 : ℝ) < 2 by norm_num) (μ - ν) (x - μ)
  rw [show μ - ν + (x - μ) = x - ν by ring] at h
  exact h.symm

theorem upto_move (g : Fin 4) (r : Fin 2) (i : Fin 8192) (μ ν : ℝ) (n : ℕ) (l : Fin 256) :
    Real.rpow 2 (μ - ν) * upto Q K V g r i μ n l = upto Q K V g r i ν n l := by
  unfold upto part
  rw [Finset.mul_sum]
  refine Finset.sum_congr rfl fun s _ => ?_
  rw [Finset.mul_sum]
  exact Finset.sum_congr rfl fun b _ => by rw [← mul_assoc, move]

theorem upto_more (g : Fin 4) (r : Fin 2) (i : Fin 8192) (μ ν : ℝ) (n : ℕ) (l : Fin 256) :
    Real.rpow 2 (μ - ν) * upto Q K V g r i μ n l + part Q K V g r i ν n l = upto Q K V g r i ν (n + 1) l := by
  rw [upto_move]; exact (Finset.sum_range_succ _ _).symm

/-- All the blocks together are all the keys. -/
theorem sum_keys (f : Fin 8448 → ℝ) : ∑ s ∈ Finset.range 11, ∑ b : Fin 768, f (key s b) = ∑ j, f j := by
  rw [Finset.sum_range, ← Fintype.sum_prod_type']
  refine Fintype.sum_equiv (finProdFinEquiv (m := 11) (n := 768)) _ _ fun x => ?_
  refine congrArg f (Fin.ext ?_)
  show (768 * x.1.val + x.2.val) % 8448 = x.2.val + 768 * x.1.val
  omega

theorem pair_eta {n k : ℕ} (y : (⟨2, ![n, k]⟩ : Shape).Idx) : ValueIdx.ix2 (y 0) (y 1) = y :=
  funext fun c => match c with | ⟨0, _⟩ => rfl | ⟨1, _⟩ => rfl

section Point

variable (t : Fin cfg0.N)

include h0 h1 in
theorem sc_real (r : Fin 2) (y : S1x1024x768.Idx) :
    sc m c t r y = ((sg Q K (gOf t) r (row (iOf t) (y 1)) (key (jOf t) (y 2)) : ℝ) : EReal) := by
  refine (score_real (iblk m c 1 t) (strip (iblk m c 0 t) r) (fun b d => k K (gOf t) (key (jOf t) b) d)
    (fun a d => qs Q (gOf t) r (row (iOf t) a) d) (fun y => ?_) (fun y => ?_) y).trans ?_
  · exact (congrArg (iblk m c 1 t : Vec Ideal S768x128 .bf16) (pair_eta y).symm).trans (blk_k m c K h1 t _ _)
  · refine (blk_q m c Q h0 t _ _).trans ?_
    have hy : (y 1).val < 128 := (y 1).isLt
    have e1 : half ⟨128 * r.val + (y 1).val, by omega⟩ = r := Fin.ext (by show (128 * r.val + (y 1).val) / 128 = r.val; omega)
    have e2 : col ⟨128 * r.val + (y 1).val, by omega⟩ = y 1 := Fin.ext (by show (128 * r.val + (y 1).val) % 128 = (y 1).val; omega)
    rw [e1, e2]
  · rw [score_qs]

include h2 in
theorem v_real (y : S768x256.Idx) : (iblk m c 2 t : Vec Ideal S768x256 .bf16) y = ((w V (gOf t) (key (jOf t) (y 0)) (y 1) : ℝ) : EReal) := by
  exact (congrArg (iblk m c 2 t : Vec Ideal S768x256 .bf16) (pair_eta y).symm).trans (blk_v m c V h2 t _ _)

include h0 h1 h2 in
theorem step_next (Z : Vec Ideal S2x1024x128 .f32) (Y : Vec Ideal S2x1024x256 .f32) (μ : Fin 2 → Fin 1024 → ℝ) (acc : Fin 2 → Fin 1024 → Fin 256 → ℝ)
    (hZ : ∀ y, Z y = ((μ (y 0) (y 1) : ℝ) : EReal)) (hY : ∀ y, Y y = ((acc (y 0) (y 1) (y 2) : ℝ) : EReal)) :
    ∃ ν : Fin 2 → Fin 1024 → ℝ, ∀ r, (∀ y, newM m c t Z r y = ((ν r (y 1) : ℝ) : EReal)) ∧
      ∀ y, newA m c t Z Y r y = ((Real.rpow 2 (μ r (y 1) - ν r (y 1)) * acc r (y 1) (y 2)
        + part Q K V (gOf t) r (row (iOf t) (y 1)) (ν r (y 1)) (jOf t) (y 2) : ℝ) : EReal) := by
  have hs := sc_real m c Q K h0 h1 t
  choose ν hν using fun r => max_next (sc m c t r) (plane Z r) (fun a b => sg Q K (gOf t) r (row (iOf t) a) (key (jOf t) b)) (hs r) (μ r) (fun y => hZ _)
  exact ⟨ν, fun r => ⟨keep_real _ _ (hν r), sum_real (sc m c t r) (plane Y r) (iblk m c 2 t) (fun a b => sg Q K (gOf t) r (row (iOf t) a) (key (jOf t) b)) (acc r)
    (fun b l => w V (gOf t) (key (jOf t) b) l) (hs r) (fun y => hY _) (v_real m c V h2 t) _ _ (ν r) (fun a => Real.rpow 2 (μ r a - ν r a)) (hν r)
    (shrink_next _ _ (μ r) (ν r) (fun y => hZ _) (hν r))⟩⟩

include h0 h1 h2 in
theorem step_first (Z : Vec Ideal S2x1024x128 .f32) (Y : Vec Ideal S2x1024x256 .f32)
    (hZ : ∀ y, Z y = (⊥ : EReal)) (hY : ∀ y, Y y = ((0 : ℝ) : EReal)) :
    ∃ ν : Fin 2 → Fin 1024 → ℝ, ∀ r, (∀ y, newM m c t Z r y = ((ν r (y 1) : ℝ) : EReal)) ∧
      ∀ y, newA m c t Z Y r y = ((0 * 0 + part Q K V (gOf t) r (row (iOf t) (y 1)) (ν r (y 1)) (jOf t) (y 2) : ℝ) : EReal) := by
  have hs := sc_real m c Q K h0 h1 t
  choose ν hν using fun r => max_first (sc m c t r) (plane Z r) (fun a b => sg Q K (gOf t) r (row (iOf t) a) (key (jOf t) b)) (hs r) (fun y => hZ _)
  exact ⟨ν, fun r => ⟨keep_real _ _ (hν r), sum_real (sc m c t r) (plane Y r) (iblk m c 2 t) (fun a b => sg Q K (gOf t) r (row (iOf t) a) (key (jOf t) b)) (fun _ _ => 0)
    (fun b l => w V (gOf t) (key (jOf t) b) l) (hs r) (fun y => hY _) (v_real m c V h2 t) _ _ (ν r) (fun _ => 0) (hν r)
    (shrink_first _ _ (ν r) (fun y => hZ _) (hν r))⟩⟩

end Point

/-- What the scratch holds after point `n`. -/
def Holds (n : ℕ) (hn : n < cfg0.N) : Prop := ∃ μ : Fin 2 → Fin 1024 → ℝ,
  (∀ y, (outsAt0 m c n hn).2.2.1 y = ((μ (y 0) (y 1) : ℝ) : EReal)) ∧
  ∀ y, (outsAt0 m c n hn).2.2.2 y = ((upto Q K V (gOf ⟨n, hn⟩) (y 0) (row (iOf ⟨n, hn⟩) (y 1)) (μ (y 0) (y 1)) (n % 11 + 1) (y 2) : ℝ) : EReal)

include h0 h1 h2 in
/-- One more block of the same row of blocks. -/
theorem more (n : ℕ) (hn : n + 1 < cfg0.N) (hm : ¬ (n + 1) % 11 = 0) (h : Holds m c Q K V n (Nat.lt_of_succ_lt hn)) :
    ∃ ν : Fin 2 → Fin 1024 → ℝ, ∀ r, (∀ y, newM m c ⟨n + 1, hn⟩ (outsAt0 m c n (Nat.lt_of_succ_lt hn)).2.2.1 r y = ((ν r (y 1) : ℝ) : EReal)) ∧
      ∀ y, newA m c ⟨n + 1, hn⟩ (outsAt0 m c n (Nat.lt_of_succ_lt hn)).2.2.1 (outsAt0 m c n (Nat.lt_of_succ_lt hn)).2.2.2 r y
        = ((upto Q K V (gOf ⟨n + 1, hn⟩) r (row (iOf ⟨n + 1, hn⟩) (y 1)) (ν r (y 1)) ((n + 1) % 11 + 1) (y 2) : ℝ) : EReal) := by
  obtain ⟨μ, hZ, hY⟩ := h
  obtain ⟨ν, hν⟩ := step_next m c Q K V h0 h1 h2 ⟨n + 1, hn⟩ _ _ μ
    (fun r a l => upto Q K V (gOf ⟨n, Nat.lt_of_succ_lt hn⟩) r (row (iOf ⟨n, Nat.lt_of_succ_lt hn⟩) a) (μ r a) (n % 11 + 1) l) hZ hY
  refine ⟨ν, fun r => ⟨(hν r).1, fun y => ((hν r).2 y).trans (congrArg (fun s : ℝ => (s : EReal)) ?_)⟩⟩
  have eg : gOf (⟨n, Nat.lt_of_succ_lt hn⟩ : Fin cfg0.N) = gOf ⟨n + 1, hn⟩ := Fin.ext (by show n / 88 = (n + 1) / 88; omega)
  have ei : iOf (⟨n, Nat.lt_of_succ_lt hn⟩ : Fin cfg0.N) = iOf ⟨n + 1, hn⟩ := by show n / 11 % 8 = (n + 1) / 11 % 8; omega
  have ej : (n + 1) % 11 = n % 11 + 1 := by omega
  rw [eg, ei, show jOf (⟨n + 1, hn⟩ : Fin cfg0.N) = n % 11 + 1 from ej, ej]
  exact upto_more Q K V _ _ _ _ _ _ _

include h0 h1 h2 in
theorem holds_first (n : ℕ) (hn : n < cfg0.N) (hm : n % 11 = 0) (acc) (e : outsAt0 m c n hn = Value.stAt0 m c n hn acc) : Holds m c Q K V n hn := by
  obtain ⟨ν, hν⟩ := step_first m c Q K V h0 h1 h2 ⟨n, hn⟩ _ _ empty_max empty_sum
  refine ⟨ν, fun y => ?_, fun y => ?_⟩
  · rw [e]; exact (m_first m c ⟨n, hn⟩ hm acc y).trans ((hν (y 0)).1 _)
  · rw [e]; refine ((a_first m c ⟨n, hn⟩ hm acc y).trans ((hν (y 0)).2 _)).trans (congrArg (fun s : ℝ => (s : EReal)) ?_)
    rw [hm, show jOf (⟨n, hn⟩ : Fin cfg0.N) = 0 from hm]
    unfold upto
    rw [Finset.sum_range_one, zero_mul, zero_add]

include h0 h1 h2 in
theorem holds (n : ℕ) (hn : n < cfg0.N) : Holds m c Q K V n hn := by
  induction n with
  | zero => exact holds_first m c Q K V h0 h1 h2 0 hn rfl _ (Value.outsAt0_zero m c hn)
  | succ n ih =>
    by_cases hm : (n + 1) % 11 = 0
    · exact holds_first m c Q K V h0 h1 h2 (n + 1) hn hm _ (Value.outsAt0_succ m c n hn)
    · obtain ⟨ν, hν⟩ := more m c Q K V h0 h1 h2 n hn hm (ih _)
      refine ⟨ν, fun y => ?_, fun y => ?_⟩
      · rw [Value.outsAt0_succ]; exact (m_next m c ⟨n + 1, hn⟩ hm _ y).trans ((hν (y 0)).1 _)
      · rw [Value.outsAt0_succ]; exact (a_next m c ⟨n + 1, hn⟩ hm _ y).trans ((hν (y 0)).2 _)

/-- All the keys' sums. -/
theorem upto_ones (g : Fin 4) (r : Fin 2) (i : Fin 8192) (μ : ℝ) (l : Fin 256) (hl : 128 ≤ l.val) :
    upto Q K V g r i μ 11 l = ∑ j, pw Q K g r i μ j := by
  refine (sum_keys fun j => Real.rpow 2 (sg Q K g r i j - μ) * w V g j l).trans (Finset.sum_congr rfl fun j _ => ?_)
  unfold w pw
  rw [if_neg (not_lt.mpr hl), mul_one]
theorem upto_values (g : Fin 4) (r : Fin 2) (i : Fin 8192) (μ : ℝ) (l : Fin 256) (hl : l.val < 128) :
    upto Q K V g r i μ 11 l = ∑ j, pw Q K g r i μ j * k V g j (col l) := by
  refine (sum_keys fun j => Real.rpow 2 (sg Q K g r i j - μ) * w V g j l).trans (Finset.sum_congr rfl fun j _ => ?_)
  unfold w pw
  rw [if_pos hl]

include h0 h1 h2 in
/-- The last point of a row of blocks writes the output and the logarithm of the sum. -/
theorem last (n : ℕ) (hn : n < cfg0.N) (hm : n % 11 = 10) :
    (∀ y, (outsAt0 m c n hn).1 y = ((out Q K V (gOf ⟨n, hn⟩) (half (y 1)) (row (iOf ⟨n, hn⟩) (y 0)) (col (y 1)) : ℝ) : EReal)) ∧
    ∀ y, (outsAt0 m c n hn).2.1 y = ((lse Q K (gOf ⟨n, hn⟩) (y 2) (row (iOf ⟨n, hn⟩) (y 1)) : ℝ) : EReal) := by
  obtain ⟨k, rfl⟩ : ∃ k, n = k + 1 := ⟨n - 1, by omega⟩
  obtain ⟨ν, hν⟩ := more m c Q K V h0 h1 h2 k hn (by omega) (holds m c Q K V h0 h1 h2 k _)
  rw [hm] at hν
  rw [Value.outsAt0_succ]
  refine ⟨fun y => ?_, fun y => ?_⟩
  · refine (o_last m c ⟨k + 1, hn⟩ hm _ y).trans ?_
    refine (out_real _ (fun a l => upto Q K V (gOf ⟨k + 1, hn⟩) (half (y 1)) (row (iOf ⟨k + 1, hn⟩) a) (ν (half (y 1)) a) 11 l) _ (hν (half (y 1))).2 ?_ ?_).trans ?_
    · exact ((upto_ones Q K V _ _ _ _ 128 (le_refl 128)).trans_ne (sum_pw_pos _ _ _ _ _ _).ne')
    · intro l hl
      exact (upto_ones Q K V _ _ _ _ l hl).trans (upto_ones Q K V _ _ _ _ 128 (le_refl 128)).symm
    · refine congrArg (fun s : ℝ => (s : EReal)) ?_
      refine (congrArg₂ (· / ·) (upto_values Q K V _ _ _ _ _ (show (col (y 1)).val < 128 from (col (y 1)).isLt))
        (upto_ones Q K V _ _ _ _ 128 (le_refl 128))).trans ?_
      refine (out_eq Q K V _ _ _ _ _).trans ?_
      exact congrArg (out Q K V _ _ _) (Fin.ext (by show (y 1).val % 128 % 128 = (y 1).val % 128; omega))
  · refine (l_last m c ⟨k + 1, hn⟩ hm _ y).trans ?_
    refine (lse_real _ _ (fun a l => upto Q K V (gOf ⟨k + 1, hn⟩) (y 2) (row (iOf ⟨k + 1, hn⟩) a) (ν (y 2) a) 11 l) _ (ν (y 2)) (hν (y 2)).1 (hν (y 2)).2 ?_).trans ?_
    · exact lt_of_lt_of_eq (sum_pw_pos _ _ _ _ _ _) (upto_ones Q K V _ _ _ _ 128 (le_refl 128)).symm
    · refine congrArg (fun s : ℝ => (s : EReal)) ?_
      exact (congrArg (fun s : ℝ => _ + Real.log s * (Real.log 2)⁻¹) (upto_ones Q K V _ _ _ _ 128 (le_refl 128))).trans (lse_eq Q K _ _ _ _)

/-! ## The arrays -/

include h0 h1 h2 in
theorem array_o (i : S8192x1024.Idx) : Value.G3 m c i = ((out Q K V (grp (i 1)) (place (i 1)) (i 0) (feature (i 1)) : ℝ) : EReal) := by
  have b0 : (i 0).val < 8192 := (i 0).isLt
  have b1 : (i 1).val < 1024 := (i 1).isLt
  have hp : Value.pt3Of i < cfg0.N := by show 11 * (1 * ((i 0).val / 1024 - 0) + 8 * ((i 1).val / 256 - 0)) + 10 < 352; omega
  unfold Value.G3
  rw [dif_pos hp, ← Value.outsAt0_sweep m c (Value.pt3Of i) hp]
  refine ((last m c Q K V h0 h1 h2 (Value.pt3Of i) hp
    (by show (11 * (1 * ((i 0).val / 1024 - 0) + 8 * ((i 1).val / 256 - 0)) + 10) % 11 = 10; omega)).1 (Value.loc3Of i)).trans (congrArg (fun s : ℝ => (s : EReal)) ?_)
  have e1 : gOf (⟨Value.pt3Of i, hp⟩ : Fin cfg0.N) = grp (i 1) :=
    Fin.ext (by show (11 * (1 * ((i 0).val / 1024 - 0) + 8 * ((i 1).val / 256 - 0)) + 10) / 88 = (i 1).val / 256; omega)
  have e2 : half (Value.loc3Of i 1) = place (i 1) := Fin.ext (by show (i 1).val % 256 / 128 = (i 1).val / 128 % 2; omega)
  have e3 : row (iOf (⟨Value.pt3Of i, hp⟩ : Fin cfg0.N)) (Value.loc3Of i 0) = i 0 :=
    Fin.ext (by show (1024 * ((11 * (1 * ((i 0).val / 1024 - 0) + 8 * ((i 1).val / 256 - 0)) + 10) / 11 % 8) + (i 0).val % 1024) % 8192 = (i 0).val; omega)
  have e4 : col (Value.loc3Of i 1) = feature (i 1) := Fin.ext (by show (i 1).val % 256 % 128 = (i 1).val % 128; omega)
  rw [e1, e2, e3, e4]

include h0 h1 h2 in
theorem array_l (i : S4x8192x2.Idx) : Value.G4 m c i = ((lse Q K (i 0) (i 2) (i 1) : ℝ) : EReal) := by
  have b0 : (i 0).val < 4 := (i 0).isLt
  have b1 : (i 1).val < 8192 := (i 1).isLt
  have b2 : (i 2).val < 2 := (i 2).isLt
  have hp : Value.pt4Of i < cfg0.N := by
    show 11 * (8 * ((i 0).val / 1 - 0) + 1 * ((i 1).val / 1024 - 0) + 1 * ((i 2).val / 2 - 0)) + 10 < 352; omega
  unfold Value.G4
  rw [dif_pos hp, ← Value.outsAt0_sweep m c (Value.pt4Of i) hp]
  refine ((last m c Q K V h0 h1 h2 (Value.pt4Of i) hp
    (by show (11 * (8 * ((i 0).val / 1 - 0) + 1 * ((i 1).val / 1024 - 0) + 1 * ((i 2).val / 2 - 0)) + 10) % 11 = 10; omega)).2 (Value.loc4Of i)).trans (congrArg (fun s : ℝ => (s : EReal)) ?_)
  have e1 : gOf (⟨Value.pt4Of i, hp⟩ : Fin cfg0.N) = i 0 :=
    Fin.ext (by show (11 * (8 * ((i 0).val / 1 - 0) + 1 * ((i 1).val / 1024 - 0) + 1 * ((i 2).val / 2 - 0)) + 10) / 88 = (i 0).val; omega)
  have e2 : Value.loc4Of i 2 = i 2 := Fin.ext (by show (i 2).val % 2 = (i 2).val; omega)
  have e3 : row (iOf (⟨Value.pt4Of i, hp⟩ : Fin cfg0.N)) (Value.loc4Of i 1) = i 1 :=
    Fin.ext (by show (1024 * ((11 * (8 * ((i 0).val / 1 - 0) + 1 * ((i 1).val / 1024 - 0) + 1 * ((i 2).val / 2 - 0)) + 10) / 11 % 8) + (i 1).val % 1024) % 8192 = (i 1).val; omega)
  rw [e1, e2, e3]

end Cert.AttnArray

end
-- ==== Proof.AttnRef.lean ====
module

public import proofs.«01_k».proof.Proof.AttnSpec
public import proofs.«01_k».proof.Proof.Gen.AttnRefIdeal.Read
@[expose] public section

/-! What reference.py's lines for attention compute on real arguments. -/

noncomputable section
open Idealize.ShloMosaic Cert.Lift Cert.FlashSpec Cert.AttnSpec
open Cert.AttnRefIdeal
open Cert.AttnRefIdeal.Read

namespace Cert.AttnRef

variable (Q : S1x8192x8x128.Idx → ℝ) (K V : S1x8448x4x128.Idx → ℝ)

theorem v0 (i : S1x8192x4x2x128.Idx) : val_main_v0 (F := Ideal) (up Q) i = ((q Q (i 2) (i 3) (i 1) (i 4) : ℝ) : EReal) := by
  pointwise [val_main_v0]
  rfl

theorem v4 (i : S1x4x2x8192x8448.Idx) : val_main_v4 (F := Ideal) (up Q) (up K) i = ((score Q K (i 1) (i 2) (i 3) (i 4) : ℝ) : EReal) := by
  pointwise [val_main_v4, val_main_v2, val_main_v1, val_main_v3, val_main_cst]
  simp only [v0, mul_coe, sum_coe, cScale]
  rfl

theorem v5 (i : S1x4x2x8192.Idx) : val_main_v5 (F := Ideal) (up Q) (up K) i = ((top Q K (i 1) (i 2) (i 3) : ℝ) : EReal) := by
  pointwise [val_main_v5, val_main_cst_0]
  simp only [v4, cNegInf]
  exact topE_eq Q K (i 1) (i 2) (i 3)

theorem v7 (i : S1x4x2x8192.Idx) : val_main_v7 (F := Ideal) (up Q) (up K) i = ((top Q K (i 1) (i 2) (i 3) : ℝ) : EReal) := by
  rw [val_main_v7_apply, v5]
  pointwise [val_main_v6, val_main_cst_1]
  rw [cNegInf]
  exact max_bot_left _

theorem v11 (i : S1x4x2x8192x8448.Idx) : val_main_v11 (F := Ideal) (up Q) (up K) i = ((ex Q K (i 1) (i 2) (i 3) (i 4) : ℝ) : EReal) := by
  rw [val_main_v11_apply, val_main_v10_apply, v4, val_main_v9_apply, val_main_v8_apply, v7]
  exact (congrArg Ideal.exp (sub_coe _ _)).trans (Ideal.exp_coe _)

theorem v13 (i : S1x4x2x8192x1.Idx) : val_main_v13 (F := Ideal) (up Q) (up K) i = ((den Q K (i 1) (i 2) (i 3) : ℝ) : EReal) := by
  pointwise [val_main_v13, val_main_v12, val_main_cst_2]
  simp only [v11, sum_coe, c0, add_coe, zero_add]
  rfl

theorem v15 (i : S1x4x2x8192x8448.Idx) : val_main_v15 (F := Ideal) (up Q) (up K) i = ((wt Q K (i 1) (i 2) (i 3) (i 4) : ℝ) : EReal) := by
  pointwise [val_main_v15, val_main_v14]
  rw [v11, v13]
  exact div_coe _ _ (den_pos Q K _ _ _).ne'

theorem v16 (i : S1x4x128x2x8192.Idx) : val_main_v16 (F := Ideal) (up Q) (up K) (up V) i
    = ((out Q K V (i 1) (i 3) (i 4) (i 2) : ℝ) : EReal) := by
  pointwise [val_main_v16]
  simp only [v15, mul_coe, sum_coe]
  refine congrArg (fun s : ℝ => (s : EReal)) (Finset.sum_congr rfl fun t _ => ?_)
  exact congrArg₂ (· * ·) (congrArg (fun a => V (ValueIdx.ix4 a t (i 1) (i 2))) (Subsingleton.elim (α := Fin 1) _ _)) rfl

/-- The output's array, and the log-sums'. -/
theorem v32 (i : S8192x1024.Idx) : val_main_v32 (F := Ideal) (up Q) (up K) (up V) i
    = ((out Q K V (grp (i 1)) (place (i 1)) (i 0) (feature (i 1)) : ℝ) : EReal) := by
  pointwise [val_main_v32, val_main_v18, val_main_v17]
  rw [v16]
  rfl

theorem v20 (i : S4x2x8192.Idx) : val_main_v20 (F := Ideal) (up Q) (up K) i = ((top Q K (i 0) (i 1) (i 2) : ℝ) : EReal) := by
  pointwise [val_main_v20, val_main_v19, val_main_cst_3]
  simp only [v4, cNegInf]
  exact topE_eq Q K (i 0) (i 1) (i 2)

theorem v21 (i : S4x2x8192x8448.Idx) : val_main_v21 (F := Ideal) (up Q) (up K) i = ((score Q K (i 0) (i 1) (i 2) (i 3) : ℝ) : EReal) := by
  pointwise [val_main_v21]
  rw [v4]
  rfl

theorem log_den (g : Fin 4) (r : Fin 2) (i : Fin 8192) : Ideal.log ((den Q K g r i : ℝ) : EReal) = ((Real.log (den Q K g r i) : ℝ) : EReal) := by
  rw [Ideal.log_coe, if_neg (not_le.mpr (den_pos Q K g r i))]

theorem v25 (i : S4x2x8192x8448.Idx) : val_main_v25 (F := Ideal) (up Q) (up K) i = ((ex Q K (i 0) (i 1) (i 2) (i 3) : ℝ) : EReal) := by
  rw [val_main_v25_apply, val_main_v24_apply, v21, val_main_v23_apply, val_main_v22_apply, v20]
  exact (congrArg Ideal.exp (sub_coe _ _)).trans (Ideal.exp_coe _)

theorem v28 (i : S4x2x8192.Idx) : val_main_v28 (F := Ideal) (up Q) (up K) i
    = ((top Q K (i 0) (i 1) (i 2) + Real.log (den Q K (i 0) (i 1) (i 2)) : ℝ) : EReal) := by
  have h : val_main_v26 (F := Ideal) (up Q) (up K) i = ((den Q K (i 0) (i 1) (i 2) : ℝ) : EReal) := by
    pointwise [val_main_v26, val_main_cst_4]
    simp only [v25, sum_coe, c0, add_coe, zero_add]
    rfl
  rw [val_main_v28_apply, val_main_v27_apply, v20, h]
  exact (congrArg (fun z : EReal => ((top Q K (i 0) (i 1) (i 2) : ℝ) : EReal) + z) (log_den Q K (i 0) (i 1) (i 2))).trans (add_coe _ _)

theorem v33 (i : S4x8192x2.Idx) : val_main_v33 (F := Ideal) (up Q) (up K) i = ((lse Q K (i 0) (i 2) (i 1) : ℝ) : EReal) := by
  rw [val_main_v33_apply, val_main_v31_apply, v28]
  pointwise [val_main_v30, val_main_v29, val_main_cst_5]
  rw [c2, log_two]
  exact div_coe _ _ log_two_pos.ne'

end Cert.AttnRef

end
-- ==== Proof.AttnEq.lean ====
module

public import proofs.«01_k».proof.Defs
public import proofs.«01_k».proof.Proof.AttnArray
public import proofs.«01_k».proof.Proof.AttnRef
public import proofs.«01_k».proof.Proof.Gen.AttnRefIdeal.Run
public import proofs.«01_k».proof.Proof.Gen.Pre_attn_finite
@[expose] public section

/-! Attention: on finite arguments the call and reference.py's lines end with equal outputs and log-sums. -/

noncomputable section
open Idealize.ShloMosaic Idealize.SL.Sem Cert.Lift
open Cert.FlashSpec (up)

namespace Cert.AttnEq

theorem algebraic : algebraic_AttnIdeal_AttnRefIdeal_pre_attn_finite := by
  intro m g m' g' hpre hargs
  refine ⟨AttnIdeal.Value.G3 m, AttnIdeal.Value.G4 m, AttnIdeal.Value.run m g, ?_⟩
  refine (θ_run AttnRefIdeal.defs _ _).mono (fun r h c => ?_) (AttnRefIdeal.Value.run (F := Ideal) m' g')
  obtain ⟨a0, a1, a2⟩ := hargs c
  obtain ⟨p0, p1, p2⟩ := hpre c
  obtain ⟨Q, hQ⟩ := exists_real_of_cmp (s := AttnIdeal.S1x8192x8x128) _ _ (fun _ => rfl) p0
  obtain ⟨K, hK⟩ := exists_real_of_cmp (s := AttnIdeal.S1x8448x4x128) _ _ (fun _ => rfl) p1
  obtain ⟨V, hV⟩ := exists_real_of_cmp (s := AttnIdeal.S1x8448x4x128) _ _ (fun _ => rfl) p2
  obtain ⟨r0, r1, k⟩ := h c
  rw [AttnRefIdeal.Read.val_main_v32_eq, a0, a1, a2, hQ, hK, hV] at r0
  rw [AttnRefIdeal.Read.val_main_v33_eq, a0, a1, hQ, hK] at r1
  refine ⟨r0.trans ?_, r1.trans ?_, k⟩
  · funext i
    exact (AttnRef.v32 Q K V i).trans (AttnArray.array_o m c Q K V hQ hK hV i).symm
  · funext i
    exact (AttnRef.v33 Q K i).trans (AttnArray.array_l m c Q K V hQ hK hV i).symm

/-- The reference keeps its arguments and leaves every counter at zero. -/
theorem frameRef (m) (g) : θ_run (AttnRefIdeal.defs (F := Ideal)) (onTc (τ := AttnRefIdeal.τ) (AttnRefIdeal.main (F := Ideal))) ⟨m, fun _ => 0, g⟩ fun r =>
    (∀ c : Dev AttnRefIdeal.nD, r.2.mem ((c.tc : Thread AttnRefIdeal.nD AttnRefIdeal.τ).loc AttnRefIdeal.main_arg0) = m ((c.tc : Thread AttnRefIdeal.nD AttnRefIdeal.τ).loc AttnRefIdeal.main_arg0)
      ∧ r.2.mem ((c.tc : Thread AttnRefIdeal.nD AttnRefIdeal.τ).loc AttnRefIdeal.main_arg1) = m ((c.tc : Thread AttnRefIdeal.nD AttnRefIdeal.τ).loc AttnRefIdeal.main_arg1)
      ∧ r.2.mem ((c.tc : Thread AttnRefIdeal.nD AttnRefIdeal.τ).loc AttnRefIdeal.main_arg2) = m ((c.tc : Thread AttnRefIdeal.nD AttnRefIdeal.τ).loc AttnRefIdeal.main_arg2))
      ∧ r.2.sem = fun _ => 0 :=
  (θ_run AttnRefIdeal.defs _ _).mono (fun r h => ⟨fun c => (h c).2.2, sem_eq_zero_of_no_sems (by decide) _⟩) (AttnRefIdeal.Value.run (F := Ideal) m g)

end Cert.AttnEq
end
-- ==== Proof.CctxArray.lean ====
module

public import proofs.«01_k».proof.Proof.Gen.CctxIdeal.Value
public import proofs.«01_k».proof.Proof.Lift
@[expose] public section

/-! The call cctx_grad: its two results as functions of the arguments. The body adds the eight devices' parts one after another and
    multiplies row 0 by the derivative of silu. -/

noncomputable section
open Idealize.ShloMosaic Idealize.ShloMosaic.TcCoe Cert.Lift
open Cert.CctxIdeal Cert.CctxIdeal.Gen

namespace Cert.CctxArray

/-- The logistic function, and silu's derivative by it. -/
def sg (x : ℝ) : ℝ := 1 / (1 + Real.exp (-x))
def dsilu (x : ℝ) : ℝ := sg x * (1 + x * (1 - sg x))

theorem den_ne (x : ℝ) : 1 + Real.exp (-x) ≠ 0 := by positivity

/-- One device's plane of an array of eight. -/
theorem ld_part {e : EltTy} {Val : EltTy → Type} {n k : ℕ} (Z : (⟨3, ![8, n, k]⟩ : Shape).Idx → Val e) (o : ℕ) (r : Fin 8) (ho : o = r.val) (inb)
    (x : (⟨3, ![1, n, k]⟩ : Shape).Idx) (a : Fin n) (b : Fin k) (ha : (x 1).val = a.val) (hb : (x 2).val = b.val) :
    View.ld Z (Rect.unit (s := ⟨3, ![8, n, k]⟩) ![o, 0, 0] ![1, n, k] inb) x = Z (ValueIdx.ix3 r a b) := by
  refine congrArg Z ?_
  funext c; apply Fin.ext
  match c with
  | ⟨0, _⟩ => have : (x 0).val < 1 := (x 0).isLt; show o + 1 * (x 0).val = r.val; omega
  | ⟨1, _⟩ => show 0 + 1 * (x 1).val = a.val; omega
  | ⟨2, _⟩ => show 0 + 1 * (x 2).val = b.val; omega

variable (m : (ℓ : Loc nD τ sig) → Buf (Elt Ideal) ℓ) (c : Dev nD)

theorem idx : ∀ t : Fin cfg0.N, win0_0.index t = ![0, 0, 0] ∧ win0_1.index t = ![0, 0] ∧ win0_2.index t = ![0, 0, 0]
    ∧ win0_3.index t = ![0, 0] ∧ win0_4.index t = ![0, 0] :=
  (by decide +kernel : ∀ t : Fin grid0.N, _)

theorem blk0 (t : Fin cfg0.N) : (iblk m c 0 t : Vec Ideal S8x8x1024 .f32) = m ((c : Thread nD τ).loc main_arg1) := by
  funext y
  blk_simp [iblk]
  entry_read
  refine congrArg (m ((c : Thread nD τ).loc main_arg1)) ?_
  blk_ext [idx t]

theorem blk2 (t : Fin cfg0.N) : (iblk m c 2 t : Vec Ideal S8x8x128 .f32) = m ((c : Thread nD τ).loc main_arg2) := by
  funext y
  blk_simp [iblk]
  entry_read
  refine congrArg (m ((c : Thread nD τ).loc main_arg2)) ?_
  blk_ext [idx t]

variable (x : S1024.Idx → ℝ) (D : S8x8x1024.Idx → ℝ)
  (hx : m ((c : Thread nD τ).loc main_arg0) = fun i => ((x i : ℝ) : EReal)) (hD : m ((c : Thread nD τ).loc main_arg1) = fun i => ((D i : ℝ) : EReal))

/-- The vector as the one row of a block. -/
def row : Vec Ideal S1x1024 .f32 := fun y => ((x (ValueIdx.ix1 (y 1)) : ℝ) : EReal)

include hx in
theorem blk1 (t : Fin cfg0.N) : (iblk m c 1 t : Vec Ideal S1x1024 .f32) = row x := by
  funext y
  blk_simp [iblk]
  entry_read
  rw [hx]
  pointwise
  refine congrArg (fun i => ((x i : ℝ) : EReal)) ?_
  blk_ext [idx t]

abbrev t0 : Fin cfg0.N := ⟨0, by decide⟩

theorem emb3 (z : S1x1024.Idx) : ((cfg0.win 3).blk t0).view.emb z = z := by
  obtain ⟨_, _, _, e, _⟩ := idx t0
  have e0 : win0_3.index t0 (0 : Fin 2) = 0 := congrFun e 0
  have e1 : win0_3.index t0 (1 : Fin 2) = 0 := congrFun e 1
  funext a; apply Fin.ext
  match a with
  | ⟨0, _⟩ => show win0_3.index t0 (0 : Fin 2) * 1 + 1 * (z 0).val = (z 0).val; omega
  | ⟨1, _⟩ => show win0_3.index t0 (1 : Fin 2) * 1024 + 1 * (z 1).val = (z 1).val; omega

theorem emb4 (z : S8x128.Idx) : ((cfg0.win 4).blk t0).view.emb z = z := by
  obtain ⟨_, _, _, _, e⟩ := idx t0
  have e0 : win0_4.index t0 (0 : Fin 2) = 0 := congrFun e 0
  have e1 : win0_4.index t0 (1 : Fin 2) = 0 := congrFun e 1
  funext a; apply Fin.ext
  match a with
  | ⟨0, _⟩ => show win0_4.index t0 (0 : Fin 2) * 8 + 1 * (z 0).val = (z 0).val; omega
  | ⟨1, _⟩ => show win0_4.index t0 (1 : Fin 2) * 128 + 1 * (z 1).val = (z 1).val; omega

/-- The loss tile: the sum of the devices' tiles. -/
theorem result4 (L : S8x8x128.Idx → EReal) (hL : m ((c : Thread nD τ).loc main_arg2) = L) : ((dats m 0 c).arrAt 4 cfg0.N : Vec Ideal S8x128 .f32)
    = fun i => ∑ k : Fin 8, L (ValueIdx.ix3 k (i 0) (i 1)) := by
  funext y
  have b := congrFun (Value.blocks4 m c t0 rfl) y
  rw [Value.flushed4] at b
  have b' : (dats m 0 c).arrAt 4 cfg0.N (((cfg0.win 4).blk t0).view.emb y) = out0_4 (iblk m c 0 t0) (iblk m c 1 t0) (iblk m c 2 t0) y := b
  rw [emb4] at b'
  refine b'.trans ?_
  unfold out0_4
  refine (Value.canon4_eq _ _ _ _ _ _ _ _ y).trans ?_
  rw [blk2, hL, Fin.sum_univ_eight]
  exact congrArg₂ (· + ·) (congrArg₂ (· + ·) (congrArg₂ (· + ·) (congrArg₂ (· + ·) (congrArg₂ (· + ·) (congrArg₂ (· + ·) (congrArg₂ (· + ·)
    (ld_part _ 0 0 rfl _ _ _ _ rfl rfl) (ld_part _ 1 1 rfl _ _ _ _ rfl rfl)) (ld_part _ 2 2 rfl _ _ _ _ rfl rfl)) (ld_part _ 3 3 rfl _ _ _ _ rfl rfl))
    (ld_part _ 4 4 rfl _ _ _ _ rfl rfl)) (ld_part _ 5 5 rfl _ _ _ _ rfl rfl)) (ld_part _ 6 6 rfl _ _ _ _ rfl rfl)) (ld_part _ 7 7 rfl _ _ _ _ rfl rfl)

/-- The gradient's block, of loads that are real numbers. -/
theorem E3_eq (P0 P1 P2 P3 P4 P5 P6 P7 : Vec Ideal S1x8x1024 .f32) (P8 : Vec Ideal S1x1024 .f32) (y : S1x1024.Idx) (d : Fin 8 → ℝ) (u : ℝ)
    (h0 : P0 (Value.ix3_0 y) = ((d 0 : ℝ) : EReal)) (h1 : P1 (Value.ix3_1 y) = ((d 1 : ℝ) : EReal)) (h2 : P2 (Value.ix3_2 y) = ((d 2 : ℝ) : EReal))
    (h3 : P3 (Value.ix3_3 y) = ((d 3 : ℝ) : EReal)) (h4 : P4 (Value.ix3_4 y) = ((d 4 : ℝ) : EReal)) (h5 : P5 (Value.ix3_5 y) = ((d 5 : ℝ) : EReal))
    (h6 : P6 (Value.ix3_6 y) = ((d 6 : ℝ) : EReal)) (h7 : P7 (Value.ix3_7 y) = ((d 7 : ℝ) : EReal))
    (h8 : P8 (Value.ix3_8 y) = ((u : ℝ) : EReal)) (h9 : P8 (Value.ix3_9 y) = ((u : ℝ) : EReal)) (h10 : P8 (Value.ix3_10 y) = ((u : ℝ) : EReal)) :
    Value.E3 P0 P1 P2 P3 P4 P5 P6 P7 P8 y = (((∑ k : Fin 8, d k) * dsilu u : ℝ) : EReal) := by
  have s : Ideal.div (Ideal.ofBits .f32 0x3F800000#32) (Ideal.ofBits .f32 0x3F800000#32 + Ideal.exp (Ideal.ofBits .f32 0x00000000#32 - (u : EReal)))
      = ((sg u : ℝ) : EReal) := by
    rw [c0, c1, sub_coe, Ideal.exp_coe, add_coe, zero_sub, div_coe _ _ (den_ne _)]; rfl
  refine (congrArg₂ (· * ·) (congrArg₂ (· + ·) (congrArg₂ (· + ·) (congrArg₂ (· + ·) (congrArg₂ (· + ·) (congrArg₂ (· + ·) (congrArg₂ (· + ·) (congrArg₂ (· + ·)
    h0 h1) h2) h3) h4) h5) h6) h7) (congrArg₂ (· * ·) ((congrArg (fun v => Ideal.div (Ideal.ofBits .f32 0x3F800000#32) (Ideal.ofBits .f32 0x3F800000#32
      + Ideal.exp (Ideal.ofBits .f32 0x00000000#32 - v))) h8).trans s) (congrArg₂ (· + ·) c1 (congrArg₂ (· * ·) h9 (congrArg₂ (· - ·) c1
      ((congrArg (fun v => Ideal.div (Ideal.ofBits .f32 0x3F800000#32) (Ideal.ofBits .f32 0x3F800000#32
      + Ideal.exp (Ideal.ofBits .f32 0x00000000#32 - v))) h10).trans s)))))).trans ?_
  rw [Fin.sum_univ_eight]
  simp only [sub_coe, mul_coe, add_coe]
  rfl

include hx hD in
/-- The conditioning vector's gradient. -/
theorem result3 : ((dats m 0 c).arrAt 3 cfg0.N : Vec Ideal S1x1024 .f32)
    = fun i => (((∑ k : Fin 8, D (ValueIdx.ix3 k 0 (i 1))) * dsilu (x (ValueIdx.ix1 (i 1))) : ℝ) : EReal) := by
  funext y
  have b := congrFun (Value.blocks3 m c t0 rfl) y
  rw [Value.flushed3] at b
  have b' : (dats m 0 c).arrAt 3 cfg0.N (((cfg0.win 3).blk t0).view.emb y) = out0_3 (iblk m c 0 t0) (iblk m c 1 t0) (iblk m c 2 t0) y := b
  rw [emb3] at b'
  refine b'.trans ?_
  unfold out0_3
  refine (Value.canon3_eq _ _ _ _ _ _ _ _ _ y).trans ?_
  rw [blk0, hD, blk1 m c x hx]
  have lx : ∀ z : S1x1024.Idx, (z 1).val = (y 1).val → View.ld (row x) r0_16 z = ((x (ValueIdx.ix1 (y 1)) : ℝ) : EReal) := fun z h =>
    congrArg (fun a => ((x (ValueIdx.ix1 a) : ℝ) : EReal)) (Fin.ext (by show 0 + 1 * (z 1).val = (y 1).val; omega))
  exact E3_eq _ _ _ _ _ _ _ _ _ y (fun k => D (ValueIdx.ix3 k 0 (y 1))) _
    (ld_part _ 0 0 rfl _ _ 0 (y 1) rfl rfl) (ld_part _ 1 1 rfl _ _ 0 (y 1) rfl rfl) (ld_part _ 2 2 rfl _ _ 0 (y 1) rfl rfl)
    (ld_part _ 3 3 rfl _ _ 0 (y 1) rfl rfl) (ld_part _ 4 4 rfl _ _ 0 (y 1) rfl rfl) (ld_part _ 5 5 rfl _ _ 0 (y 1) rfl rfl)
    (ld_part _ 6 6 rfl _ _ 0 (y 1) rfl rfl) (ld_part _ 7 7 rfl _ _ 0 (y 1) rfl rfl) (lx _ rfl) (lx _ rfl) (lx _ rfl)

end Cert.CctxArray
end
-- ==== Proof.CctxEq.lean ====
module

public import proofs.«01_k».proof.Defs
public import proofs.«01_k».proof.Proof.CctxArray
public import proofs.«01_k».proof.Proof.Gen.CctxRefIdeal.Read
public import proofs.«01_k».proof.Proof.Gen.Pre_cctx_finite
@[expose] public section

/-! The call cctx_grad: what the derivative of reference.py's silu computes, and that the call ends with the same. -/

noncomputable section
open Idealize.ShloMosaic Idealize.SL.Sem Cert.Lift
open Cert.CctxRefIdeal Cert.CctxRefIdeal.Read
open Cert.CctxArray (sg dsilu den_ne)

namespace Cert.CctxEq

/-- An array of reals as the ideal array it stands for. -/
abbrev up {s : Shape} (f : s.Idx → ℝ) : (⟨s, .f32⟩ : BufTy).Contents (Elt Ideal) := fun i => ((f i : ℝ) : EReal)

variable (x : S1024.Idx → ℝ) (D : S8x8x1024.Idx → ℝ)

theorem v0 (i : S1024.Idx) : val_main_v0_2 (F := Ideal) (up x) i = ((sg (x i) : ℝ) : EReal) := by
  pointwise [val_main_v0_2, val_main_call0_v4, val_main_call0_cst_0, val_main_call0_v3, val_main_call0_v2, val_main_call0_cst, val_main_call0_v1, val_main_call0_v0]
  rw [← EReal.coe_one, neg_coe, Ideal.exp_coe, add_coe, div_coe _ _ (den_ne _)]
  rfl

theorem v2 (a : Fin 8) (b : Fin 1024) : val_main_v2 (F := Ideal) (up D) (ValueIdx.ix2 a b) = ((∑ k : Fin 8, D (ValueIdx.ix3 k a b) : ℝ) : EReal) := by
  rw [val_main_v2_apply]
  pointwise [val_main_cst]
  simp only [sum_coe, add_coe, zero_add]
  refine congrArg (fun s : ℝ => (s : EReal)) (Finset.sum_congr rfl fun k _ => congrArg D (funext fun a => ?_))
  match a with
  | ⟨0, _⟩ => rfl
  | ⟨1, _⟩ => rfl
  | ⟨2, _⟩ => rfl

theorem v4 (b : Fin 1024) : val_main_v4 (F := Ideal) (up D) (ValueIdx.ix1 b) = ((∑ k : Fin 8, D (ValueIdx.ix3 k 0 b) : ℝ) : EReal) := by
  have e : idx_main_v3 (idx_main_v4 (ValueIdx.ix1 b) 0) = ValueIdx.ix2 0 b := funext fun a => match a with
    | ⟨0, _⟩ => rfl
    | ⟨1, _⟩ => rfl
  rw [val_main_v4_apply, Fin.sum_univ_one, val_main_v3_apply, e, v2]
  pointwise [val_main_cst_0]

theorem v6 (i : S1x1024.Idx) : val_main_v6 (F := Ideal) (up x) (up D) i
    = (((∑ k : Fin 8, D (ValueIdx.ix3 k 0 (i 1))) * dsilu (x (ValueIdx.ix1 (i 1))) : ℝ) : EReal) := by
  rw [val_main_v6_apply]
  have e : idx_main_v6 i = ValueIdx.ix1 (i 1) := by
    funext a; apply Fin.ext
    have h0 : (i 0).val < 1 := (i 0).isLt
    match a with
    | ⟨0, _⟩ => show (i 0).val * 1024 + (i 1).val = (i 1).val; omega
  rw [e]
  pointwise [val_main_v5, val_main_call1_v1, val_main_call1_v2, val_main_call1_v0, val_main_v0_1, val_main_call0_v7, val_main_call0_v6, val_main_call0_cst_1]
  rw [v0, v4 D (i 1), ← EReal.coe_one]
  simp only [sub_coe, mul_coe, add_coe]
  refine congrArg (fun s : ℝ => (s : EReal)) ?_
  unfold dsilu
  ring

theorem v7 (L : S8x8x128.Idx → EReal) (i : S8x128.Idx) : val_main_v7 (F := Ideal) L i = ∑ k : Fin 8, L (ValueIdx.ix3 k (i 0) (i 1)) := by
  rw [val_main_v7_apply]
  pointwise [val_main_cst_1]
  refine Finset.sum_congr rfl fun k _ => congrArg L (funext fun a => ?_)
  match a with
  | ⟨0, _⟩ => rfl
  | ⟨1, _⟩ => rfl
  | ⟨2, _⟩ => rfl

theorem algebraic : algebraic_CctxIdeal_CctxRefIdeal_pre_cctx_finite := by
  intro m g m' g' hpre hargs
  refine ⟨fun c => (CctxIdeal.Gen.dats m 0 c).arrAt 3 CctxIdeal.cfg0.N, fun c => (CctxIdeal.Gen.dats m 0 c).arrAt 4 CctxIdeal.cfg0.N, CctxIdeal.Value.run_blocks m g, ?_⟩
  refine (θ_run CctxRefIdeal.defs _ _).mono (fun r h c => ?_) (CctxRefIdeal.Value.run (F := Ideal) m' g')
  obtain ⟨a0, a1, a2⟩ := hargs c
  obtain ⟨p0, p1⟩ := hpre c
  obtain ⟨x, hx⟩ := exists_real_of_cmp (s := CctxIdeal.S1024) _ _ (fun _ => rfl) p0
  obtain ⟨D, hD⟩ := exists_real_of_cmp (s := CctxIdeal.S8x8x1024) _ _ (fun _ => rfl) p1
  obtain ⟨r0, r1, k⟩ := h c
  rw [CctxRefIdeal.Read.val_main_v6_eq, a0, a1, hx, hD] at r0
  rw [CctxRefIdeal.Read.val_main_v7_eq, a2] at r1
  refine ⟨r0.trans ?_, r1.trans ?_, k⟩
  · exact (funext fun i => v6 x D i).trans (CctxArray.result3 m c x D hx hD).symm
  · exact (funext fun i => v7 _ i).trans (CctxArray.result4 m c _ rfl).symm

/-- The reference keeps its arguments and leaves every counter at zero. -/
theorem frameRef (m) (g) : θ_run (CctxRefIdeal.defs (F := Ideal)) (onTc (τ := CctxRefIdeal.τ) (CctxRefIdeal.main (F := Ideal))) ⟨m, fun _ => 0, g⟩ fun r =>
    (∀ c : Dev CctxRefIdeal.nD, r.2.mem ((c.tc : Thread CctxRefIdeal.nD CctxRefIdeal.τ).loc CctxRefIdeal.main_arg0) = m ((c.tc : Thread CctxRefIdeal.nD CctxRefIdeal.τ).loc CctxRefIdeal.main_arg0)
      ∧ r.2.mem ((c.tc : Thread CctxRefIdeal.nD CctxRefIdeal.τ).loc CctxRefIdeal.main_arg1) = m ((c.tc : Thread CctxRefIdeal.nD CctxRefIdeal.τ).loc CctxRefIdeal.main_arg1)
      ∧ r.2.mem ((c.tc : Thread CctxRefIdeal.nD CctxRefIdeal.τ).loc CctxRefIdeal.main_arg2) = m ((c.tc : Thread CctxRefIdeal.nD CctxRefIdeal.τ).loc CctxRefIdeal.main_arg2))
      ∧ r.2.sem = fun _ => 0 :=
  (θ_run CctxRefIdeal.defs _ _).mono (fun r h => ⟨fun c => (h c).2.2, sem_eq_zero_of_no_sems (by decide) _⟩) (CctxRefIdeal.Value.run (F := Ideal) m g)

end Cert.CctxEq
end
-- ==== Proof.AdaArray.lean ====
module

public import proofs.«01_k».proof.Proof.Gen.AdaIdeal.Value
public import proofs.«01_k».proof.Proof.Lift
public import proofs.«01_k».proof.Proof.CctxArray
@[expose] public section

/-! The call ada_grads: its two results as functions of the arguments. A point handles one layer: it stacks the eight samples' rows above
    the context's row and multiplies their transpose with the stacked cotangents; the context's cotangent times the layer's matrix is
    added to the second result. -/

noncomputable section
open Idealize.ShloMosaic Idealize.ShloMosaic.TcCoe Cert.Lift
open Cert.AdaIdeal Cert.AdaIdeal.Gen
open Cert.CctxArray (sg den_ne)

namespace Cert.AdaArray

/-- silu of a real number. -/
def silu (x : ℝ) : ℝ := x * sg x

theorem sg_coe (u : ℝ) : Ideal.div (Ideal.ofBits .f32 0x3F800000#32) (Ideal.ofBits .f32 0x3F800000#32 + Ideal.exp (Ideal.ofBits .f32 0x00000000#32 - (u : EReal)))
    = ((sg u : ℝ) : EReal) := by
  rw [c0, c1, sub_coe, Ideal.exp_coe, add_coe, zero_sub, div_coe _ _ (den_ne _)]; rfl

/-- The masks of the sixteen rows: the context's row, and the rows up to it. -/
theorem select_eight {α : Type} (n : Fin 16) (a b : α) :
    Scalar.select (IntOp.cmpi .eq (BitVec.ofNat 32 n.val) 8#32) a b = if n.val = 8 then a else b := by fin_cases n <;> rfl
theorem select_upto {α : Type} (n : Fin 16) (a b : α) :
    Scalar.select (IntOp.cmpi .sle (BitVec.ofNat 32 n.val) 8#32) a b = if n.val ≤ 8 then a else b := by fin_cases n <;> rfl

variable (C : Fin 8 → Fin 1024 → ℝ) (X : Fin 1024 → ℝ) (W : Fin 1024 → Fin 768 → ℝ) (A B : Fin 8 → Fin 768 → ℝ)

/-- The sixteen rows before and after silu. -/
def pre (r : Fin 16) (d : Fin 1024) : ℝ := if r.val = 8 then X d else if h : r.val < 8 then C ⟨r.val, h⟩ d else 0
def rows (r : Fin 16) (d : Fin 1024) : ℝ := if r.val ≤ 8 then silu (pre C X r d) else 0

theorem silu_coe (u : ℝ) : (u : EReal) * Ideal.div 1 (1 + Ideal.exp (0 - (u : EReal))) = ((silu u : ℝ) : EReal) := by
  rw [← EReal.coe_one, ← EReal.coe_zero, sub_coe, Ideal.exp_coe, add_coe, zero_sub, div_coe _ _ (den_ne _), mul_coe]; rfl

theorem pay2 : k0_pay2 (F := Ideal) (fun y => ((C (y 0) (y 1) : ℝ) : EReal)) (fun y => ((X (y 1) : ℝ) : EReal))
    = fun y => ((rows C X (y 0) (y 1) : ℝ) : EReal) := by
  funext y
  have e : (if (y 0).val = 8 then ((X (y 1) : ℝ) : EReal) else if h : (y 0).val < 8 then ((C ⟨(y 0).val, h⟩ (y 1) : ℝ) : EReal) else 0)
      = ((pre C X (y 0) (y 1) : ℝ) : EReal) := by
    unfold pre; split
    · rfl
    · split <;> rfl
  pointwise [k0_pay2]
  rw [select_upto (y 0), select_eight (y 0), e, silu_coe]
  unfold rows
  split <;> rfl

theorem pay4 : k0_pay4 (F := Ideal) (k0_pay3 (fun y => ((B 0 (y 2) : ℝ) : EReal)) (fun y => ((B 1 (y 2) : ℝ) : EReal)) (fun y => ((B 2 (y 2) : ℝ) : EReal))
      (fun y => ((B 3 (y 2) : ℝ) : EReal))) (fun y => ((B 4 (y 2) : ℝ) : EReal)) (fun y => ((B 5 (y 2) : ℝ) : EReal)) (fun y => ((B 6 (y 2) : ℝ) : EReal))
      (fun y => ((B 7 (y 2) : ℝ) : EReal))
    = fun y => ((if (y 0).val = 0 then ∑ k, B k (y 1) else 0 : ℝ) : EReal) := by
  funext y
  pointwise [k0_pay4, k0_pay3]
  rw [select_row _ (lt_trans (y 0).isLt (by decide)), Fin.sum_univ_eight]
  simp only [add_coe]
  split <;> rfl

/-- One layer's gradient: the samples' products and the context's. -/
def dw (d : Fin 1024) (n : Fin 768) : ℝ := (∑ r : Fin 8, silu (C r d) * A r n) + silu (X d) * ∑ r, B r n

theorem rows_low (r : Fin 8) (h : r.val < 16) (d : Fin 1024) : rows C X ⟨r.val, h⟩ d = silu (C r d) := by
  have hr : r.val < 8 := r.isLt
  unfold rows pre
  dsimp only
  rw [if_pos (by omega), if_neg (by omega), dif_pos hr]
theorem rows_eight (h : 8 + (0 : Fin 8).val < 16) (d : Fin 1024) : rows C X ⟨8 + (0 : Fin 8).val, h⟩ d = silu (X d) := rfl

theorem sum_first (h : Fin 8 → ℝ) (v : ℝ) : ∑ r : Fin 8, h r * (if r.val = 0 then v else 0) = h 0 * v := by
  rw [Finset.sum_eq_single (0 : Fin 8) (fun r _ hr => by rw [if_neg (show ¬ r.val = 0 from fun e => hr (Fin.ext e)), mul_zero]) (fun h => absurd (Finset.mem_univ _) h),
    if_pos (show ((0 : Fin 8) : ℕ) = 0 from rfl)]

theorem pay5 (P : FVec Ideal S16x1024 .f32) (hP : P = fun y => ((rows C X (y 0) (y 1) : ℝ) : EReal)) (V : FVec Ideal S1x768 .f32) (v4 v5 v6 v7 : Vec Ideal S1x1x768 .f32)
    (h : k0_pay4 (F := Ideal) V v4 v5 v6 v7 = fun y => ((if (y 0).val = 0 then ∑ k, B k (y 1) else 0 : ℝ) : EReal)) :
    k0_pay5 (F := Ideal) P V v4 v5 v6 v7 (fun y => ((A (y 1) (y 2) : ℝ) : EReal))
    = fun y => ((dw C X A B (y 1) (y 2) : ℝ) : EReal) := by
  funext y
  unfold k0_pay5
  rw [h, hP]
  pointwise
  simp only [rows_low, mul_coe, sum_coe, add_coe]
  refine congrArg (fun s : ℝ => (s : EReal)) (congrArg₂ (· + ·) rfl ?_)
  exact sum_first _ _

/-- One layer's share of the conditioning's gradient. -/
def ds (d : Fin 1024) : ℝ := ∑ n, (∑ k, B k n) * W d n

theorem pay6 (V : FVec Ideal S1x768 .f32) (v4 v5 v6 v7 : Vec Ideal S1x1x768 .f32)
    (h : k0_pay4 (F := Ideal) V v4 v5 v6 v7 = fun y => ((if (y 0).val = 0 then ∑ k, B k (y 1) else 0 : ℝ) : EReal)) :
    k0_pay6 (F := Ideal) V v4 v5 v6 v7 (fun y => ((W (y 1) (y 2) : ℝ) : EReal))
    = fun y => ((if (y 0).val = 0 then ds W B (y 1) else 0 : ℝ) : EReal) := by
  funext y
  unfold k0_pay6
  rw [h]
  pointwise
  simp only [mul_coe, sum_coe]
  refine congrArg (fun s : ℝ => (s : EReal)) ?_
  split
  · rfl
  · simp

/-- One row of a block's eight. -/
theorem ld_lane {e : EltTy} {Val : EltTy → Type} {k : ℕ} (Z : (⟨3, ![1, 8, k]⟩ : Shape).Idx → Val e) (o : ℕ) (r : Fin 8) (ho : o = r.val) (inb) :
    View.ld Z (Rect.unit (s := ⟨3, ![1, 8, k]⟩) ![0, o, 0] ![1, 1, k] inb) = fun z => Z (ValueIdx.ix3 0 r (z 2)) := by
  funext x
  refine congrArg Z ?_
  funext c; apply Fin.ext
  match c with
  | ⟨0, _⟩ => have : (x 0).val < 1 := (x 0).isLt; show 0 + 1 * (x 0).val = 0; omega
  | ⟨1, _⟩ => have : (x 1).val < 1 := (x 1).isLt; show o + 1 * (x 1).val = r.val; omega
  | ⟨2, _⟩ => show 0 + 1 * (x 2).val = (x 2).val; omega

/-- The context's cotangent of one layer: the sum of the block's eight rows, in row 0. -/
theorem csum : k0_pay4 (F := Ideal)
      (k0_pay3 (View.ld (fun y : S1x8x768.Idx => ((B (y 1) (y 2) : ℝ) : EReal)) (Rect.unit ![0, 0, 0] ![1, 1, 768] inb_S1x8x768_S1x1x768_0_0_0))
        (View.ld (fun y : S1x8x768.Idx => ((B (y 1) (y 2) : ℝ) : EReal)) (Rect.unit ![0, 1, 0] ![1, 1, 768] inb_S1x8x768_S1x1x768_0_1_0))
        (View.ld (fun y : S1x8x768.Idx => ((B (y 1) (y 2) : ℝ) : EReal)) (Rect.unit ![0, 2, 0] ![1, 1, 768] inb_S1x8x768_S1x1x768_0_2_0))
        (View.ld (fun y : S1x8x768.Idx => ((B (y 1) (y 2) : ℝ) : EReal)) (Rect.unit ![0, 3, 0] ![1, 1, 768] inb_S1x8x768_S1x1x768_0_3_0)))
      (View.ld (fun y : S1x8x768.Idx => ((B (y 1) (y 2) : ℝ) : EReal)) (Rect.unit ![0, 4, 0] ![1, 1, 768] inb_S1x8x768_S1x1x768_0_4_0))
      (View.ld (fun y : S1x8x768.Idx => ((B (y 1) (y 2) : ℝ) : EReal)) (Rect.unit ![0, 5, 0] ![1, 1, 768] inb_S1x8x768_S1x1x768_0_5_0))
      (View.ld (fun y : S1x8x768.Idx => ((B (y 1) (y 2) : ℝ) : EReal)) (Rect.unit ![0, 6, 0] ![1, 1, 768] inb_S1x8x768_S1x1x768_0_6_0))
      (View.ld (fun y : S1x8x768.Idx => ((B (y 1) (y 2) : ℝ) : EReal)) (Rect.unit ![0, 7, 0] ![1, 1, 768] inb_S1x8x768_S1x1x768_0_7_0))
    = fun y => ((if (y 0).val = 0 then ∑ k, B k (y 1) else 0 : ℝ) : EReal) := by
  refine Eq.trans ?_ (pay4 B)
  rw [ld_lane (Val := Elt Ideal) (e := .f32) _ 0 0 rfl, ld_lane (Val := Elt Ideal) (e := .f32) _ 1 1 rfl, ld_lane (Val := Elt Ideal) (e := .f32) _ 2 2 rfl, ld_lane (Val := Elt Ideal) (e := .f32) _ 3 3 rfl, ld_lane (Val := Elt Ideal) (e := .f32) _ 4 4 rfl, ld_lane (Val := Elt Ideal) (e := .f32) _ 5 5 rfl,
    ld_lane (Val := Elt Ideal) (e := .f32) _ 6 6 rfl, ld_lane (Val := Elt Ideal) (e := .f32) _ 7 7 rfl]
  rfl

theorem pay1 (P : FVec Ideal S8x1024 .f32) (Q : Vec Ideal S8x1024 .f32) (i : S8x1024.Idx) : k0_pay1 (F := Ideal) P Q i = Q i + P i := by
  pointwise [k0_pay1]
theorem pay7 (i : S8x1024.Idx) : k0_pay7 (F := Ideal) i = ((0 : ℝ) : EReal) := by
  pointwise [k0_pay7]
  rfl

variable (m : (ℓ : Loc nD τ sig) → Buf (Elt Ideal) ℓ) (c : Dev nD)

theorem idx : ∀ t : Fin cfg0.N, win0_0.index t = ![0, 0] ∧ win0_1.index t = ![0, 0] ∧ win0_2.index t = ![t.val, 0, 0]
    ∧ win0_3.index t = ![t.val, 0, 0] ∧ win0_4.index t = ![t.val, 0, 0] ∧ win0_5.index t = ![t.val, 0, 0] ∧ win0_6.index t = ![0, 0] :=
  (by decide +kernel : ∀ t : Fin grid0.N, _)

/-- The layer a point handles. -/
def lay (n : ℕ) : Fin 4 := ⟨n % 4, Nat.mod_lt _ (by decide)⟩

section
variable (cc : S8x1024.Idx → ℝ) (x : S1024.Idx → ℝ) (w : S4x1024x768.Idx → ℝ) (a b : S4x8x768.Idx → ℝ)
  (hc : m ((c : Thread nD τ).loc main_arg0) = fun i => ((cc i : ℝ) : EReal)) (hx : m ((c : Thread nD τ).loc main_arg1) = fun i => ((x i : ℝ) : EReal))
  (hw : m ((c : Thread nD τ).loc main_arg2) = fun i => ((w i : ℝ) : EReal)) (ha : m ((c : Thread nD τ).loc main_arg3) = fun i => ((a i : ℝ) : EReal))
  (hb : m ((c : Thread nD τ).loc main_arg4) = fun i => ((b i : ℝ) : EReal))

/-- The five arguments by layer, row and column. -/
def cA (r : Fin 8) (d : Fin 1024) : ℝ := cc (ValueIdx.ix2 r d)
def xA (d : Fin 1024) : ℝ := x (ValueIdx.ix1 d)
def wA (i : Fin 4) (d : Fin 1024) (n : Fin 768) : ℝ := w (ValueIdx.ix3 i d n)
def gA (i : Fin 4) (r : Fin 8) (n : Fin 768) : ℝ := a (ValueIdx.ix3 i r n)

include hc in
theorem blk0 (t : Fin cfg0.N) : (iblk m c 0 t : Vec Ideal S8x1024 .f32) = fun y => ((cA cc (y 0) (y 1) : ℝ) : EReal) := by
  funext y
  blk_simp [iblk]
  entry_read
  rw [hc]
  refine congrArg (fun i => ((cc i : ℝ) : EReal)) ?_
  blk_ext [idx t]
include hx in
theorem blk1 (t : Fin cfg0.N) : (iblk m c 1 t : Vec Ideal S1x1024 .f32) = fun y => ((xA x (y 1) : ℝ) : EReal) := by
  funext y
  blk_simp [iblk]
  entry_read
  rw [hx]
  pointwise
  refine congrArg (fun i => ((x i : ℝ) : EReal)) ?_
  blk_ext [idx t]
include hw in
theorem blk2 (t : Fin cfg0.N) : (iblk m c 2 t : Vec Ideal S1x1024x768 .f32) = fun y => ((wA w (lay t.val) (y 1) (y 2) : ℝ) : EReal) := by
  funext y
  blk_simp [iblk]
  entry_read
  rw [hw]
  refine congrArg (fun i => ((w i : ℝ) : EReal)) ?_
  blk_ext [idx t]
  exact (Nat.mod_eq_of_lt t.isLt).symm
include ha in
theorem blk3 (t : Fin cfg0.N) : (iblk m c 3 t : Vec Ideal S1x8x768 .f32) = fun y => ((gA a (lay t.val) (y 1) (y 2) : ℝ) : EReal) := by
  funext y
  blk_simp [iblk]
  entry_read
  rw [ha]
  refine congrArg (fun i => ((a i : ℝ) : EReal)) ?_
  blk_ext [idx t]
  exact (Nat.mod_eq_of_lt t.isLt).symm
include hb in
theorem blk4 (t : Fin cfg0.N) : (iblk m c 4 t : Vec Ideal S1x8x768 .f32) = fun y => ((gA b (lay t.val) (y 1) (y 2) : ℝ) : EReal) := by
  funext y
  blk_simp [iblk]
  entry_read
  rw [hb]
  refine congrArg (fun i => ((b i : ℝ) : EReal)) ?_
  blk_ext [idx t]
  exact (Nat.mod_eq_of_lt t.isLt).symm
end

section
variable (C : Fin 8 → Fin 1024 → ℝ) (X : Fin 1024 → ℝ) (W : Fin 4 → Fin 1024 → Fin 768 → ℝ) (A B : Fin 4 → Fin 8 → Fin 768 → ℝ)
  (h0 : ∀ t : Fin cfg0.N, (iblk m c 0 t : Vec Ideal S8x1024 .f32) = fun y => ((C (y 0) (y 1) : ℝ) : EReal))
  (h1 : ∀ t : Fin cfg0.N, (iblk m c 1 t : Vec Ideal S1x1024 .f32) = fun y => ((X (y 1) : ℝ) : EReal))
  (h2 : ∀ t : Fin cfg0.N, (iblk m c 2 t : Vec Ideal S1x1024x768 .f32) = fun y => ((W (lay t.val) (y 1) (y 2) : ℝ) : EReal))
  (h3 : ∀ t : Fin cfg0.N, (iblk m c 3 t : Vec Ideal S1x8x768 .f32) = fun y => ((A (lay t.val) (y 1) (y 2) : ℝ) : EReal))
  (h4 : ∀ t : Fin cfg0.N, (iblk m c 4 t : Vec Ideal S1x8x768 .f32) = fun y => ((B (lay t.val) (y 1) (y 2) : ℝ) : EReal))

include h0 h1 h3 h4 in
/-- What a point leaves in its layer's block. -/
theorem point5 (t : Fin cfg0.N) : (outsAt0 m c t.val t.isLt).1 = fun y => ((dw C X (A (lay t.val)) (B (lay t.val)) (y 1) (y 2) : ℝ) : EReal) := by
  by_cases ht : t.val % 4 = 0
  on_goal 1 => rw [outsAt0_A m c t ht]
  on_goal 2 => rw [outsAt0_B m c t ht]
  all_goals
    frame_out
    rw [h0, h1, h3, h4]
    exact pay5 C X (A (lay t.val)) (B (lay t.val)) _ (pay2 C X) _ _ _ _ _ (csum (B (lay t.val)))

include h2 h4 in
theorem point6 : ∀ (n : ℕ) (hn : n < cfg0.N) (a : Fin 8) (d : Fin 1024), (outsAt0 m c n hn).2 (ValueIdx.ix2 a d)
    = ((if a.val = 0 then ∑ i ∈ Finset.range (n + 1), ds (W (lay i)) (B (lay i)) d else 0 : ℝ) : EReal) := by
  intro n
  induction n with
  | zero =>
    intro hn a d
    rw [outsAt0_A m c ⟨0, hn⟩ (by simp)]
    frame_out
    rw [h2, h4, pay1]
    refine (congrArg₂ (· + ·) (pay7 _) (congrFun (pay6 (W (lay 0)) (B (lay 0)) _ _ _ _ _ (csum (B (lay 0)))) (ValueIdx.ix2 a d))).trans ?_
    rw [add_coe, zero_add, Finset.sum_range_one]
  | succ n ih =>
    intro hn a d
    have hN : n + 1 < 4 := hn
    rw [outsAt0_B m c ⟨n + 1, hn⟩ (by dsimp only; omega)]
    frame_out
    rw [h2, h4, pay1]
    refine (congrArg₂ (· + ·) (ih (Nat.lt_of_succ_lt hn) a d) (congrFun (pay6 (W (lay (n + 1))) (B (lay (n + 1))) _ _ _ _ _ (csum (B (lay (n + 1))))) (ValueIdx.ix2 a d))).trans ?_
    rw [add_coe, Finset.sum_range_succ _ (n + 1)]
    show (((if a.val = 0 then _ else 0) + (if a.val = 0 then _ else 0) : ℝ) : EReal) = _
    split
    · rfl
    · rw [add_zero]
end

theorem emb5 (t : Fin cfg0.N) (z : S1x1024x768.Idx) : (((cfg0.win 5).blk t).view.emb z : S4x1024x768.Idx) = ValueIdx.ix3 (lay t.val) (z 1) (z 2) := by
  obtain ⟨_, _, _, _, _, e, _⟩ := idx t
  have e0 : win0_5.index t (0 : Fin 3) = t.val := congrFun e 0
  have e1 : win0_5.index t (1 : Fin 3) = 0 := congrFun e 1
  have e2 : win0_5.index t (2 : Fin 3) = 0 := congrFun e 2
  have hz : (z 0).val < 1 := (z 0).isLt
  have ht : t.val < 4 := t.isLt
  funext a; apply Fin.ext
  match a with
  | ⟨0, _⟩ => show win0_5.index t (0 : Fin 3) * 1 + 1 * (z 0).val = t.val % 4; omega
  | ⟨1, _⟩ => show win0_5.index t (1 : Fin 3) * 1024 + 1 * (z 1).val = (z 1).val; omega
  | ⟨2, _⟩ => show win0_5.index t (2 : Fin 3) * 768 + 1 * (z 2).val = (z 2).val; omega

theorem emb6 (t : Fin cfg0.N) (z : S8x1024.Idx) : (((cfg0.win 6).blk t).view.emb z : S8x1024.Idx) = z := by
  obtain ⟨_, _, _, _, _, _, e⟩ := idx t
  have e0 : win0_6.index t (0 : Fin 2) = 0 := congrFun e 0
  have e1 : win0_6.index t (1 : Fin 2) = 0 := congrFun e 1
  funext a; apply Fin.ext
  match a with
  | ⟨0, _⟩ => show win0_6.index t (0 : Fin 2) * 8 + 1 * (z 0).val = (z 0).val; omega
  | ⟨1, _⟩ => show win0_6.index t (1 : Fin 2) * 1024 + 1 * (z 1).val = (z 1).val; omega

theorem flush5 : ∀ t : Fin cfg0.N, (cfg0.win 5).flush t = true := (by decide +kernel : ∀ t : Fin grid0.N, _)
theorem flush6 : ∀ t : Fin cfg0.N, (cfg0.win 6).flush t = true ↔ t.val = 3 := (by decide +kernel : ∀ t : Fin grid0.N, _)

section
variable (cc : S8x1024.Idx → ℝ) (x : S1024.Idx → ℝ) (w : S4x1024x768.Idx → ℝ) (a b : S4x8x768.Idx → ℝ)
  (hc : m ((c : Thread nD τ).loc main_arg0) = fun i => ((cc i : ℝ) : EReal)) (hx : m ((c : Thread nD τ).loc main_arg1) = fun i => ((x i : ℝ) : EReal))
  (hw : m ((c : Thread nD τ).loc main_arg2) = fun i => ((w i : ℝ) : EReal)) (ha : m ((c : Thread nD τ).loc main_arg3) = fun i => ((a i : ℝ) : EReal))
  (hb : m ((c : Thread nD τ).loc main_arg4) = fun i => ((b i : ℝ) : EReal))

include hc hx ha hb in
/-- The matrices' gradients. -/
theorem result5 : ((dats m 0 c).arrAt 5 cfg0.N : Vec Ideal S4x1024x768 .f32)
    = fun i => ((dw (cA cc) (xA x) (gA a (i 0)) (gA b (i 0)) (i 1) (i 2) : ℝ) : EReal) := by
  funext i
  have h := (dats m 0 c).arrAt_apply_of_mem 5 (fun i : S4x1024x768.Idx => ((dw (cA cc) (xA x) (gA a (i 0)) (gA b (i 0)) (i 1) (i 2) : ℝ) : EReal))
    (fun t _ => by
      rw [Value.flushed5]
      refine funext fun y => ?_
      refine (congrFun (point5 m c (cA cc) (xA x) (gA a) (gA b) (blk0 m c cc hc) (blk1 m c x hx) (blk3 m c a ha) (blk4 m c b hb) t) y).trans ?_
      exact (congrArg (fun i : S4x1024x768.Idx => ((dw (cA cc) (xA x) (gA a (i 0)) (gA b (i 0)) (i 1) (i 2) : ℝ) : EReal)) (emb5 t y)).symm)
    cfg0.N ⟨(i 0).val, (i 0).isLt⟩ i (i 0).isLt (flush5 _)
    (Finset.mem_map.2 ⟨ValueIdx.ix3 0 (i 1) (i 2), Finset.mem_univ _, (emb5 _ _).trans (by
      funext a; apply Fin.ext
      match a with
      | ⟨0, _⟩ => exact Nat.mod_eq_of_lt (i 0).isLt
      | ⟨1, _⟩ => rfl
      | ⟨2, _⟩ => rfl)⟩)
  exact h

/-- The second result's array. -/
def G6 : S8x1024.Idx → EReal := fun i => ((if (i 0).val = 0 then ∑ l : Fin 4, ds (wA w l) (gA b l) (i 1) else 0 : ℝ) : EReal)

include hw hb in
theorem last6 (y : S8x1024.Idx) : (outsAt0 m c 3 (by decide)).2 y = G6 w b y := by
  refine (congrArg (outsAt0 m c 3 (by decide)).2 (ValueIdx.eq_ix2 y)).trans ((point6 m c (wA w) (gA b) (blk2 m c w hw) (blk4 m c b hb) 3 (by decide) (y 0) (y 1)).trans ?_)
  rw [Finset.sum_range]
  rfl

include hw hb in
theorem written6 (t : Fin cfg0.N) (ht : (cfg0.win 6).flush t = true) :
    (dats m 0 c).flushed 6 t = ((cfg0.win 6).blk t).view.read (Elt Ideal) (G6 w b : Vec Ideal S8x1024 .f32) := by
  have e : t = ⟨3, by decide⟩ := Fin.ext ((flush6 t).1 ht)
  rw [Value.flushed6]
  refine funext fun y => ?_
  refine Eq.trans ?_ (congrArg (G6 w b) (emb6 t y)).symm
  subst e
  exact last6 m c w b hw hb y

/-- The last point, and that its block is the whole array. -/
def t3 : Fin cfg0.N := ⟨3, by decide⟩
theorem mem6 (i : S8x1024.Idx) : i ∈ ((cfg0.win 6).blk t3).view.set := Finset.mem_map.2 ⟨i, Finset.mem_univ _, emb6 t3 i⟩

include hw hb in
/-- The context's conditioning gradient. -/
theorem result6 : ((dats m 0 c).arrAt 6 cfg0.N : Vec Ideal S8x1024 .f32) = G6 w b :=
  funext fun i => (dats m 0 c).arrAt_apply_of_mem 6 (G6 w b) (written6 m c w b hw hb) cfg0.N t3 i t3.isLt ((flush6 t3).2 rfl) (mem6 i)
end

end Cert.AdaArray
end
-- ==== Proof.AdaEq.lean ====
module

public import proofs.«01_k».proof.Defs
public import proofs.«01_k».proof.Proof.AdaArray
public import proofs.«01_k».proof.Proof.Gen.AdaRefIdeal.Read
public import proofs.«01_k».proof.Proof.Gen.Pre_ada_finite
@[expose] public section

/-! The call ada_grads: what the derivative of reference.py's modulation computes, and that the call ends with the same. -/

noncomputable section
open Idealize.ShloMosaic Idealize.SL.Sem Cert.Lift
open Cert.AdaRefIdeal Cert.AdaRefIdeal.Read
open Cert.CctxArray (sg den_ne)
open Cert.AdaArray (silu cA xA wA gA dw ds G6)

namespace Cert.AdaEq

/-- An array of reals as the ideal array it stands for. -/
abbrev up {s : Shape} (f : s.Idx → ℝ) : (⟨s, .f32⟩ : BufTy).Contents (Elt Ideal) := fun i => ((f i : ℝ) : EReal)

variable (cc : S8x1024.Idx → ℝ) (x : S1024.Idx → ℝ) (w : S4x1024x768.Idx → ℝ) (a b : S4x8x768.Idx → ℝ)

theorem v0 (i : S8x1024.Idx) : val_main_v0 (F := Ideal) (up cc) i = ((silu (cc i) : ℝ) : EReal) := by
  pointwise [val_main_v0, val_main_call0_v5, val_main_call0_v4, val_main_call0_cst_0, val_main_call0_v3, val_main_call0_v2, val_main_call0_cst, val_main_call0_v1, val_main_call0_v0]
  rw [← EReal.coe_one, neg_coe, Ideal.exp_coe, add_coe, div_coe _ _ (den_ne _), mul_coe]
  rfl

theorem v2 (i : S1x1024.Idx) : val_main_v2 (F := Ideal) (up x) i = ((silu (xA x (i 1)) : ℝ) : EReal) := by
  have e : idx_main_v2 i = ValueIdx.ix1 (i 1) := funext fun a => match a with
    | ⟨0, _⟩ => rfl
  rw [val_main_v2_apply, e]
  pointwise [val_main_v1, val_main_call1_v5, val_main_call1_v4, val_main_call1_cst_0, val_main_call1_v3, val_main_call1_v2, val_main_call1_cst, val_main_call1_v1, val_main_call1_v0]
  rw [← EReal.coe_one, neg_coe, Ideal.exp_coe, add_coe, div_coe _ _ (den_ne _), mul_coe]
  rfl

theorem v7 (i : S4x768.Idx) : val_main_v7 (F := Ideal) (up b) i = ((∑ k : Fin 8, gA b (i 0) k (i 1) : ℝ) : EReal) := by
  rw [val_main_v7_apply]
  pointwise [val_main_cst]
  simp only [sum_coe, zero_add]
  refine congrArg (fun s : ℝ => (s : EReal)) (Finset.sum_congr rfl fun k _ => congrArg b (funext fun a => ?_))
  match a with
  | ⟨0, _⟩ => rfl
  | ⟨1, _⟩ => rfl
  | ⟨2, _⟩ => rfl

theorem v8 (i : S4x1x768.Idx) : val_main_v8 (F := Ideal) (up b) i = ((∑ k : Fin 8, gA b (i 0) k (i 2) : ℝ) : EReal) :=
  (val_main_v8_apply _ i).trans (v7 b _)

theorem v9 (i : S4x768x1.Idx) : val_main_v9 (F := Ideal) (up b) i = ((∑ k : Fin 8, gA b (i 0) k (i 1) : ℝ) : EReal) :=
  (val_main_v9_apply _ i).trans (v8 b _)

theorem v16 (i : S4x1024x768.Idx) : val_main_v16 (F := Ideal) (up cc) (up x) (up a) (up b) i
    = ((dw (cA cc) (xA x) (gA a (i 0)) (gA b (i 0)) (i 1) (i 2) : ℝ) : EReal) := by
  have e1 : val_main_v12 (F := Ideal) (up x) (up b) i = (((∑ k, gA b (i 0) k (i 2)) * silu (xA x (i 1)) : ℝ) : EReal) := by
    rw [val_main_v12_apply, val_main_v11_apply, Fin.sum_univ_one, v9, v2, mul_coe]
    rfl
  have e2 : val_main_v15 (F := Ideal) (up cc) (up a) i = ((∑ r, silu (cA cc r (i 1)) * gA a (i 0) r (i 2) : ℝ) : EReal) := by
    rw [val_main_v15_apply, val_main_v14_apply, ← sum_coe]
    refine Finset.sum_congr rfl fun k _ => ?_
    rw [val_main_v13_apply, v0, mul_coe, mul_comm]
    refine congrArg (fun s : ℝ => (s : EReal)) (congrArg₂ (fun p q => silu (cc p) * a q) ?_ ?_)
    · exact funext fun a => match a with
        | ⟨0, _⟩ => rfl
        | ⟨1, _⟩ => rfl
    · exact funext fun a => match a with
        | ⟨0, _⟩ => rfl
        | ⟨1, _⟩ => rfl
        | ⟨2, _⟩ => rfl
  rw [val_main_v16_apply, e1, e2]
  refine (add_coe _ _).trans (congrArg (fun s : ℝ => (s : EReal)) ?_)
  unfold dw
  ring

theorem v10 (j : S1x1024.Idx) : val_main_v10 (F := Ideal) (up w) (up b) j = ((∑ l : Fin 4, ds (wA w l) (gA b l) (j 1) : ℝ) : EReal) := by
  pointwise [val_main_v10]
  refine (Finset.sum_congr rfl fun l _ => (Finset.sum_congr rfl fun n _ => (congrArg (· * _) (v9 b _)).trans (mul_coe _ _)).trans (sum_coe _ _)).trans ?_
  rw [sum_coe]
  rfl

theorem v22 (i : S8x1024.Idx) : val_main_v22 (F := Ideal) (up w) (up b) i = G6 w b i := by
  have e : val_main_v20 (F := Ideal) (up w) (up b) i = ((∑ l : Fin 4, ds (wA w l) (gA b l) (i 1) : ℝ) : EReal) := (val_main_v20_apply _ _ i).trans (v10 w b _)
  rw [val_main_v22_apply, e, val_main_v19_apply, val_main_v17_apply, val_main_v18_apply, val_main_c_apply,
    select_row _ (lt_trans (i 0).isLt (by decide)), val_main_v21_apply, val_main_cst_0_apply]
  unfold G6
  split
  · rfl
  · exact c0

theorem algebraic : algebraic_AdaIdeal_AdaRefIdeal_pre_ada_finite := by
  intro m g m' g' hpre hargs
  refine ⟨fun c => (AdaIdeal.Gen.dats m 0 c).arrAt 5 AdaIdeal.cfg0.N, fun c => (AdaIdeal.Gen.dats m 0 c).arrAt 6 AdaIdeal.cfg0.N, AdaIdeal.Value.run_blocks m g, ?_⟩
  refine (θ_run AdaRefIdeal.defs _ _).mono (fun r h c => ?_) (AdaRefIdeal.Value.run (F := Ideal) m' g')
  obtain ⟨a0, a1, a2, a3, a4⟩ := hargs c
  obtain ⟨p0, p1, p2, p3, p4⟩ := hpre c
  obtain ⟨cc, hc⟩ := exists_real_of_cmp (s := AdaIdeal.S8x1024) _ _ (fun _ => rfl) p0
  obtain ⟨x, hx⟩ := exists_real_of_cmp (s := AdaIdeal.S1024) _ _ (fun _ => rfl) p1
  obtain ⟨w, hw⟩ := exists_real_of_cmp (s := AdaIdeal.S4x1024x768) _ _ (fun _ => rfl) p2
  obtain ⟨a, ha⟩ := exists_real_of_cmp (s := AdaIdeal.S4x8x768) _ _ (fun _ => rfl) p3
  obtain ⟨b, hb⟩ := exists_real_of_cmp (s := AdaIdeal.S4x8x768) _ _ (fun _ => rfl) p4
  obtain ⟨r0, r1, k⟩ := h c
  rw [AdaRefIdeal.Read.val_main_v16_eq, a0, a1, a3, a4, hc, hx, ha, hb] at r0
  rw [AdaRefIdeal.Read.val_main_v22_eq, a2, a4, hw, hb] at r1
  refine ⟨r0.trans ?_, r1.trans ?_, k⟩
  · exact (funext fun i => v16 cc x a b i).trans (AdaArray.result5 m c cc x a b hc hx ha hb).symm
  · exact (funext fun i => v22 w b i).trans (AdaArray.result6 m c w b hw hb).symm

/-- The reference keeps its arguments and leaves every counter at zero. -/
theorem frameRef (m) (g) : θ_run (AdaRefIdeal.defs (F := Ideal)) (onTc (τ := AdaRefIdeal.τ) (AdaRefIdeal.main (F := Ideal))) ⟨m, fun _ => 0, g⟩ fun r =>
    (∀ c : Dev AdaRefIdeal.nD, r.2.mem ((c.tc : Thread AdaRefIdeal.nD AdaRefIdeal.τ).loc AdaRefIdeal.main_arg0) = m ((c.tc : Thread AdaRefIdeal.nD AdaRefIdeal.τ).loc AdaRefIdeal.main_arg0)
      ∧ r.2.mem ((c.tc : Thread AdaRefIdeal.nD AdaRefIdeal.τ).loc AdaRefIdeal.main_arg1) = m ((c.tc : Thread AdaRefIdeal.nD AdaRefIdeal.τ).loc AdaRefIdeal.main_arg1)
      ∧ r.2.mem ((c.tc : Thread AdaRefIdeal.nD AdaRefIdeal.τ).loc AdaRefIdeal.main_arg2) = m ((c.tc : Thread AdaRefIdeal.nD AdaRefIdeal.τ).loc AdaRefIdeal.main_arg2)
      ∧ r.2.mem ((c.tc : Thread AdaRefIdeal.nD AdaRefIdeal.τ).loc AdaRefIdeal.main_arg3) = m ((c.tc : Thread AdaRefIdeal.nD AdaRefIdeal.τ).loc AdaRefIdeal.main_arg3)
      ∧ r.2.mem ((c.tc : Thread AdaRefIdeal.nD AdaRefIdeal.τ).loc AdaRefIdeal.main_arg4) = m ((c.tc : Thread AdaRefIdeal.nD AdaRefIdeal.τ).loc AdaRefIdeal.main_arg4))
      ∧ r.2.sem = fun _ => 0 :=
  (θ_run AdaRefIdeal.defs _ _).mono (fun r h => ⟨fun c => (h c).2.2, sem_eq_zero_of_no_sems (by decide) _⟩) (AdaRefIdeal.Value.run (F := Ideal) m g)

end Cert.AdaEq
end
-- ==== Proof.WoArray.lean ====
module

public import proofs.«01_k».proof.Proof.Gen.WoIdeal.Value
public import proofs.«01_k».proof.Proof.Lift
public import proofs.«01_k».proof.Proof.AdaArray
@[expose] public section

/-! The call wo_bwd: its five results as functions of the arguments. A point handles 256 rows: the gate times the cotangent, that times the
    projection's transpose (as rows and as columns), its row sums with the attention's output over each head's lanes, and the gate's gradient. -/

noncomputable section
open Idealize.ShloMosaic Idealize.ShloMosaic.TcCoe Cert.Lift
open Cert.WoIdeal Cert.WoIdeal.Gen
open Cert.AdaArray (ld_lane)

namespace Cert.WoArray

variable (H Y O : Fin 256 → Fin 1024 → ℝ) (W : Fin 1024 → Fin 1024 → ℝ) (g : Fin 1024 → ℝ)

/-- An array of reals over two axes. -/
abbrev mat {n k : ℕ} (Z : Fin n → Fin k → ℝ) : (⟨2, ![n, k]⟩ : Shape).Idx → EReal := fun y => ((Z (y 0) (y 1) : ℝ) : EReal)

/-- The attention output's gradient of one row. -/
def dov (h : Fin 1024 → ℝ) (k : Fin 1024) : ℝ := ∑ n, g n * h n * W k n

/-- The lane of head `j` of pair `q`. -/
def lane (q j : ℕ) (d : Fin 128) : Fin 1024 := ⟨(256 * q + 128 * j + d.val) % 1024, Nat.mod_lt _ (by decide)⟩
def dot (q j : ℕ) (z : Fin 1024 → ℝ) : ℝ := ∑ d, z (lane q j d)

/-- The gate as one row. -/
def gateRow : Vec Ideal S1x1x1024 .f32 := fun y => ((g (y 2) : ℝ) : EReal)

theorem pay6 : k0_pay6 (F := Ideal) (mat H) (mat Y) = fun y => ((∑ p, H p (y 1) * Y p (y 1) : ℝ) : EReal) := by
  funext y
  pointwise [k0_pay6, k0_pay5]
  simp only [mat, mul_coe, sum_coe]
  rfl

theorem pay7 : k0_pay7 (F := Ideal) (mat H) (gateRow g) = fun y => ((g (y 1) * H (y 0) (y 1) : ℝ) : EReal) := by
  funext y
  pointwise [k0_pay7, k0_pay5, gateRow]
  exact mul_coe _ _

theorem pay8 : k0_pay8 (F := Ideal) (mat H) (gateRow g) (mat W) = mat fun p k => dov W g (H p) k := by
  funext y
  unfold k0_pay8
  rw [pay7]
  pointwise
  simp only [mat, mul_coe, sum_coe]
  rfl

theorem pay9 : k0_pay9 (F := Ideal) (mat H) (gateRow g) (mat W) = mat fun p k => dov W g (H p) k := by
  funext y
  unfold k0_pay9
  rw [pay8]
  pointwise

theorem pay10 : k0_pay10 (F := Ideal) (mat H) (gateRow g) (mat W) = mat fun k p => dov W g (H p) k := by
  funext y
  unfold k0_pay10
  rw [pay8]
  pointwise
  rfl

theorem pay11 : k0_pay11 (F := Ideal) (mat H) (gateRow g) (mat W) (mat O) = mat fun p k => dov W g (H p) k * O p k := by
  funext y
  unfold k0_pay11
  rw [pay8]
  pointwise
  exact mul_coe _ _

theorem dots (q j : ℕ) (hj : j < 2) (z : Fin 1024 → ℝ) (f0 f1 : Fin 128 → Fin 1024) (h0 : ∀ d, (f0 d).val = (256 * q + d.val) % 1024)
    (h1 : ∀ d, (f1 d).val = (256 * q + 128 + d.val) % 1024) :
    (if _h : j < 1 then ∑ d, ((z (f0 d) : ℝ) : EReal) else ∑ d, ((z (f1 d) : ℝ) : EReal)) = ((dot q j z : ℝ) : EReal) := by
  split
  · rw [sum_coe]
    refine congrArg (fun s : ℝ => (s : EReal)) (Finset.sum_congr rfl fun d _ => congrArg z (Fin.ext ((h0 d).trans ?_)))
    show _ = (256 * q + 128 * j + d.val) % 1024
    omega
  · rw [sum_coe]
    refine congrArg (fun s : ℝ => (s : EReal)) (Finset.sum_congr rfl fun d _ => congrArg z (Fin.ext ((h1 d).trans ?_)))
    show _ = (256 * q + 128 * j + d.val) % 1024
    omega

/-- One pair of heads: the rows' sums over each head's lanes. -/
def pair (q : ℕ) (Z : Fin 256 → Fin 1024 → ℝ) : Vec Ideal S1x256x2 .f32 := fun y => ((dot q (y 2).val (Z (y 1)) : ℝ) : EReal)

section
variable (Z : Fin 256 → Fin 1024 → ℝ)
theorem pay12 (v0 v8 v14 v22) (hV : k0_pay11 (F := Ideal) v0 v8 v14 v22 = mat Z) : k0_pay13 (F := Ideal) (k0_pay12 v0 v8 v14 v22) = pair 0 Z := by
  funext y
  unfold k0_pay12
  rw [hV]
  pointwise [k0_pay13]
  exact dots 0 (y 2).val (y 2).isLt (Z (y 1)) _ _ (fun d => by have := d.isLt; show d.val = _; omega) (fun d => by have := d.isLt; show 128 + d.val = _; omega)
theorem pay14 : k0_pay14 (F := Ideal) (mat Z) = pair 1 Z := by
  funext y
  pointwise [k0_pay14]
  exact dots 1 (y 2).val (y 2).isLt (Z (y 1)) _ _ (fun d => by have := d.isLt; show 256 + d.val = _; omega) (fun d => by have := d.isLt; show 384 + d.val = _; omega)
theorem pay15 : k0_pay15 (F := Ideal) (mat Z) = pair 2 Z := by
  funext y
  pointwise [k0_pay15]
  exact dots 2 (y 2).val (y 2).isLt (Z (y 1)) _ _ (fun d => by have := d.isLt; show 512 + d.val = _; omega) (fun d => by have := d.isLt; show 640 + d.val = _; omega)
theorem pay16 : k0_pay16 (F := Ideal) (mat Z) = pair 3 Z := by
  funext y
  pointwise [k0_pay16]
  exact dots 3 (y 2).val (y 2).isLt (Z (y 1)) _ _ (fun d => by have := d.isLt; show 768 + d.val = _; omega) (fun d => by have := d.isLt; show 896 + d.val = _; omega)
end

/-- The gate's row of the modulations. -/
def gates : Vec Ideal S1x8x1024 .f32 := fun y => ((g (y 2) : ℝ) : EReal)
theorem gate : View.ld (gates g) (Rect.unit ![0, 2, 0] ![1, 1, 1024] inb_S1x8x1024_S1x1x1024_0_2_0) = gateRow g :=
  ld_lane (gates g) 2 2 rfl _

/-- One plane of a block of four: the stored pair there, the block below elsewhere. -/
theorem canon_part {e : EltTy} {Val : EltTy → Type} [∀ e, Nonempty (Val e)] {n k : ℕ} (r : ℕ) (inb)
    (w : (⟨3, ![1, n, k]⟩ : Shape).Idx → Val e) (L : List (View.Piece Val (⟨3, ![4, n, k]⟩ : Shape) e)) (y : (⟨3, ![4, n, k]⟩ : Shape).Idx) :
    View.canon ((⟨Rect.unit (s := ⟨3, ![4, n, k]⟩) ![r, 0, 0] ![1, n, k] inb, w⟩ : View.Piece Val (⟨3, ![4, n, k]⟩ : Shape) e) :: L) y
      = if (y 0).val = r then w (ValueIdx.ix3 0 (y 1) (y 2)) else View.canon L y := by
  split
  · rename_i h
    have : y = (Rect.unit (s := ⟨3, ![4, n, k]⟩) ![r, 0, 0] ![1, n, k] inb).emb (ValueIdx.ix3 0 (y 1) (y 2)) := by
      funext c; apply Fin.ext
      match c with
      | ⟨0, _⟩ => show (y 0).val = r + 1 * 0; omega
      | ⟨1, _⟩ => show (y 1).val = 0 + 1 * (y 1).val; omega
      | ⟨2, _⟩ => show (y 2).val = 0 + 1 * (y 2).val; omega
    conv_lhs => rw [this]
    exact View.canon_cons_emb (Rect.unit (s := ⟨3, ![4, n, k]⟩) ![r, 0, 0] ![1, n, k] inb) w L _
  · rename_i h
    refine View.canon_cons_of_not_mem _ L ?_
    rw [Rect.mem_set_unit]
    intro hc
    have := hc (0 : Fin 3)
    have h1 : r ≤ (y 0).val ∧ (y 0).val < r + 1 := this
    omega

/-- Reading back one row of what a body has stored. -/
theorem readCov_at {sig : RefSig} {κ : Kind} {sp : Space} {e : EltTy} {Val : EltTy → Type} [∀ e, Nonempty (Val e)] {n k : ℕ} (v : View sig κ sp ⟨2, ![n, k]⟩ e)
    (L : List (View.Piece Val (⟨2, ![n, k]⟩ : Shape) e)) (r : ℕ) (inb) (b : Fin k) (a : Fin n) (ha : a.val = r) :
    v.readCov L (Rect.unit (s := ⟨2, ![n, k]⟩) ![r, 0] ![1, k] inb).toLoadRect (ValueIdx.ix2 0 b) = View.canon L (ValueIdx.ix2 a b) := by
  rw [View.readCov_eq_canon']
  refine congrArg (View.canon L) ?_
  funext c; apply Fin.ext
  match c with
  | ⟨0, _⟩ => show r + 1 * 0 = a.val; omega
  | ⟨1, _⟩ => show 0 + 1 * b.val = b.val; omega

theorem pay1 (y : S8x1024.Idx) : k0_pay1 (F := Ideal) y = ((0 : ℝ) : EReal) := by
  pointwise [k0_pay1]
  rfl
theorem pay17 (y : S1x1024.Idx) : k0_pay17 (F := Ideal) y = ((0 : ℝ) : EReal) := by
  pointwise [k0_pay17]
  rfl
theorem pay2 (P : FVec Ideal S1x1024 .f32) (Q : Vec Ideal S1x1024 .f32) (y) : k0_pay2 (F := Ideal) P Q y = Q y + P y := by
  pointwise [k0_pay2]
theorem pay3 (P : FVec Ideal S1x1024 .f32) (Q : Vec Ideal S1x1024 .f32) (y) : k0_pay3 (F := Ideal) P Q y = Q y + P y := by
  pointwise [k0_pay3]
theorem pay4 (P : FVec Ideal S1x1024 .f32) (Q : Vec Ideal S1x1024 .f32) (y) : k0_pay4 (F := Ideal) P Q y = Q y + P y := by
  pointwise [k0_pay4]

variable (m : (ℓ : Loc nD τ sig) → Buf (Elt Ideal) ℓ) (c : Dev nD)

/-- The rows of point `n`'s block. -/
def rows (X : Fin 8192 → Fin 1024 → ℝ) (n : ℕ) (p : Fin 256) : Fin 1024 → ℝ :=
  X ⟨(256 * n + p.val) % 8192, Nat.mod_lt _ (by decide)⟩

theorem idx : ∀ t : Fin cfg0.N, win0_0.index t = ![t.val, 0] ∧ win0_1.index t = ![t.val, 0] ∧ win0_2.index t = ![t.val, 0]
    ∧ win0_3.index t = ![0, 0] ∧ win0_4.index t = ![1, 0, 0] ∧ win0_5.index t = ![t.val, 0] ∧ win0_6.index t = ![t.val, 0]
    ∧ win0_7.index t = ![0, t.val] ∧ win0_8.index t = ![0, t.val, 0] ∧ win0_9.index t = ![0, 0] :=
  (by decide +kernel : ∀ t : Fin grid0.N, _)

section
variable (o : S1x8192x1024.Idx → ℝ) (w : S1024x1024.Idx → ℝ) (gg : S1x1024.Idx → ℝ) (dh : S1x8192x1024.Idx → ℝ)
  (ho : m ((c : Thread nD τ).loc main_arg1) = fun i => ((o i : ℝ) : EReal)) (hw : m ((c : Thread nD τ).loc main_arg2) = fun i => ((w i : ℝ) : EReal))
  (hg : m ((c : Thread nD τ).loc main_arg3) = fun i => ((gg i : ℝ) : EReal)) (hd : m ((c : Thread nD τ).loc main_arg4) = fun i => ((dh i : ℝ) : EReal))

/-- The arguments by row and column, and the projection reference.py computes. -/
def rA (o : S1x8192x1024.Idx → ℝ) (p : Fin 8192) (k : Fin 1024) : ℝ := o (ValueIdx.ix3 0 p k)
def wA (k n : Fin 1024) : ℝ := w (ValueIdx.ix2 k n)
def gA (n : Fin 1024) : ℝ := gg (ValueIdx.ix2 0 n)
def yA (p : Fin 8192) (n : Fin 1024) : ℝ := ∑ k, rA o p k * wA w k n

include hd in
theorem blk0 (t : Fin cfg0.N) : (iblk m c 0 t : Vec Ideal S256x1024 .f32) = mat (rows (rA dh) t.val) := by
  funext y
  blk_simp [iblk]
  entry_read
  rw [hd]
  pointwise
  refine congrArg (fun i => ((dh i : ℝ) : EReal)) ?_
  blk_ext [idx t]
include ho hw in
theorem blk1 (t : Fin cfg0.N) : (iblk m c 1 t : Vec Ideal S256x1024 .bf16) = mat (rows (yA o w) t.val) := by
  funext y
  blk_simp [iblk]
  entry_read
  rw [ho, hw]
  pointwise
  simp only [mul_coe, sum_coe]
  have e : (((View.whole main_v7).slice (win0_1.rect t)).emb y : S8192x1024.Idx)
      = ValueIdx.ix2 ⟨(256 * t.val + (y 0).val) % 8192, Nat.mod_lt _ (by decide)⟩ (y 1) := by
    blk_ext [idx t]
  exact congrArg (fun e : S8192x1024.Idx => ((∑ k, o (ValueIdx.ix3 0 (e 0) k) * w (ValueIdx.ix2 k (e 1)) : ℝ) : EReal)) e
include ho in
theorem blk2 (t : Fin cfg0.N) : (iblk m c 2 t : Vec Ideal S256x1024 .bf16) = mat (rows (rA o) t.val) := by
  funext y
  blk_simp [iblk]
  entry_read
  rw [ho]
  pointwise
  refine congrArg (fun i => ((o i : ℝ) : EReal)) ?_
  blk_ext [idx t]
include hw in
theorem blk3 (t : Fin cfg0.N) : (iblk m c 3 t : Vec Ideal S1024x1024 .bf16) = mat (wA w) := by
  funext y
  blk_simp [iblk]
  entry_read
  rw [hw]
  pointwise
  refine congrArg (fun i => ((w i : ℝ) : EReal)) ?_
  blk_ext [idx t]
include hg in
theorem blk4 (t : Fin cfg0.N) : (iblk m c 4 t : Vec Ideal S1x8x1024 .f32) = gates (gA gg) := by
  funext y
  blk_simp [iblk]
  entry_read
  rw [hg]
  pointwise
  refine congrArg (fun i => ((gg i : ℝ) : EReal)) ?_
  blk_ext [idx t]
end

section
variable (D Yf Of : Fin 8192 → Fin 1024 → ℝ)
  (h0 : ∀ t : Fin cfg0.N, (iblk m c 0 t : Vec Ideal S256x1024 .f32) = mat (rows D t.val))
  (h1 : ∀ t : Fin cfg0.N, (iblk m c 1 t : Vec Ideal S256x1024 .bf16) = mat (rows Yf t.val))
  (h2 : ∀ t : Fin cfg0.N, (iblk m c 2 t : Vec Ideal S256x1024 .bf16) = mat (rows Of t.val))
  (h3 : ∀ t : Fin cfg0.N, (iblk m c 3 t : Vec Ideal S1024x1024 .bf16) = mat W)
  (h4 : ∀ t : Fin cfg0.N, (iblk m c 4 t : Vec Ideal S1x8x1024 .f32) = gates g)

include h0 h4 in
theorem point5 (t : Fin cfg0.N) : (outsAt0 m c t.val t.isLt).1 = mat fun p n => g n * rows D t.val p n := by
  by_cases ht : t.val % 32 = 0
  on_goal 1 => rw [outsAt0_A m c t ht]
  on_goal 2 => rw [outsAt0_B m c t ht]
  all_goals
    frame_out
    rw [h0, h4]
    rw [gate]
    exact pay7 _ g

include h0 h3 h4 in
theorem point6 (t : Fin cfg0.N) : (outsAt0 m c t.val t.isLt).2.1 = mat fun p k => dov W g (rows D t.val p) k := by
  by_cases ht : t.val % 32 = 0
  on_goal 1 => rw [outsAt0_A m c t ht]
  on_goal 2 => rw [outsAt0_B m c t ht]
  all_goals
    frame_out
    rw [h0, h3, h4]
    rw [gate]
    exact pay9 _ W g

include h0 h3 h4 in
theorem point7 (t : Fin cfg0.N) : (outsAt0 m c t.val t.isLt).2.2.1 = mat fun k p => dov W g (rows D t.val p) k := by
  by_cases ht : t.val % 32 = 0
  on_goal 1 => rw [outsAt0_A m c t ht]
  on_goal 2 => rw [outsAt0_B m c t ht]
  all_goals
    frame_out
    rw [h0, h3, h4]
    rw [gate]
    exact pay10 _ W g

include h0 h2 h3 h4 in
theorem point8 (t : Fin cfg0.N) : (outsAt0 m c t.val t.isLt).2.2.2.1 = fun y : S4x256x2.Idx => ((dot (y 0).val (y 2).val (fun k => dov W g (rows D t.val (y 1)) k * rows Of t.val (y 1) k) : ℝ) : EReal) := by
  by_cases ht : t.val % 32 = 0
  on_goal 1 => rw [outsAt0_A m c t ht]
  on_goal 2 => rw [outsAt0_B m c t ht]
  all_goals
    frame_out
    rw [h0, h2, h3, h4, gate, pay12 _ _ _ _ _ (pay11 (rows D t.val) (rows Of t.val) W g), pay11, pay14, pay15, pay16]
    funext y
    rw [canon_part, canon_part, canon_part, canon_part]
    have hy : (y 0).val < 4 := (y 0).isLt
    split
    · rename_i h; rw [h]; rfl
    · split
      · rename_i h; rw [h]; rfl
      · split
        · rename_i h; rw [h]; rfl
        · split
          · rename_i h; rw [h]; rfl
          · omega

include h0 h1 in
theorem point9 : ∀ (n : ℕ) (hn : n < cfg0.N) (a : Fin 8) (k : Fin 1024), (outsAt0 m c n hn).2.2.2.2 (ValueIdx.ix2 a k)
    = ((if a.val = 2 then ∑ i ∈ Finset.range (n + 1), ∑ p, rows D i p k * rows Yf i p k else 0 : ℝ) : EReal) := by
  intro n
  induction n with
  | zero =>
    intro hn a k
    rw [outsAt0_A m c ⟨0, hn⟩ (by simp)]
    frame_out
    rw [h0, h1, canon_row]
    split
    · rename_i ha
      rw [pay4, pay6, readCov_at _ _ 2 _ k (2 : Fin 8) rfl, canon_row, if_neg (by decide), canon_row, if_neg (by decide), View.canon_cons_unit_lit _ _ _ (by decide), pay1, add_coe,
        zero_add, Finset.sum_range_one]
    · rw [canon_row]
      split
      · rw [pay3, pay17, readCov_at _ _ 1 _ k (1 : Fin 8) rfl, canon_row, if_neg (by decide), View.canon_cons_unit_lit _ _ _ (by decide), pay1, add_coe, zero_add]
      · rw [canon_row]
        split
        · rw [pay2, pay17, readCov_at _ _ 0 _ k (0 : Fin 8) rfl, View.canon_cons_unit_lit _ _ _ (by decide), pay1, add_coe, zero_add]
        · rw [View.canon_cons_unit_lit _ _ _ (by decide), pay1]
  | succ n ih =>
    intro hn a k
    have hN : n + 1 < 32 := hn
    rw [outsAt0_B m c ⟨n + 1, hn⟩ (by dsimp only; omega)]
    frame_out
    have keep : ∀ (r : ℕ) (inb), a.val = r → a.val ≠ 2 → View.ld (outsAt0 m c (n + 1 - 1) (Nat.lt_of_succ_lt hn)).2.2.2.2 (Rect.unit (s := S8x1024) ![r, 0] ![1, 1024] inb) (ValueIdx.ix2 0 k)
        + ((0 : ℝ) : EReal) = ((0 : ℝ) : EReal) := fun r inb ha h2 => by
      rw [ld_row _ _ _ _ a ha]
      refine (congrArg (· + _) (ih (Nat.lt_of_succ_lt hn) a k)).trans ?_
      rw [if_neg h2, add_coe, zero_add]
    rw [h0, h1, read_writes_row]
    split
    · rename_i ha
      rw [pay4, pay6, ld_row _ _ _ _ a ha]
      refine (congrArg (· + _) (ih (Nat.lt_of_succ_lt hn) a k)).trans ?_
      rw [if_pos ha, add_coe, Finset.sum_range_succ _ (n + 1)]
    · rename_i h2
      rw [read_writes_row]
      split
      · rename_i ha
        rw [pay3, pay17]
        exact keep _ _ ha h2
      · rw [read_writes_row]
        split
        · rename_i ha
          rw [pay2, pay17]
          exact keep _ _ ha h2
        · rw [View.writes_nil, Memref.IsWhole.read_unread]
          refine (ih (Nat.lt_of_succ_lt hn) a k).trans ?_
          rw [if_neg h2]
end

/-! ## The blocks of the result arrays -/

def rowIx (t : Fin cfg0.N) (p : Fin 256) : Fin 8192 := ⟨(256 * t.val + p.val) % 8192, Nat.mod_lt _ (by decide)⟩

theorem emb5 (t : Fin cfg0.N) (z : S256x1024.Idx) : (((cfg0.win 5).blk t).view.emb z : S8192x1024.Idx) = ValueIdx.ix2 (rowIx t (z 0)) (z 1) := by
  have e := (idx t).2.2.2.2.2.1
  have e0 : win0_5.index t (0 : Fin 2) = t.val := congrFun e 0
  have e1 : win0_5.index t (1 : Fin 2) = 0 := congrFun e 1
  have hz : (z 0).val < 256 := (z 0).isLt
  have ht : t.val < 32 := t.isLt
  funext a; apply Fin.ext
  match a with
  | ⟨0, _⟩ => show win0_5.index t (0 : Fin 2) * 256 + 1 * (z 0).val = (256 * t.val + (z 0).val) % 8192; omega
  | ⟨1, _⟩ => show win0_5.index t (1 : Fin 2) * 1024 + 1 * (z 1).val = (z 1).val; omega

theorem emb6 (t : Fin cfg0.N) (z : S256x1024.Idx) : (((cfg0.win 6).blk t).view.emb z : S8192x1024.Idx) = ValueIdx.ix2 (rowIx t (z 0)) (z 1) := by
  have e := (idx t).2.2.2.2.2.2.1
  have e0 : win0_6.index t (0 : Fin 2) = t.val := congrFun e 0
  have e1 : win0_6.index t (1 : Fin 2) = 0 := congrFun e 1
  have hz : (z 0).val < 256 := (z 0).isLt
  have ht : t.val < 32 := t.isLt
  funext a; apply Fin.ext
  match a with
  | ⟨0, _⟩ => show win0_6.index t (0 : Fin 2) * 256 + 1 * (z 0).val = (256 * t.val + (z 0).val) % 8192; omega
  | ⟨1, _⟩ => show win0_6.index t (1 : Fin 2) * 1024 + 1 * (z 1).val = (z 1).val; omega

theorem emb7 (t : Fin cfg0.N) (z : S1024x256.Idx) : (((cfg0.win 7).blk t).view.emb z : S1024x8192.Idx) = ValueIdx.ix2 (z 0) (rowIx t (z 1)) := by
  have e := (idx t).2.2.2.2.2.2.2.1
  have e0 : win0_7.index t (0 : Fin 2) = 0 := congrFun e 0
  have e1 : win0_7.index t (1 : Fin 2) = t.val := congrFun e 1
  have hz : (z 1).val < 256 := (z 1).isLt
  have ht : t.val < 32 := t.isLt
  funext a; apply Fin.ext
  match a with
  | ⟨0, _⟩ => show win0_7.index t (0 : Fin 2) * 1024 + 1 * (z 0).val = (z 0).val; omega
  | ⟨1, _⟩ => show win0_7.index t (1 : Fin 2) * 256 + 1 * (z 1).val = (256 * t.val + (z 1).val) % 8192; omega

theorem emb8 (t : Fin cfg0.N) (z : S4x256x2.Idx) : (((cfg0.win 8).blk t).view.emb z : S4x8192x2.Idx) = ValueIdx.ix3 (z 0) (rowIx t (z 1)) (z 2) := by
  have e := (idx t).2.2.2.2.2.2.2.2.1
  have e0 : win0_8.index t (0 : Fin 3) = 0 := congrFun e 0
  have e1 : win0_8.index t (1 : Fin 3) = t.val := congrFun e 1
  have e2 : win0_8.index t (2 : Fin 3) = 0 := congrFun e 2
  have hz : (z 1).val < 256 := (z 1).isLt
  have ht : t.val < 32 := t.isLt
  funext a; apply Fin.ext
  match a with
  | ⟨0, _⟩ => show win0_8.index t (0 : Fin 3) * 4 + 1 * (z 0).val = (z 0).val; omega
  | ⟨1, _⟩ => show win0_8.index t (1 : Fin 3) * 256 + 1 * (z 1).val = (256 * t.val + (z 1).val) % 8192; omega
  | ⟨2, _⟩ => show win0_8.index t (2 : Fin 3) * 2 + 1 * (z 2).val = (z 2).val; omega

theorem emb9 (t : Fin cfg0.N) (z : S8x1024.Idx) : (((cfg0.win 9).blk t).view.emb z : S8x1024.Idx) = z := by
  have e := (idx t).2.2.2.2.2.2.2.2.2
  have e0 : win0_9.index t (0 : Fin 2) = 0 := congrFun e 0
  have e1 : win0_9.index t (1 : Fin 2) = 0 := congrFun e 1
  funext a; apply Fin.ext
  match a with
  | ⟨0, _⟩ => show win0_9.index t (0 : Fin 2) * 8 + 1 * (z 0).val = (z 0).val; omega
  | ⟨1, _⟩ => show win0_9.index t (1 : Fin 2) * 1024 + 1 * (z 1).val = (z 1).val; omega

theorem flush58 : ∀ t : Fin cfg0.N, (cfg0.win 5).flush t = true ∧ (cfg0.win 6).flush t = true ∧ (cfg0.win 7).flush t = true ∧ (cfg0.win 8).flush t = true :=
  (by decide +kernel : ∀ t : Fin grid0.N, _)
theorem flush9 : ∀ t : Fin cfg0.N, (cfg0.win 9).flush t = true ↔ t.val = 31 := (by decide +kernel : ∀ t : Fin grid0.N, _)

/-- The point and the row in it that hold a row of the arrays. -/
def ptOf (p : Fin 8192) : Fin cfg0.N := ⟨p.val / 256, by have := p.isLt; show p.val / 256 < 32; omega⟩
def inOf (p : Fin 8192) : Fin 256 := ⟨p.val % 256, Nat.mod_lt _ (by decide)⟩
theorem rowIx_of (p : Fin 8192) : rowIx (ptOf p) (inOf p) = p := Fin.ext (by
  have := p.isLt
  show (256 * (p.val / 256) + p.val % 256) % 8192 = p.val
  omega)

theorem mem5 (i : S8192x1024.Idx) : i ∈ ((cfg0.win 5).blk (ptOf (i 0))).view.set :=
  Finset.mem_map.2 ⟨ValueIdx.ix2 (inOf (i 0)) (i 1), Finset.mem_univ _, (emb5 _ _).trans (by
    funext a
    match a with
    | ⟨0, _⟩ => exact rowIx_of (i 0)
    | ⟨1, _⟩ => rfl)⟩
theorem mem6 (i : S8192x1024.Idx) : i ∈ ((cfg0.win 6).blk (ptOf (i 0))).view.set :=
  Finset.mem_map.2 ⟨ValueIdx.ix2 (inOf (i 0)) (i 1), Finset.mem_univ _, (emb6 _ _).trans (by
    funext a
    match a with
    | ⟨0, _⟩ => exact rowIx_of (i 0)
    | ⟨1, _⟩ => rfl)⟩
theorem mem7 (i : S1024x8192.Idx) : i ∈ ((cfg0.win 7).blk (ptOf (i 1))).view.set :=
  Finset.mem_map.2 ⟨ValueIdx.ix2 (i 0) (inOf (i 1)), Finset.mem_univ _, (emb7 _ _).trans (by
    funext a
    match a with
    | ⟨0, _⟩ => rfl
    | ⟨1, _⟩ => exact rowIx_of (i 1))⟩
theorem mem8 (i : S4x8192x2.Idx) : i ∈ ((cfg0.win 8).blk (ptOf (i 1))).view.set :=
  Finset.mem_map.2 ⟨ValueIdx.ix3 (i 0) (inOf (i 1)) (i 2), Finset.mem_univ _, (emb8 _ _).trans (by
    funext a
    match a with
    | ⟨0, _⟩ => rfl
    | ⟨1, _⟩ => exact rowIx_of (i 1)
    | ⟨2, _⟩ => rfl)⟩
def t31 : Fin cfg0.N := ⟨31, by decide⟩
theorem mem9 (i : S8x1024.Idx) : i ∈ ((cfg0.win 9).blk t31).view.set := Finset.mem_map.2 ⟨i, Finset.mem_univ _, emb9 t31 i⟩

/-- The sum over the points' rows is the sum over the arrays' rows. -/
theorem sum_rows (f : Fin 8192 → ℝ) : ∑ i ∈ Finset.range 32, ∑ p : Fin 256, f ⟨(256 * i + p.val) % 8192, Nat.mod_lt _ (by decide)⟩ = ∑ p, f p := by
  rw [Finset.sum_range, ← Fintype.sum_prod_type' (fun (i : Fin 32) (p : Fin 256) => f ⟨(256 * i.val + p.val) % 8192, Nat.mod_lt _ (by decide)⟩)]
  refine Fintype.sum_equiv (finProdFinEquiv (m := 32) (n := 256)) _ f fun q => congrArg f (Fin.ext ?_)
  have h1 := q.1.isLt
  have h2 := q.2.isLt
  show (256 * q.1.val + q.2.val) % 8192 = q.2.val + 256 * q.1.val
  omega

section
variable (o : S1x8192x1024.Idx → ℝ) (w : S1024x1024.Idx → ℝ) (gg : S1x1024.Idx → ℝ) (dh : S1x8192x1024.Idx → ℝ)
  (ho : m ((c : Thread nD τ).loc main_arg1) = fun i => ((o i : ℝ) : EReal)) (hw : m ((c : Thread nD τ).loc main_arg2) = fun i => ((w i : ℝ) : EReal))
  (hg : m ((c : Thread nD τ).loc main_arg3) = fun i => ((gg i : ℝ) : EReal)) (hd : m ((c : Thread nD τ).loc main_arg4) = fun i => ((dh i : ℝ) : EReal))

/-- The five result arrays. -/
def G5 : S8192x1024.Idx → EReal := mat fun p n => gA gg n * rA dh p n
def G6 : S8192x1024.Idx → EReal := mat fun p k => dov (wA w) (gA gg) (rA dh p) k
def G7 : S1024x8192.Idx → EReal := mat fun k p => dov (wA w) (gA gg) (rA dh p) k
def G8 : S4x8192x2.Idx → EReal := fun i => ((dot (i 0).val (i 2).val (fun k => dov (wA w) (gA gg) (rA dh (i 1)) k * rA o (i 1) k) : ℝ) : EReal)
def G9 : S8x1024.Idx → EReal := fun i => ((if (i 0).val = 2 then ∑ p, rA dh p (i 1) * yA o w p (i 1) else 0 : ℝ) : EReal)

include hg hd in
theorem written5 (t : Fin cfg0.N) (_ : (cfg0.win 5).flush t = true) :
    (dats m 0 c).flushed 5 t = ((cfg0.win 5).blk t).view.read (Elt Ideal) (G5 gg dh : Vec Ideal S8192x1024 .bf16) := by
  rw [Value.flushed5]
  exact funext fun y => (congrFun (point5 (gA gg) m c (rA dh) (blk0 m c dh hd) (blk4 m c gg hg) t) y).trans (congrArg (G5 gg dh) (emb5 t y)).symm
include hg hd in
theorem result5 : ((dats m 0 c).arrAt 5 cfg0.N : Vec Ideal S8192x1024 .bf16) = G5 gg dh :=
  funext fun i => (dats m 0 c).arrAt_apply_of_mem 5 (G5 gg dh) (written5 m c gg dh hg hd) cfg0.N (ptOf (i 0)) i (ptOf (i 0)).isLt (flush58 _).1 (mem5 i)

include hw hg hd in
theorem written6 (t : Fin cfg0.N) (_ : (cfg0.win 6).flush t = true) :
    (dats m 0 c).flushed 6 t = ((cfg0.win 6).blk t).view.read (Elt Ideal) (G6 w gg dh : Vec Ideal S8192x1024 .bf16) := by
  rw [Value.flushed6]
  exact funext fun y => (congrFun (point6 (wA w) (gA gg) m c (rA dh) (blk0 m c dh hd) (blk3 m c w hw) (blk4 m c gg hg) t) y).trans (congrArg (G6 w gg dh) (emb6 t y)).symm
include hw hg hd in
theorem result6 : ((dats m 0 c).arrAt 6 cfg0.N : Vec Ideal S8192x1024 .bf16) = G6 w gg dh :=
  funext fun i => (dats m 0 c).arrAt_apply_of_mem 6 (G6 w gg dh) (written6 m c w gg dh hw hg hd) cfg0.N (ptOf (i 0)) i (ptOf (i 0)).isLt (flush58 _).2.1 (mem6 i)

include hw hg hd in
theorem written7 (t : Fin cfg0.N) (_ : (cfg0.win 7).flush t = true) :
    (dats m 0 c).flushed 7 t = ((cfg0.win 7).blk t).view.read (Elt Ideal) (G7 w gg dh : Vec Ideal S1024x8192 .bf16) := by
  rw [Value.flushed7]
  exact funext fun y => (congrFun (point7 (wA w) (gA gg) m c (rA dh) (blk0 m c dh hd) (blk3 m c w hw) (blk4 m c gg hg) t) y).trans (congrArg (G7 w gg dh) (emb7 t y)).symm
include hw hg hd in
theorem result7 : ((dats m 0 c).arrAt 7 cfg0.N : Vec Ideal S1024x8192 .bf16) = G7 w gg dh :=
  funext fun i => (dats m 0 c).arrAt_apply_of_mem 7 (G7 w gg dh) (written7 m c w gg dh hw hg hd) cfg0.N (ptOf (i 1)) i (ptOf (i 1)).isLt (flush58 _).2.2.1 (mem7 i)

include ho hw hg hd in
theorem written8 (t : Fin cfg0.N) (_ : (cfg0.win 8).flush t = true) :
    (dats m 0 c).flushed 8 t = ((cfg0.win 8).blk t).view.read (Elt Ideal) (G8 o w gg dh : Vec Ideal S4x8192x2 .f32) := by
  rw [Value.flushed8]
  exact funext fun y => (congrFun (point8 (wA w) (gA gg) m c (rA dh) (rA o) (blk0 m c dh hd) (blk2 m c o ho) (blk3 m c w hw) (blk4 m c gg hg) t) y).trans
    (congrArg (G8 o w gg dh) (emb8 t y)).symm
include ho hw hg hd in
theorem result8 : ((dats m 0 c).arrAt 8 cfg0.N : Vec Ideal S4x8192x2 .f32) = G8 o w gg dh :=
  funext fun i => (dats m 0 c).arrAt_apply_of_mem 8 (G8 o w gg dh) (written8 m c o w gg dh ho hw hg hd) cfg0.N (ptOf (i 1)) i (ptOf (i 1)).isLt (flush58 _).2.2.2 (mem8 i)

include ho hw hd in
theorem last9 (n : ℕ) (hn : n < cfg0.N) (e : n = 31) (y : S8x1024.Idx) : (outsAt0 m c n hn).2.2.2.2 y = G9 o w dh y := by
  refine (congrArg (outsAt0 m c n hn).2.2.2.2 (ValueIdx.eq_ix2 y)).trans
    ((point9 m c (rA dh) (yA o w) (blk0 m c dh hd) (blk1 m c o w ho hw) n hn (y 0) (y 1)).trans ?_)
  subst e
  exact congrArg (fun s : ℝ => ((if (y 0).val = 2 then s else 0 : ℝ) : EReal)) (sum_rows fun p => rA dh p (y 1) * yA o w p (y 1))
include ho hw hd in
theorem written9 (t : Fin cfg0.N) (ht : (cfg0.win 9).flush t = true) :
    (dats m 0 c).flushed 9 t = ((cfg0.win 9).blk t).view.read (Elt Ideal) (G9 o w dh : Vec Ideal S8x1024 .f32) := by
  rw [Value.flushed9]
  exact funext fun y => (last9 m c o w dh ho hw hd t.val t.isLt ((flush9 t).1 ht) y).trans (congrArg (G9 o w dh) (emb9 t y)).symm
include ho hw hd in
theorem result9 : ((dats m 0 c).arrAt 9 cfg0.N : Vec Ideal S8x1024 .f32) = G9 o w dh :=
  funext fun i => (dats m 0 c).arrAt_apply_of_mem 9 (G9 o w dh) (written9 m c o w dh ho hw hd) cfg0.N t31 i t31.isLt ((flush9 t31).2 rfl) (mem9 i)
end

end Cert.WoArray
end
-- ==== Proof.WoEq.lean ====
module

public import proofs.«01_k».proof.Defs
public import proofs.«01_k».proof.Proof.WoArray
public import proofs.«01_k».proof.Proof.Gen.WoRefIdeal.Read
public import proofs.«01_k».proof.Proof.Gen.Pre_wo_finite
@[expose] public section

/-! The call wo_bwd: what the derivative of reference.py's output projection computes, and that the call ends with the same. -/

noncomputable section
open Idealize.ShloMosaic Idealize.SL.Sem Cert.Lift
open Cert.WoRefIdeal Cert.WoRefIdeal.Read
open Cert.WoArray (mat dov lane dot rA wA gA yA G5 G6 G7 G8 G9)

namespace Cert.WoEq

/-- An array of reals as the ideal array it stands for. -/
abbrev up {s : Shape} (f : s.Idx → ℝ) : (⟨s, .f32⟩ : BufTy).Contents (Elt Ideal) := fun i => ((f i : ℝ) : EReal)

variable (o : S1x8192x1024.Idx → ℝ) (w : S1024x1024.Idx → ℝ) (gg : S1x1024.Idx → ℝ) (dh : S1x8192x1024.Idx → ℝ)

/-- The leading axis has one index. -/
theorem one3 (i : S1x8192x1024.Idx) : i = ValueIdx.ix3 0 (i 1) (i 2) := funext fun a => match a with
  | ⟨0, _⟩ => Fin.ext (Nat.lt_one_iff.1 (i 0).isLt)
  | ⟨1, _⟩ => rfl
  | ⟨2, _⟩ => rfl

/-- A sum started from the zero word. -/
theorem from_zero (a b s : EReal) (ha : a = ((0 : ℝ) : EReal)) (hb : b = s) : a + b = s := by
  rw [ha, hb, EReal.coe_zero, zero_add]
/-- The row of eight that carries the gate's gradient. -/
theorem select_two {α : Type} (n : Fin 8) (a b : α) :
    Scalar.select (IntOp.cmpi .eq (BitVec.ofNat 32 n.val) 2#32) a b = if n.val = 2 then a else b := by fin_cases n <;> rfl

theorem v0 (i : S1x8192x1024.Idx) : val_main_v0 (F := Ideal) (up o) (up w) i = ((yA o w (i 1) (i 2) : ℝ) : EReal) := by
  rw [val_main_v0_apply]
  unfold yA
  rw [← sum_coe]
  refine Finset.sum_congr rfl fun k _ => (mul_coe _ _).trans (congrArg (fun s : ℝ => (s : EReal)) (congrArg₂ (fun p q => o p * w q) ?_ ?_))
  · exact one3 _
  · exact funext fun a => match a with
      | ⟨0, _⟩ => rfl
      | ⟨1, _⟩ => rfl

theorem v6 (i : S1x8192x1024.Idx) : val_main_v6 (F := Ideal) (up gg) (up dh) i = ((gA gg (i 2) * rA dh (i 1) (i 2) : ℝ) : EReal) := by
  rw [val_main_v6_apply, val_main_v5_apply, val_main_v1_apply]
  refine (mul_coe _ _).trans (congrArg (fun s : ℝ => (s : EReal)) (congrArg₂ (fun p q => gg p * dh q) ?_ (one3 i)))
  exact funext fun a => match a with
    | ⟨0, _⟩ => rfl
    | ⟨1, _⟩ => rfl

theorem v8 (i : S1x1024.Idx) : val_main_v8 (F := Ideal) (up o) (up w) (up dh) i = ((∑ p, rA dh p (i 1) * yA o w p (i 1) : ℝ) : EReal) := by
  refine (val_main_v8_apply _ _ _ i).trans (from_zero _ _ _ ((val_main_cst_apply _).trans c0) ((Finset.sum_congr rfl fun p _ => ?_).trans (sum_coe _ _)))
  rw [val_main_v7_apply, v0]
  exact (mul_coe _ _).trans (congrArg (fun q => ((dh q * yA o w p (i 1) : ℝ) : EReal)) (one3 _))

theorem v9 (i : S1x1x1024.Idx) : val_main_v9 (F := Ideal) (up o) (up w) (up dh) i = ((∑ p, rA dh p (i 2) * yA o w p (i 2) : ℝ) : EReal) := by
  refine (val_main_v9_apply _ _ _ i).trans ((v8 o w dh _).trans (congrArg (fun n : Fin 1024 => ((∑ p, rA dh p n * yA o w p n : ℝ) : EReal)) (Fin.ext ?_)))
  have h0 : (i 0).val < 1 := (i 0).isLt
  have h1 : (i 1).val < 1 := (i 1).isLt
  have h2 : (i 2).val < 1024 := (i 2).isLt
  show (((i 0).val * 1 + (i 1).val) * 1024 + (i 2).val) % 1024 = (i 2).val
  omega

/-- The one index over a lane. -/
def over (i : S1024.Idx) : S1x1x1024.Idx := ValueIdx.ix3 0 0 (i 0)

theorem drops (i : S1024.Idx) : Finset.univ.filter (fun q : S1x1x1024.Idx => Gen.reducesTo_S1x1x1024_S1024_d0_1.drop q = i) = {over i} := by
  refine Finset.ext fun q => ⟨fun h => Finset.mem_singleton.2 ?_, fun h => Finset.mem_filter.2 ⟨Finset.mem_univ _, ?_⟩⟩
  · have e := (Finset.mem_filter.1 h).2
    subst e
    funext a
    match a with
    | ⟨0, _⟩ => exact Fin.ext (Nat.lt_one_iff.1 (q 0).isLt)
    | ⟨1, _⟩ => exact Fin.ext (Nat.lt_one_iff.1 (q 1).isLt)
    | ⟨2, _⟩ => rfl
  · have e := Finset.mem_singleton.1 h
    subst e
    funext b
    match b with
    | ⟨0, _⟩ => rfl

theorem v10 (i : S1024.Idx) : val_main_v10 (F := Ideal) (up o) (up w) (up dh) i = ((∑ p, rA dh p (i 0) * yA o w p (i 0) : ℝ) : EReal) := by
  pointwise [val_main_v10]
  refine from_zero _ _ _ ((val_main_cst_0_apply _).trans c0) ?_
  exact (congrArg (fun S => ∑ q ∈ S, val_main_v9 (F := Ideal) (up o) (up w) (up dh) q) (drops i)).trans
    ((Finset.sum_singleton _ _).trans (v9 o w dh _))

theorem v20 (i : S8x1024.Idx) : val_main_v20 (F := Ideal) (up o) (up w) (up dh) i = ((∑ p, rA dh p (i 1) * yA o w p (i 1) : ℝ) : EReal) :=
  (val_main_v20_apply _ _ _ i).trans ((val_main_v11_apply _ _ _ _).trans (v10 o w dh _))

theorem v12 (i : S1x8192x1024.Idx) : val_main_v12 (F := Ideal) (up w) (up gg) (up dh) i = ((dov (wA w) (gA gg) (rA dh (i 1)) (i 2) : ℝ) : EReal) := by
  rw [val_main_v12_apply]
  unfold dov
  rw [← sum_coe]
  refine Finset.sum_congr rfl fun k _ => ?_
  refine (congrArg (· * _) (v6 gg dh _)).trans ((mul_coe _ _).trans (congrArg (fun q => ((gA gg k * rA dh (i 1) k * w q : ℝ) : EReal)) ?_))
  exact funext fun a => match a with
    | ⟨0, _⟩ => rfl
    | ⟨1, _⟩ => rfl

theorem v13 (i : S1x8192x1024.Idx) : val_main_v13 (F := Ideal) (up o) (up w) (up gg) (up dh) i
    = ((dov (wA w) (gA gg) (rA dh (i 1)) (i 2) * rA o (i 1) (i 2) : ℝ) : EReal) := by
  rw [val_main_v13_apply, v12]
  exact (mul_coe _ _).trans (congrArg (fun q => ((dov (wA w) (gA gg) (rA dh (i 1)) (i 2) * o q : ℝ) : EReal)) (one3 i))

theorem v15 (i : S8192x4x2.Idx) : val_main_v15 (F := Ideal) (up o) (up w) (up gg) (up dh) i
    = ((dot (i 1).val (i 2).val (fun k => dov (wA w) (gA gg) (rA dh (i 0)) k * rA o (i 0) k) : ℝ) : EReal) := by
  refine (val_main_v15_apply _ _ _ _ i).trans (from_zero _ _ _ ((val_main_cst_1_apply _).trans c0) ((Finset.sum_congr rfl fun d _ => ?_).trans (sum_coe _ _)))
  refine (val_main_v14_apply _ _ _ _ _).trans ((v13 o w gg dh _).trans
    (congrArg₂ (fun (p : Fin 8192) (k : Fin 1024) => ((dov (wA w) (gA gg) (rA dh p) k * rA o p k : ℝ) : EReal)) (Fin.ext ?_) (Fin.ext ?_)))
  all_goals
    have h0 : (i 0).val < 8192 := (i 0).isLt
    have h1 : (i 1).val < 4 := (i 1).isLt
    have h2 : (i 2).val < 2 := (i 2).isLt
    have h3 : d.val < 128 := d.isLt
  · show ((((i 0).val * 4 + (i 1).val) * 2 + (i 2).val) * 128 + d.val) / 1024 % 8192 = (i 0).val
    omega
  · show ((((i 0).val * 4 + (i 1).val) * 2 + (i 2).val) * 128 + d.val) % 1024 = (256 * (i 1).val + 128 * (i 2).val + d.val) % 1024
    omega

theorem v16 (i : S4x8192x2.Idx) : val_main_v16 (F := Ideal) (up o) (up w) (up gg) (up dh) i = G8 o w gg dh i :=
  (val_main_v16_apply _ _ _ _ i).trans (v15 o w gg dh _)

theorem v22 (i : S8x1024.Idx) : val_main_v22 (F := Ideal) (up o) (up w) (up dh) i = G9 o w dh i := by
  rw [val_main_v22_apply, v20, val_main_v19_apply, val_main_v17_apply, val_main_v18_apply, val_main_c_apply,
    val_main_v21_apply, val_main_cst_2_apply]
  refine (select_two (i 0) _ _).trans ?_
  unfold G9
  split
  · rfl
  · exact c0

theorem flat (i : S8192x1024.Idx) : ((i 0).val * 1024 + (i 1).val) / 1024 % 8192 = (i 0).val ∧ ((i 0).val * 1024 + (i 1).val) % 1024 = (i 1).val := by
  have h0 : (i 0).val < 8192 := (i 0).isLt
  have h1 : (i 1).val < 1024 := (i 1).isLt
  constructor <;> omega

theorem v24 (i : S8192x1024.Idx) : val_main_v24 (F := Ideal) (up gg) (up dh) i = G5 gg dh i := by
  rw [val_main_v24_apply]
  exact (val_main_v23_apply _ _ i).trans ((v6 gg dh _).trans
    (congrArg₂ (fun (p : Fin 8192) (n : Fin 1024) => ((gA gg n * rA dh p n : ℝ) : EReal)) (Fin.ext (flat i).1) (Fin.ext (flat i).2)))

theorem v25 (i : S8192x1024.Idx) : val_main_v25 (F := Ideal) (up w) (up gg) (up dh) i = G6 w gg dh i :=
  (val_main_v25_apply _ _ _ i).trans ((v12 w gg dh _).trans
    (congrArg₂ (fun (p : Fin 8192) (n : Fin 1024) => ((dov (wA w) (gA gg) (rA dh p) n : ℝ) : EReal)) (Fin.ext (flat i).1) (Fin.ext (flat i).2)))

theorem v26 (i : S8192x1024.Idx) : val_main_v26 (F := Ideal) (up w) (up gg) (up dh) i = G6 w gg dh i := by
  rw [val_main_v26_apply]
  exact v25 w gg dh i

theorem v29 (i : S1024x8192.Idx) : val_main_v29 (F := Ideal) (up w) (up gg) (up dh) i = G7 w gg dh i := by
  rw [val_main_v29_apply, val_main_v28_apply]
  exact (val_main_v27_apply _ _ _ _).trans ((v12 w gg dh _).trans
    (congrArg₂ (fun (p : Fin 8192) (n : Fin 1024) => ((dov (wA w) (gA gg) (rA dh p) n : ℝ) : EReal)) (Fin.ext (flat (ValueIdx.ix2 (i 1) (i 0))).1) (Fin.ext (flat (ValueIdx.ix2 (i 1) (i 0))).2)))

theorem algebraic : algebraic_WoIdeal_WoRefIdeal_pre_wo_finite := by
  intro m g m' g' hpre hargs
  refine ⟨fun c => (WoIdeal.Gen.dats m 0 c).arrAt 5 WoIdeal.cfg0.N, fun c => (WoIdeal.Gen.dats m 0 c).arrAt 6 WoIdeal.cfg0.N, fun c => (WoIdeal.Gen.dats m 0 c).arrAt 7 WoIdeal.cfg0.N,
    fun c => (WoIdeal.Gen.dats m 0 c).arrAt 8 WoIdeal.cfg0.N, fun c => (WoIdeal.Gen.dats m 0 c).arrAt 9 WoIdeal.cfg0.N, WoIdeal.Value.run_blocks m g, ?_⟩
  refine (θ_run WoRefIdeal.defs _ _).mono (fun r h c => ?_) (WoRefIdeal.Value.run (F := Ideal) m' g')
  obtain ⟨a0, a1, a2, a3, a4⟩ := hargs c
  obtain ⟨p0, p1, p2, p3⟩ := hpre c
  obtain ⟨o, ho⟩ := exists_real_of_cmp (s := WoIdeal.S1x8192x1024) _ _ (fun _ => rfl) p0
  obtain ⟨w, hw⟩ := exists_real_of_cmp (s := WoIdeal.S1024x1024) _ _ (fun _ => rfl) p1
  obtain ⟨gg, hg⟩ := exists_real_of_cmp (s := WoIdeal.S1x1024) _ _ (fun _ => rfl) p2
  obtain ⟨dh, hd⟩ := exists_real_of_cmp (s := WoIdeal.S1x8192x1024) _ _ (fun _ => rfl) p3
  obtain ⟨r0, r1, r2, r3, r4, k⟩ := h c
  rw [WoRefIdeal.Read.val_main_v24_eq, a3, a4, hg, hd] at r0
  rw [WoRefIdeal.Read.val_main_v26_eq, a2, a3, a4, hw, hg, hd] at r1
  rw [WoRefIdeal.Read.val_main_v29_eq, a2, a3, a4, hw, hg, hd] at r2
  rw [WoRefIdeal.Read.val_main_v16_eq, a1, a2, a3, a4, ho, hw, hg, hd] at r3
  rw [WoRefIdeal.Read.val_main_v22_eq, a1, a2, a4, ho, hw, hd] at r4
  refine ⟨r0.trans ?_, r1.trans ?_, r2.trans ?_, r3.trans ?_, r4.trans ?_, k⟩
  · exact (funext fun i => v24 gg dh i).trans (WoArray.result5 m c gg dh hg hd).symm
  · exact (funext fun i => v26 w gg dh i).trans (WoArray.result6 m c w gg dh hw hg hd).symm
  · exact (funext fun i => v29 w gg dh i).trans (WoArray.result7 m c w gg dh hw hg hd).symm
  · exact (funext fun i => v16 o w gg dh i).trans (WoArray.result8 m c o w gg dh ho hw hg hd).symm
  · exact (funext fun i => v22 o w dh i).trans (WoArray.result9 m c o w dh ho hw hd).symm

/-- The reference keeps its arguments and leaves every counter at zero. -/
theorem frameRef (m) (g) : θ_run (WoRefIdeal.defs (F := Ideal)) (onTc (τ := WoRefIdeal.τ) (WoRefIdeal.main (F := Ideal))) ⟨m, fun _ => 0, g⟩ fun r =>
    (∀ c : Dev WoRefIdeal.nD, r.2.mem ((c.tc : Thread WoRefIdeal.nD WoRefIdeal.τ).loc WoRefIdeal.main_arg0) = m ((c.tc : Thread WoRefIdeal.nD WoRefIdeal.τ).loc WoRefIdeal.main_arg0)
      ∧ r.2.mem ((c.tc : Thread WoRefIdeal.nD WoRefIdeal.τ).loc WoRefIdeal.main_arg1) = m ((c.tc : Thread WoRefIdeal.nD WoRefIdeal.τ).loc WoRefIdeal.main_arg1)
      ∧ r.2.mem ((c.tc : Thread WoRefIdeal.nD WoRefIdeal.τ).loc WoRefIdeal.main_arg2) = m ((c.tc : Thread WoRefIdeal.nD WoRefIdeal.τ).loc WoRefIdeal.main_arg2)
      ∧ r.2.mem ((c.tc : Thread WoRefIdeal.nD WoRefIdeal.τ).loc WoRefIdeal.main_arg3) = m ((c.tc : Thread WoRefIdeal.nD WoRefIdeal.τ).loc WoRefIdeal.main_arg3)
      ∧ r.2.mem ((c.tc : Thread WoRefIdeal.nD WoRefIdeal.τ).loc WoRefIdeal.main_arg4) = m ((c.tc : Thread WoRefIdeal.nD WoRefIdeal.τ).loc WoRefIdeal.main_arg4))
      ∧ r.2.sem = fun _ => 0 :=
  (θ_run WoRefIdeal.defs _ _).mono (fun r h => ⟨fun c => (h c).2.2.2.2.2, sem_eq_zero_of_no_sems (by decide) _⟩) (WoRefIdeal.Value.run (F := Ideal) m g)

end Cert.WoEq
end
-- ==== Proof.MlpRow.lean ====
/- The gated MLP's gradient on real numbers, one row at a time, as the kernel writes it; and the kernel's stored values read at it. -/
module

public import proofs.«01_k».proof.Proof.Lift
public import proofs.«01_k».proof.Proof.AdaArray
public import proofs.«01_k».proof.Proof.Gen.MlpIdeal.Value

@[expose] public section

set_option maxRecDepth 16384

noncomputable section

namespace Cert.MlpRow

open Cert.Lift Cert.MlpIdeal Cert.MlpIdeal.Gen Idealize.ShloMosaic Idealize.ShloMosaic.TcCoe Idealize.SL.Sem
open Cert.AdaArray (ld_lane)

/-- The reciprocal root mean square of a row. -/
def rs (x : Fin 1024 → ℝ) : ℝ := (Real.sqrt ((∑ k, x k * x k) / 1024 + eps))⁻¹

theorem ms_pos (x : Fin 1024 → ℝ) : 0 < (∑ k, x k * x k) / 1024 + eps := by
  have h : 0 ≤ ∑ k, x k * x k := Finset.sum_nonneg fun k _ => mul_self_nonneg _
  have := eps_pos
  positivity

/-- Column `j` of part `q` of the hidden columns. -/
def part (q : ℕ) (j : Fin 512) : Fin 4096 := ⟨(512 * q + j.val) % 4096, Nat.mod_lt _ (by decide)⟩

/-- The parts' sums are the sum over the hidden columns. -/
theorem sum_parts (f : Fin 4096 → ℝ) : ∑ j, f j = 0 + ∑ j, f (part 0 j) + ∑ j, f (part 1 j) + ∑ j, f (part 2 j) + ∑ j, f (part 3 j)
    + ∑ j, f (part 4 j) + ∑ j, f (part 5 j) + ∑ j, f (part 6 j) + ∑ j, f (part 7 j) := by
  have e : ∑ j, f j = ∑ q : Fin 8, ∑ j : Fin 512, f (part q.val j) := by
    rw [← Fintype.sum_prod_type' (fun (q : Fin 8) (j : Fin 512) => f (part q.val j))]
    refine (Fintype.sum_equiv (finProdFinEquiv (m := 8) (n := 512)) _ f fun q => congrArg f (Fin.ext ?_)).symm
    have h1 := q.1.isLt
    have h2 := q.2.isLt
    show (512 * q.1.val + q.2.val) % 4096 = q.2.val + 512 * q.1.val
    omega
  rw [e]
  simp only [Fin.sum_univ_eight, zero_add]
  rfl

section
variable (W1 : Fin 1024 → Fin 4096 → ℝ) (W2 : Fin 4096 → Fin 1024 → ℝ) (g sc sh ng : Fin 1024 → ℝ)
  (x h : Fin 1024 → ℝ) (p : Fin 4096 → ℝ)

/-- The normed row, with its gain, with its modulation. -/
def xh (k : Fin 1024) : ℝ := x k * rs x
def nn (k : Fin 1024) : ℝ := xh x k * ng k
def mm (k : Fin 1024) : ℝ := nn ng x k * (1 + sc k) + sh k
/-- The gradient of the MLP's output, of its hidden layer before the root, of its input, of the normed row, of the row. -/
def da (n : Fin 1024) : ℝ := g n * h n
def du (j : Fin 4096) : ℝ := (∑ n, da g h n * W2 j n) * (2 * p j)
def dm (k : Fin 1024) : ℝ := ∑ j, du W2 g h p j * W1 k j
def dn (k : Fin 1024) : ℝ := dm W1 W2 g h p k * (1 + sc k)
def dh (k : Fin 1024) : ℝ :=
  h k + rs x * (dn W1 W2 g sc h p k * ng k - xh x k * ((∑ j, dn W1 W2 g sc h p j * ng j * xh x j) / 1024))
end

/-- An array of reals over two axes; a row; a row under a leading axis; one part of the two weights. -/
abbrev mat {n k : ℕ} (Z : Fin n → Fin k → ℝ) : (⟨2, ![n, k]⟩ : Shape).Idx → EReal := fun y => ((Z (y 0) (y 1) : ℝ) : EReal)
def row (g : Fin 1024 → ℝ) : FVec Ideal S1x1024 .f32 := fun y => ((g (y 1) : ℝ) : EReal)
def row3 (g : Fin 1024 → ℝ) : Vec Ideal S1x1x1024 .f32 := fun y => ((g (y 2) : ℝ) : EReal)
def slab1 (q : ℕ) (W1 : Fin 1024 → Fin 4096 → ℝ) : Vec Ideal S1x1024x512 .bf16 := fun y => ((W1 (y 1) (part q (y 2)) : ℝ) : EReal)
def slab2 (q : ℕ) (W2 : Fin 4096 → Fin 1024 → ℝ) : Vec Ideal S1x512x1024 .bf16 := fun y => ((W2 (part q (y 1)) (y 2) : ℝ) : EReal)
def slabs1 (W1 : Fin 1024 → Fin 4096 → ℝ) : Vec Ideal S8x1024x512 .bf16 := fun y => ((W1 (y 1) (part (y 0).val (y 2)) : ℝ) : EReal)
def slabs2 (W2 : Fin 4096 → Fin 1024 → ℝ) : Vec Ideal S8x512x1024 .bf16 := fun y => ((W2 (part (y 0).val (y 1)) (y 2) : ℝ) : EReal)
/-- The modulations: shift, scale and gate in rows 3, 4, 5. -/
def mods (g sc sh : Fin 1024 → ℝ) : Vec Ideal S1x8x1024 .f32 := fun y =>
  ((if (y 1).val = 3 then sh (y 2) else if (y 1).val = 4 then sc (y 2) else if (y 1).val = 5 then g (y 2) else 0 : ℝ) : EReal)

variable (W1 : Fin 1024 → Fin 4096 → ℝ) (W2 : Fin 4096 → Fin 1024 → ℝ) (g sc sh ng : Fin 1024 → ℝ)

theorem mods3 : View.ld (mods g sc sh) (Rect.unit ![0, 3, 0] ![1, 1, 1024] inb_S1x8x1024_S1x1x1024_0_3_0) = row3 sh :=
  ld_lane (mods g sc sh) 3 3 rfl _
theorem mods4 : View.ld (mods g sc sh) (Rect.unit ![0, 4, 0] ![1, 1, 1024] inb_S1x8x1024_S1x1x1024_0_4_0) = row3 sc :=
  ld_lane (mods g sc sh) 4 4 rfl _
theorem mods5 : View.ld (mods g sc sh) (Rect.unit ![0, 5, 0] ![1, 1, 1024] inb_S1x8x1024_S1x1x1024_0_5_0) = row3 g :=
  ld_lane (mods g sc sh) 5 5 rfl _

theorem ld1 (q : ℕ) (inb) : View.ld (slabs1 W1) (Rect.unit (s := S8x1024x512) ![q, 0, 0] ![1, 1024, 512] inb) = slab1 q W1 := by
  funext x
  refine congrArg₂ (fun (k : Fin 1024) (j : Fin 4096) => ((W1 k j : ℝ) : EReal)) (Fin.ext ?_) (Fin.ext ?_)
  · show 0 + 1 * (x 1).val = (x 1).val; omega
  · have : (x 0).val < 1 := (x 0).isLt
    show (512 * (q + 1 * (x 0).val) + (0 + 1 * (x 2).val)) % 4096 = (512 * q + (x 2).val) % 4096
    congr 1; omega
theorem ld2 (q : ℕ) (inb) : View.ld (slabs2 W2) (Rect.unit (s := S8x512x1024) ![q, 0, 0] ![1, 512, 1024] inb) = slab2 q W2 := by
  funext x
  refine congrArg₂ (fun (j : Fin 4096) (k : Fin 1024) => ((W2 j k : ℝ) : EReal)) (Fin.ext ?_) (Fin.ext ?_)
  · have : (x 0).val < 1 := (x 0).isLt
    show (512 * (q + 1 * (x 0).val) + (0 + 1 * (x 1).val)) % 4096 = (512 * q + (x 1).val) % 4096
    congr 1; omega
  · show 0 + 1 * (x 2).val = (x 2).val; omega

/-- The columns of one part. -/
def cols (q : ℕ) (Z : Fin 512 → Fin 4096 → ℝ) : Fin 512 → Fin 512 → ℝ := fun p j => Z p (part q j)
theorem ldc (P : Fin 512 → Fin 4096 → ℝ) (Z : Vec Ideal S512x4096 .bf16) (hZ : Z = mat P) (q o : ℕ) (ho : o = 512 * q) (hq : q < 8) (inb) :
    View.ld Z (Rect.unit (s := S512x4096) ![0, o] ![512, 512] inb) = mat (cols q P) := by
  subst hZ
  funext x
  refine congrArg₂ (fun (k : Fin 512) (j : Fin 4096) => ((P k j : ℝ) : EReal)) (Fin.ext ?_) (Fin.ext ?_)
  · show 0 + 1 * (x 0).val = (x 0).val; omega
  · have : (x 1).val < 512 := (x 1).isLt
    show o + 1 * (x 1).val = (512 * q + (x 1).val) % 4096
    omega

section
variable (X H Y : Fin 512 → Fin 1024 → ℝ) (P : Fin 512 → Fin 4096 → ℝ)

theorem pay4 : k0_pay4 (F := Ideal) (mat H) = mat H := by
  funext y; pointwise [k0_pay4]
theorem pay8 : k0_pay8 (F := Ideal) (mat H) = mat H := by
  funext y; pointwise [k0_pay8]
theorem pay13 : k0_pay13 (F := Ideal) (mat Y) = mat Y := by
  funext y; pointwise [k0_pay13]
theorem pay5 : k0_pay5 (F := Ideal) (row ng) = row ng := by
  funext y; pointwise [k0_pay5, row]
theorem pay6 : k0_pay6 (F := Ideal) (row3 sc) = row sc := by
  funext y; pointwise [k0_pay6, row, row3]
theorem pay7 : k0_pay7 (F := Ideal) (row3 g) = row g := by
  funext y; pointwise [k0_pay7, row, row3]

theorem pay9 : k0_pay9 (F := Ideal) (mat X) = fun y => ((rs (X (y 0)) : ℝ) : EReal) := by
  funext y
  unfold k0_pay9
  rw [pay8]
  pointwise
  simp only [mat, mul_coe, sum_coe, c1024, cEps, div_coe _ (1024 : ℝ) (by norm_num), add_coe, rsqrt_coe _ (ms_pos _)]
  rfl
theorem pay10 : k0_pay10 (F := Ideal) (mat X) = mat fun p => xh (X p) := by
  funext y
  unfold k0_pay10
  rw [pay8, pay9]
  pointwise
  exact mul_coe _ _
theorem pay11 : k0_pay11 (F := Ideal) (row ng) (mat X) = mat fun p => nn ng (X p) := by
  funext y
  unfold k0_pay11
  rw [pay10, pay5]
  pointwise [row]
  exact mul_coe _ _
theorem pay12 : k0_pay12 (F := Ideal) (row ng) (row3 sc) (mat X) (row3 sh) = mat fun p => mm sc sh ng (X p) := by
  funext y
  unfold k0_pay12
  rw [pay11, pay6]
  pointwise [row, row3]
  simp only [mat, c1, mul_coe, add_coe]
  rfl
theorem pay14 : k0_pay14 (F := Ideal) (mat H) (mat Y) = row fun k => ∑ p, H p k * Y p k := by
  funext y
  pointwise [k0_pay14, row]
  simp only [mat, mul_coe, sum_coe]
  rfl
theorem pay15 : k0_pay15 (F := Ideal) (mat H) (row g) = mat fun p => da g (H p) := by
  funext y
  pointwise [k0_pay15, row]
  exact mul_coe _ _

/-- One part of the hidden layer's gradient from the output's. -/
def dup (q : ℕ) (D : Fin 512 → Fin 1024 → ℝ) (P : Fin 512 → Fin 512 → ℝ) (p j : Fin 512) : ℝ := (∑ n, D p n * W2 (part q j) n) * (2 * P p j)
theorem pay16 (q : ℕ) (P : Fin 512 → Fin 512 → ℝ) : k0_pay16 (F := Ideal) (mat H) (row g) (mat P) (slab2 q W2) = mat (dup W2 q (fun p => da g (H p)) P) := by
  funext y
  unfold k0_pay16
  rw [pay15]
  pointwise [slab2]
  simp only [mat, c2, mul_coe, sum_coe]
  rfl
theorem pay18 (q : ℕ) (P : Fin 512 → Fin 512 → ℝ) : k0_pay18 (F := Ideal) (mat H) (row g) (mat P) (slab2 q W2) = mat (dup W2 q (fun p => da g (H p)) P) := by
  funext y
  unfold k0_pay18
  rw [pay15]
  pointwise [slab2]
  simp only [mat, c2, mul_coe, sum_coe]
  rfl
theorem pay19 (q : ℕ) (D : Fin 512 → Fin 1024 → ℝ) (P : Fin 512 → Fin 512 → ℝ) : k0_pay19 (F := Ideal) (mat D) (mat P) (slab2 q W2) = mat (dup W2 q D P) := by
  funext y
  pointwise [k0_pay19, slab2]
  simp only [mat, c2, mul_coe, sum_coe]
  rfl
theorem pay21 (q : ℕ) (D : Fin 512 → Fin 1024 → ℝ) (P : Fin 512 → Fin 512 → ℝ) : k0_pay21 (F := Ideal) (mat D) (mat P) (slab2 q W2) = mat (dup W2 q D P) := by
  funext y
  pointwise [k0_pay21, slab2]
  simp only [mat, c2, mul_coe, sum_coe]
  rfl
theorem pay22 (q : ℕ) (D : Fin 512 → Fin 1024 → ℝ) (P : Fin 512 → Fin 512 → ℝ) : k0_pay22 (F := Ideal) (mat D) (mat P) (slab2 q W2) = mat (dup W2 q D P) := by
  funext y
  pointwise [k0_pay22, slab2]
  simp only [mat, c2, mul_coe, sum_coe]
  rfl
theorem pay24 (q : ℕ) (D : Fin 512 → Fin 1024 → ℝ) (P : Fin 512 → Fin 512 → ℝ) : k0_pay24 (F := Ideal) (mat D) (mat P) (slab2 q W2) = mat (dup W2 q D P) := by
  funext y
  pointwise [k0_pay24, slab2]
  simp only [mat, c2, mul_coe, sum_coe]
  rfl
theorem pay25 (q : ℕ) (D : Fin 512 → Fin 1024 → ℝ) (P : Fin 512 → Fin 512 → ℝ) : k0_pay25 (F := Ideal) (mat D) (mat P) (slab2 q W2) = mat (dup W2 q D P) := by
  funext y
  pointwise [k0_pay25, slab2]
  simp only [mat, c2, mul_coe, sum_coe]
  rfl
theorem pay27 (q : ℕ) (D : Fin 512 → Fin 1024 → ℝ) (P : Fin 512 → Fin 512 → ℝ) : k0_pay27 (F := Ideal) (mat D) (mat P) (slab2 q W2) = mat (dup W2 q D P) := by
  funext y
  pointwise [k0_pay27, slab2]
  simp only [mat, c2, mul_coe, sum_coe]
  rfl

/-- One part's share of the input's gradient. -/
def dmp (q : ℕ) (U : Fin 512 → Fin 512 → ℝ) (p : Fin 512) (k : Fin 1024) : ℝ := ∑ j, U p j * W1 k (part q j)
theorem pay17 (q : ℕ) (P : Fin 512 → Fin 512 → ℝ) : k0_pay17 (F := Ideal) (mat H) (row g) (mat P) (slab2 q W2) (slab1 q W1)
    = mat fun p k => 0 + dmp W1 q (dup W2 q (fun p => da g (H p)) P) p k := by
  funext y
  unfold k0_pay17
  rw [pay16]
  pointwise [slab1]
  simp only [mat, c0, mul_coe, sum_coe, add_coe]
  rfl
theorem pay20 (q r : ℕ) (D A : Fin 512 → Fin 1024 → ℝ) (U P : Fin 512 → Fin 512 → ℝ) :
    k0_pay20 (F := Ideal) (mat D) (mat A) (mat U) (slab1 q W1) (mat P) (slab2 r W2) (slab1 r W1)
    = mat fun p k => A p k + dmp W1 q U p k + dmp W1 r (dup W2 r D P) p k := by
  funext y
  unfold k0_pay20
  rw [pay19]
  pointwise [slab1]
  simp only [mat, mul_coe, sum_coe, add_coe]
  rfl
theorem pay23 (q r : ℕ) (D A : Fin 512 → Fin 1024 → ℝ) (U P : Fin 512 → Fin 512 → ℝ) :
    k0_pay23 (F := Ideal) (mat D) (mat A) (mat U) (slab1 q W1) (mat P) (slab2 r W2) (slab1 r W1)
    = mat fun p k => A p k + dmp W1 q U p k + dmp W1 r (dup W2 r D P) p k := by
  funext y
  unfold k0_pay23
  rw [pay22]
  pointwise [slab1]
  simp only [mat, mul_coe, sum_coe, add_coe]
  rfl
theorem pay26 (q r : ℕ) (D A : Fin 512 → Fin 1024 → ℝ) (U P : Fin 512 → Fin 512 → ℝ) :
    k0_pay26 (F := Ideal) (mat D) (mat A) (mat U) (slab1 q W1) (mat P) (slab2 r W2) (slab1 r W1)
    = mat fun p k => A p k + dmp W1 q U p k + dmp W1 r (dup W2 r D P) p k := by
  funext y
  unfold k0_pay26
  rw [pay25]
  pointwise [slab1]
  simp only [mat, mul_coe, sum_coe, add_coe]
  rfl
theorem pay28 (q : ℕ) (A : Fin 512 → Fin 1024 → ℝ) (U : Fin 512 → Fin 512 → ℝ) : k0_pay28 (F := Ideal) (mat A) (mat U) (slab1 q W1)
    = mat fun p k => A p k + dmp W1 q U p k := by
  funext y
  pointwise [k0_pay28, slab1]
  simp only [mat, mul_coe, sum_coe, add_coe]
  rfl

section
variable (v147 v157 v159) (M N : Fin 512 → Fin 1024 → ℝ) (hM : k0_pay28 (F := Ideal) v147 v157 v159 = mat M)
include hM
theorem pay29 : k0_pay29 (F := Ideal) (mat N) v147 v157 v159 = row fun k => ∑ p, M p k * N p k := by
  funext y
  unfold k0_pay29
  rw [hM]
  pointwise [row]
  simp only [mat, mul_coe, sum_coe]
  rfl
theorem pay30 : k0_pay30 (F := Ideal) (row sc) v147 v157 v159 = mat fun p k => M p k * (1 + sc k) := by
  funext y
  unfold k0_pay30
  rw [hM]
  pointwise [row]
  simp only [mat, c1, mul_coe, add_coe]
  rfl
theorem pay31 : k0_pay31 (F := Ideal) (row sc) (mat N) v147 v157 v159 = row fun k => ∑ p, M p k * (1 + sc k) * N p k := by
  funext y
  unfold k0_pay31
  rw [pay30 sc _ _ _ M hM]
  pointwise [row]
  simp only [mat, mul_coe, sum_coe]
  rfl
theorem pay32 (R : Fin 512 → ℝ) : k0_pay32 (F := Ideal) (mat H) (row ng) (row sc) (fun y => ((R (y 0) : ℝ) : EReal)) (mat N) v147 v157 v159
    = mat fun p k => H p k + R p * (M p k * (1 + sc k) * ng k - N p k * ((∑ j, M p j * (1 + sc j) * ng j * N p j) / 1024)) := by
  funext y
  unfold k0_pay32
  rw [pay30 sc _ _ _ M hM]
  pointwise [row]
  simp only [mat, c1024, mul_coe, sum_coe, div_coe _ (1024 : ℝ) (by norm_num), sub_coe, add_coe]
  rfl
theorem pay34 (v) (y) : k0_pay34 (F := Ideal) v147 v157 v159 v y = v y + ((∑ p, M p (y 2) : ℝ) : EReal) := by
  unfold k0_pay34
  rw [hM]
  pointwise
  simp only [mat, sum_coe]
  rfl
end
theorem pay1 (a : Fin 1024 → ℝ) (v) (y) : k0_pay1 (F := Ideal) (row a) v y = v y + ((a (y 2) : ℝ) : EReal) := by
  pointwise [k0_pay1, row]
theorem pay2 (a : Fin 1024 → ℝ) (v) (y) : k0_pay2 (F := Ideal) (row a) v y = v y + ((a (y 2) : ℝ) : EReal) := by
  pointwise [k0_pay2, row]
theorem pay3 (a : Fin 1024 → ℝ) (v) (y) : k0_pay3 (F := Ideal) (row a) v y = v y + ((a (y 2) : ℝ) : EReal) := by
  pointwise [k0_pay3, row]
theorem pay33 (y) : k0_pay33 (F := Ideal) y = ((0 : ℝ) : EReal) := by
  pointwise [k0_pay33]; rfl
end

end Cert.MlpRow
end
-- ==== Proof.MlpPoint.lean ====
module

public import proofs.«01_k».proof.Proof.MlpRow
@[expose] public section

/-! The call mlp_bwd: what each point of its grid leaves in the five result windows. -/

set_option maxRecDepth 16384
set_option maxHeartbeats 1000000

noncomputable section
open Idealize.ShloMosaic Idealize.ShloMosaic.TcCoe Cert.Lift
open Cert.MlpIdeal Cert.MlpIdeal.Gen Cert.MlpRow

namespace Cert.MlpPoint

variable (m : (ℓ : Loc nD τ sig) → Buf (Elt Ideal) ℓ) (c : Dev nD)

/-- The rows of point `n`'s block. -/
def rows {k : ℕ} (X : Fin 8192 → Fin k → ℝ) (n : ℕ) (p : Fin 512) : Fin k → ℝ :=
  X ⟨(512 * n + p.val) % 8192, Nat.mod_lt _ (by decide)⟩

/-! ## One row of a block of eight, and one part of the hidden columns, stored -/

theorem read_writes_lane {sig : RefSig} {κ : Kind} {sp : Space} {e : EltTy} {Val : EltTy → Type} {n k : ℕ}
    (v : View sig κ sp ⟨3, ![1, n, k]⟩ e) (f : v.ty.Contents Val) (r : ℕ) (inb)
    (w : (⟨3, ![1, 1, k]⟩ : Shape).Idx → Val e) (L : List (View.Piece Val (⟨3, ![1, n, k]⟩ : Shape) e)) (a : Fin n) (b : Fin k) :
    v.read Val (v.writes Val f ((⟨Rect.unit (s := ⟨3, ![1, n, k]⟩) ![0, r, 0] ![1, 1, k] inb, w⟩ : View.Piece Val (⟨3, ![1, n, k]⟩ : Shape) e) :: L)) (ValueIdx.ix3 0 a b)
      = if a.val = r then w (ValueIdx.ix3 0 0 b) else v.read Val (v.writes Val f L) (ValueIdx.ix3 0 a b) := by
  split
  · rename_i h
    exact View.read_writes_cons_unit_of_mem v f inb w L _ (ValueIdx.ix3 0 0 b) rfl (fun c => by
      match c with
      | ⟨0, _⟩ => show 0 = 0 + 0; rfl
      | ⟨1, _⟩ => show a.val = r + 0; omega
      | ⟨2, _⟩ => show b.val = 0 + b.val; omega)
  · rename_i h
    exact View.read_writes_cons_unit_of_not_mem v f inb w L _ rfl (1 : Fin 3) (by
      show a.val < r ∨ r + 1 ≤ a.val; omega)

theorem canon_lane {e : EltTy} {Val : EltTy → Type} [∀ e, Nonempty (Val e)] {n k : ℕ} (r : ℕ) (inb)
    (w : (⟨3, ![1, 1, k]⟩ : Shape).Idx → Val e) (L : List (View.Piece Val (⟨3, ![1, n, k]⟩ : Shape) e)) (a : Fin n) (b : Fin k) :
    View.canon ((⟨Rect.unit (s := ⟨3, ![1, n, k]⟩) ![0, r, 0] ![1, 1, k] inb, w⟩ : View.Piece Val (⟨3, ![1, n, k]⟩ : Shape) e) :: L) (ValueIdx.ix3 0 a b)
      = if a.val = r then w (ValueIdx.ix3 0 0 b) else View.canon L (ValueIdx.ix3 0 a b) := by
  split
  · rename_i h
    have : (ValueIdx.ix3 0 a b : (⟨3, ![1, n, k]⟩ : Shape).Idx) = (Rect.unit (s := ⟨3, ![1, n, k]⟩) ![0, r, 0] ![1, 1, k] inb).emb (ValueIdx.ix3 0 0 b) := by
      funext c; apply Fin.ext
      match c with
      | ⟨0, _⟩ => rfl
      | ⟨1, _⟩ => show a.val = r + 1 * 0; omega
      | ⟨2, _⟩ => show b.val = 0 + 1 * b.val; omega
    rw [this]; exact View.canon_cons_emb (Rect.unit (s := ⟨3, ![1, n, k]⟩) ![0, r, 0] ![1, 1, k] inb) w L _
  · rename_i h
    refine View.canon_cons_of_not_mem _ L ?_
    rw [Rect.mem_set_unit]
    intro hc
    have := hc (1 : Fin 3)
    have h1 : r ≤ a.val ∧ a.val < r + 1 := this
    omega

theorem ld_at {e : EltTy} {Val : EltTy → Type} {n k : ℕ} (v : (⟨3, ![1, n, k]⟩ : Shape).Idx → Val e) (r : ℕ) (inb) (b : Fin k) (a : Fin n) (ha : a.val = r) :
    View.ld v (Rect.unit (s := ⟨3, ![1, n, k]⟩) ![0, r, 0] ![1, 1, k] inb) (ValueIdx.ix3 0 0 b) = v (ValueIdx.ix3 0 a b) := by
  refine congrArg v ?_
  funext c; apply Fin.ext
  match c with
  | ⟨0, _⟩ => rfl
  | ⟨1, _⟩ => show r + 1 * 0 = a.val; omega
  | ⟨2, _⟩ => show 0 + 1 * b.val = b.val; omega

/-- Reading back one row of what a body has stored. -/
theorem readCov_lane {sig : RefSig} {κ : Kind} {sp : Space} {e : EltTy} {Val : EltTy → Type} [∀ e, Nonempty (Val e)] {n k : ℕ} (v : View sig κ sp ⟨3, ![1, n, k]⟩ e)
    (L : List (View.Piece Val (⟨3, ![1, n, k]⟩ : Shape) e)) (r : ℕ) (inb) (b : Fin k) (a : Fin n) (ha : a.val = r) :
    v.readCov L (Rect.unit (s := ⟨3, ![1, n, k]⟩) ![0, r, 0] ![1, 1, k] inb).toLoadRect (ValueIdx.ix3 0 0 b) = View.canon L (ValueIdx.ix3 0 a b) := by
  rw [View.readCov_eq_canon']
  exact ld_at (View.canon L) r inb b a ha

theorem canon_cols (Z : Fin 512 → Fin 4096 → ℝ) (w : Vec Ideal S512x512 .bf16) (q o : ℕ) (hw : w = mat (cols q Z)) (ho : o = 512 * q) (hq : q < 8) (inb)
    (L : List (View.Piece (Elt Ideal) S512x4096 .bf16)) (y : S512x4096.Idx) (hL : (y 1).val < 512 * q → View.canon L y = mat Z y) (hy : (y 1).val < 512 * q + 512) :
    View.canon ((⟨Rect.unit (s := S512x4096) ![0, o] ![512, 512] inb, w⟩ : View.Piece (Elt Ideal) S512x4096 .bf16) :: L) y = mat Z y := by
  subst hw ho
  by_cases h : (y 1).val < 512 * q
  · refine (View.canon_cons_of_not_mem _ L ?_).trans (hL h)
    rw [Rect.mem_set_unit]
    intro hc
    have := hc (1 : Fin 2)
    have h1 : 512 * q ≤ (y 1).val ∧ (y 1).val < 512 * q + 512 := this
    omega
  · have hj : (y 1).val - 512 * q < 512 := by omega
    have : y = (Rect.unit (s := S512x4096) ![0, 512 * q] ![512, 512] inb).emb (ValueIdx.ix2 (y 0) ⟨(y 1).val - 512 * q, hj⟩) := by
      funext c; apply Fin.ext
      match c with
      | ⟨0, _⟩ => show (y 0).val = 0 + 1 * (y 0).val; omega
      | ⟨1, _⟩ => show (y 1).val = 512 * q + 1 * ((y 1).val - 512 * q); omega
    conv_lhs => rw [this]
    refine (View.canon_cons_emb (Rect.unit (s := S512x4096) ![0, 512 * q] ![512, 512] inb) _ L _).trans ?_
    refine congrArg (fun j : Fin 4096 => ((Z (y 0) j : ℝ) : EReal)) (Fin.ext ?_)
    show (512 * q + ((y 1).val - 512 * q)) % 4096 = (y 1).val
    have : (y 1).val < 4096 := (y 1).isLt
    omega

/-- The input's gradient of a block, in the parts the body adds up before the last. -/
def most (W1 : Fin 1024 → Fin 4096 → ℝ) (W2 : Fin 4096 → Fin 1024 → ℝ) (D : Fin 512 → Fin 1024 → ℝ) (P : Fin 512 → Fin 4096 → ℝ) (p : Fin 512) (k : Fin 1024) : ℝ :=
  0 + dmp W1 0 (dup W2 0 D (cols 0 P)) p k + dmp W1 1 (dup W2 1 D (cols 1 P)) p k + dmp W1 2 (dup W2 2 D (cols 2 P)) p k + dmp W1 3 (dup W2 3 D (cols 3 P)) p k + dmp W1 4 (dup W2 4 D (cols 4 P)) p k + dmp W1 5 (dup W2 5 D (cols 5 P)) p k + dmp W1 6 (dup W2 6 D (cols 6 P)) p k

section
variable (W1 : Fin 1024 → Fin 4096 → ℝ) (W2 : Fin 4096 → Fin 1024 → ℝ) (g sc ng : Fin 1024 → ℝ) (H X : Fin 512 → Fin 1024 → ℝ) (P : Fin 512 → Fin 4096 → ℝ)

theorem most_eq (p : Fin 512) (k : Fin 1024) :
    most W1 W2 (fun p => da g (H p)) P p k + dmp W1 7 (dup W2 7 (fun p => da g (H p)) (cols 7 P)) p k = dm W1 W2 g (H p) (P p) k :=
  (sum_parts fun j => du W2 g (H p) (P p) j * W1 k j).symm

theorem chain : (k0_pay26 (F := Ideal) (k0_pay15 (mat H) (row g))
        (k0_pay23 (k0_pay15 (mat H) (row g))
          (k0_pay20 (k0_pay15 (mat H) (row g))
            (k0_pay17 (mat H) (row g) (mat (cols 0 P)) (slab2 0 W2) (slab1 0 W1))
            (k0_pay18 (mat H) (row g) (mat (cols 1 P)) (slab2 1 W2)) (slab1 1 W1)
            (mat (cols 2 P)) (slab2 2 W2) (slab1 2 W1))
          (k0_pay21 (k0_pay15 (mat H) (row g)) (mat (cols 3 P)) (slab2 3 W2)) (slab1 3 W1)
          (mat (cols 4 P)) (slab2 4 W2) (slab1 4 W1))
        (k0_pay24 (k0_pay15 (mat H) (row g)) (mat (cols 5 P)) (slab2 5 W2)) (slab1 5 W1)
        (mat (cols 6 P)) (slab2 6 W2) (slab1 6 W1)) = mat (most W1 W2 (fun p => da g (H p)) P) := by
  rw [pay15, pay17, pay18, pay21, pay24, pay20, pay23, pay26]
  rfl

theorem last : k0_pay27 (F := Ideal) (k0_pay15 (mat H) (row g)) (mat (cols 7 P)) (slab2 7 W2) = mat (dup W2 7 (fun p => da g (H p)) (cols 7 P)) := by
  rw [pay15, pay27]

theorem all : k0_pay28 (F := Ideal) (mat (most W1 W2 (fun p => da g (H p)) P)) (mat (dup W2 7 (fun p => da g (H p)) (cols 7 P))) (slab1 7 W1)
    = mat fun p k => dm W1 W2 g (H p) (P p) k := by
  rw [pay28]
  funext y
  exact congrArg (fun s : ℝ => (s : EReal)) (most_eq W1 W2 g H P (y 0) (y 1))

theorem final : k0_pay32 (F := Ideal) (mat H) (row ng) (row sc) (fun y => ((rs (X (y 0)) : ℝ) : EReal)) (mat fun p => xh (X p))
    (mat (most W1 W2 (fun p => da g (H p)) P)) (mat (dup W2 7 (fun p => da g (H p)) (cols 7 P))) (slab1 7 W1)
    = mat fun p k => dh W1 W2 g sc ng (X p) (H p) (P p) k :=
  pay32 sc ng H _ _ _ (fun p k => dm W1 W2 g (H p) (P p) k) (fun p => xh (X p)) (all W1 W2 g H P) (fun p => rs (X p))

theorem dup_cols (q : ℕ) : dup W2 q (fun p => da g (H p)) (cols q P) = cols q (fun p j => du W2 g (H p) (P p) j) := rfl

end

/-- The hidden columns' eight parts, stored one after the other. -/
theorem hid (Z : Fin 512 → Fin 4096 → ℝ) : View.canon (Val := Elt Ideal) (s := S512x4096) (e := .bf16) [
    ⟨Rect.unit ![0, 3584] ![512, 512] inb_S512x4096_S512x512_0_3584, (mat (cols 7 Z) : Vec Ideal S512x512 .bf16)⟩,
    ⟨Rect.unit ![0, 3072] ![512, 512] inb_S512x4096_S512x512_0_3072, (mat (cols 6 Z) : Vec Ideal S512x512 .bf16)⟩,
    ⟨Rect.unit ![0, 2560] ![512, 512] inb_S512x4096_S512x512_0_2560, (mat (cols 5 Z) : Vec Ideal S512x512 .bf16)⟩,
    ⟨Rect.unit ![0, 2048] ![512, 512] inb_S512x4096_S512x512_0_2048, (mat (cols 4 Z) : Vec Ideal S512x512 .bf16)⟩,
    ⟨Rect.unit ![0, 1536] ![512, 512] inb_S512x4096_S512x512_0_1536, (mat (cols 3 Z) : Vec Ideal S512x512 .bf16)⟩,
    ⟨Rect.unit ![0, 1024] ![512, 512] inb_S512x4096_S512x512_0_1024, (mat (cols 2 Z) : Vec Ideal S512x512 .bf16)⟩,
    ⟨Rect.unit ![0, 512] ![512, 512] inb_S512x4096_S512x512_0_512, (mat (cols 1 Z) : Vec Ideal S512x512 .bf16)⟩,
    ⟨Rect.unit ![0, 0] ![512, 512] inb_S512x4096_S512x512_0_0, (mat (cols 0 Z) : Vec Ideal S512x512 .bf16)⟩]
    = mat Z := by
  funext y
  have hy : (y 1).val < 4096 := (y 1).isLt
  refine canon_cols Z _ 7 3584 rfl rfl (by decide) _ _ y (fun h => ?_) (by omega)
  refine canon_cols Z _ 6 3072 rfl rfl (by decide) _ _ y (fun h => ?_) (by omega)
  refine canon_cols Z _ 5 2560 rfl rfl (by decide) _ _ y (fun h => ?_) (by omega)
  refine canon_cols Z _ 4 2048 rfl rfl (by decide) _ _ y (fun h => ?_) (by omega)
  refine canon_cols Z _ 3 1536 rfl rfl (by decide) _ _ y (fun h => ?_) (by omega)
  refine canon_cols Z _ 2 1024 rfl rfl (by decide) _ _ y (fun h => ?_) (by omega)
  refine canon_cols Z _ 1 512 rfl rfl (by decide) _ _ y (fun h => ?_) (by omega)
  exact canon_cols Z _ 0 0 rfl rfl (by decide) _ _ y (fun h => absurd h (by omega)) (by omega)

/-- What a block adds to the four rows: the gradients of shift, scale, gate and gain. -/
def st (W1 : Fin 1024 → Fin 4096 → ℝ) (W2 : Fin 4096 → Fin 1024 → ℝ) (g sc ng : Fin 1024 → ℝ) (H X Y : Fin 1024 → ℝ) (P : Fin 4096 → ℝ) (a : ℕ) (k : Fin 1024) : ℝ :=
  if a = 3 then dm W1 W2 g H P k * (1 + sc k) * xh X k else if a = 2 then H k * Y k else if a = 1 then dm W1 W2 g H P k * nn ng X k
  else if a = 0 then dm W1 W2 g H P k else 0

variable (W1 : Fin 1024 → Fin 4096 → ℝ) (W2 : Fin 4096 → Fin 1024 → ℝ) (g sc sh ng : Fin 1024 → ℝ)
  (H X Y : Fin 8192 → Fin 1024 → ℝ) (P : Fin 8192 → Fin 4096 → ℝ)
  (h0 : ∀ t : Fin cfg0.N, (iblk m c 0 t : Vec Ideal S512x1024 .f32) = mat (rows H t.val))
  (h1 : ∀ t : Fin cfg0.N, (iblk m c 1 t : Vec Ideal S512x1024 .f32) = mat (rows X t.val))
  (h2 : ∀ t : Fin cfg0.N, (iblk m c 2 t : Vec Ideal S512x4096 .bf16) = mat (rows P t.val))
  (h3 : ∀ t : Fin cfg0.N, (iblk m c 3 t : Vec Ideal S512x1024 .bf16) = mat (rows Y t.val))
  (h4 : ∀ t : Fin cfg0.N, (iblk m c 4 t : Vec Ideal S1x8x1024 .f32) = mods g sc sh)
  (h5 : ∀ t : Fin cfg0.N, (iblk m c 5 t : Vec Ideal S1x1024 .f32) = row ng)
  (h6 : ∀ t : Fin cfg0.N, (iblk m c 6 t : Vec Ideal S8x1024x512 .bf16) = slabs1 W1)
  (h7 : ∀ t : Fin cfg0.N, (iblk m c 7 t : Vec Ideal S8x512x1024 .bf16) = slabs2 W2)

include h1 h4 h5 in
theorem point9 (t : Fin cfg0.N) : (outsAt0 m c t.val t.isLt).2.1 = mat fun p k => mm sc sh ng (rows X t.val p) k := by
  by_cases ht : t.val % 16 = 0
  on_goal 1 => rw [outsAt0_A m c t ht]
  on_goal 2 => rw [outsAt0_B m c t ht]
  all_goals
    frame_out
    rw [h1, h4, h5, mods3, mods4]
    exact pay12 _ _ _ _

include h0 h4 in
theorem point11 (t : Fin cfg0.N) : (outsAt0 m c t.val t.isLt).2.2.2.1 = mat fun p k => da g (rows H t.val p) k := by
  by_cases ht : t.val % 16 = 0
  on_goal 1 => rw [outsAt0_A m c t ht]
  on_goal 2 => rw [outsAt0_B m c t ht]
  all_goals
    frame_out
    rw [h0, h4, mods5, pay4, pay7]
    exact pay15 _ _

include h0 h1 h2 h4 h5 h6 h7 in
theorem point8 (t : Fin cfg0.N) : (outsAt0 m c t.val t.isLt).1
    = mat fun p k => dh W1 W2 g sc ng (rows X t.val p) (rows H t.val p) (rows P t.val p) k := by
  by_cases ht : t.val % 16 = 0
  on_goal 1 => rw [outsAt0_A m c t ht]
  on_goal 2 => rw [outsAt0_B m c t ht]
  all_goals
    frame_out
    rw [h0, h1, h4, h5, h6, h7, mods4, mods5]
    simp only [pay4, pay5, pay6, pay7, pay9, pay10, ld1, ld2]
    rw [ldc (rows P t.val) _ (h2 t) 0 0 rfl (by decide), ldc (rows P t.val) _ (h2 t) 1 512 rfl (by decide),
      ldc (rows P t.val) _ (h2 t) 2 1024 rfl (by decide), ldc (rows P t.val) _ (h2 t) 3 1536 rfl (by decide),
      ldc (rows P t.val) _ (h2 t) 4 2048 rfl (by decide), ldc (rows P t.val) _ (h2 t) 5 2560 rfl (by decide),
      ldc (rows P t.val) _ (h2 t) 6 3072 rfl (by decide), ldc (rows P t.val) _ (h2 t) 7 3584 rfl (by decide)]
    rw [chain, last]
    exact final W1 W2 g sc ng (rows H t.val) (rows X t.val) (rows P t.val)

include h0 h2 h4 h7 in
theorem point10 (t : Fin cfg0.N) : (outsAt0 m c t.val t.isLt).2.2.1
    = mat fun p k => du W2 g (rows H t.val p) (rows P t.val p) k := by
  by_cases ht : t.val % 16 = 0
  on_goal 1 => rw [outsAt0_A m c t ht]
  on_goal 2 => rw [outsAt0_B m c t ht]
  all_goals
    frame_out
    rw [h0, h4, h7, mods5]
    simp only [pay4, pay7, ld2]
    rw [ldc (rows P t.val) _ (h2 t) 0 0 rfl (by decide), ldc (rows P t.val) _ (h2 t) 1 512 rfl (by decide),
      ldc (rows P t.val) _ (h2 t) 2 1024 rfl (by decide), ldc (rows P t.val) _ (h2 t) 3 1536 rfl (by decide),
      ldc (rows P t.val) _ (h2 t) 4 2048 rfl (by decide), ldc (rows P t.val) _ (h2 t) 5 2560 rfl (by decide),
      ldc (rows P t.val) _ (h2 t) 6 3072 rfl (by decide), ldc (rows P t.val) _ (h2 t) 7 3584 rfl (by decide)]
    rw [pay15, pay16, pay18, pay19, pay21, pay22, pay24, pay25, pay27]
    simp only [dup_cols]
    exact hid _

end Cert.MlpPoint
end
-- ==== Proof.MlpAcc.lean ====
module

public import proofs.«01_k».proof.Proof.MlpPoint
@[expose] public section

/-! The call mlp_bwd: what its points leave in the window of the four rows' gradients. -/

set_option maxRecDepth 16384
set_option maxHeartbeats 1000000

noncomputable section
open Idealize.ShloMosaic Idealize.ShloMosaic.TcCoe Cert.Lift
open Cert.MlpIdeal Cert.MlpIdeal.Gen Cert.MlpRow

namespace Cert.MlpPoint

variable (m : (ℓ : Loc nD τ sig) → Buf (Elt Ideal) ℓ) (c : Dev nD)
variable (W1 : Fin 1024 → Fin 4096 → ℝ) (W2 : Fin 4096 → Fin 1024 → ℝ) (g sc sh ng : Fin 1024 → ℝ)
  (H X Y : Fin 8192 → Fin 1024 → ℝ) (P : Fin 8192 → Fin 4096 → ℝ)
  (h0 : ∀ t : Fin cfg0.N, (iblk m c 0 t : Vec Ideal S512x1024 .f32) = mat (rows H t.val))
  (h1 : ∀ t : Fin cfg0.N, (iblk m c 1 t : Vec Ideal S512x1024 .f32) = mat (rows X t.val))
  (h2 : ∀ t : Fin cfg0.N, (iblk m c 2 t : Vec Ideal S512x4096 .bf16) = mat (rows P t.val))
  (h3 : ∀ t : Fin cfg0.N, (iblk m c 3 t : Vec Ideal S512x1024 .bf16) = mat (rows Y t.val))
  (h4 : ∀ t : Fin cfg0.N, (iblk m c 4 t : Vec Ideal S1x8x1024 .f32) = mods g sc sh)
  (h5 : ∀ t : Fin cfg0.N, (iblk m c 5 t : Vec Ideal S1x1024 .f32) = row ng)
  (h6 : ∀ t : Fin cfg0.N, (iblk m c 6 t : Vec Ideal S8x1024x512 .bf16) = slabs1 W1)
  (h7 : ∀ t : Fin cfg0.N, (iblk m c 7 t : Vec Ideal S8x512x1024 .bf16) = slabs2 W2)

include h0 h1 h2 h3 h4 h5 h6 h7 in
theorem point12 : ∀ (n : ℕ) (hn : n < cfg0.N) (a : Fin 8) (k : Fin 1024), (outsAt0 m c n hn).2.2.2.2 (ValueIdx.ix3 0 a k)
    = ((∑ i ∈ Finset.range (n + 1), ∑ p, st W1 W2 g sc ng (rows H i p) (rows X i p) (rows Y i p) (rows P i p) a.val k : ℝ) : EReal) := by
  intro n
  induction n with
  | zero =>
    intro hn a k
    rw [outsAt0_A m c ⟨0, hn⟩ (by simp)]
    frame_out
    rw [h0, h1, h3, h4, h5, h6, h7, mods4, mods5]
    simp only [pay4, pay5, pay6, pay7, pay9, pay10, pay11, pay13, ld1, ld2]
    rw [ldc (rows P 0) _ (h2 ⟨0, hn⟩) 0 0 rfl (by decide), ldc (rows P 0) _ (h2 ⟨0, hn⟩) 1 512 rfl (by decide),
      ldc (rows P 0) _ (h2 ⟨0, hn⟩) 2 1024 rfl (by decide), ldc (rows P 0) _ (h2 ⟨0, hn⟩) 3 1536 rfl (by decide),
      ldc (rows P 0) _ (h2 ⟨0, hn⟩) 4 2048 rfl (by decide), ldc (rows P 0) _ (h2 ⟨0, hn⟩) 5 2560 rfl (by decide),
      ldc (rows P 0) _ (h2 ⟨0, hn⟩) 6 3072 rfl (by decide), ldc (rows P 0) _ (h2 ⟨0, hn⟩) 7 3584 rfl (by decide)]
    rw [chain, last]
    rw [pay31 sc _ _ _ _ _ (all W1 W2 g (rows H 0) (rows P 0)), pay29 _ _ _ _ _ (all W1 W2 g (rows H 0) (rows P 0)), pay14]
    have fin : ∀ s : ℝ, s = ∑ p, st W1 W2 g sc ng (rows H 0 p) (rows X 0 p) (rows Y 0 p) (rows P 0 p) a.val k → ((0 : ℝ) : EReal) + (s : EReal)
        = ((∑ i ∈ Finset.range (0 + 1), ∑ p, st W1 W2 g sc ng (rows H i p) (rows X i p) (rows Y i p) (rows P i p) a.val k : ℝ) : EReal) :=
      fun s hs => by rw [hs, add_coe, zero_add, Finset.sum_range_one]
    rw [canon_lane]
    split
    · rename_i h3
      rw [pay3, readCov_lane _ _ 3 _ k (3 : Fin 8) rfl, canon_lane, if_neg (by decide), canon_lane, if_neg (by decide), canon_lane, if_neg (by decide),
        View.canon_cons_unit_lit _ _ _ (by decide), pay33]
      exact fin _ (by rw [h3]; rfl)
    · rename_i h3
      rw [canon_lane]
      split
      · rename_i h2
        rw [pay2, readCov_lane _ _ 2 _ k (2 : Fin 8) rfl, canon_lane, if_neg (by decide), canon_lane, if_neg (by decide),
          View.canon_cons_unit_lit _ _ _ (by decide), pay33]
        exact fin _ (by rw [h2]; rfl)
      · rename_i h2
        rw [canon_lane]
        split
        · rename_i h1
          rw [pay1, readCov_lane _ _ 1 _ k (1 : Fin 8) rfl, canon_lane, if_neg (by decide), View.canon_cons_unit_lit _ _ _ (by decide), pay33]
          exact fin _ (by rw [h1]; rfl)
        · rename_i h1
          rw [canon_lane]
          split
          · rename_i h0
            rw [pay34 _ _ _ _ (all W1 W2 g (rows H 0) (rows P 0)), readCov_lane _ _ 0 _ k (0 : Fin 8) rfl, View.canon_cons_unit_lit _ _ _ (by decide), pay33]
            exact fin _ (by rw [h0]; rfl)
          · rename_i h0
            rw [View.canon_cons_unit_lit _ _ _ (by decide), pay33]
            refine Eq.trans ?_ (fin 0 ?_)
            · rw [add_coe, zero_add]
            · unfold st
              simp only [if_neg h3, if_neg h2, if_neg h1, if_neg h0, Finset.sum_const_zero]
  | succ n ih =>
    intro hn a k
    have hN : n + 1 < 16 := hn
    rw [outsAt0_B m c ⟨n + 1, hn⟩ (by dsimp only; omega)]
    frame_out
    rw [h0, h1, h3, h4, h5, h6, h7, mods4, mods5]
    simp only [pay4, pay5, pay6, pay7, pay9, pay10, pay11, pay13, ld1, ld2]
    rw [ldc (rows P (n + 1)) _ (h2 ⟨n + 1, hn⟩) 0 0 rfl (by decide), ldc (rows P (n + 1)) _ (h2 ⟨n + 1, hn⟩) 1 512 rfl (by decide),
      ldc (rows P (n + 1)) _ (h2 ⟨n + 1, hn⟩) 2 1024 rfl (by decide), ldc (rows P (n + 1)) _ (h2 ⟨n + 1, hn⟩) 3 1536 rfl (by decide),
      ldc (rows P (n + 1)) _ (h2 ⟨n + 1, hn⟩) 4 2048 rfl (by decide), ldc (rows P (n + 1)) _ (h2 ⟨n + 1, hn⟩) 5 2560 rfl (by decide),
      ldc (rows P (n + 1)) _ (h2 ⟨n + 1, hn⟩) 6 3072 rfl (by decide), ldc (rows P (n + 1)) _ (h2 ⟨n + 1, hn⟩) 7 3584 rfl (by decide)]
    rw [chain, last]
    rw [pay31 sc _ _ _ _ _ (all W1 W2 g (rows H (n + 1)) (rows P (n + 1))), pay29 _ _ _ _ _ (all W1 W2 g (rows H (n + 1)) (rows P (n + 1))), pay14]
    have fin : ∀ s : ℝ, s = ∑ p, st W1 W2 g sc ng (rows H (n + 1) p) (rows X (n + 1) p) (rows Y (n + 1) p) (rows P (n + 1) p) a.val k →
        (outsAt0 m c (n + 1 - 1) (Nat.lt_of_succ_lt hn)).2.2.2.2 (ValueIdx.ix3 0 a k) + (s : EReal)
        = ((∑ i ∈ Finset.range (n + 1 + 1), ∑ p, st W1 W2 g sc ng (rows H i p) (rows X i p) (rows Y i p) (rows P i p) a.val k : ℝ) : EReal) :=
      fun s hs => (congrArg (· + (s : EReal)) (ih (Nat.lt_of_succ_lt hn) a k)).trans (by rw [hs, add_coe, Finset.sum_range_succ _ (n + 1)])
    rw [read_writes_lane]
    split
    · rename_i h3
      rw [pay3, ld_at _ _ _ _ a h3]
      exact fin _ (by rw [h3]; rfl)
    · rename_i h3
      rw [read_writes_lane]
      split
      · rename_i h2
        rw [pay2, ld_at _ _ _ _ a h2]
        exact fin _ (by rw [h2]; rfl)
      · rename_i h2
        rw [read_writes_lane]
        split
        · rename_i h1
          rw [pay1, ld_at _ _ _ _ a h1]
          exact fin _ (by rw [h1]; rfl)
        · rename_i h1
          rw [read_writes_lane]
          split
          · rename_i h0
            rw [pay34 _ _ _ _ (all W1 W2 g (rows H (n + 1)) (rows P (n + 1))), ld_at _ _ _ _ a h0]
            exact fin _ (by rw [h0]; rfl)
          · rename_i h0
            rw [View.writes_nil, Memref.IsWhole.read_unread]
            refine Eq.trans ?_ (fin 0 ?_)
            · exact (add_zero _).symm
            · unfold st
              simp only [if_neg h3, if_neg h2, if_neg h1, if_neg h0, Finset.sum_const_zero]

end Cert.MlpPoint
end
-- ==== Proof.MlpBlock.lean ====
module

public import proofs.«01_k».proof.Proof.MlpAcc
@[expose] public section

/-! The call mlp_bwd: its operands' blocks as rows of the arguments. -/

noncomputable section
open Idealize.ShloMosaic Idealize.ShloMosaic.TcCoe Cert.Lift
open Cert.MlpIdeal Cert.MlpIdeal.Gen Cert.MlpRow Cert.MlpPoint

namespace Cert.MlpArray

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![1, 0, 0] ∧ win0_5.index t = ![0, 0] ∧ win0_6.index t = ![0, 0, 0]
    ∧ win0_7.index t = ![0, 0, 0] ∧ win0_8.index t = ![t.val, 0] ∧ win0_9.index t = ![t.val, 0] ∧ win0_10.index t = ![t.val, 0]
    ∧ win0_11.index t = ![t.val, 0] ∧ win0_12.index t = ![0, 0, 0] :=
  (by decide +kernel : ∀ t : Fin grid0.N, _)

/-- The arguments by row and column, and what the forward pass saves. -/
def rA (h : S1x8192x1024.Idx → ℝ) (p : Fin 8192) (k : Fin 1024) : ℝ := h (ValueIdx.ix3 0 p k)
def vA (s : S1x1024.Idx → ℝ) (n : Fin 1024) : ℝ := s (ValueIdx.ix2 0 n)
def nA (ng : S1024.Idx → ℝ) (n : Fin 1024) : ℝ := ng (ValueIdx.ix1 n)
def w1A (w : S1024x4096.Idx → ℝ) (k : Fin 1024) (j : Fin 4096) : ℝ := w (ValueIdx.ix2 k j)
def w2A (w : S4096x1024.Idx → ℝ) (j : Fin 4096) (n : Fin 1024) : ℝ := w (ValueIdx.ix2 j n)

theorem max_coe (a b : ℝ) : max (a : EReal) (b : EReal) = ((max a b : ℝ) : EReal) := (EReal.coe_strictMono.monotone.map_max).symm
theorem one_coe : (1 : EReal) = ((1 : ℝ) : EReal) := rfl
theorem zero_coe : (0 : EReal) = ((0 : ℝ) : EReal) := rfl

/-- The host's operations up to the modulations. -/
def pre : List (HloOp τ sig (Elt Ideal)) := List.take 8 (hostOps0 (F := Ideal))
def post : List (HloOp τ sig (Elt Ideal)) := List.drop 8 (hostOps0 (F := Ideal)) ++ (hostOps0_1 ++ hostOps0_2)

theorem kept : ∀ op ∈ post, (Proc.devRef .tc main_v5 : DevRef τ sig) ∉ op.writes := by
  decide +kernel

theorem split_eq : V m c main_v5 = StableHlo.after pre (fun b => m (c, b)) (Proc.devRef .tc main_v5) := by
  have e : ([hostOps0 (F := Ideal), hostOps0_1, hostOps0_2]).flatten = pre ++ post := rfl
  refine (congrArg (fun l => StableHlo.after l (fun b => m (c, b)) (Proc.devRef .tc main_v5)) e).trans ?_
  rw [StableHlo.after_append]
  exact StableHlo.after_of_forall_not_mem (b := Proc.devRef .tc main_v5) _ _ kept

theorem mods_entry : V m c main_v5 = concatenate S2x8x1024 0
    [⟨S1x8x1024, broadcastInDim S1x8x1024 ![1, 2] bcast_S8x1024_S1x8x1024_1_2
        (broadcastInDim S8x1024 ![] bcast_S_S8x1024 (constant (F := Ideal) S_ FTy.f32 0#32))⟩,
      ⟨S1x8x1024, broadcastInDim S1x8x1024 ![1, 2] bcast_S8x1024_S1x8x1024_1_2
        (concatenate S8x1024 0
          [⟨S1x1024, broadcastInDim S1x1024 ![] bcast_S_S1x1024 (constant (F := Ideal) S_ FTy.f32 0#32)⟩,
            ⟨S1x1024, broadcastInDim S1x1024 ![] bcast_S_S1x1024 (constant (F := Ideal) S_ FTy.f32 0#32)⟩,
            ⟨S1x1024, broadcastInDim S1x1024 ![] bcast_S_S1x1024 (constant (F := Ideal) S_ FTy.f32 0#32)⟩,
            ⟨S1x1024, m (c, Proc.devRef .tc main_arg1)⟩, ⟨S1x1024, m (c, Proc.devRef .tc main_arg2)⟩,
            ⟨S1x1024, m (c, Proc.devRef .tc main_arg3)⟩,
            ⟨S1x1024, broadcastInDim S1x1024 ![] bcast_S_S1x1024 (constant (F := Ideal) S_ FTy.f32 0#32)⟩,
            ⟨S1x1024, broadcastInDim S1x1024 ![] bcast_S_S1x1024 (constant (F := Ideal) S_ FTy.f32 0#32)⟩]
          concatenates_S1x1024_S1x1024_S1x1024_S1x1024_S1x1024_S1x1024_S1x1024_S1x1024_S8x1024_d0)⟩]
      concatenates_S1x8x1024_S1x8x1024_S2x8x1024_d0 := by
  rw [split_eq]
  simp only [pre, hostOps0, List.take_succ_cons, List.take_zero, StableHlo.after_cons, StableHlo.after_nil]
  rw [StableHlo.binary_result, StableHlo.unary_result, StableHlo.unary_result_ne _ _ _ _ _ _ (by decide), StableHlo.unary_result, StableHlo.unary_result]
  rw [StableHlo.nullary_result, StableHlo.unary_result_ne _ _ _ _ _ _ (by decide), StableHlo.unary_result_ne _ _ _ _ _ _ (by decide),
    StableHlo.nullary_result_ne _ _ _ _ (by decide), StableHlo.nary_result]
  have hz := (StableHlo.unary_result main_cst main_v0 (broadcastInDim S1x1024 ![] bcast_S_S1x1024) hostOps0._proof_1 hostOps0._proof_2
      ((StableHlo.nullary main_cst (constant (F := Ideal) S_ FTy.f32 0#32) hostOps0._proof_1).result fun b => m (c, b))).trans
    (congrArg (broadcastInDim S1x1024 ![] bcast_S_S1x1024) (StableHlo.nullary_result main_cst (constant (F := Ideal) S_ FTy.f32 0#32)
      hostOps0._proof_1 (fun b => m (c, b))))
  have h1 := (StableHlo.unary_result_ne main_cst main_v0 (broadcastInDim S1x1024 ![] bcast_S_S1x1024) hostOps0._proof_1 hostOps0._proof_2
      ((StableHlo.nullary main_cst (constant (F := Ideal) S_ FTy.f32 0#32) hostOps0._proof_1).result fun b => m (c, b)) (r := main_arg1) (by decide)).trans
    (StableHlo.nullary_result_ne main_cst (constant (F := Ideal) S_ FTy.f32 0#32) hostOps0._proof_1 (fun b => m (c, b)) (r := main_arg1) (by decide))
  have h2 := (StableHlo.unary_result_ne main_cst main_v0 (broadcastInDim S1x1024 ![] bcast_S_S1x1024) hostOps0._proof_1 hostOps0._proof_2
      ((StableHlo.nullary main_cst (constant (F := Ideal) S_ FTy.f32 0#32) hostOps0._proof_1).result fun b => m (c, b)) (r := main_arg2) (by decide)).trans
    (StableHlo.nullary_result_ne main_cst (constant (F := Ideal) S_ FTy.f32 0#32) hostOps0._proof_1 (fun b => m (c, b)) (r := main_arg2) (by decide))
  have h3 := (StableHlo.unary_result_ne main_cst main_v0 (broadcastInDim S1x1024 ![] bcast_S_S1x1024) hostOps0._proof_1 hostOps0._proof_2
      ((StableHlo.nullary main_cst (constant (F := Ideal) S_ FTy.f32 0#32) hostOps0._proof_1).result fun b => m (c, b)) (r := main_arg3) (by decide)).trans
    (StableHlo.nullary_result_ne main_cst (constant (F := Ideal) S_ FTy.f32 0#32) hostOps0._proof_1 (fun b => m (c, b)) (r := main_arg3) (by decide))
  refine congrArg (fun Z : Vec Ideal S8x1024 .f32 => concatenate S2x8x1024 0
    [⟨S1x8x1024, broadcastInDim S1x8x1024 ![1, 2] bcast_S8x1024_S1x8x1024_1_2
        (broadcastInDim S8x1024 ![] bcast_S_S8x1024 (constant (F := Ideal) S_ FTy.f32 0#32))⟩,
      ⟨S1x8x1024, broadcastInDim S1x8x1024 ![1, 2] bcast_S8x1024_S1x8x1024_1_2 Z⟩]
      concatenates_S1x8x1024_S1x8x1024_S2x8x1024_d0) ?_
  refine congrArg₂ (fun (z : Vec Ideal S1x1024 .f32) (q : Vec Ideal S1x1024 .f32 × Vec Ideal S1x1024 .f32 × Vec Ideal S1x1024 .f32) =>
    concatenate S8x1024 0
          [⟨S1x1024, z⟩, ⟨S1x1024, z⟩, ⟨S1x1024, z⟩, ⟨S1x1024, q.1⟩, ⟨S1x1024, q.2.1⟩, ⟨S1x1024, q.2.2⟩, ⟨S1x1024, z⟩, ⟨S1x1024, z⟩]
          concatenates_S1x1024_S1x1024_S1x1024_S1x1024_S1x1024_S1x1024_S1x1024_S1x1024_S8x1024_d0) hz
    (congrArg₂ Prod.mk h1 (congrArg₂ Prod.mk h2 h3))

section
variable (h : S1x8192x1024.Idx → ℝ) (sh sc gg : S1x1024.Idx → ℝ) (ng : S1024.Idx → ℝ) (w1 : S1024x4096.Idx → ℝ) (w2 : S4096x1024.Idx → ℝ) (ct : S1x8192x1024.Idx → ℝ)
  (hh : m ((c : Thread nD τ).loc main_arg0) = fun i => ((h i : ℝ) : EReal)) (hs : m ((c : Thread nD τ).loc main_arg1) = fun i => ((sh i : ℝ) : EReal))
  (hc : m ((c : Thread nD τ).loc main_arg2) = fun i => ((sc i : ℝ) : EReal)) (hg : m ((c : Thread nD τ).loc main_arg3) = fun i => ((gg i : ℝ) : EReal))
  (hn : m ((c : Thread nD τ).loc main_arg4) = fun i => ((ng i : ℝ) : EReal)) (h1 : m ((c : Thread nD τ).loc main_arg5) = fun i => ((w1 i : ℝ) : EReal))
  (h2 : m ((c : Thread nD τ).loc main_arg6) = fun i => ((w2 i : ℝ) : EReal)) (hd : m ((c : Thread nD τ).loc main_arg7) = fun i => ((ct i : ℝ) : EReal))

def mA (p : Fin 8192) (k : Fin 1024) : ℝ := mm (vA sc) (vA sh) (nA ng) (rA h p) k
def pA (p : Fin 8192) (j : Fin 4096) : ℝ := max (∑ k, mA h sh sc ng p k * w1A w1 k j) 0
def yA (p : Fin 8192) (n : Fin 1024) : ℝ := ∑ j, pA h sh sc ng w1 p j * pA h sh sc ng w1 p j * w2A w2 j n

include hd in
theorem blk0 (t : Fin cfg0.N) : (iblk m c 0 t : Vec Ideal S512x1024 .f32) = mat (rows (rA ct) t.val) := by
  funext y
  blk_simp [iblk]
  simp only [V, hostOps0, hostOps0_1, hostOps0_2, List.flatten_cons, List.flatten_nil, List.cons_append, List.nil_append, List.append_nil]
  entry_read
  rw [hd]
  pointwise
  refine congrArg (fun i => ((ct i : ℝ) : EReal)) ?_
  blk_ext [idx t]
include hh in
theorem blk1 (t : Fin cfg0.N) : (iblk m c 1 t : Vec Ideal S512x1024 .f32) = mat (rows (rA h) t.val) := by
  funext y
  blk_simp [iblk]
  simp only [V, hostOps0, hostOps0_1, hostOps0_2, List.flatten_cons, List.flatten_nil, List.cons_append, List.nil_append, List.append_nil]
  entry_read
  rw [hh]
  pointwise
  refine congrArg (fun i => ((h i : ℝ) : EReal)) ?_
  blk_ext [idx t]
set_option maxHeartbeats 1000000 in
include hh hs hc hn h1 in
theorem blk2 (t : Fin cfg0.N) : (iblk m c 2 t : Vec Ideal S512x4096 .bf16) = mat (rows (pA h sh sc ng w1) t.val) := by
  funext y
  blk_simp [iblk]
  simp only [V, hostOps0, hostOps0_1, hostOps0_2, List.flatten_cons, List.flatten_nil, List.cons_append, List.nil_append, List.append_nil]
  entry_read
  rw [hh, hs, hc, hn, h1]
  simp only [StableHlo.TRef.toBuf, StableHlo.TRef.ofBuf, cast_eq]
  pointwise
  simp only [one_coe, zero_coe, mul_coe, sum_coe, c1024, cEps, div_coe _ (1024 : ℝ) (by norm_num), add_coe, rsqrt_coe _ (ms_pos _), max_coe]
  have e : (((View.whole main_v39).slice (win0_2.rect t)).emb y : S8192x4096.Idx)
      = ValueIdx.ix2 ⟨(512 * t.val + (y 0).val) % 8192, Nat.mod_lt _ (by decide)⟩ (y 1) := by
    blk_ext [idx t]
  exact congrArg (fun e : S8192x4096.Idx => ((pA h sh sc ng w1 (e 0) (e 1) : ℝ) : EReal)) e
set_option maxHeartbeats 1000000 in
include hh hs hc hn h1 h2 in
theorem blk3 (t : Fin cfg0.N) : (iblk m c 3 t : Vec Ideal S512x1024 .bf16) = mat (rows (yA h sh sc ng w1 w2) t.val) := by
  funext y
  blk_simp [iblk]
  simp only [V, hostOps0, hostOps0_1, hostOps0_2, List.flatten_cons, List.flatten_nil, List.cons_append, List.nil_append, List.append_nil]
  entry_read
  rw [hh, hs, hc, hn, h1, h2]
  simp only [StableHlo.TRef.toBuf, StableHlo.TRef.ofBuf, cast_eq]
  pointwise
  simp only [one_coe, zero_coe, mul_coe, sum_coe, c1024, cEps, div_coe _ (1024 : ℝ) (by norm_num), add_coe, rsqrt_coe _ (ms_pos _), max_coe]
  have e : (((View.whole main_v40).slice (win0_3.rect t)).emb y : S8192x1024.Idx)
      = ValueIdx.ix2 ⟨(512 * t.val + (y 0).val) % 8192, Nat.mod_lt _ (by decide)⟩ (y 1) := by
    blk_ext [idx t]
  generalize (((View.whole main_v40).slice (win0_3.rect t)).emb y : S8192x1024.Idx) = z at e ⊢
  subst e
  show _ = ((∑ j, pA h sh sc ng w1 ⟨(512 * t.val + (y 0).val) % 8192, Nat.mod_lt _ (by decide)⟩ j * pA h sh sc ng w1 ⟨(512 * t.val + (y 0).val) % 8192, Nat.mod_lt _ (by decide)⟩ j * w2A w2 j (y 1) : ℝ) : EReal)
  refine congrArg (fun x : ℝ => (x : EReal)) (Finset.sum_congr rfl fun j _ => ?_)
  refine congrArg (fun x : ℝ => x * x * w2 (ValueIdx.ix2 j (y 1))) ?_
  rfl
theorem mods_at0 (n : Fin 1024) : V m c main_v5 (ValueIdx.ix3 1 0 n) = ((0 : ℝ) : EReal) := by
  rw [mods_entry]
  pointwise
  exact EReal.coe_zero.symm
theorem mods_at1 (n : Fin 1024) : V m c main_v5 (ValueIdx.ix3 1 1 n) = ((0 : ℝ) : EReal) := by
  rw [mods_entry]
  pointwise
  exact EReal.coe_zero.symm
theorem mods_at2 (n : Fin 1024) : V m c main_v5 (ValueIdx.ix3 1 2 n) = ((0 : ℝ) : EReal) := by
  rw [mods_entry]
  pointwise
  exact EReal.coe_zero.symm
theorem mods_at6 (n : Fin 1024) : V m c main_v5 (ValueIdx.ix3 1 6 n) = ((0 : ℝ) : EReal) := by
  rw [mods_entry]
  pointwise
  exact EReal.coe_zero.symm
theorem mods_at7 (n : Fin 1024) : V m c main_v5 (ValueIdx.ix3 1 7 n) = ((0 : ℝ) : EReal) := by
  rw [mods_entry]
  pointwise
  exact EReal.coe_zero.symm
include hs in
theorem mods_at3 (n : Fin 1024) : V m c main_v5 (ValueIdx.ix3 1 3 n) = ((vA sh n : ℝ) : EReal) := by
  rw [mods_entry]
  pointwise
  exact (congrFun hs _).trans (congrArg (fun q : Fin 1 => ((sh (ValueIdx.ix2 q n) : ℝ) : EReal)) (Subsingleton.elim _ _))
include hc in
theorem mods_at4 (n : Fin 1024) : V m c main_v5 (ValueIdx.ix3 1 4 n) = ((vA sc n : ℝ) : EReal) := by
  rw [mods_entry]
  pointwise
  exact (congrFun hc _).trans (congrArg (fun q : Fin 1 => ((sc (ValueIdx.ix2 q n) : ℝ) : EReal)) (Subsingleton.elim _ _))
include hg in
theorem mods_at5 (n : Fin 1024) : V m c main_v5 (ValueIdx.ix3 1 5 n) = ((vA gg n : ℝ) : EReal) := by
  rw [mods_entry]
  pointwise
  exact (congrFun hg _).trans (congrArg (fun q : Fin 1 => ((gg (ValueIdx.ix2 q n) : ℝ) : EReal)) (Subsingleton.elim _ _))
include hg hs hc in
theorem mods_at (r : Fin 8) (n : Fin 1024) : V m c main_v5 (ValueIdx.ix3 1 r n)
    = ((if r.val = 3 then vA sh n else if r.val = 4 then vA sc n else if r.val = 5 then vA gg n else 0 : ℝ) : EReal) := by
  match r with
  | 0 => exact mods_at0 m c n
  | 1 => exact mods_at1 m c n
  | 2 => exact mods_at2 m c n
  | 3 => exact mods_at3 m c sh hs n
  | 4 => exact mods_at4 m c sc hc n
  | 5 => exact mods_at5 m c gg hg n
  | 6 => exact mods_at6 m c n
  | 7 => exact mods_at7 m c n
include hg hs hc in
theorem blk4 (t : Fin cfg0.N) : (iblk m c 4 t : Vec Ideal S1x8x1024 .f32) = mods (vA gg) (vA sc) (vA sh) := by
  have i4 := (idx t).2.2.2.2.1
  funext y
  have hy : (y 0).val < 1 := (y 0).isLt
  have e : (((View.whole main_v5).slice (win0_4.rect t)).emb y : S2x8x1024.Idx) = ValueIdx.ix3 1 (y 1) (y 2) := by
    blk_ext [idx t]
  exact (congrArg (V m c main_v5) e).trans (mods_at m c sh sc gg hs hc hg (y 1) (y 2))
include hn in
theorem blk5 (t : Fin cfg0.N) : (iblk m c 5 t : Vec Ideal S1x1024 .f32) = row (nA ng) := by
  funext y
  blk_simp [iblk]
  simp only [V, hostOps0, hostOps0_1, hostOps0_2, List.flatten_cons, List.flatten_nil, List.cons_append, List.nil_append, List.append_nil]
  entry_read
  rw [hn]
  pointwise
  refine congrArg (fun i => ((ng i : ℝ) : EReal)) ?_
  blk_ext [idx t]
include h1 in
theorem blk6 (t : Fin cfg0.N) : (iblk m c 6 t : Vec Ideal S8x1024x512 .bf16) = slabs1 (w1A w1) := by
  funext y
  blk_simp [iblk]
  simp only [V, hostOps0, hostOps0_1, hostOps0_2, List.flatten_cons, List.flatten_nil, List.cons_append, List.nil_append, List.append_nil]
  entry_read
  rw [h1]
  pointwise
  refine congrArg (fun i => ((w1 i : ℝ) : EReal)) ?_
  blk_ext [idx t]
  have b0 : (y 0).val < 8 := (y 0).isLt
  have b2 : (y 2).val < 512 := (y 2).isLt
  show _ = (512 * (y 0).val + (y 2).val) % 4096
  omega
include h2 in
theorem blk7 (t : Fin cfg0.N) : (iblk m c 7 t : Vec Ideal S8x512x1024 .bf16) = slabs2 (w2A w2) := by
  funext y
  blk_simp [iblk]
  simp only [V, hostOps0, hostOps0_1, hostOps0_2, List.flatten_cons, List.flatten_nil, List.cons_append, List.nil_append, List.append_nil]
  entry_read
  rw [h2]
  pointwise
  refine congrArg (fun i => ((w2 i : ℝ) : EReal)) ?_
  blk_ext [idx t]
  have b0 : (y 0).val < 8 := (y 0).isLt
  have b1 : (y 1).val < 512 := (y 1).isLt
  show _ = (512 * (y 0).val + (y 1).val) % 4096
  omega
end

end Cert.MlpArray
end
-- ==== Proof.MlpArray.lean ====
module

public import proofs.«01_k».proof.Proof.MlpBlock
@[expose] public section

/-! The call mlp_bwd: its five results as functions of the arguments. -/

noncomputable section
open Idealize.ShloMosaic Idealize.ShloMosaic.TcCoe Cert.Lift
open Cert.MlpIdeal Cert.MlpIdeal.Gen Cert.MlpRow Cert.MlpPoint

namespace Cert.MlpArray

variable (m : (ℓ : Loc nD τ sig) → Buf (Elt Ideal) ℓ) (c : Dev nD)

def rowIx (t : Fin cfg0.N) (p : Fin 512) : Fin 8192 := ⟨(512 * t.val + p.val) % 8192, Nat.mod_lt _ (by decide)⟩

theorem shift_val (k v n : ℕ) (e : k = 0) : k * n + 1 * v = v := by subst e; omega

theorem emb8 (t : Fin cfg0.N) (z : S512x1024.Idx) : (((cfg0.win 8).blk t).view.emb z : S8192x1024.Idx) = ValueIdx.ix2 (rowIx t (z 0)) (z 1) := by
  have e := (idx t).2.2.2.2.2.2.2.2.1
  have e0 : win0_8.index t (0 : Fin 2) = t.val := congrFun e 0
  have e1 : win0_8.index t (1 : Fin 2) = 0 := congrFun e 1
  have hz : (z 0).val < 512 := (z 0).isLt
  have ht : t.val < 16 := t.isLt
  funext a; apply Fin.ext
  match a with
  | ⟨0, _⟩ => show win0_8.index t (0 : Fin 2) * 512 + 1 * (z 0).val = (512 * t.val + (z 0).val) % 8192; omega
  | ⟨1, _⟩ => exact shift_val _ _ 1024 e1

theorem emb9 (t : Fin cfg0.N) (z : S512x1024.Idx) : (((cfg0.win 9).blk t).view.emb z : S8192x1024.Idx) = ValueIdx.ix2 (rowIx t (z 0)) (z 1) := by
  have e := (idx t).2.2.2.2.2.2.2.2.2.1
  have e0 : win0_9.index t (0 : Fin 2) = t.val := congrFun e 0
  have e1 : win0_9.index t (1 : Fin 2) = 0 := congrFun e 1
  have hz : (z 0).val < 512 := (z 0).isLt
  have ht : t.val < 16 := t.isLt
  funext a; apply Fin.ext
  match a with
  | ⟨0, _⟩ => show win0_9.index t (0 : Fin 2) * 512 + 1 * (z 0).val = (512 * t.val + (z 0).val) % 8192; omega
  | ⟨1, _⟩ => exact shift_val _ _ 1024 e1

theorem emb10 (t : Fin cfg0.N) (z : S512x4096.Idx) : (((cfg0.win 10).blk t).view.emb z : S8192x4096.Idx) = ValueIdx.ix2 (rowIx t (z 0)) (z 1) := by
  have e := (idx t).2.2.2.2.2.2.2.2.2.2.1
  have e0 : win0_10.index t (0 : Fin 2) = t.val := congrFun e 0
  have e1 : win0_10.index t (1 : Fin 2) = 0 := congrFun e 1
  have hz : (z 0).val < 512 := (z 0).isLt
  have ht : t.val < 16 := t.isLt
  funext a; apply Fin.ext
  match a with
  | ⟨0, _⟩ => show win0_10.index t (0 : Fin 2) * 512 + 1 * (z 0).val = (512 * t.val + (z 0).val) % 8192; omega
  | ⟨1, _⟩ => exact shift_val _ _ 4096 e1

theorem emb11 (t : Fin cfg0.N) (z : S512x1024.Idx) : (((cfg0.win 11).blk t).view.emb z : S8192x1024.Idx) = ValueIdx.ix2 (rowIx t (z 0)) (z 1) := by
  have e := (idx t).2.2.2.2.2.2.2.2.2.2.2.1
  have e0 : win0_11.index t (0 : Fin 2) = t.val := congrFun e 0
  have e1 : win0_11.index t (1 : Fin 2) = 0 := congrFun e 1
  have hz : (z 0).val < 512 := (z 0).isLt
  have ht : t.val < 16 := t.isLt
  funext a; apply Fin.ext
  match a with
  | ⟨0, _⟩ => show win0_11.index t (0 : Fin 2) * 512 + 1 * (z 0).val = (512 * t.val + (z 0).val) % 8192; omega
  | ⟨1, _⟩ => exact shift_val _ _ 1024 e1

theorem emb12 (t : Fin cfg0.N) (z : S1x8x1024.Idx) : (((cfg0.win 12).blk t).view.emb z : S1x8x1024.Idx) = z := by
  have e := (idx t).2.2.2.2.2.2.2.2.2.2.2.2
  funext a; apply Fin.ext
  match a with
  | ⟨0, _⟩ => exact shift_val _ _ 1 (congrFun e 0)
  | ⟨1, _⟩ => exact shift_val _ _ 8 (congrFun e 1)
  | ⟨2, _⟩ => exact shift_val _ _ 1024 (congrFun e 2)

theorem flushes : ∀ t : Fin cfg0.N, (cfg0.win 8).flush t = true ∧ (cfg0.win 9).flush t = true ∧ (cfg0.win 10).flush t = true ∧ (cfg0.win 11).flush t = true :=
  (by decide +kernel : ∀ t : Fin grid0.N, _)
theorem flush12 : ∀ t : Fin cfg0.N, (cfg0.win 12).flush t = true ↔ t.val = 15 := (by decide +kernel : ∀ t : Fin grid0.N, _)

/-- The point and the row in it that hold a row of the arrays. -/
def ptOf (p : Fin 8192) : Fin cfg0.N := ⟨p.val / 512, by have := p.isLt; show p.val / 512 < 16; omega⟩
def inOf (p : Fin 8192) : Fin 512 := ⟨p.val % 512, Nat.mod_lt _ (by decide)⟩
theorem rowIx_of (p : Fin 8192) : rowIx (ptOf p) (inOf p) = p := Fin.ext (by
  have := p.isLt
  show (512 * (p.val / 512) + p.val % 512) % 8192 = p.val
  omega)

theorem mem8 (i : S8192x1024.Idx) : i ∈ ((cfg0.win 8).blk (ptOf (i 0))).view.set :=
  Finset.mem_map.2 ⟨ValueIdx.ix2 (inOf (i 0)) (i 1), Finset.mem_univ _, (emb8 _ _).trans (by
    funext a
    match a with
    | ⟨0, _⟩ => exact rowIx_of (i 0)
    | ⟨1, _⟩ => rfl)⟩
theorem mem9 (i : S8192x1024.Idx) : i ∈ ((cfg0.win 9).blk (ptOf (i 0))).view.set :=
  Finset.mem_map.2 ⟨ValueIdx.ix2 (inOf (i 0)) (i 1), Finset.mem_univ _, (emb9 _ _).trans (by
    funext a
    match a with
    | ⟨0, _⟩ => exact rowIx_of (i 0)
    | ⟨1, _⟩ => rfl)⟩
theorem mem10 (i : S8192x4096.Idx) : i ∈ ((cfg0.win 10).blk (ptOf (i 0))).view.set :=
  Finset.mem_map.2 ⟨ValueIdx.ix2 (inOf (i 0)) (i 1), Finset.mem_univ _, (emb10 _ _).trans (by
    funext a
    match a with
    | ⟨0, _⟩ => exact rowIx_of (i 0)
    | ⟨1, _⟩ => rfl)⟩
theorem mem11 (i : S8192x1024.Idx) : i ∈ ((cfg0.win 11).blk (ptOf (i 0))).view.set :=
  Finset.mem_map.2 ⟨ValueIdx.ix2 (inOf (i 0)) (i 1), Finset.mem_univ _, (emb11 _ _).trans (by
    funext a
    match a with
    | ⟨0, _⟩ => exact rowIx_of (i 0)
    | ⟨1, _⟩ => rfl)⟩
def t15 : Fin cfg0.N := ⟨15, by decide⟩
theorem mem12 (i : S1x8x1024.Idx) : i ∈ ((cfg0.win 12).blk t15).view.set := Finset.mem_map.2 ⟨i, Finset.mem_univ _, emb12 t15 i⟩

/-- The sum over the points' rows is the sum over the arrays' rows. -/
theorem sum_rows (f : Fin 8192 → ℝ) : ∑ i ∈ Finset.range 16, ∑ p : Fin 512, f ⟨(512 * i + p.val) % 8192, Nat.mod_lt _ (by decide)⟩ = ∑ p, f p := by
  rw [Finset.sum_range, ← Fintype.sum_prod_type' (fun (i : Fin 16) (p : Fin 512) => f ⟨(512 * i.val + p.val) % 8192, Nat.mod_lt _ (by decide)⟩)]
  refine Fintype.sum_equiv (finProdFinEquiv (m := 16) (n := 512)) _ f fun q => congrArg f (Fin.ext ?_)
  have h1 := q.1.isLt
  have h2 := q.2.isLt
  show (512 * q.1.val + q.2.val) % 8192 = q.2.val + 512 * q.1.val
  omega

section
variable (h : S1x8192x1024.Idx → ℝ) (sh sc gg : S1x1024.Idx → ℝ) (ng : S1024.Idx → ℝ) (w1 : S1024x4096.Idx → ℝ) (w2 : S4096x1024.Idx → ℝ) (ct : S1x8192x1024.Idx → ℝ)
  (hh : m ((c : Thread nD τ).loc main_arg0) = fun i => ((h i : ℝ) : EReal)) (hs : m ((c : Thread nD τ).loc main_arg1) = fun i => ((sh i : ℝ) : EReal))
  (hc : m ((c : Thread nD τ).loc main_arg2) = fun i => ((sc i : ℝ) : EReal)) (hg : m ((c : Thread nD τ).loc main_arg3) = fun i => ((gg i : ℝ) : EReal))
  (hn : m ((c : Thread nD τ).loc main_arg4) = fun i => ((ng i : ℝ) : EReal)) (h1 : m ((c : Thread nD τ).loc main_arg5) = fun i => ((w1 i : ℝ) : EReal))
  (h2 : m ((c : Thread nD τ).loc main_arg6) = fun i => ((w2 i : ℝ) : EReal)) (hd : m ((c : Thread nD τ).loc main_arg7) = fun i => ((ct i : ℝ) : EReal))

/-- The five result arrays. -/
def G8 : S8192x1024.Idx → EReal := mat fun p k => dh (w1A w1) (w2A w2) (vA gg) (vA sc) (nA ng) (rA h p) (rA ct p) (pA h sh sc ng w1 p) k
def G9 : S8192x1024.Idx → EReal := mat fun p k => mA h sh sc ng p k
def G10 : S8192x4096.Idx → EReal := mat fun p k => du (w2A w2) (vA gg) (rA ct p) (pA h sh sc ng w1 p) k
def G11 : S8192x1024.Idx → EReal := mat fun p k => da (vA gg) (rA ct p) k
def G12 : S1x8x1024.Idx → EReal := fun i =>
  ((∑ p, st (w1A w1) (w2A w2) (vA gg) (vA sc) (nA ng) (rA ct p) (rA h p) (yA h sh sc ng w1 w2 p) (pA h sh sc ng w1 p) (i 1).val (i 2) : ℝ) : EReal)

include hh hs hc hg hn h1 h2 hd in
theorem written8 (t : Fin cfg0.N) (_ : (cfg0.win 8).flush t = true) :
    (dats m 0 c).flushed 8 t = ((cfg0.win 8).blk t).view.read (Elt Ideal) (G8 h sh sc gg ng w1 w2 ct : Vec Ideal S8192x1024 .f32) := by
  rw [Value.flushed8]
  exact funext fun y => (congrFun (point8 m c (w1A w1) (w2A w2) (vA gg) (vA sc) (vA sh) (nA ng) (rA ct) (rA h) (pA h sh sc ng w1) (blk0 m c ct hd) (blk1 m c h hh) (blk2 m c h sh sc ng w1 hh hs hc hn h1) (blk4 m c sh sc gg hs hc hg) (blk5 m c ng hn) (blk6 m c w1 h1) (blk7 m c w2 h2) t) y).trans (congrArg (G8 h sh sc gg ng w1 w2 ct) (emb8 t y)).symm
include hh hs hc hg hn h1 h2 hd in
theorem result8 : ((dats m 0 c).arrAt 8 cfg0.N : Vec Ideal S8192x1024 .f32) = G8 h sh sc gg ng w1 w2 ct :=
  funext fun i => (dats m 0 c).arrAt_apply_of_mem 8 (G8 h sh sc gg ng w1 w2 ct) (written8 m c h sh sc gg ng w1 w2 ct hh hs hc hg hn h1 h2 hd) cfg0.N (ptOf (i 0)) i (ptOf (i 0)).isLt (flushes _).1 (mem8 i)

include hh hs hc hg hn in
theorem written9 (t : Fin cfg0.N) (_ : (cfg0.win 9).flush t = true) :
    (dats m 0 c).flushed 9 t = ((cfg0.win 9).blk t).view.read (Elt Ideal) (G9 h sh sc ng : Vec Ideal S8192x1024 .bf16) := by
  rw [Value.flushed9]
  exact funext fun y => (congrFun (point9 m c (vA gg) (vA sc) (vA sh) (nA ng) (rA h) (blk1 m c h hh) (blk4 m c sh sc gg hs hc hg) (blk5 m c ng hn) t) y).trans (congrArg (G9 h sh sc ng) (emb9 t y)).symm
include hh hs hc hg hn in
theorem result9 : ((dats m 0 c).arrAt 9 cfg0.N : Vec Ideal S8192x1024 .bf16) = G9 h sh sc ng :=
  funext fun i => (dats m 0 c).arrAt_apply_of_mem 9 (G9 h sh sc ng) (written9 m c h sh sc gg ng hh hs hc hg hn) cfg0.N (ptOf (i 0)) i (ptOf (i 0)).isLt (flushes _).2.1 (mem9 i)

include hh hs hc hg hn h1 h2 hd in
theorem written10 (t : Fin cfg0.N) (_ : (cfg0.win 10).flush t = true) :
    (dats m 0 c).flushed 10 t = ((cfg0.win 10).blk t).view.read (Elt Ideal) (G10 h sh sc gg ng w1 w2 ct : Vec Ideal S8192x4096 .bf16) := by
  rw [Value.flushed10]
  exact funext fun y => (congrFun (point10 m c (w2A w2) (vA gg) (vA sc) (vA sh) (rA ct) (pA h sh sc ng w1) (blk0 m c ct hd) (blk2 m c h sh sc ng w1 hh hs hc hn h1) (blk4 m c sh sc gg hs hc hg) (blk7 m c w2 h2) t) y).trans (congrArg (G10 h sh sc gg ng w1 w2 ct) (emb10 t y)).symm
include hh hs hc hg hn h1 h2 hd in
theorem result10 : ((dats m 0 c).arrAt 10 cfg0.N : Vec Ideal S8192x4096 .bf16) = G10 h sh sc gg ng w1 w2 ct :=
  funext fun i => (dats m 0 c).arrAt_apply_of_mem 10 (G10 h sh sc gg ng w1 w2 ct) (written10 m c h sh sc gg ng w1 w2 ct hh hs hc hg hn h1 h2 hd) cfg0.N (ptOf (i 0)) i (ptOf (i 0)).isLt (flushes _).2.2.1 (mem10 i)

include hs hc hg hd in
theorem written11 (t : Fin cfg0.N) (_ : (cfg0.win 11).flush t = true) :
    (dats m 0 c).flushed 11 t = ((cfg0.win 11).blk t).view.read (Elt Ideal) (G11 gg ct : Vec Ideal S8192x1024 .bf16) := by
  rw [Value.flushed11]
  exact funext fun y => (congrFun (point11 m c (vA gg) (vA sc) (vA sh) (rA ct) (blk0 m c ct hd) (blk4 m c sh sc gg hs hc hg) t) y).trans (congrArg (G11 gg ct) (emb11 t y)).symm
include hs hc hg hd in
theorem result11 : ((dats m 0 c).arrAt 11 cfg0.N : Vec Ideal S8192x1024 .bf16) = G11 gg ct :=
  funext fun i => (dats m 0 c).arrAt_apply_of_mem 11 (G11 gg ct) (written11 m c sh sc gg ct hs hc hg hd) cfg0.N (ptOf (i 0)) i (ptOf (i 0)).isLt (flushes _).2.2.2 (mem11 i)

include hh hs hc hg hn h1 h2 hd in
theorem last12 (n : ℕ) (hN : n < cfg0.N) (e : n = 15) (y : S1x8x1024.Idx) : (outsAt0 m c n hN).2.2.2.2 y = G12 h sh sc gg ng w1 w2 ct y := by
  have ey : y = ValueIdx.ix3 0 (y 1) (y 2) := by
    funext a
    match a with
    | ⟨0, _⟩ => exact Subsingleton.elim (α := Fin 1) _ _
    | ⟨1, _⟩ => rfl
    | ⟨2, _⟩ => rfl
  refine (congrArg (outsAt0 m c n hN).2.2.2.2 ey).trans
    ((point12 m c (w1A w1) (w2A w2) (vA gg) (vA sc) (vA sh) (nA ng) (rA ct) (rA h) (yA h sh sc ng w1 w2) (pA h sh sc ng w1) (blk0 m c ct hd) (blk1 m c h hh) (blk2 m c h sh sc ng w1 hh hs hc hn h1) (blk3 m c h sh sc ng w1 w2 hh hs hc hn h1 h2) (blk4 m c sh sc gg hs hc hg) (blk5 m c ng hn) (blk6 m c w1 h1) (blk7 m c w2 h2) n hN (y 1) (y 2)).trans ?_)
  subst e
  exact congrArg (fun s : ℝ => (s : EReal)) (sum_rows fun p => st (w1A w1) (w2A w2) (vA gg) (vA sc) (nA ng) (rA ct p) (rA h p) (yA h sh sc ng w1 w2 p) (pA h sh sc ng w1 p) (y 1).val (y 2))
include hh hs hc hg hn h1 h2 hd in
theorem written12 (t : Fin cfg0.N) (ht : (cfg0.win 12).flush t = true) :
    (dats m 0 c).flushed 12 t = ((cfg0.win 12).blk t).view.read (Elt Ideal) (G12 h sh sc gg ng w1 w2 ct : Vec Ideal S1x8x1024 .f32) := by
  rw [Value.flushed12]
  exact funext fun y => (last12 m c h sh sc gg ng w1 w2 ct hh hs hc hg hn h1 h2 hd t.val t.isLt ((flush12 t).1 ht) y).trans (congrArg (G12 h sh sc gg ng w1 w2 ct) (emb12 t y)).symm
include hh hs hc hg hn h1 h2 hd in
theorem result12 : ((dats m 0 c).arrAt 12 cfg0.N : Vec Ideal S1x8x1024 .f32) = G12 h sh sc gg ng w1 w2 ct :=
  funext fun i => (dats m 0 c).arrAt_apply_of_mem 12 (G12 h sh sc gg ng w1 w2 ct) (written12 m c h sh sc gg ng w1 w2 ct hh hs hc hg hn h1 h2 hd) cfg0.N t15 i t15.isLt ((flush12 t15).2 rfl) (mem12 i)
end

end Cert.MlpArray
end
-- ==== Proof.MlpRef.lean ====
module

public import proofs.«01_k».proof.Proof.MlpArray
public import proofs.«01_k».proof.Proof.Gen.MlpRefIdeal.Read
@[expose] public section

/-! What the derivative of reference.py's gated MLP computes on real arguments. -/

noncomputable section
open Idealize.ShloMosaic Cert.Lift
open Cert.MlpRefIdeal Cert.MlpRefIdeal.Read
open Cert.MlpRow (rs ms_pos xh nn mm da du dm dn dh)
open Cert.MlpArray (rA vA nA w1A w2A mA pA yA max_coe)

namespace Cert.MlpRef

/-- An array of reals as the ideal array it stands for. -/
abbrev up {s : Shape} (f : s.Idx → ℝ) : (⟨s, .f32⟩ : BufTy).Contents (Elt Ideal) := fun i => ((f i : ℝ) : EReal)

variable (h : S1x8192x1024.Idx → ℝ) (sh sc gg : S1x1024.Idx → ℝ) (ng : S1024.Idx → ℝ) (w1 : S1024x4096.Idx → ℝ) (w2 : S4096x1024.Idx → ℝ) (ct : S1x8192x1024.Idx → ℝ)

/-- The mean square of a row, with the guard. -/
def ms (x : Fin 1024 → ℝ) : ℝ := (∑ k, x k * x k) / 1024 + eps

/-- The leading axis has one index. -/
theorem one3 (f : S1x8192x1024.Idx → ℝ) (i : S1x8192x1024.Idx) : f i = rA f (i 1) (i 2) := congrArg f (funext fun a => match a with
  | ⟨0, _⟩ => Fin.ext (Nat.lt_one_iff.1 (i 0).isLt)
  | ⟨1, _⟩ => rfl
  | ⟨2, _⟩ => rfl)

/-- A sum started from the zero word. -/
theorem from_zero (a b s : EReal) (ha : a = ((0 : ℝ) : EReal)) (hb : b = s) : a + b = s := by
  rw [ha, hb, EReal.coe_zero, zero_add]

theorem v6 (i : S1x8192x1.Idx) : val_main_v6 (F := Ideal) (up h) i = ((ms (rA h (i 1)) : ℝ) : EReal) := by
  rw [val_main_v6_apply, val_main_v4_apply, val_main_v2_apply, val_main_v1_apply, val_main_v3_apply, val_main_v5_apply]
  have e : (val_main_cst (F := Ideal)) (Shape.Idx.first Gen.h_S_) + ∑ k : Fin 1024, (val_main_v0 (F := Ideal) (up h)) (idx_main_v1 (idx_main_v2 i) k)
      = ((∑ k, rA h (i 1) k * rA h (i 1) k : ℝ) : EReal) := by
    refine from_zero _ _ _ c0 ((Finset.sum_congr rfl fun k _ => ?_).trans (sum_coe _ _))
    refine (mul_coe _ _).trans (congrArg (fun r : ℝ => ((r * r : ℝ) : EReal)) (one3 h _))
  rw [e]
  refine (congrArg₂ (fun x y : EReal => x + y) ((congrArg (Ideal.div _) c1024).trans (div_coe _ _ (by norm_num))) cEps).trans (add_coe _ _)

theorem v7 (i : S1x8192x1.Idx) : val_main_v7 (F := Ideal) (up h) i = ((rs (rA h (i 1)) : ℝ) : EReal) :=
  (congrArg Ideal.rsqrt (v6 h i)).trans (rsqrt_coe _ (ms_pos _))

theorem v10 (i : S1x8192x1.Idx) : val_main_v10 (F := Ideal) (up h) i = ((-(1 / 2) * (rs (rA h (i 1)) / ms (rA h (i 1))) : ℝ) : EReal) := by
  rw [val_main_v10_apply, val_main_v9_apply, val_main_v8_apply, v7, v6]
  exact (congrArg₂ (fun x y : EReal => x * y) cNegHalf (div_coe _ (ms _) (ms_pos _).ne')).trans (mul_coe _ _)

theorem v12 (i : S1x8192x1024.Idx) : val_main_v12 (F := Ideal) (up h) i = ((xh (rA h (i 1)) (i 2) : ℝ) : EReal) := by
  rw [val_main_v12_apply, val_main_v11_apply, v7]
  exact (mul_coe _ _).trans (congrArg (fun r : ℝ => ((r * rs (rA h (i 1)) : ℝ) : EReal)) (one3 h i))

theorem lane (i : S1024.Idx) : ng i = nA ng (i 0) := congrArg ng (ValueIdx.eq_ix1 i)
theorem one2 (s : S1x1024.Idx → ℝ) (i : S1x1024.Idx) : s i = vA s (i 1) := congrArg s (funext fun a => match a with
  | ⟨0, _⟩ => Fin.ext (Nat.lt_one_iff.1 (i 0).isLt)
  | ⟨1, _⟩ => rfl)
theorem at1 (k : Fin 1024) (j : Fin 4096) (q : S1024x4096.Idx) (e0 : q 0 = k) (e1 : q 1 = j) : w1 q = w1A w1 k j := by
  subst e0 e1; exact congrArg w1 (ValueIdx.eq_ix2 q)
theorem at2 (j : Fin 4096) (n : Fin 1024) (q : S4096x1024.Idx) (e0 : q 0 = j) (e1 : q 1 = n) : w2 q = w2A w2 j n := by
  subst e0 e1; exact congrArg w2 (ValueIdx.eq_ix2 q)

theorem v15 (i : S1x8192x1024.Idx) : val_main_v15 (F := Ideal) (up h) (up ng) i = ((nn (nA ng) (rA h (i 1)) (i 2) : ℝ) : EReal) := by
  rw [val_main_v15_apply, val_main_v14_apply, val_main_v13_apply, v12]
  exact (mul_coe _ _).trans (congrArg (fun r : ℝ => ((xh (rA h (i 1)) (i 2) * r : ℝ) : EReal)) (lane ng _))

theorem v18 (i : S1x1x1024.Idx) : val_main_v18 (F := Ideal) (up sc) i = ((1 + vA sc (i 2) : ℝ) : EReal) := by
  rw [val_main_v18_apply, val_main_v17_apply, val_main_v16_apply]
  exact (congrArg₂ (fun x y : EReal => x + y) c1 (congrArg (fun r : ℝ => (r : EReal)) (one2 sc _))).trans (add_coe _ _)

theorem v23 (i : S1x8192x1024.Idx) : val_main_v23 (F := Ideal) (up h) (up sh) (up sc) (up ng) i = ((mA h sh sc ng (i 1) (i 2) : ℝ) : EReal) := by
  rw [val_main_v23_apply, val_main_v20_apply, val_main_v19_apply, val_main_v22_apply, val_main_v21_apply, v15, v18]
  exact (congrArg₂ (fun x y : EReal => x + y) (mul_coe _ _) (congrArg (fun r : ℝ => (r : EReal)) (one2 sh _))).trans (add_coe _ _)

/-- The hidden layer before the ramp. -/
def uA (p : Fin 8192) (j : Fin 4096) : ℝ := ∑ k, mA h sh sc ng p k * w1A w1 k j

theorem v24 (i : S1x8192x4096.Idx) : val_main_v24 (F := Ideal) (up h) (up sh) (up sc) (up ng) (up w1) i = ((uA h sh sc ng w1 (i 1) (i 2) : ℝ) : EReal) := by
  rw [val_main_v24_apply]
  refine (Finset.sum_congr rfl fun k _ => ?_).trans (sum_coe _ _)
  rw [v23]
  exact (mul_coe _ _).trans (congrArg (fun r : ℝ => ((mA h sh sc ng (i 1) k * r : ℝ) : EReal)) (at1 w1 k (i 2) _ rfl rfl))

theorem v25 (i : S1x8192x4096.Idx) : val_main_v25 (F := Ideal) (up h) (up sh) (up sc) (up ng) (up w1) i = ((pA h sh sc ng w1 (i 1) (i 2) : ℝ) : EReal) := by
  rw [val_main_v25_apply, v24]
  exact (congrArg (max _) c0).trans (max_coe _ _)

theorem v32 (i : S1x8192x1024.Idx) : val_main_v32 (F := Ideal) (up h) (up sh) (up sc) (up ng) (up w1) (up w2) i = ((yA h sh sc ng w1 w2 (i 1) (i 2) : ℝ) : EReal) := by
  rw [val_main_v32_apply]
  refine (Finset.sum_congr rfl fun j _ => ?_).trans (sum_coe _ _)
  rw [val_main_v29_apply, v25]
  refine (congrArg (· * _) (mul_coe _ _)).trans ((mul_coe _ _).trans (congrArg (fun r : ℝ => ((pA h sh sc ng w1 (i 1) j * pA h sh sc ng w1 (i 1) j * r : ℝ) : EReal)) (at2 w2 j (i 2) _ rfl rfl)))

theorem v37 (i : S1x8192x1024.Idx) : val_main_v37 (F := Ideal) (up ct) i = ((rA ct (i 1) (i 2) : ℝ) : EReal) := by
  refine (val_main_v37_apply _ i).trans (congrArg (fun r : ℝ => (r : EReal)) ((one3 ct _).trans ?_))
  have h0 : (i 0).val < 1 := (i 0).isLt
  have h1 : (i 1).val < 8192 := (i 1).isLt
  have h2 : (i 2).val < 1024 := (i 2).isLt
  refine congrArg₂ (rA ct) (Fin.ext ?_) (Fin.ext ?_)
  · show (((i 0).val * 8192 + (i 1).val) * 1024 + (i 2).val) / 1024 % 8192 = (i 1).val
    omega
  · show (((i 0).val * 8192 + (i 1).val) * 1024 + (i 2).val) % 1024 = (i 2).val
    omega

theorem v39 (i : S1x8192x1024.Idx) : val_main_v39 (F := Ideal) (up gg) (up ct) i = ((da (vA gg) (rA ct (i 1)) (i 2) : ℝ) : EReal) := by
  rw [val_main_v39_apply, val_main_v38_apply, val_main_v33_apply, v37]
  exact (mul_coe _ _).trans (congrArg (fun r : ℝ => ((r * rA ct (i 1) (i 2) : ℝ) : EReal)) (one2 gg _))

theorem v45 (i : S1x8192x4096.Idx) : val_main_v45 (F := Ideal) (up gg) (up w2) (up ct) i = ((∑ n, da (vA gg) (rA ct (i 1)) n * w2A w2 (i 2) n : ℝ) : EReal) := by
  rw [val_main_v45_apply]
  refine (Finset.sum_congr rfl fun n _ => ?_).trans (sum_coe _ _)
  rw [v39]
  exact (mul_coe _ _).trans (congrArg (fun r : ℝ => ((da (vA gg) (rA ct (i 1)) n * r : ℝ) : EReal)) (at2 w2 (i 2) n _ rfl rfl))

/-- Where the ramp is flat its value is zero, so the factor two of it is the square's derivative there too. -/
theorem ramp (u s : ℝ) (a b : EReal) (ha : a = ((s * (2 * max u 0) : ℝ) : EReal)) (hb : b = ((0 : ℝ) : EReal)) :
    Scalar.select (Ideal.cmp .ogt (u : EReal) ((0 : ℝ) : EReal)) a b = ((s * (2 * max u 0) : ℝ) : EReal) := by
  by_cases q : 0 < u
  · have e : Ideal.cmp .ogt (u : EReal) ((0 : ℝ) : EReal) = 1#1 := by
      simp [Ideal.cmp, q]
    rw [e, ha]; rfl
  · have e : Ideal.cmp .ogt (u : EReal) ((0 : ℝ) : EReal) = 0#1 := by
      simp [Ideal.cmp, q]
    rw [e, hb, max_eq_right (not_lt.1 q), mul_zero, mul_zero]; rfl

theorem v48 (i : S1x8192x4096.Idx) : val_main_v48 (F := Ideal) (up h) (up sh) (up sc) (up gg) (up ng) (up w1) (up w2) (up ct) i = ((du (w2A w2) (vA gg) (rA ct (i 1)) (pA h sh sc ng w1 (i 1)) (i 2) : ℝ) : EReal) := by
  rw [val_main_v48_apply, val_main_v27_apply, val_main_v46_apply, v24, v45, val_main_v31_apply, v25]
  refine (congrArg (fun z => Scalar.select (Ideal.cmp .ogt ((uA h sh sc ng w1 (i 1) (i 2) : ℝ) : EReal) z) _ _) c0).trans (ramp _ _ _ _ ?_ c0)
  exact (congrArg (_ * ·) ((congrArg (· * _) c2).trans (mul_coe _ _))).trans (mul_coe _ _)

theorem v49 (i : S1x8192x1024.Idx) : val_main_v49 (F := Ideal) (up h) (up sh) (up sc) (up gg) (up ng) (up w1) (up w2) (up ct) i
    = ((dm (w1A w1) (w2A w2) (vA gg) (rA ct (i 1)) (pA h sh sc ng w1 (i 1)) (i 2) : ℝ) : EReal) := by
  rw [val_main_v49_apply]
  refine (Finset.sum_congr rfl fun j _ => ?_).trans (sum_coe _ _)
  rw [v48]
  exact (mul_coe _ _).trans (congrArg (fun r : ℝ => ((du (w2A w2) (vA gg) (rA ct (i 1)) (pA h sh sc ng w1 (i 1)) j * r : ℝ) : EReal)) (at1 w1 (i 2) j _ rfl rfl))

theorem v58 (i : S1x8192x1024.Idx) : val_main_v58 (F := Ideal) (up h) (up sh) (up sc) (up gg) (up ng) (up w1) (up w2) (up ct) i
    = ((dn (w1A w1) (w2A w2) (vA gg) (vA sc) (rA ct (i 1)) (pA h sh sc ng w1 (i 1)) (i 2) : ℝ) : EReal) := by
  rw [val_main_v58_apply, v49, val_main_v57_apply, v18]
  exact mul_coe _ _

theorem v65 (i : S1x8192x1024.Idx) : val_main_v65 (F := Ideal) (up h) (up sh) (up sc) (up gg) (up ng) (up w1) (up w2) (up ct) i
    = ((dn (w1A w1) (w2A w2) (vA gg) (vA sc) (rA ct (i 1)) (pA h sh sc ng w1 (i 1)) (i 2) * nA ng (i 2) : ℝ) : EReal) := by
  rw [val_main_v65_apply, v58, val_main_v64_apply, val_main_v13_apply]
  exact (mul_coe _ _).trans (congrArg (fun r : ℝ => ((dn (w1A w1) (w2A w2) (vA gg) (vA sc) (rA ct (i 1)) (pA h sh sc ng w1 (i 1)) (i 2) * r : ℝ) : EReal)) (lane ng _))

/-- The row factor that the norm's derivative multiplies the row by. -/
def fac (p : Fin 8192) : ℝ := (∑ k, rA h p k * ((dn (w1A w1) (w2A w2) (vA gg) (vA sc) (rA ct p) (pA h sh sc ng w1 p)) k * nA ng k)) * (-(1 / 2) * (rs (rA h p) / ms (rA h p))) / 1024

theorem v68 (i : S1x8192.Idx) : val_main_v68 (F := Ideal) (up h) (up sh) (up sc) (up gg) (up ng) (up w1) (up w2) (up ct) i = ((∑ k, rA h (i 1) k * ((dn (w1A w1) (w2A w2) (vA gg) (vA sc) (rA ct (i 1)) (pA h sh sc ng w1 (i 1))) k * nA ng k) : ℝ) : EReal) := by
  refine (val_main_v68_apply _ _ _ _ _ _ _ _ i).trans (from_zero _ _ _ c0 ((Finset.sum_congr rfl fun k _ => ?_).trans (sum_coe _ _)))
  rw [val_main_v67_apply, v65]
  exact (mul_coe _ _).trans (congrArg (fun r : ℝ => ((r * ((dn (w1A w1) (w2A w2) (vA gg) (vA sc) (rA ct (i 1)) (pA h sh sc ng w1 (i 1))) k * nA ng k) : ℝ) : EReal)) (one3 h _))

theorem v74 (i : S1x8192x1.Idx) : val_main_v74 (F := Ideal) (up h) (up sh) (up sc) (up gg) (up ng) (up w1) (up w2) (up ct) i = ((fac h sh sc gg ng w1 w2 ct (i 1) : ℝ) : EReal) := by
  rw [val_main_v74_apply, val_main_v72_apply, val_main_v69_apply, val_main_v73_apply, v10, v68]
  refine (congrArg₂ Ideal.div (mul_coe _ _) c1024).trans ((div_coe _ _ (by norm_num)).trans ?_)
  have h0 : (i 0).val < 1 := (i 0).isLt
  have h1 : (i 1).val < 8192 := (i 1).isLt
  have h2 : (i 2).val < 1 := (i 2).isLt
  have e : (⟨((i 0).val * 8192 + (i 1).val) * 1 + (i 2).val, by omega⟩ : Fin 8192) = i 1 := Fin.ext (by
    show ((i 0).val * 8192 + (i 1).val) * 1 + (i 2).val = (i 1).val
    omega)
  refine congrArg (fun p : Fin 8192 => (((∑ k, rA h p k * ((dn (w1A w1) (w2A w2) (vA gg) (vA sc) (rA ct p) (pA h sh sc ng w1 p)) k * nA ng k)) * (-(1 / 2) * (rs (rA h (i 1)) / ms (rA h (i 1)))) / 1024 : ℝ) : EReal)) (Fin.ext ?_)
  show (((i 0).val * 8192 + (i 1).val) * 1 + (i 2).val) % 8192 = (i 1).val
  omega

theorem drops2 (i : S8192.Idx) : Finset.univ.filter (fun q : S1x8192x1.Idx => Gen.reducesTo_S1x8192x1_S8192_d0_2.drop q = i) = {ValueIdx.ix3 0 (i 0) 0} := by
  refine Finset.ext fun q => ⟨fun h => Finset.mem_singleton.2 ?_, fun h => Finset.mem_filter.2 ⟨Finset.mem_univ _, ?_⟩⟩
  · have e := (Finset.mem_filter.1 h).2
    subst e
    funext a
    match a with
    | ⟨0, _⟩ => exact Fin.ext (Nat.lt_one_iff.1 (q 0).isLt)
    | ⟨1, _⟩ => rfl
    | ⟨2, _⟩ => exact Fin.ext (Nat.lt_one_iff.1 (q 2).isLt)
  · have e := Finset.mem_singleton.1 h
    subst e
    funext b
    match b with
    | ⟨0, _⟩ => rfl

theorem v75 (i : S8192.Idx) : val_main_v75 (F := Ideal) (up h) (up sh) (up sc) (up gg) (up ng) (up w1) (up w2) (up ct) i = ((fac h sh sc gg ng w1 w2 ct (i 0) : ℝ) : EReal) := by
  pointwise [val_main_v75]
  refine from_zero _ _ _ ((val_main_cst_18_apply _).trans c0) ?_
  exact (congrArg (fun S => ∑ q ∈ S, val_main_v74 (F := Ideal) (up h) (up sh) (up sc) (up gg) (up ng) (up w1) (up w2) (up ct) q) (drops2 i)).trans
    ((Finset.sum_singleton _ _).trans (v74 h sh sc gg ng w1 w2 ct _))

/-- The row's gradient, as the derivative writes it. -/
def dhRef (p : Fin 8192) (k : Fin 1024) : ℝ :=
  rA ct p k + ((dn (w1A w1) (w2A w2) (vA gg) (vA sc) (rA ct p) (pA h sh sc ng w1 p)) k * nA ng k * rs (rA h p) + rA h p k * fac h sh sc gg ng w1 w2 ct p + fac h sh sc gg ng w1 w2 ct p * rA h p k)

theorem v77 (i : S1x8192x1024.Idx) : val_main_v77 (F := Ideal) (up h) (up sh) (up sc) (up gg) (up ng) (up w1) (up w2) (up ct) i = ((fac h sh sc gg ng w1 w2 ct (i 1) : ℝ) : EReal) := by
  rw [val_main_v77_apply, val_main_v76_apply, v75]
  rfl

theorem v85 (i : S1x8192x1024.Idx) : val_main_v85 (F := Ideal) (up h) (up sh) (up sc) (up gg) (up ng) (up w1) (up w2) (up ct) i = ((dhRef h sh sc gg ng w1 w2 ct (i 1) (i 2) : ℝ) : EReal) := by
  rw [val_main_v85_apply, val_main_v81_apply, val_main_v79_apply, val_main_v78_apply, val_main_v80_apply, val_main_v71_apply, v65, v77, val_main_v70_apply, v7]
  have e := one3 h i
  have e' := one3 ct i
  show ((ct i : ℝ) : EReal) + (_ * _ + ((h i : ℝ) : EReal) * _ + _ * ((h i : ℝ) : EReal)) = _
  rw [e, e', mul_coe, mul_coe, mul_coe, add_coe, add_coe, add_coe]
  rfl

/-- The call's gradient of a row is the derivative's. -/
theorem dh_eq (p : Fin 8192) (k : Fin 1024) : dh (w1A w1) (w2A w2) (vA gg) (vA sc) (nA ng) (rA h p) (rA ct p) (pA h sh sc ng w1 p) k = dhRef h sh sc gg ng w1 w2 ct p k := by
  have hm : 0 < ms (rA h p) := ms_pos _
  have hr : rs (rA h p) / ms (rA h p) = rs (rA h p) * (rs (rA h p) * rs (rA h p)) := by
    have : rs (rA h p) * rs (rA h p) = (ms (rA h p))⁻¹ := by
      show (Real.sqrt (ms (rA h p)))⁻¹ * (Real.sqrt (ms (rA h p)))⁻¹ = _
      rw [← mul_inv, Real.mul_self_sqrt hm.le]
    rw [this, div_eq_mul_inv]
  have h1 : ∑ j, (dn (w1A w1) (w2A w2) (vA gg) (vA sc) (rA ct p) (pA h sh sc ng w1 p)) j * nA ng j * xh (rA h p) j = rs (rA h p) * ∑ j, rA h p j * ((dn (w1A w1) (w2A w2) (vA gg) (vA sc) (rA ct p) (pA h sh sc ng w1 p)) j * nA ng j) := by
    rw [Finset.mul_sum]; exact Finset.sum_congr rfl fun j _ => by unfold xh; ring
  unfold dh dhRef fac
  rw [h1, hr]
  unfold xh
  ring

theorem flat {n : ℕ} (hn : 0 < n) (a b : ℕ) (hb : b < n) (ha : a < 8192) : (a * n + b) / n % 8192 = a ∧ (a * n + b) % n = b := by
  constructor
  · rw [Nat.mul_comm, Nat.mul_add_div hn, Nat.div_eq_of_lt hb, Nat.add_zero, Nat.mod_eq_of_lt ha]
  · rw [Nat.mul_comm, Nat.mul_add_mod, Nat.mod_eq_of_lt hb]

theorem v86 (i : S8192x1024.Idx) : val_main_v86 (F := Ideal) (up h) (up sh) (up sc) (up gg) (up ng) (up w1) (up w2) (up ct) i = Cert.MlpArray.G8 h sh sc gg ng w1 w2 ct i :=
  (val_main_v86_apply _ _ _ _ _ _ _ _ i).trans ((v85 h sh sc gg ng w1 w2 ct _).trans ((congrArg (fun r : ℝ => (r : EReal)) (dh_eq h sh sc gg ng w1 w2 ct _ _).symm).trans
    (congrArg₂ (fun (p : Fin 8192) (n : Fin 1024) => ((dh (w1A w1) (w2A w2) (vA gg) (vA sc) (nA ng) (rA h p) (rA ct p) (pA h sh sc ng w1 p) n : ℝ) : EReal))
      (Fin.ext (flat (by decide) _ _ (i 1).isLt (i 0).isLt).1) (Fin.ext (flat (by decide) _ _ (i 1).isLt (i 0).isLt).2))))

theorem v88 (i : S8192x1024.Idx) : val_main_v88 (F := Ideal) (up h) (up sh) (up sc) (up ng) i = Cert.MlpArray.G9 h sh sc ng i := by
  rw [val_main_v88_apply]
  exact (val_main_v87_apply _ _ _ _ i).trans ((v23 h sh sc ng _).trans
    (congrArg₂ (fun (p : Fin 8192) (n : Fin 1024) => ((mA h sh sc ng p n : ℝ) : EReal))
      (Fin.ext (flat (by decide) _ _ (i 1).isLt (i 0).isLt).1) (Fin.ext (flat (by decide) _ _ (i 1).isLt (i 0).isLt).2)))

theorem v90 (i : S8192x4096.Idx) : val_main_v90 (F := Ideal) (up h) (up sh) (up sc) (up gg) (up ng) (up w1) (up w2) (up ct) i = Cert.MlpArray.G10 h sh sc gg ng w1 w2 ct i := by
  rw [val_main_v90_apply]
  exact (val_main_v89_apply _ _ _ _ _ _ _ _ i).trans ((v48 h sh sc gg ng w1 w2 ct _).trans
    (congrArg₂ (fun (p : Fin 8192) (n : Fin 4096) => ((du (w2A w2) (vA gg) (rA ct p) (pA h sh sc ng w1 p) n : ℝ) : EReal))
      (Fin.ext (flat (by decide) _ _ (i 1).isLt (i 0).isLt).1) (Fin.ext (flat (by decide) _ _ (i 1).isLt (i 0).isLt).2)))

theorem v92 (i : S8192x1024.Idx) : val_main_v92 (F := Ideal) (up gg) (up ct) i = Cert.MlpArray.G11 gg ct i := by
  rw [val_main_v92_apply]
  exact (val_main_v91_apply _ _ i).trans ((v39 gg ct _).trans
    (congrArg₂ (fun (p : Fin 8192) (n : Fin 1024) => ((da (vA gg) (rA ct p) n : ℝ) : EReal))
      (Fin.ext (flat (by decide) _ _ (i 1).isLt (i 0).isLt).1) (Fin.ext (flat (by decide) _ _ (i 1).isLt (i 0).isLt).2)))

theorem drops (i : S1024.Idx) : Finset.univ.filter (fun q : S1x1x1024.Idx => Gen.reducesTo_S1x1x1024_S1024_d0_1.drop q = i) = {ValueIdx.ix3 0 0 (i 0)} := by
  refine Finset.ext fun q => ⟨fun h => Finset.mem_singleton.2 ?_, fun h => Finset.mem_filter.2 ⟨Finset.mem_univ _, ?_⟩⟩
  · have e := (Finset.mem_filter.1 h).2
    subst e
    funext a
    match a with
    | ⟨0, _⟩ => exact Fin.ext (Nat.lt_one_iff.1 (q 0).isLt)
    | ⟨1, _⟩ => exact Fin.ext (Nat.lt_one_iff.1 (q 1).isLt)
    | ⟨2, _⟩ => rfl
  · have e := Finset.mem_singleton.1 h
    subst e
    funext b
    match b with
    | ⟨0, _⟩ => rfl

theorem flat0 (b : ℕ) (hb : b < 1024) : ((0 * 1 + 0) * 1024 + b) % 1024 = b := by omega

/-- The four rows that are not zero: what is summed over the tokens. -/
theorem v41 (i : S1x1024.Idx) : val_main_v41 (F := Ideal) (up h) (up sh) (up sc) (up ng) (up w1) (up w2) (up ct) i = ((∑ p, rA ct p (i 1) * yA h sh sc ng w1 w2 p (i 1) : ℝ) : EReal) := by
  refine (val_main_v41_apply _ _ _ _ _ _ _ i).trans (from_zero _ _ _ c0 ((Finset.sum_congr rfl fun p _ => ?_).trans (sum_coe _ _)))
  rw [val_main_v40_apply, v37, v32]
  exact mul_coe _ _
theorem v43 (i : S1024.Idx) : val_main_v43 (F := Ideal) (up h) (up sh) (up sc) (up ng) (up w1) (up w2) (up ct) i = ((∑ p, rA ct p (i 0) * yA h sh sc ng w1 w2 p (i 0) : ℝ) : EReal) := by
  pointwise [val_main_v43]
  refine from_zero _ _ _ ((val_main_cst_8_apply _).trans c0) ?_
  exact (congrArg (fun S => ∑ q ∈ S, val_main_v42 (F := Ideal) (up h) (up sh) (up sc) (up ng) (up w1) (up w2) (up ct) q) (drops i)).trans
    ((Finset.sum_singleton _ _).trans ((val_main_v42_apply _ _ _ _ _ _ _ _).trans ((v41 h sh sc ng w1 w2 ct _).trans
      (congrArg (fun n : Fin 1024 => ((∑ p, rA ct p n * yA h sh sc ng w1 w2 p n : ℝ) : EReal)) (Fin.ext (flat0 _ (i 0).isLt))))))
theorem v44 (n : Fin 1024) : val_main_v44 (F := Ideal) (up h) (up sh) (up sc) (up ng) (up w1) (up w2) (up ct) (ValueIdx.ix2 0 n) = ((∑ p, rA ct p n * yA h sh sc ng w1 w2 p n : ℝ) : EReal) :=
  (val_main_v44_apply _ _ _ _ _ _ _ _).trans (v43 h sh sc ng w1 w2 ct _)
theorem v50 (i : S1x1024.Idx) : val_main_v50 (F := Ideal) (up h) (up sh) (up sc) (up gg) (up ng) (up w1) (up w2) (up ct) i = ((∑ p, dm (w1A w1) (w2A w2) (vA gg) (rA ct p) (pA h sh sc ng w1 p) (i 1) : ℝ) : EReal) := by
  refine (val_main_v50_apply _ _ _ _ _ _ _ _ i).trans (from_zero _ _ _ c0 ((Finset.sum_congr rfl fun p _ => ?_).trans (sum_coe _ _)))
  exact v49 h sh sc gg ng w1 w2 ct _
theorem v52 (i : S1024.Idx) : val_main_v52 (F := Ideal) (up h) (up sh) (up sc) (up gg) (up ng) (up w1) (up w2) (up ct) i = ((∑ p, dm (w1A w1) (w2A w2) (vA gg) (rA ct p) (pA h sh sc ng w1 p) (i 0) : ℝ) : EReal) := by
  pointwise [val_main_v52]
  refine from_zero _ _ _ ((val_main_cst_11_apply _).trans c0) ?_
  exact (congrArg (fun S => ∑ q ∈ S, val_main_v51 (F := Ideal) (up h) (up sh) (up sc) (up gg) (up ng) (up w1) (up w2) (up ct) q) (drops i)).trans
    ((Finset.sum_singleton _ _).trans ((val_main_v51_apply _ _ _ _ _ _ _ _ _).trans ((v50 h sh sc gg ng w1 w2 ct _).trans
      (congrArg (fun n : Fin 1024 => ((∑ p, dm (w1A w1) (w2A w2) (vA gg) (rA ct p) (pA h sh sc ng w1 p) n : ℝ) : EReal)) (Fin.ext (flat0 _ (i 0).isLt))))))
theorem v53 (n : Fin 1024) : val_main_v53 (F := Ideal) (up h) (up sh) (up sc) (up gg) (up ng) (up w1) (up w2) (up ct) (ValueIdx.ix2 0 n) = ((∑ p, dm (w1A w1) (w2A w2) (vA gg) (rA ct p) (pA h sh sc ng w1 p) n : ℝ) : EReal) :=
  (val_main_v53_apply _ _ _ _ _ _ _ _ _).trans (v52 h sh sc gg ng w1 w2 ct _)
theorem v55 (i : S1x1024.Idx) : val_main_v55 (F := Ideal) (up h) (up sh) (up sc) (up gg) (up ng) (up w1) (up w2) (up ct) i = ((∑ p, nn (nA ng) (rA h p) (i 1) * dm (w1A w1) (w2A w2) (vA gg) (rA ct p) (pA h sh sc ng w1 p) (i 1) : ℝ) : EReal) := by
  refine (val_main_v55_apply _ _ _ _ _ _ _ _ i).trans (from_zero _ _ _ c0 ((Finset.sum_congr rfl fun p _ => ?_).trans (sum_coe _ _)))
  rw [val_main_v54_apply, v15, v49]
  exact mul_coe _ _
theorem v59 (i : S1024.Idx) : val_main_v59 (F := Ideal) (up h) (up sh) (up sc) (up gg) (up ng) (up w1) (up w2) (up ct) i = ((∑ p, nn (nA ng) (rA h p) (i 0) * dm (w1A w1) (w2A w2) (vA gg) (rA ct p) (pA h sh sc ng w1 p) (i 0) : ℝ) : EReal) := by
  pointwise [val_main_v59]
  refine from_zero _ _ _ ((val_main_cst_13_apply _).trans c0) ?_
  exact (congrArg (fun S => ∑ q ∈ S, val_main_v56 (F := Ideal) (up h) (up sh) (up sc) (up gg) (up ng) (up w1) (up w2) (up ct) q) (drops i)).trans
    ((Finset.sum_singleton _ _).trans ((val_main_v56_apply _ _ _ _ _ _ _ _ _).trans ((v55 h sh sc gg ng w1 w2 ct _).trans
      (congrArg (fun n : Fin 1024 => ((∑ p, nn (nA ng) (rA h p) n * dm (w1A w1) (w2A w2) (vA gg) (rA ct p) (pA h sh sc ng w1 p) n : ℝ) : EReal)) (Fin.ext (flat0 _ (i 0).isLt))))))
theorem v60 (n : Fin 1024) : val_main_v60 (F := Ideal) (up h) (up sh) (up sc) (up gg) (up ng) (up w1) (up w2) (up ct) (ValueIdx.ix2 0 n) = ((∑ p, nn (nA ng) (rA h p) n * dm (w1A w1) (w2A w2) (vA gg) (rA ct p) (pA h sh sc ng w1 p) n : ℝ) : EReal) :=
  (val_main_v60_apply _ _ _ _ _ _ _ _ _).trans (v59 h sh sc gg ng w1 w2 ct _)
theorem v62 (i : S1x1024.Idx) : val_main_v62 (F := Ideal) (up h) (up sh) (up sc) (up gg) (up ng) (up w1) (up w2) (up ct) i = ((∑ p, xh (rA h p) (i 1) * (dn (w1A w1) (w2A w2) (vA gg) (vA sc) (rA ct p) (pA h sh sc ng w1 p)) (i 1) : ℝ) : EReal) := by
  refine (val_main_v62_apply _ _ _ _ _ _ _ _ i).trans (from_zero _ _ _ c0 ((Finset.sum_congr rfl fun p _ => ?_).trans (sum_coe _ _)))
  rw [val_main_v61_apply, v12, v58]
  exact mul_coe _ _
theorem v66 (i : S1024.Idx) : val_main_v66 (F := Ideal) (up h) (up sh) (up sc) (up gg) (up ng) (up w1) (up w2) (up ct) i = ((∑ p, xh (rA h p) (i 0) * (dn (w1A w1) (w2A w2) (vA gg) (vA sc) (rA ct p) (pA h sh sc ng w1 p)) (i 0) : ℝ) : EReal) := by
  pointwise [val_main_v66]
  refine from_zero _ _ _ ((val_main_cst_15_apply _).trans c0) ?_
  exact (congrArg (fun S => ∑ q ∈ S, val_main_v63 (F := Ideal) (up h) (up sh) (up sc) (up gg) (up ng) (up w1) (up w2) (up ct) q) (drops i)).trans
    ((Finset.sum_singleton _ _).trans ((val_main_v63_apply _ _ _ _ _ _ _ _ _).trans ((v62 h sh sc gg ng w1 w2 ct _).trans
      (congrArg (fun n : Fin 1024 => ((∑ p, xh (rA h p) n * (dn (w1A w1) (w2A w2) (vA gg) (vA sc) (rA ct p) (pA h sh sc ng w1 p)) n : ℝ) : EReal)) (Fin.ext (flat0 _ (i 0).isLt))))))
theorem v83 (n : Fin 1024) : val_main_v83 (F := Ideal) (up h) (up sh) (up sc) (up gg) (up ng) (up w1) (up w2) (up ct) (ValueIdx.ix2 0 n) = ((∑ p, xh (rA h p) n * (dn (w1A w1) (w2A w2) (vA gg) (vA sc) (rA ct p) (pA h sh sc ng w1 p)) n : ℝ) : EReal) :=
  (val_main_v83_apply _ _ _ _ _ _ _ _ _).trans (v66 h sh sc gg ng w1 w2 ct _)

theorem v82 (n : Fin 1024) : val_main_v82 (F := Ideal) (ValueIdx.ix2 0 n) = ((0 : ℝ) : EReal) := (val_main_v82_apply _).trans c0

/-- The rows' sums at row `a`. -/
def total (a : ℕ) (n : Fin 1024) : ℝ :=
  ∑ p, Cert.MlpPoint.st (w1A w1) (w2A w2) (vA gg) (vA sc) (nA ng) (rA ct p) (rA h p) (yA h sh sc ng w1 w2 p) (pA h sh sc ng w1 p) a n
theorem total_rest (a : ℕ) (ha : 4 ≤ a) (n : Fin 1024) : total h sh sc gg ng w1 w2 ct a n = 0 := by
  refine Finset.sum_eq_zero fun p _ => ?_
  unfold Cert.MlpPoint.st
  rw [if_neg (by omega), if_neg (by omega), if_neg (by omega), if_neg (by omega)]

theorem row0 (n : Fin 1024) : val_main_v84 (F := Ideal) (up h) (up sh) (up sc) (up gg) (up ng) (up w1) (up w2) (up ct) (ValueIdx.ix2 0 n) = ((total h sh sc gg ng w1 w2 ct 0 n : ℝ) : EReal) := by
  pointwise [val_main_v84]
  exact (v53 h sh sc gg ng w1 w2 ct n)
theorem row1 (n : Fin 1024) : val_main_v84 (F := Ideal) (up h) (up sh) (up sc) (up gg) (up ng) (up w1) (up w2) (up ct) (ValueIdx.ix2 1 n) = ((total h sh sc gg ng w1 w2 ct 1 n : ℝ) : EReal) := by
  pointwise [val_main_v84]
  exact ((v60 h sh sc gg ng w1 w2 ct n).trans (congrArg (fun r : ℝ => (r : EReal)) (Finset.sum_congr rfl fun p _ => mul_comm _ _)))
theorem row2 (n : Fin 1024) : val_main_v84 (F := Ideal) (up h) (up sh) (up sc) (up gg) (up ng) (up w1) (up w2) (up ct) (ValueIdx.ix2 2 n) = ((total h sh sc gg ng w1 w2 ct 2 n : ℝ) : EReal) := by
  pointwise [val_main_v84]
  exact (v44 h sh sc ng w1 w2 ct n)
theorem row3 (n : Fin 1024) : val_main_v84 (F := Ideal) (up h) (up sh) (up sc) (up gg) (up ng) (up w1) (up w2) (up ct) (ValueIdx.ix2 3 n) = ((total h sh sc gg ng w1 w2 ct 3 n : ℝ) : EReal) := by
  pointwise [val_main_v84]
  exact ((v83 h sh sc gg ng w1 w2 ct n).trans (congrArg (fun r : ℝ => (r : EReal)) (Finset.sum_congr rfl fun p _ => mul_comm _ _)))
theorem row4 (n : Fin 1024) : val_main_v84 (F := Ideal) (up h) (up sh) (up sc) (up gg) (up ng) (up w1) (up w2) (up ct) (ValueIdx.ix2 4 n) = ((total h sh sc gg ng w1 w2 ct 4 n : ℝ) : EReal) := by
  pointwise [val_main_v84]
  exact ((v82 n).trans (congrArg (fun r : ℝ => (r : EReal)) (total_rest h sh sc gg ng w1 w2 ct 4 (by decide) n).symm))
theorem row5 (n : Fin 1024) : val_main_v84 (F := Ideal) (up h) (up sh) (up sc) (up gg) (up ng) (up w1) (up w2) (up ct) (ValueIdx.ix2 5 n) = ((total h sh sc gg ng w1 w2 ct 5 n : ℝ) : EReal) := by
  pointwise [val_main_v84]
  exact ((v82 n).trans (congrArg (fun r : ℝ => (r : EReal)) (total_rest h sh sc gg ng w1 w2 ct 5 (by decide) n).symm))
theorem row6 (n : Fin 1024) : val_main_v84 (F := Ideal) (up h) (up sh) (up sc) (up gg) (up ng) (up w1) (up w2) (up ct) (ValueIdx.ix2 6 n) = ((total h sh sc gg ng w1 w2 ct 6 n : ℝ) : EReal) := by
  pointwise [val_main_v84]
  exact ((v82 n).trans (congrArg (fun r : ℝ => (r : EReal)) (total_rest h sh sc gg ng w1 w2 ct 6 (by decide) n).symm))
theorem row7 (n : Fin 1024) : val_main_v84 (F := Ideal) (up h) (up sh) (up sc) (up gg) (up ng) (up w1) (up w2) (up ct) (ValueIdx.ix2 7 n) = ((total h sh sc gg ng w1 w2 ct 7 n : ℝ) : EReal) := by
  pointwise [val_main_v84]
  exact ((v82 n).trans (congrArg (fun r : ℝ => (r : EReal)) (total_rest h sh sc gg ng w1 w2 ct 7 (by decide) n).symm))
theorem rows (r : Fin 8) (n : Fin 1024) : val_main_v84 (F := Ideal) (up h) (up sh) (up sc) (up gg) (up ng) (up w1) (up w2) (up ct) (ValueIdx.ix2 r n) = ((total h sh sc gg ng w1 w2 ct r.val n : ℝ) : EReal) := by
  match r with
  | 0 => exact row0 h sh sc gg ng w1 w2 ct n
  | 1 => exact row1 h sh sc gg ng w1 w2 ct n
  | 2 => exact row2 h sh sc gg ng w1 w2 ct n
  | 3 => exact row3 h sh sc gg ng w1 w2 ct n
  | 4 => exact row4 h sh sc gg ng w1 w2 ct n
  | 5 => exact row5 h sh sc gg ng w1 w2 ct n
  | 6 => exact row6 h sh sc gg ng w1 w2 ct n
  | 7 => exact row7 h sh sc gg ng w1 w2 ct n

theorem v93 (i : S1x8x1024.Idx) : val_main_v93 (F := Ideal) (up h) (up sh) (up sc) (up gg) (up ng) (up w1) (up w2) (up ct) i = Cert.MlpArray.G12 h sh sc gg ng w1 w2 ct i :=
  (val_main_v93_apply _ _ _ _ _ _ _ _ i).trans ((congrArg (val_main_v84 (F := Ideal) (up h) (up sh) (up sc) (up gg) (up ng) (up w1) (up w2) (up ct)) (ValueIdx.eq_ix2 _)).trans (rows h sh sc gg ng w1 w2 ct (i 1) (i 2)))

end Cert.MlpRef
end
-- ==== Proof.MlpEq.lean ====
module

public import proofs.«01_k».proof.Defs
public import proofs.«01_k».proof.Proof.MlpRef
public import proofs.«01_k».proof.Proof.Gen.Pre_mlp_finite
@[expose] public section

/-! The call mlp_bwd ends with what the derivative of reference.py's gated MLP computes. -/

noncomputable section
open Idealize.ShloMosaic Idealize.SL.Sem Cert.Lift
open Cert.MlpRefIdeal Cert.MlpRefIdeal.Read Cert.MlpRef

namespace Cert.MlpEq

set_option maxHeartbeats 1600000 in
theorem algebraic : algebraic_MlpIdeal_MlpRefIdeal_pre_mlp_finite := by
  intro m g m' g' hpre hargs
  refine ⟨fun c => (MlpIdeal.Gen.dats m 0 c).arrAt 8 MlpIdeal.cfg0.N, fun c => (MlpIdeal.Gen.dats m 0 c).arrAt 9 MlpIdeal.cfg0.N, fun c => (MlpIdeal.Gen.dats m 0 c).arrAt 10 MlpIdeal.cfg0.N,
    fun c => (MlpIdeal.Gen.dats m 0 c).arrAt 11 MlpIdeal.cfg0.N, fun c => (MlpIdeal.Gen.dats m 0 c).arrAt 12 MlpIdeal.cfg0.N, MlpIdeal.Value.run_blocks m g, ?_⟩
  refine (θ_run MlpRefIdeal.defs _ _).mono (fun r h c => ?_) (MlpRefIdeal.Value.run (F := Ideal) m' g')
  obtain ⟨a0, a1, a2, a3, a4, a5, a6, a7⟩ := hargs c
  obtain ⟨p0, p1, p2, p3, p4, p5, p6, p7⟩ := hpre c
  obtain ⟨x, hh⟩ := exists_real_of_cmp (s := MlpIdeal.S1x8192x1024) _ _ (fun _ => rfl) p0
  obtain ⟨sh, hs⟩ := exists_real_of_cmp (s := MlpIdeal.S1x1024) _ _ (fun _ => rfl) p1
  obtain ⟨sc, hc⟩ := exists_real_of_cmp (s := MlpIdeal.S1x1024) _ _ (fun _ => rfl) p2
  obtain ⟨gg, hg⟩ := exists_real_of_cmp (s := MlpIdeal.S1x1024) _ _ (fun _ => rfl) p3
  obtain ⟨ng, hn⟩ := exists_real_of_cmp (s := MlpIdeal.S1024) _ _ (fun _ => rfl) p4
  obtain ⟨w1, h1⟩ := exists_real_of_cmp (s := MlpIdeal.S1024x4096) _ _ (fun _ => rfl) p5
  obtain ⟨w2, h2⟩ := exists_real_of_cmp (s := MlpIdeal.S4096x1024) _ _ (fun _ => rfl) p6
  obtain ⟨ct, hd⟩ := exists_real_of_cmp (s := MlpIdeal.S1x8192x1024) _ _ (fun _ => rfl) p7
  obtain ⟨r0, r1, r2, r3, r4, k⟩ := h c
  rw [MlpRefIdeal.Read.val_main_v86_eq, a0, a1, a2, a3, a4, a5, a6, a7, hh, hs, hc, hg, hn, h1, h2, hd] at r0
  rw [MlpRefIdeal.Read.val_main_v88_eq, a0, a1, a2, a4, hh, hs, hc, hn] at r1
  rw [MlpRefIdeal.Read.val_main_v90_eq, a0, a1, a2, a3, a4, a5, a6, a7, hh, hs, hc, hg, hn, h1, h2, hd] at r2
  rw [MlpRefIdeal.Read.val_main_v92_eq, a3, a7, hg, hd] at r3
  rw [MlpRefIdeal.Read.val_main_v93_eq, a0, a1, a2, a3, a4, a5, a6, a7, hh, hs, hc, hg, hn, h1, h2, hd] at r4
  refine ⟨r0.trans ?_, r1.trans ?_, r2.trans ?_, r3.trans ?_, r4.trans ?_, k⟩
  · exact (funext fun i => v86 x sh sc gg ng w1 w2 ct i).trans (MlpArray.result8 m c x sh sc gg ng w1 w2 ct hh hs hc hg hn h1 h2 hd).symm
  · exact (funext fun i => v88 x sh sc ng i).trans (MlpArray.result9 m c x sh sc gg ng hh hs hc hg hn).symm
  · exact (funext fun i => v90 x sh sc gg ng w1 w2 ct i).trans (MlpArray.result10 m c x sh sc gg ng w1 w2 ct hh hs hc hg hn h1 h2 hd).symm
  · exact (funext fun i => v92 gg ct i).trans (MlpArray.result11 m c sh sc gg ct hs hc hg hd).symm
  · exact (funext fun i => v93 x sh sc gg ng w1 w2 ct i).trans (MlpArray.result12 m c x sh sc gg ng w1 w2 ct hh hs hc hg hn h1 h2 hd).symm

/-- The reference keeps its arguments and leaves every counter at zero. -/
theorem frameRef (m) (g) : θ_run (MlpRefIdeal.defs (F := Ideal)) (onTc (τ := MlpRefIdeal.τ) (MlpRefIdeal.main (F := Ideal))) ⟨m, fun _ => 0, g⟩ fun r =>
    (∀ c : Dev MlpRefIdeal.nD, r.2.mem ((c.tc : Thread MlpRefIdeal.nD MlpRefIdeal.τ).loc MlpRefIdeal.main_arg0) = m ((c.tc : Thread MlpRefIdeal.nD MlpRefIdeal.τ).loc MlpRefIdeal.main_arg0)
      ∧ r.2.mem ((c.tc : Thread MlpRefIdeal.nD MlpRefIdeal.τ).loc MlpRefIdeal.main_arg1) = m ((c.tc : Thread MlpRefIdeal.nD MlpRefIdeal.τ).loc MlpRefIdeal.main_arg1)
      ∧ r.2.mem ((c.tc : Thread MlpRefIdeal.nD MlpRefIdeal.τ).loc MlpRefIdeal.main_arg2) = m ((c.tc : Thread MlpRefIdeal.nD MlpRefIdeal.τ).loc MlpRefIdeal.main_arg2)
      ∧ r.2.mem ((c.tc : Thread MlpRefIdeal.nD MlpRefIdeal.τ).loc MlpRefIdeal.main_arg3) = m ((c.tc : Thread MlpRefIdeal.nD MlpRefIdeal.τ).loc MlpRefIdeal.main_arg3)
      ∧ r.2.mem ((c.tc : Thread MlpRefIdeal.nD MlpRefIdeal.τ).loc MlpRefIdeal.main_arg4) = m ((c.tc : Thread MlpRefIdeal.nD MlpRefIdeal.τ).loc MlpRefIdeal.main_arg4)
      ∧ r.2.mem ((c.tc : Thread MlpRefIdeal.nD MlpRefIdeal.τ).loc MlpRefIdeal.main_arg5) = m ((c.tc : Thread MlpRefIdeal.nD MlpRefIdeal.τ).loc MlpRefIdeal.main_arg5)
      ∧ r.2.mem ((c.tc : Thread MlpRefIdeal.nD MlpRefIdeal.τ).loc MlpRefIdeal.main_arg6) = m ((c.tc : Thread MlpRefIdeal.nD MlpRefIdeal.τ).loc MlpRefIdeal.main_arg6)
      ∧ r.2.mem ((c.tc : Thread MlpRefIdeal.nD MlpRefIdeal.τ).loc MlpRefIdeal.main_arg7) = m ((c.tc : Thread MlpRefIdeal.nD MlpRefIdeal.τ).loc MlpRefIdeal.main_arg7))
      ∧ r.2.sem = fun _ => 0 :=
  (θ_run MlpRefIdeal.defs _ _).mono (fun r h => ⟨fun c => (h c).2.2.2.2.2, sem_eq_zero_of_no_sems (by decide) _⟩) (MlpRefIdeal.Value.run (F := Ideal) m g)

end Cert.MlpEq
end
-- ==== Proof.MfwdPoint.lean ====
module

public import proofs.«01_k».proof.Proof.MlpBlock
public import proofs.«01_k».proof.Proof.Gen.MfwdIdeal.Value
@[expose] public section

/-! The call mlp_fwd: what the body stores, one block of rows at a time. -/

set_option maxRecDepth 16384
set_option maxHeartbeats 1000000

noncomputable section
open Idealize.ShloMosaic Idealize.ShloMosaic.TcCoe Cert.Lift
open Cert.MfwdIdeal Cert.MfwdIdeal.Gen
open Cert.MlpRow (rs ms_pos mm part sum_parts mat row row3 slab1 slab2 slabs1 slabs2 mods mods3 mods4 mods5 ld1 ld2 cols)
open Cert.MlpArray (max_coe)

namespace Cert.MfwdPoint

variable (W1 : Fin 1024 → Fin 4096 → ℝ) (W2 : Fin 4096 → Fin 1024 → ℝ) (g sc sh ng : Fin 1024 → ℝ)
  (X M A : Fin 512 → Fin 1024 → ℝ)

/-- The hidden layer of a block of rows; one part's share of its output. -/
def hu (p : Fin 512) (j : Fin 4096) : ℝ := max (∑ k, M p k * W1 k j) 0
def sq (P : Fin 512 → Fin 512 → ℝ) (p j : Fin 512) : ℝ := P p j * P p j
def ys (q : ℕ) (P : Fin 512 → Fin 512 → ℝ) (p : Fin 512) (n : Fin 1024) : ℝ := ∑ j, sq P p j * W2 (part q j) n

theorem pay4 : k0_pay4 (F := Ideal) (mat X) = mat X := by
  funext y; pointwise [k0_pay4]
theorem pay6 : k0_pay6 (F := Ideal) = mat fun _ _ => 0 := by
  funext y; pointwise [k0_pay6]; rfl
theorem pay5 : k0_pay5 (F := Ideal) (mat X) (row ng) (row3 sh) (row3 sc) = mat fun p => mm sc sh ng (X p) := by
  funext y
  unfold k0_pay5
  rw [pay4]
  pointwise [row, row3]
  simp only [mat, mul_coe, sum_coe, c1, c1024, cEps, div_coe _ (1024 : ℝ) (by norm_num), add_coe, rsqrt_coe _ (ms_pos _)]
  rfl
theorem pay7 (q : ℕ) (hM : k0_pay5 (F := Ideal) (mat X) (row ng) (row3 sh) (row3 sc) = mat M) :
    k0_pay7 (F := Ideal) (mat X) (row ng) (row3 sh) (row3 sc) (slab1 q W1) = mat (cols q (hu W1 M)) := by
  funext y
  unfold k0_pay7
  rw [hM]
  pointwise [slab1]
  simp only [mat, c0, mul_coe, sum_coe, max_coe]
  rfl
theorem pay8 (q : ℕ) (hM : k0_pay5 (F := Ideal) (mat X) (row ng) (row3 sh) (row3 sc) = mat M) :
    k0_pay8 (F := Ideal) (mat X) (row ng) (row3 sh) (row3 sc) (slab1 q W1) = mat (cols q (hu W1 M)) := by
  funext y
  unfold k0_pay8
  rw [pay7 W1 sc sh ng X M q hM]
  pointwise
theorem pay9 (q : ℕ) (hM : k0_pay5 (F := Ideal) (mat X) (row ng) (row3 sh) (row3 sc) = mat M) :
    k0_pay9 (F := Ideal) (mat X) (row ng) (row3 sh) (row3 sc) (slab1 q W1) = mat (sq (cols q (hu W1 M))) := by
  funext y
  unfold k0_pay9
  rw [pay7 W1 sc sh ng X M q hM]
  pointwise
  exact mul_coe _ _
theorem pay10 (q : ℕ) : k0_pay10 (F := Ideal) (mat M) (slab1 q W1) = mat (cols q (hu W1 M)) := by
  funext y
  pointwise [k0_pay10, slab1]
  simp only [mat, c0, mul_coe, sum_coe, max_coe]
  rfl
theorem pay11 (q : ℕ) : k0_pay11 (F := Ideal) (mat M) (slab1 q W1) = mat (cols q (hu W1 M)) := by
  funext y
  unfold k0_pay11
  rw [pay10]
  pointwise
theorem pay12 (q : ℕ) : k0_pay12 (F := Ideal) (mat M) (slab1 q W1) = mat (cols q (hu W1 M)) := by
  funext y
  pointwise [k0_pay12, slab1]
  simp only [mat, c0, mul_coe, sum_coe, max_coe]
  rfl
theorem pay13 (q : ℕ) : k0_pay13 (F := Ideal) (mat M) (slab1 q W1) = mat (cols q (hu W1 M)) := by
  funext y
  unfold k0_pay13
  rw [pay12]
  pointwise
theorem pay15 (q : ℕ) : k0_pay15 (F := Ideal) (mat M) (slab1 q W1) = mat (cols q (hu W1 M)) := by
  funext y
  pointwise [k0_pay15, slab1]
  simp only [mat, c0, mul_coe, sum_coe, max_coe]
  rfl
theorem pay16 (q : ℕ) : k0_pay16 (F := Ideal) (mat M) (slab1 q W1) = mat (cols q (hu W1 M)) := by
  funext y
  unfold k0_pay16
  rw [pay15]
  pointwise
theorem pay17 (q : ℕ) : k0_pay17 (F := Ideal) (mat M) (slab1 q W1) = mat (cols q (hu W1 M)) := by
  funext y
  pointwise [k0_pay17, slab1]
  simp only [mat, c0, mul_coe, sum_coe, max_coe]
  rfl
theorem pay18 (q : ℕ) : k0_pay18 (F := Ideal) (mat M) (slab1 q W1) = mat (cols q (hu W1 M)) := by
  funext y
  unfold k0_pay18
  rw [pay17]
  pointwise
theorem pay20 (q : ℕ) : k0_pay20 (F := Ideal) (mat M) (slab1 q W1) = mat (cols q (hu W1 M)) := by
  funext y
  pointwise [k0_pay20, slab1]
  simp only [mat, c0, mul_coe, sum_coe, max_coe]
  rfl
theorem pay21 (q : ℕ) : k0_pay21 (F := Ideal) (mat M) (slab1 q W1) = mat (cols q (hu W1 M)) := by
  funext y
  unfold k0_pay21
  rw [pay20]
  pointwise
theorem pay22 (q : ℕ) : k0_pay22 (F := Ideal) (mat M) (slab1 q W1) = mat (cols q (hu W1 M)) := by
  funext y
  pointwise [k0_pay22, slab1]
  simp only [mat, c0, mul_coe, sum_coe, max_coe]
  rfl
theorem pay23 (q : ℕ) : k0_pay23 (F := Ideal) (mat M) (slab1 q W1) = mat (cols q (hu W1 M)) := by
  funext y
  unfold k0_pay23
  rw [pay22]
  pointwise
theorem pay25 (q : ℕ) : k0_pay25 (F := Ideal) (mat M) (slab1 q W1) = mat (cols q (hu W1 M)) := by
  funext y
  pointwise [k0_pay25, slab1]
  simp only [mat, c0, mul_coe, sum_coe, max_coe]
  rfl
theorem pay26 (q : ℕ) : k0_pay26 (F := Ideal) (mat M) (slab1 q W1) = mat (cols q (hu W1 M)) := by
  funext y
  unfold k0_pay26
  rw [pay25]
  pointwise
theorem pay27 (q : ℕ) : k0_pay27 (F := Ideal) (mat M) (slab1 q W1) = mat (sq (cols q (hu W1 M))) := by
  funext y
  unfold k0_pay27
  rw [pay25]
  pointwise
  exact mul_coe _ _
theorem pay14 (q r s : ℕ) (S : Fin 512 → Fin 512 → ℝ) :
    k0_pay14 (F := Ideal) (mat M) (mat A) (mat S) (slab2 q W2) (slab1 r W1) (slab2 r W2) (slab1 s W1) (slab2 s W2)
    = mat fun p n => A p n + (∑ j, S p j * W2 (part q j) n) + ys W2 r (cols r (hu W1 M)) p n + ys W2 s (cols s (hu W1 M)) p n := by
  funext y
  unfold k0_pay14
  rw [pay10, pay12]
  pointwise [slab2]
  simp only [mat, mul_coe, sum_coe, add_coe]
  rfl
theorem pay19 (r s : ℕ) :
    k0_pay19 (F := Ideal) (mat M) (mat A) (slab1 r W1) (slab2 r W2) (slab1 s W1) (slab2 s W2)
    = mat fun p n => A p n + ys W2 r (cols r (hu W1 M)) p n + ys W2 s (cols s (hu W1 M)) p n := by
  funext y
  unfold k0_pay19
  rw [pay15, pay17]
  pointwise [slab2]
  simp only [mat, mul_coe, sum_coe, add_coe]
  rfl
theorem pay24 (q s : ℕ) (P : Fin 512 → Fin 512 → ℝ) :
    k0_pay24 (F := Ideal) (mat M) (mat A) (mat P) (slab2 q W2) (slab1 s W1) (slab2 s W2)
    = mat fun p n => A p n + ys W2 q P p n + ys W2 s (cols s (hu W1 M)) p n := by
  funext y
  unfold k0_pay24
  rw [pay22]
  pointwise [slab2]
  simp only [mat, mul_coe, sum_coe, add_coe]
  rfl
theorem pay1 (q : ℕ) (S : Fin 512 → Fin 512 → ℝ) : k0_pay1 (F := Ideal) (mat A) (mat S) (slab2 q W2)
    = mat fun p n => A p n + ∑ j, S p j * W2 (part q j) n := by
  funext y
  pointwise [k0_pay1, slab2]
  simp only [mat, mul_coe, sum_coe, add_coe]
  rfl
theorem pay2 (q : ℕ) (S : Fin 512 → Fin 512 → ℝ) : k0_pay2 (F := Ideal) (mat A) (mat S) (slab2 q W2)
    = mat fun p n => A p n + ∑ j, S p j * W2 (part q j) n := by
  funext y
  unfold k0_pay2
  rw [pay1]
  pointwise
theorem pay3 (q : ℕ) (S : Fin 512 → Fin 512 → ℝ) : k0_pay3 (F := Ideal) (mat X) (mat A) (mat S) (slab2 q W2) (row3 g)
    = mat fun p n => X p n + g n * (A p n + ∑ j, S p j * W2 (part q j) n) := by
  funext y
  unfold k0_pay3
  rw [pay1]
  pointwise [row3]
  simp only [mat, mul_coe, add_coe]

/-- The MLP's output of a block of rows; what the first seven parts add up to. -/
def yb (p : Fin 512) (n : Fin 1024) : ℝ := ∑ j, hu W1 M p j * hu W1 M p j * W2 j n
def most (p : Fin 512) (n : Fin 1024) : ℝ :=
  0 + ys W2 0 (cols 0 (hu W1 M)) p n + ys W2 1 (cols 1 (hu W1 M)) p n + ys W2 2 (cols 2 (hu W1 M)) p n + ys W2 3 (cols 3 (hu W1 M)) p n
    + ys W2 4 (cols 4 (hu W1 M)) p n + ys W2 5 (cols 5 (hu W1 M)) p n + ys W2 6 (cols 6 (hu W1 M)) p n
theorem most_eq (p : Fin 512) (n : Fin 1024) : most W1 W2 M p n + ∑ j, sq (cols 7 (hu W1 M)) p j * W2 (part 7 j) n = yb W1 W2 M p n :=
  (sum_parts fun j => hu W1 M p j * hu W1 M p j * W2 j n).symm

section
variable (hM : M = fun p => mm sc sh ng (X p))

include hM in
theorem nrm : k0_pay28 (F := Ideal) (mat X) (mods g sc sh) (row ng) (slabs1 W1) (slabs2 W2) = mat M := by
  unfold k0_pay28
  have e := pay5 sc sh ng X
  rw [← hM] at e
  refine Eq.trans ?_ e
  frame_out
  rw [mods3, mods4]

include hM in
theorem acc : k0_pay29 (F := Ideal) (mat X) (mods g sc sh) (row ng) (slabs1 W1) (slabs2 W2) = mat (most W1 W2 M) := by
  unfold k0_pay29
  rw [nrm W1 W2 g sc sh ng X M hM]
  frame_out
  rw [mods3, mods4]
  rw [ld1 W1 0, ld1 W1 1, ld1 W1 2, ld1 W1 3, ld1 W1 4, ld1 W1 5, ld1 W1 6]
  rw [ld2 W2 0, ld2 W2 1, ld2 W2 2, ld2 W2 3, ld2 W2 4, ld2 W2 5, ld2 W2 6]
  rw [pay6, pay9 W1 sc sh ng X M 0 ((pay5 sc sh ng X).trans (congrArg mat hM.symm)), pay14, pay19, pay20, pay24]
  rfl

include hM in
theorem last : k0_pay30 (F := Ideal) (mat X) (mods g sc sh) (row ng) (slabs1 W1) (slabs2 W2) = mat (sq (cols 7 (hu W1 M))) := by
  unfold k0_pay30
  rw [nrm W1 W2 g sc sh ng X M hM, ld1, pay27]

include hM in
theorem point5 : out0_5 (F := Ideal) (mat X) (mods g sc sh) (row ng) (slabs1 W1) (slabs2 W2) = mat fun p n => X p n + g n * yb W1 W2 M p n := by
  unfold out0_5
  rw [acc W1 W2 g sc sh ng X M hM, last W1 W2 g sc sh ng X M hM]
  frame_out
  rw [mods5, ld2, pay4, pay3]
  funext y
  exact congrArg (fun s : ℝ => ((X (y 0) (y 1) + g (y 1) * s : ℝ) : EReal)) (most_eq W1 W2 M (y 0) (y 1))

include hM in
theorem point7 : out0_7 (F := Ideal) (mat X) (mods g sc sh) (row ng) (slabs1 W1) (slabs2 W2) = mat (yb W1 W2 M) := by
  unfold out0_7
  rw [acc W1 W2 g sc sh ng X M hM, last W1 W2 g sc sh ng X M hM]
  frame_out
  rw [ld2, pay2]
  funext y
  exact congrArg (fun s : ℝ => (s : EReal)) (most_eq W1 W2 M (y 0) (y 1))

include hM in
theorem point6 : out0_6 (F := Ideal) (mat X) (mods g sc sh) (row ng) (slabs1 W1) (slabs2 W2) = mat (hu W1 M) := by
  unfold out0_6
  rw [nrm W1 W2 g sc sh ng X M hM]
  frame_out
  rw [mods3, mods4]
  rw [ld1 W1 0, ld1 W1 1, ld1 W1 2, ld1 W1 3, ld1 W1 4, ld1 W1 5, ld1 W1 6, ld1 W1 7]
  rw [pay8 W1 sc sh ng X M 0 ((pay5 sc sh ng X).trans (congrArg mat hM.symm)), pay11, pay13, pay16, pay18, pay21, pay23, pay26]
  exact Cert.MlpPoint.hid _
end

end Cert.MfwdPoint
end
-- ==== Proof.MfwdArray.lean ====
module

public import proofs.«01_k».proof.Proof.MfwdPoint
@[expose] public section

/-! The call mlp_fwd: its operands' blocks as rows of the arguments, and its three results as functions of the arguments. -/

noncomputable section
open Idealize.ShloMosaic Idealize.ShloMosaic.TcCoe Cert.Lift
open Cert.MfwdIdeal Cert.MfwdIdeal.Gen Cert.MfwdPoint
open Cert.MlpRow (mm part mat row slabs1 slabs2 mods)
open Cert.MlpPoint (rows)
open Cert.MlpArray (rA vA nA w1A w2A mA pA yA)

namespace Cert.MfwdArray

variable (m : (ℓ : Loc nD τ sig) → Buf (Elt Ideal) ℓ) (c : Dev nD)

theorem idx : ∀ t : Fin cfg0.N, win0_0.index t = ![t.val, 0] ∧ win0_1.index t = ![1, 0, 0] ∧ win0_2.index t = ![0, 0] ∧ win0_3.index t = ![0, 0, 0]
    ∧ win0_4.index t = ![0, 0, 0] ∧ win0_5.index t = ![t.val, 0] ∧ win0_6.index t = ![t.val, 0] ∧ win0_7.index t = ![t.val, 0] :=
  (by decide +kernel : ∀ t : Fin grid0.N, _)

/-- The host's operations up to the modulations. -/
def pre : List (HloOp τ sig (Elt Ideal)) := List.take 11 (hostOps0 (F := Ideal))
def post : List (HloOp τ sig (Elt Ideal)) := List.drop 11 (hostOps0 (F := Ideal))

theorem kept : ∀ op ∈ post, (Proc.devRef .tc main_v7 : DevRef τ sig) ∉ op.writes := by
  decide +kernel

theorem split_eq : V m c main_v7 = StableHlo.after pre (fun b => m (c, b)) (Proc.devRef .tc main_v7) := by
  have e : ([hostOps0 (F := Ideal)]).flatten = pre ++ post := rfl
  refine (congrArg (fun l => StableHlo.after l (fun b => m (c, b)) (Proc.devRef .tc main_v7)) e).trans ?_
  rw [StableHlo.after_append]
  exact StableHlo.after_of_forall_not_mem (b := Proc.devRef .tc main_v7) _ _ kept

theorem mods_entry : V m c main_v7 = concatenate S2x8x1024 0
    [⟨S1x8x1024, broadcastInDim S1x8x1024 ![1, 2] bcast_S8x1024_S1x8x1024_1_2
        (broadcastInDim S8x1024 ![] bcast_S_S8x1024 (constant (F := Ideal) S_ FTy.f32 0#32))⟩,
      ⟨S1x8x1024, broadcastInDim S1x8x1024 ![1, 2] bcast_S8x1024_S1x8x1024_1_2
        (concatenate S8x1024 0
          [⟨S6x1024, concatenate S6x1024 0
            [⟨S3x1024, broadcastInDim S3x1024 ![] bcast_S_S3x1024 (constant (F := Ideal) S_ FTy.f32 0#32)⟩,
              ⟨S1x1024, m (c, Proc.devRef .tc main_arg1)⟩, ⟨S1x1024, m (c, Proc.devRef .tc main_arg2)⟩, ⟨S1x1024, m (c, Proc.devRef .tc main_arg3)⟩]
            concatenates_S3x1024_S1x1024_S1x1024_S1x1024_S6x1024_d0⟩,
            ⟨S2x1024, broadcastInDim S2x1024 ![] bcast_S_S2x1024 (constant (F := Ideal) S_ FTy.f32 0#32)⟩]
          concatenates_S6x1024_S2x1024_S8x1024_d0)⟩]
      concatenates_S1x8x1024_S1x8x1024_S2x8x1024_d0 := by
  rw [split_eq]
  simp only [pre, hostOps0, List.take_succ_cons, List.take_zero, StableHlo.after_cons, StableHlo.after_nil]
  rw [StableHlo.binary_result]
  refine congrArg₂ (fun a b : Vec Ideal S1x8x1024 .f32 => concatenate S2x8x1024 0 [⟨S1x8x1024, a⟩, ⟨S1x8x1024, b⟩] concatenates_S1x8x1024_S1x8x1024_S2x8x1024_d0) ?_ ?_
  · rw [StableHlo.unary_result_ne _ _ _ _ _ _ (by decide), StableHlo.unary_result, StableHlo.unary_result, StableHlo.nullary_result]
  · rw [StableHlo.unary_result, StableHlo.unary_result_ne _ _ _ _ _ _ (by decide), StableHlo.unary_result_ne _ _ _ _ _ _ (by decide),
      StableHlo.nullary_result_ne _ _ _ _ (by decide), StableHlo.binary_result]
    refine congrArg (fun a : Vec Ideal S8x1024 .f32 => broadcastInDim S1x8x1024 ![1, 2] bcast_S8x1024_S1x8x1024_1_2 a) ?_
    refine congrArg₂ (fun (a : Vec Ideal S6x1024 .f32) (b : Vec Ideal S2x1024 .f32) => concatenate S8x1024 0 [⟨S6x1024, a⟩, ⟨S2x1024, b⟩] concatenates_S6x1024_S2x1024_S8x1024_d0) ?_ ?_
    · rw [StableHlo.unary_result_ne _ _ _ _ _ _ (by decide), StableHlo.nullary_result_ne _ _ _ _ (by decide), StableHlo.nary_result]
      have hz := (StableHlo.unary_result main_cst main_v0 (fun a : Vec Ideal S_ .f32 => broadcastInDim S3x1024 ![] bcast_S_S3x1024 a) hostOps0._proof_1 hostOps0._proof_2
          ((StableHlo.nullary main_cst (constant (F := Ideal) S_ FTy.f32 0#32) hostOps0._proof_1).result fun b => m (c, b))).trans
        (congrArg (fun a : Vec Ideal S_ .f32 => broadcastInDim S3x1024 ![] bcast_S_S3x1024 a) (StableHlo.nullary_result main_cst (constant (F := Ideal) S_ FTy.f32 0#32)
          hostOps0._proof_1 (fun b => m (c, b))))
      have h1 := (StableHlo.unary_result_ne main_cst main_v0 (fun a : Vec Ideal S_ .f32 => broadcastInDim S3x1024 ![] bcast_S_S3x1024 a) hostOps0._proof_1 hostOps0._proof_2
          ((StableHlo.nullary main_cst (constant (F := Ideal) S_ FTy.f32 0#32) hostOps0._proof_1).result fun b => m (c, b)) (r := main_arg1) (by decide)).trans
        (StableHlo.nullary_result_ne main_cst (constant (F := Ideal) S_ FTy.f32 0#32) hostOps0._proof_1 (fun b => m (c, b)) (r := main_arg1) (by decide))
      have h2 := (StableHlo.unary_result_ne main_cst main_v0 (fun a : Vec Ideal S_ .f32 => broadcastInDim S3x1024 ![] bcast_S_S3x1024 a) hostOps0._proof_1 hostOps0._proof_2
          ((StableHlo.nullary main_cst (constant (F := Ideal) S_ FTy.f32 0#32) hostOps0._proof_1).result fun b => m (c, b)) (r := main_arg2) (by decide)).trans
        (StableHlo.nullary_result_ne main_cst (constant (F := Ideal) S_ FTy.f32 0#32) hostOps0._proof_1 (fun b => m (c, b)) (r := main_arg2) (by decide))
      have h3 := (StableHlo.unary_result_ne main_cst main_v0 (fun a : Vec Ideal S_ .f32 => broadcastInDim S3x1024 ![] bcast_S_S3x1024 a) hostOps0._proof_1 hostOps0._proof_2
          ((StableHlo.nullary main_cst (constant (F := Ideal) S_ FTy.f32 0#32) hostOps0._proof_1).result fun b => m (c, b)) (r := main_arg3) (by decide)).trans
        (StableHlo.nullary_result_ne main_cst (constant (F := Ideal) S_ FTy.f32 0#32) hostOps0._proof_1 (fun b => m (c, b)) (r := main_arg3) (by decide))
      exact congrArg₂ (fun (z : Vec Ideal S3x1024 .f32) (q : Vec Ideal S1x1024 .f32 × Vec Ideal S1x1024 .f32 × Vec Ideal S1x1024 .f32) =>
        concatenate S6x1024 0 [⟨S3x1024, z⟩, ⟨S1x1024, q.1⟩, ⟨S1x1024, q.2.1⟩, ⟨S1x1024, q.2.2⟩]
          concatenates_S3x1024_S1x1024_S1x1024_S1x1024_S6x1024_d0) hz (congrArg₂ Prod.mk h1 (congrArg₂ Prod.mk h2 h3))
    · rw [StableHlo.unary_result, StableHlo.nullary_result]

theorem shift_val (k v n : ℕ) (e : k = 0) : k * n + 1 * v = v := by subst e; omega

def rowIx (t : Fin cfg0.N) (p : Fin 512) : Fin 8192 := ⟨(512 * t.val + p.val) % 8192, Nat.mod_lt _ (by decide)⟩

theorem emb5 (t : Fin cfg0.N) (z : S512x1024.Idx) : (((cfg0.win 5).blk t).view.emb z : S8192x1024.Idx) = ValueIdx.ix2 (rowIx t (z 0)) (z 1) := by
  have e := (idx t).2.2.2.2.2.1
  have e0 : win0_5.index t (0 : Fin 2) = t.val := congrFun e 0
  have e1 : win0_5.index t (1 : Fin 2) = 0 := congrFun e 1
  have hz : (z 0).val < 512 := (z 0).isLt
  have ht : t.val < 16 := t.isLt
  funext a; apply Fin.ext
  match a with
  | ⟨0, _⟩ => show win0_5.index t (0 : Fin 2) * 512 + 1 * (z 0).val = (512 * t.val + (z 0).val) % 8192; omega
  | ⟨1, _⟩ => exact shift_val _ _ 1024 e1

theorem emb6 (t : Fin cfg0.N) (z : S512x4096.Idx) : (((cfg0.win 6).blk t).view.emb z : S8192x4096.Idx) = ValueIdx.ix2 (rowIx t (z 0)) (z 1) := by
  have e := (idx t).2.2.2.2.2.2.1
  have e0 : win0_6.index t (0 : Fin 2) = t.val := congrFun e 0
  have e1 : win0_6.index t (1 : Fin 2) = 0 := congrFun e 1
  have hz : (z 0).val < 512 := (z 0).isLt
  have ht : t.val < 16 := t.isLt
  funext a; apply Fin.ext
  match a with
  | ⟨0, _⟩ => show win0_6.index t (0 : Fin 2) * 512 + 1 * (z 0).val = (512 * t.val + (z 0).val) % 8192; omega
  | ⟨1, _⟩ => exact shift_val _ _ 4096 e1

theorem emb7 (t : Fin cfg0.N) (z : S512x1024.Idx) : (((cfg0.win 7).blk t).view.emb z : S8192x1024.Idx) = ValueIdx.ix2 (rowIx t (z 0)) (z 1) := by
  have e := (idx t).2.2.2.2.2.2.2
  have e0 : win0_7.index t (0 : Fin 2) = t.val := congrFun e 0
  have e1 : win0_7.index t (1 : Fin 2) = 0 := congrFun e 1
  have hz : (z 0).val < 512 := (z 0).isLt
  have ht : t.val < 16 := t.isLt
  funext a; apply Fin.ext
  match a with
  | ⟨0, _⟩ => show win0_7.index t (0 : Fin 2) * 512 + 1 * (z 0).val = (512 * t.val + (z 0).val) % 8192; omega
  | ⟨1, _⟩ => exact shift_val _ _ 1024 e1

theorem flushes : ∀ t : Fin cfg0.N, (cfg0.win 5).flush t = true ∧ (cfg0.win 6).flush t = true ∧ (cfg0.win 7).flush t = true :=
  (by decide +kernel : ∀ t : Fin grid0.N, _)

/-- The point and the row in it that hold a row of the arrays. -/
def ptOf (p : Fin 8192) : Fin cfg0.N := ⟨p.val / 512, by have := p.isLt; show p.val / 512 < 16; omega⟩
def inOf (p : Fin 8192) : Fin 512 := ⟨p.val % 512, Nat.mod_lt _ (by decide)⟩
theorem rowIx_of (p : Fin 8192) : rowIx (ptOf p) (inOf p) = p := Fin.ext (by
  have := p.isLt
  show (512 * (p.val / 512) + p.val % 512) % 8192 = p.val
  omega)

theorem mem5 (i : S8192x1024.Idx) : i ∈ ((cfg0.win 5).blk (ptOf (i 0))).view.set :=
  Finset.mem_map.2 ⟨ValueIdx.ix2 (inOf (i 0)) (i 1), Finset.mem_univ _, (emb5 _ _).trans (by
    funext a
    match a with
    | ⟨0, _⟩ => exact rowIx_of (i 0)
    | ⟨1, _⟩ => rfl)⟩
theorem mem6 (i : S8192x4096.Idx) : i ∈ ((cfg0.win 6).blk (ptOf (i 0))).view.set :=
  Finset.mem_map.2 ⟨ValueIdx.ix2 (inOf (i 0)) (i 1), Finset.mem_univ _, (emb6 _ _).trans (by
    funext a
    match a with
    | ⟨0, _⟩ => exact rowIx_of (i 0)
    | ⟨1, _⟩ => rfl)⟩
theorem mem7 (i : S8192x1024.Idx) : i ∈ ((cfg0.win 7).blk (ptOf (i 0))).view.set :=
  Finset.mem_map.2 ⟨ValueIdx.ix2 (inOf (i 0)) (i 1), Finset.mem_univ _, (emb7 _ _).trans (by
    funext a
    match a with
    | ⟨0, _⟩ => exact rowIx_of (i 0)
    | ⟨1, _⟩ => rfl)⟩

section
variable (h : S1x8192x1024.Idx → ℝ) (sh sc gg : S1x1024.Idx → ℝ) (ng : S1024.Idx → ℝ) (w1 : S1024x4096.Idx → ℝ) (w2 : S4096x1024.Idx → ℝ)
  (hh : m ((c : Thread nD τ).loc main_arg0) = fun i => ((h i : ℝ) : EReal)) (hs : m ((c : Thread nD τ).loc main_arg1) = fun i => ((sh i : ℝ) : EReal))
  (hc : m ((c : Thread nD τ).loc main_arg2) = fun i => ((sc i : ℝ) : EReal)) (hg : m ((c : Thread nD τ).loc main_arg3) = fun i => ((gg i : ℝ) : EReal))
  (hn : m ((c : Thread nD τ).loc main_arg4) = fun i => ((ng i : ℝ) : EReal)) (h1 : m ((c : Thread nD τ).loc main_arg5) = fun i => ((w1 i : ℝ) : EReal))
  (h2 : m ((c : Thread nD τ).loc main_arg6) = fun i => ((w2 i : ℝ) : EReal))

include hh in
theorem blk0 (t : Fin cfg0.N) : (iblk m c 0 t : Vec Ideal S512x1024 .f32) = mat (rows (rA h) t.val) := by
  funext y
  blk_simp [iblk]
  simp only [V, hostOps0, List.flatten_cons, List.flatten_nil, List.cons_append, List.nil_append, List.append_nil]
  entry_read
  rw [hh]
  pointwise
  refine congrArg (fun i => ((h i : ℝ) : EReal)) ?_
  blk_ext [idx t]
theorem mods_at0 (n : Fin 1024) : V m c main_v7 (ValueIdx.ix3 1 0 n) = ((0 : ℝ) : EReal) := by
  rw [mods_entry]
  pointwise
  exact EReal.coe_zero.symm
theorem mods_at1 (n : Fin 1024) : V m c main_v7 (ValueIdx.ix3 1 1 n) = ((0 : ℝ) : EReal) := by
  rw [mods_entry]
  pointwise
  exact EReal.coe_zero.symm
theorem mods_at2 (n : Fin 1024) : V m c main_v7 (ValueIdx.ix3 1 2 n) = ((0 : ℝ) : EReal) := by
  rw [mods_entry]
  pointwise
  exact EReal.coe_zero.symm
theorem mods_at6 (n : Fin 1024) : V m c main_v7 (ValueIdx.ix3 1 6 n) = ((0 : ℝ) : EReal) := by
  rw [mods_entry]
  pointwise
  exact EReal.coe_zero.symm
theorem mods_at7 (n : Fin 1024) : V m c main_v7 (ValueIdx.ix3 1 7 n) = ((0 : ℝ) : EReal) := by
  rw [mods_entry]
  pointwise
  exact EReal.coe_zero.symm
include hs in
theorem mods_at3 (n : Fin 1024) : V m c main_v7 (ValueIdx.ix3 1 3 n) = ((vA sh n : ℝ) : EReal) := by
  rw [mods_entry]
  pointwise
  exact (congrFun hs _).trans (congrArg (fun q : Fin 1 => ((sh (ValueIdx.ix2 q n) : ℝ) : EReal)) (Subsingleton.elim _ _))
include hc in
theorem mods_at4 (n : Fin 1024) : V m c main_v7 (ValueIdx.ix3 1 4 n) = ((vA sc n : ℝ) : EReal) := by
  rw [mods_entry]
  pointwise
  exact (congrFun hc _).trans (congrArg (fun q : Fin 1 => ((sc (ValueIdx.ix2 q n) : ℝ) : EReal)) (Subsingleton.elim _ _))
include hg in
theorem mods_at5 (n : Fin 1024) : V m c main_v7 (ValueIdx.ix3 1 5 n) = ((vA gg n : ℝ) : EReal) := by
  rw [mods_entry]
  pointwise
  exact (congrFun hg _).trans (congrArg (fun q : Fin 1 => ((gg (ValueIdx.ix2 q n) : ℝ) : EReal)) (Subsingleton.elim _ _))
include hg hs hc in
theorem mods_at (r : Fin 8) (n : Fin 1024) : V m c main_v7 (ValueIdx.ix3 1 r n)
    = ((if r.val = 3 then vA sh n else if r.val = 4 then vA sc n else if r.val = 5 then vA gg n else 0 : ℝ) : EReal) := by
  match r with
  | 0 => exact mods_at0 m c n
  | 1 => exact mods_at1 m c n
  | 2 => exact mods_at2 m c n
  | 3 => exact mods_at3 m c sh hs n
  | 4 => exact mods_at4 m c sc hc n
  | 5 => exact mods_at5 m c gg hg n
  | 6 => exact mods_at6 m c n
  | 7 => exact mods_at7 m c n
include hg hs hc in
theorem blk1 (t : Fin cfg0.N) : (iblk m c 1 t : Vec Ideal S1x8x1024 .f32) = mods (vA gg) (vA sc) (vA sh) := by
  have i1 := (idx t).2.1
  funext y
  have hy : (y 0).val < 1 := (y 0).isLt
  have e : (((View.whole main_v7).slice (win0_1.rect t)).emb y : S2x8x1024.Idx) = ValueIdx.ix3 1 (y 1) (y 2) := by
    blk_ext [idx t]
  exact (congrArg (V m c main_v7) e).trans (mods_at m c sh sc gg hs hc hg (y 1) (y 2))
include hn in
theorem blk2 (t : Fin cfg0.N) : (iblk m c 2 t : Vec Ideal S1x1024 .f32) = row (nA ng) := by
  funext y
  blk_simp [iblk]
  simp only [V, hostOps0, List.flatten_cons, List.flatten_nil, List.cons_append, List.nil_append, List.append_nil]
  entry_read
  rw [hn]
  pointwise
  refine congrArg (fun i => ((ng i : ℝ) : EReal)) ?_
  blk_ext [idx t]
include h1 in
theorem blk3 (t : Fin cfg0.N) : (iblk m c 3 t : Vec Ideal S8x1024x512 .bf16) = slabs1 (w1A w1) := by
  funext y
  blk_simp [iblk]
  simp only [V, hostOps0, List.flatten_cons, List.flatten_nil, List.cons_append, List.nil_append, List.append_nil]
  entry_read
  rw [h1]
  pointwise
  refine congrArg (fun i => ((w1 i : ℝ) : EReal)) ?_
  blk_ext [idx t]
  have b0 : (y 0).val < 8 := (y 0).isLt
  have b2 : (y 2).val < 512 := (y 2).isLt
  show _ = (512 * (y 0).val + (y 2).val) % 4096
  omega
include h2 in
theorem blk4 (t : Fin cfg0.N) : (iblk m c 4 t : Vec Ideal S8x512x1024 .bf16) = slabs2 (w2A w2) := by
  funext y
  blk_simp [iblk]
  simp only [V, hostOps0, List.flatten_cons, List.flatten_nil, List.cons_append, List.nil_append, List.append_nil]
  entry_read
  rw [h2]
  pointwise
  refine congrArg (fun i => ((w2 i : ℝ) : EReal)) ?_
  blk_ext [idx t]
  have b0 : (y 0).val < 8 := (y 0).isLt
  have b1 : (y 1).val < 512 := (y 1).isLt
  show _ = (512 * (y 0).val + (y 1).val) % 4096
  omega

/-- The three result arrays. -/
def G5 : S8192x1024.Idx → EReal := mat fun p n => rA h p n + vA gg n * yA h sh sc ng w1 w2 p n
def G6 : S8192x4096.Idx → EReal := mat fun p j => pA h sh sc ng w1 p j
def G7 : S8192x1024.Idx → EReal := mat fun p n => yA h sh sc ng w1 w2 p n

include hh hs hc hg hn h1 h2 in
theorem written5 (t : Fin cfg0.N) (_ : (cfg0.win 5).flush t = true) :
    (dats m 0 c).flushed 5 t = ((cfg0.win 5).blk t).view.read (Elt Ideal) (G5 h sh sc gg ng w1 w2 : Vec Ideal S8192x1024 .f32) := by
  rw [Value.flushed5, blk0 m c h hh, blk1 m c sh sc gg hs hc hg, blk2 m c ng hn, blk3 m c w1 h1, blk4 m c w2 h2,
    point5 (w1A w1) (w2A w2) (vA gg) (vA sc) (vA sh) (nA ng) (rows (rA h) t.val) _ rfl]
  exact funext fun y => (congrArg (G5 h sh sc gg ng w1 w2) (emb5 t y)).symm
include hh hs hc hg hn h1 h2 in
theorem result5 : ((dats m 0 c).arrAt 5 cfg0.N : Vec Ideal S8192x1024 .f32) = G5 h sh sc gg ng w1 w2 :=
  funext fun i => (dats m 0 c).arrAt_apply_of_mem 5 (G5 h sh sc gg ng w1 w2) (written5 m c h sh sc gg ng w1 w2 hh hs hc hg hn h1 h2) cfg0.N (ptOf (i 0)) i (ptOf (i 0)).isLt (flushes _).1 (mem5 i)

include hh hs hc hg hn h1 h2 in
theorem written6 (t : Fin cfg0.N) (_ : (cfg0.win 6).flush t = true) :
    (dats m 0 c).flushed 6 t = ((cfg0.win 6).blk t).view.read (Elt Ideal) (G6 h sh sc ng w1 : Vec Ideal S8192x4096 .bf16) := by
  rw [Value.flushed6, blk0 m c h hh, blk1 m c sh sc gg hs hc hg, blk2 m c ng hn, blk3 m c w1 h1, blk4 m c w2 h2,
    point6 (w1A w1) (w2A w2) (vA gg) (vA sc) (vA sh) (nA ng) (rows (rA h) t.val) _ rfl]
  exact funext fun y => (congrArg (G6 h sh sc ng w1) (emb6 t y)).symm
include hh hs hc hg hn h1 h2 in
theorem result6 : ((dats m 0 c).arrAt 6 cfg0.N : Vec Ideal S8192x4096 .bf16) = G6 h sh sc ng w1 :=
  funext fun i => (dats m 0 c).arrAt_apply_of_mem 6 (G6 h sh sc ng w1) (written6 m c h sh sc gg ng w1 w2 hh hs hc hg hn h1 h2) cfg0.N (ptOf (i 0)) i (ptOf (i 0)).isLt (flushes _).2.1 (mem6 i)

include hh hs hc hg hn h1 h2 in
theorem written7 (t : Fin cfg0.N) (_ : (cfg0.win 7).flush t = true) :
    (dats m 0 c).flushed 7 t = ((cfg0.win 7).blk t).view.read (Elt Ideal) (G7 h sh sc ng w1 w2 : Vec Ideal S8192x1024 .bf16) := by
  rw [Value.flushed7, blk0 m c h hh, blk1 m c sh sc gg hs hc hg, blk2 m c ng hn, blk3 m c w1 h1, blk4 m c w2 h2,
    point7 (w1A w1) (w2A w2) (vA gg) (vA sc) (vA sh) (nA ng) (rows (rA h) t.val) _ rfl]
  exact funext fun y => (congrArg (G7 h sh sc ng w1 w2) (emb7 t y)).symm
include hh hs hc hg hn h1 h2 in
theorem result7 : ((dats m 0 c).arrAt 7 cfg0.N : Vec Ideal S8192x1024 .bf16) = G7 h sh sc ng w1 w2 :=
  funext fun i => (dats m 0 c).arrAt_apply_of_mem 7 (G7 h sh sc ng w1 w2) (written7 m c h sh sc gg ng w1 w2 hh hs hc hg hn h1 h2) cfg0.N (ptOf (i 0)) i (ptOf (i 0)).isLt (flushes _).2.2 (mem7 i)
end

end Cert.MfwdArray
end
-- ==== Proof.MfwdRef.lean ====
module

public import proofs.«01_k».proof.Proof.MlpRef
public import proofs.«01_k».proof.Proof.MfwdArray
public import proofs.«01_k».proof.Proof.Gen.MfwdRefIdeal.Read
@[expose] public section

/-! What reference.py's gated MLP computes on real arguments. -/

noncomputable section
open Idealize.ShloMosaic Cert.Lift
open Cert.MfwdRefIdeal Cert.MfwdRefIdeal.Read
open Cert.MlpRow (rs ms_pos xh nn mm)
open Cert.MlpArray (rA vA nA w1A w2A mA pA yA max_coe)
open Cert.MlpRef (up ms one3 one2 lane at1 at2 from_zero)

namespace Cert.MfwdRef

variable (h : S1x8192x1024.Idx → ℝ) (sh sc gg : S1x1024.Idx → ℝ) (ng : S1024.Idx → ℝ) (w1 : S1024x4096.Idx → ℝ) (w2 : S4096x1024.Idx → ℝ)

theorem v7 (i : S1x8192x1.Idx) : val_main_v7 (F := Ideal) (up h) i = ((rs (rA h (i 1)) : ℝ) : EReal) := by
  have e6 : val_main_v6 (F := Ideal) (up h) i = ((ms (rA h (i 1)) : ℝ) : EReal) := by
    rw [val_main_v6_apply, val_main_v4_apply, val_main_v2_apply, val_main_v1_apply, val_main_v3_apply, val_main_v5_apply]
    have e : (val_main_cst (F := Ideal)) (Shape.Idx.first Gen.h_S_) + ∑ k : Fin 1024, (val_main_v0 (F := Ideal) (up h)) (idx_main_v1 (idx_main_v2 i) k)
        = ((∑ k, rA h (i 1) k * rA h (i 1) k : ℝ) : EReal) := by
      refine from_zero _ _ _ c0 ((Finset.sum_congr rfl fun k _ => ?_).trans (sum_coe _ _))
      refine (mul_coe _ _).trans (congrArg (fun r : ℝ => ((r * r : ℝ) : EReal)) (one3 h _))
    rw [e]
    refine (congrArg₂ (fun x y : EReal => x + y) ((congrArg (Ideal.div _) c1024).trans (div_coe _ _ (by norm_num))) cEps).trans (add_coe _ _)
  exact (congrArg Ideal.rsqrt e6).trans (rsqrt_coe _ (ms_pos _))

theorem v12 (i : S1x8192x1024.Idx) : val_main_v12 (F := Ideal) (up h) (up ng) i = ((nn (nA ng) (rA h (i 1)) (i 2) : ℝ) : EReal) := by
  rw [val_main_v12_apply, val_main_v11_apply, val_main_v10_apply, val_main_v9_apply, val_main_v8_apply, v7]
  refine (congrArg (· * _) ((mul_coe _ _).trans (congrArg (fun r : ℝ => ((r * rs (rA h (i 1)) : ℝ) : EReal)) (one3 h i)))).trans ?_
  exact (mul_coe _ _).trans (congrArg (fun r : ℝ => ((xh (rA h (i 1)) (i 2) * r : ℝ) : EReal)) (lane ng _))

theorem v15 (i : S1x1x1024.Idx) : val_main_v15 (F := Ideal) (up sc) i = ((1 + vA sc (i 2) : ℝ) : EReal) := by
  rw [val_main_v15_apply, val_main_v14_apply, val_main_v13_apply]
  exact (congrArg₂ (fun x y : EReal => x + y) c1 (congrArg (fun r : ℝ => (r : EReal)) (one2 sc _))).trans (add_coe _ _)

theorem v20 (i : S1x8192x1024.Idx) : val_main_v20 (F := Ideal) (up h) (up sh) (up sc) (up ng) i = ((mA h sh sc ng (i 1) (i 2) : ℝ) : EReal) := by
  rw [val_main_v20_apply, val_main_v17_apply, val_main_v16_apply, val_main_v19_apply, val_main_v18_apply, v12, v15]
  exact (congrArg₂ (fun x y : EReal => x + y) (mul_coe _ _) (congrArg (fun r : ℝ => (r : EReal)) (one2 sh _))).trans (add_coe _ _)

theorem v22 (i : S1x8192x4096.Idx) : val_main_v22 (F := Ideal) (up h) (up sh) (up sc) (up ng) (up w1) i = ((pA h sh sc ng w1 (i 1) (i 2) : ℝ) : EReal) := by
  have e21 : val_main_v21 (F := Ideal) (up h) (up sh) (up sc) (up ng) (up w1) i = ((∑ k, mA h sh sc ng (i 1) k * w1A w1 k (i 2) : ℝ) : EReal) := by
    rw [val_main_v21_apply]
    refine (Finset.sum_congr rfl fun k _ => ?_).trans (sum_coe _ _)
    rw [v20]
    exact (mul_coe _ _).trans (congrArg (fun r : ℝ => ((mA h sh sc ng (i 1) k * r : ℝ) : EReal)) (at1 w1 k (i 2) _ rfl rfl))
  rw [val_main_v22_apply, e21]
  exact (congrArg (max _) c0).trans (max_coe _ _)

theorem v24 (i : S1x8192x1024.Idx) : val_main_v24 (F := Ideal) (up h) (up sh) (up sc) (up ng) (up w1) (up w2) i = ((yA h sh sc ng w1 w2 (i 1) (i 2) : ℝ) : EReal) := by
  rw [val_main_v24_apply]
  refine (Finset.sum_congr rfl fun j _ => ?_).trans (sum_coe _ _)
  rw [val_main_v23_apply, v22]
  refine (congrArg (· * _) (mul_coe _ _)).trans ((mul_coe _ _).trans (congrArg (fun r : ℝ => ((pA h sh sc ng w1 (i 1) j * pA h sh sc ng w1 (i 1) j * r : ℝ) : EReal)) (at2 w2 j (i 2) _ rfl rfl)))

theorem v28 (i : S1x8192x1024.Idx) : val_main_v28 (F := Ideal) (up h) (up sh) (up sc) (up gg) (up ng) (up w1) (up w2) i
    = ((rA h (i 1) (i 2) + vA gg (i 2) * yA h sh sc ng w1 w2 (i 1) (i 2) : ℝ) : EReal) := by
  rw [val_main_v28_apply, val_main_v27_apply, val_main_v26_apply, val_main_v25_apply, v24]
  exact (congrArg₂ (fun x y : EReal => x + y) (congrArg (fun r : ℝ => (r : EReal)) (one3 h i))
    ((mul_coe _ _).trans (congrArg (fun r : ℝ => ((r * yA h sh sc ng w1 w2 (i 1) (i 2) : ℝ) : EReal)) (one2 gg _)))).trans (add_coe _ _)

/-- A flat index over rows of `n`. -/
theorem flat_row (n a b : ℕ) (ha : a < 8192) (hb : b < n) : (a * n + b) / n % 8192 = a := by
  rw [Nat.mul_comm, Nat.mul_add_div (by omega), Nat.div_eq_of_lt hb, Nat.add_zero, Nat.mod_eq_of_lt ha]
theorem flat_col (n a b : ℕ) (hb : b < n) : (a * n + b) % n = b := by
  rw [Nat.mul_comm, Nat.mul_add_mod, Nat.mod_eq_of_lt hb]

theorem v29 (i : S8192x1024.Idx) : val_main_v29 (F := Ideal) (up h) (up sh) (up sc) (up gg) (up ng) (up w1) (up w2) i = MfwdArray.G5 h sh sc gg ng w1 w2 i := by
  rw [val_main_v29_apply, v28]
  have e1 : idx_main_v29 i 1 = i 0 := Fin.ext (flat_row 1024 _ _ (i 0).isLt (i 1).isLt)
  have e2 : idx_main_v29 i 2 = i 1 := Fin.ext (flat_col 1024 _ _ (i 1).isLt)
  rw [e1, e2]; rfl
theorem v31 (i : S8192x4096.Idx) : val_main_v31 (F := Ideal) (up h) (up sh) (up sc) (up ng) (up w1) i = MfwdArray.G6 h sh sc ng w1 i := by
  rw [val_main_v31_apply, val_main_v30_apply, v22]
  have e1 : idx_main_v30 i 1 = i 0 := Fin.ext (flat_row 4096 _ _ (i 0).isLt (i 1).isLt)
  have e2 : idx_main_v30 i 2 = i 1 := Fin.ext (flat_col 4096 _ _ (i 1).isLt)
  rw [e1, e2]; rfl
theorem v33 (i : S8192x1024.Idx) : val_main_v33 (F := Ideal) (up h) (up sh) (up sc) (up ng) (up w1) (up w2) i = MfwdArray.G7 h sh sc ng w1 w2 i := by
  rw [val_main_v33_apply, val_main_v32_apply, v24]
  have e1 : idx_main_v32 i 1 = i 0 := Fin.ext (flat_row 1024 _ _ (i 0).isLt (i 1).isLt)
  have e2 : idx_main_v32 i 2 = i 1 := Fin.ext (flat_col 1024 _ _ (i 1).isLt)
  rw [e1, e2]; rfl

end Cert.MfwdRef
end
-- ==== Proof.MfwdEq.lean ====
module

public import proofs.«01_k».proof.Defs
public import proofs.«01_k».proof.Proof.MfwdRef
public import proofs.«01_k».proof.Proof.Gen.Pre_mfwd_finite
@[expose] public section

/-! The call mlp_fwd ends with what reference.py's gated MLP computes. -/

noncomputable section
open Idealize.ShloMosaic Idealize.SL.Sem Cert.Lift
open Cert.MfwdRefIdeal Cert.MfwdRefIdeal.Read Cert.MfwdRef

namespace Cert.MfwdEq

set_option maxHeartbeats 1600000 in
theorem algebraic : algebraic_MfwdIdeal_MfwdRefIdeal_pre_mfwd_finite := by
  intro m g m' g' hpre hargs
  refine ⟨fun c => (MfwdIdeal.Gen.dats m 0 c).arrAt 5 MfwdIdeal.cfg0.N, fun c => (MfwdIdeal.Gen.dats m 0 c).arrAt 6 MfwdIdeal.cfg0.N, fun c => (MfwdIdeal.Gen.dats m 0 c).arrAt 7 MfwdIdeal.cfg0.N,
    MfwdIdeal.Value.run_blocks m g, ?_⟩
  refine (θ_run MfwdRefIdeal.defs _ _).mono (fun r h c => ?_) (MfwdRefIdeal.Value.run (F := Ideal) m' g')
  obtain ⟨a0, a1, a2, a3, a4, a5, a6⟩ := hargs c
  obtain ⟨p0, p1, p2, p3, p4, p5, p6⟩ := hpre c
  obtain ⟨x, hh⟩ := exists_real_of_cmp (s := MfwdIdeal.S1x8192x1024) _ _ (fun _ => rfl) p0
  obtain ⟨sh, hs⟩ := exists_real_of_cmp (s := MfwdIdeal.S1x1024) _ _ (fun _ => rfl) p1
  obtain ⟨sc, hc⟩ := exists_real_of_cmp (s := MfwdIdeal.S1x1024) _ _ (fun _ => rfl) p2
  obtain ⟨gg, hg⟩ := exists_real_of_cmp (s := MfwdIdeal.S1x1024) _ _ (fun _ => rfl) p3
  obtain ⟨ng, hn⟩ := exists_real_of_cmp (s := MfwdIdeal.S1024) _ _ (fun _ => rfl) p4
  obtain ⟨w1, h1⟩ := exists_real_of_cmp (s := MfwdIdeal.S1024x4096) _ _ (fun _ => rfl) p5
  obtain ⟨w2, h2⟩ := exists_real_of_cmp (s := MfwdIdeal.S4096x1024) _ _ (fun _ => rfl) p6
  obtain ⟨r0, r1, r2, k⟩ := h c
  rw [MfwdRefIdeal.Read.val_main_v29_eq, a0, a1, a2, a3, a4, a5, a6, hh, hs, hc, hg, hn, h1, h2] at r0
  rw [MfwdRefIdeal.Read.val_main_v31_eq, a0, a1, a2, a4, a5, hh, hs, hc, hn, h1] at r1
  rw [MfwdRefIdeal.Read.val_main_v33_eq, a0, a1, a2, a4, a5, a6, hh, hs, hc, hn, h1, h2] at r2
  refine ⟨r0.trans ?_, r1.trans ?_, r2.trans ?_, k⟩
  · exact (funext fun i => v29 x sh sc gg ng w1 w2 i).trans (MfwdArray.result5 m c x sh sc gg ng w1 w2 hh hs hc hg hn h1 h2).symm
  · exact (funext fun i => v31 x sh sc ng w1 i).trans (MfwdArray.result6 m c x sh sc gg ng w1 w2 hh hs hc hg hn h1 h2).symm
  · exact (funext fun i => v33 x sh sc ng w1 w2 i).trans (MfwdArray.result7 m c x sh sc gg ng w1 w2 hh hs hc hg hn h1 h2).symm

/-- The reference keeps its arguments and leaves every counter at zero. -/
theorem frameRef (m) (g) : θ_run (MfwdRefIdeal.defs (F := Ideal)) (onTc (τ := MfwdRefIdeal.τ) (MfwdRefIdeal.main (F := Ideal))) ⟨m, fun _ => 0, g⟩ fun r =>
    (∀ c : Dev MfwdRefIdeal.nD, r.2.mem ((c.tc : Thread MfwdRefIdeal.nD MfwdRefIdeal.τ).loc MfwdRefIdeal.main_arg0) = m ((c.tc : Thread MfwdRefIdeal.nD MfwdRefIdeal.τ).loc MfwdRefIdeal.main_arg0)
      ∧ r.2.mem ((c.tc : Thread MfwdRefIdeal.nD MfwdRefIdeal.τ).loc MfwdRefIdeal.main_arg1) = m ((c.tc : Thread MfwdRefIdeal.nD MfwdRefIdeal.τ).loc MfwdRefIdeal.main_arg1)
      ∧ r.2.mem ((c.tc : Thread MfwdRefIdeal.nD MfwdRefIdeal.τ).loc MfwdRefIdeal.main_arg2) = m ((c.tc : Thread MfwdRefIdeal.nD MfwdRefIdeal.τ).loc MfwdRefIdeal.main_arg2)
      ∧ r.2.mem ((c.tc : Thread MfwdRefIdeal.nD MfwdRefIdeal.τ).loc MfwdRefIdeal.main_arg3) = m ((c.tc : Thread MfwdRefIdeal.nD MfwdRefIdeal.τ).loc MfwdRefIdeal.main_arg3)
      ∧ r.2.mem ((c.tc : Thread MfwdRefIdeal.nD MfwdRefIdeal.τ).loc MfwdRefIdeal.main_arg4) = m ((c.tc : Thread MfwdRefIdeal.nD MfwdRefIdeal.τ).loc MfwdRefIdeal.main_arg4)
      ∧ r.2.mem ((c.tc : Thread MfwdRefIdeal.nD MfwdRefIdeal.τ).loc MfwdRefIdeal.main_arg5) = m ((c.tc : Thread MfwdRefIdeal.nD MfwdRefIdeal.τ).loc MfwdRefIdeal.main_arg5)
      ∧ r.2.mem ((c.tc : Thread MfwdRefIdeal.nD MfwdRefIdeal.τ).loc MfwdRefIdeal.main_arg6) = m ((c.tc : Thread MfwdRefIdeal.nD MfwdRefIdeal.τ).loc MfwdRefIdeal.main_arg6))
      ∧ r.2.sem = fun _ => 0 :=
  (θ_run MfwdRefIdeal.defs _ _).mono (fun r h => ⟨fun c => (h c).2.2.2, sem_eq_zero_of_no_sems (by decide) _⟩) (MfwdRefIdeal.Value.run (F := Ideal) m g)

end Cert.MfwdEq
end
-- ==== Proof.lean ====
/- The certificate: the claims of Cert.Claim, each from the module that proves it. -/
module

public import proofs.«01_k».proof.Proof.HeadEq
public import proofs.«01_k».proof.Proof.FlashEq
public import proofs.«01_k».proof.Proof.FlashFrame
public import proofs.«01_k».proof.Proof.Gen.HeadRefIdeal.Read
public import proofs.«01_k».proof.Proof.Gen.HeadRefIdeal.Run
public import proofs.«01_k».proof.Proof.Gen.HeadIdeal.Value
public import proofs.«01_k».proof.Proof.Gen.FlashRefIdeal.Read
public import proofs.«01_k».proof.Proof.Gen.FlashRefIdeal.Run
public import proofs.«01_k».proof.Proof.Gen.Flash.Skeleton
public import proofs.«01_k».proof.Proof.Gen.Flash.Frame
public import proofs.«01_k».proof.Proof.Gen.FlashIdeal.Skeleton
public import proofs.«01_k».proof.Proof.Gen.FlashIdeal.Frame
public import proofs.«01_k».proof.Proof.Gen.Pre_flash_finite
public import proofs.«01_k».proof.Defs
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadRefIdeal
public import proofs.«01_k».proof.Proof.Gen.Pre_head_finite
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.Pre_attn_finite
public import proofs.«01_k».proof.Proof.AttnEq
public import proofs.«01_k».proof.Proof.CctxEq
public import proofs.«01_k».proof.Proof.AdaEq
public import proofs.«01_k».proof.Proof.WoEq
public import proofs.«01_k».proof.Proof.MlpEq
public import proofs.«01_k».proof.Proof.MfwdEq
public import proofs.«01_k».proof.Proof.Gen.Cctx.Frame
public import proofs.«01_k».proof.Proof.Gen.CctxIdeal.Frame
public import proofs.«01_k».proof.Proof.Gen.CctxIdeal.Value
public import proofs.«01_k».proof.Proof.Gen.CctxRefIdeal.Run
public import proofs.«01_k».proof.Proof.Gen.CctxRefIdeal.Read
public import proofs.«01_k».proof.Proof.Gen.Pre_cctx_finite
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.Pre_ada_finite
public import proofs.«01_k».proof.Proof.Gen.Wo.Frame
public import proofs.«01_k».proof.Proof.Gen.WoIdeal.Frame
public import proofs.«01_k».proof.Proof.Gen.WoIdeal.Value
public import proofs.«01_k».proof.Proof.Gen.WoRefIdeal.Run
public import proofs.«01_k».proof.Proof.Gen.WoRefIdeal.Read
public import proofs.«01_k».proof.Proof.Gen.Pre_wo_finite
public import proofs.«01_k».proof.Proof.Gen.Mlp.Frame
public import proofs.«01_k».proof.Proof.Gen.MlpIdeal.Frame
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.Pre_mlp_finite
public import proofs.«01_k».proof.Proof.Gen.Pre_mfwd_finite
public import proofs.«01_k».proof.Proof.Gen.MfwdRefIdeal.Read
public import proofs.«01_k».proof.Proof.Gen.MfwdRefIdeal.Run
public import proofs.«01_k».proof.Proof.Gen.MfwdIdeal.Value
public import proofs.«01_k».proof.Proof.Gen.MfwdIdeal.Frame
public import proofs.«01_k».proof.Proof.Gen.Mfwd.Frame
public import Idealize.ShloMosaic.Adequacy
public import Idealize.ShloMosaic.Init

@[expose] public section

noncomputable section

namespace Cert.Proof

open Idealize.ShloMosaic Idealize.SL.Sem Cert.Head

theorem claim : Cert.Claim := ⟨Cert.Head.Gen.facts, Cert.HeadIdeal.Gen.facts, Cert.HeadRefIdeal.Gen.facts,
  Cert.Flash.Gen.facts, Cert.FlashIdeal.Gen.facts, Cert.FlashRefIdeal.Gen.facts,
  Cert.Attn.Gen.facts, Cert.AttnIdeal.Gen.facts, Cert.AttnRefIdeal.Gen.facts,
  Cert.Cctx.Gen.facts, Cert.CctxIdeal.Gen.facts, Cert.CctxRefIdeal.Gen.facts,
  Cert.Ada.Gen.facts, Cert.AdaIdeal.Gen.facts, Cert.AdaRefIdeal.Gen.facts,
  Cert.Wo.Gen.facts, Cert.WoIdeal.Gen.facts, Cert.WoRefIdeal.Gen.facts,
  Cert.Mlp.Gen.facts, Cert.MlpIdeal.Gen.facts, Cert.MlpRefIdeal.Gen.facts,
  Cert.Mfwd.Gen.facts, Cert.MfwdIdeal.Gen.facts, Cert.MfwdRefIdeal.Gen.facts,
  Cert.Pre_head_finite.Gen.facts, Cert.Pre_flash_finite.Gen.facts, Cert.Pre_attn_finite.Gen.facts,
  Cert.Pre_cctx_finite.Gen.facts, Cert.Pre_ada_finite.Gen.facts, Cert.Pre_wo_finite.Gen.facts, Cert.Pre_mlp_finite.Gen.facts,
  Cert.Pre_mfwd_finite.Gen.facts,
  fun m g _ => Cert.Head.Gen.frame m g,
  fun m g _ => Cert.HeadIdeal.Gen.frame m g,
  fun m g _ => Cert.HeadIdeal.Gen.frame m g,
  fun m g _ => Cert.HeadEq.frameRef m g,
  fun m g _ => Cert.HeadEq.frameRef m g,
  Cert.FlashFrame.frame,
  fun m g _ => Cert.FlashDat.frame m g,
  fun m g _ => Cert.FlashDat.frame m g,
  fun m g _ => Cert.FlashEq.frameRef m g,
  fun m g _ => Cert.FlashEq.frameRef m g,
  fun m g _ => Cert.Attn.Gen.frame m g,
  fun m g _ => Cert.AttnIdeal.Gen.frame m g,
  fun m g _ => Cert.AttnIdeal.Gen.frame m g,
  fun m g _ => Cert.AttnEq.frameRef m g,
  fun m g _ => Cert.AttnEq.frameRef m g,
  fun m g _ => Cert.Cctx.Gen.frame m g,
  fun m g _ => Cert.CctxIdeal.Gen.frame m g,
  fun m g _ => Cert.CctxIdeal.Gen.frame m g,
  fun m g _ => Cert.CctxEq.frameRef m g,
  fun m g _ => Cert.CctxEq.frameRef m g,
  fun m g _ => Cert.Ada.Gen.frame m g,
  fun m g _ => Cert.AdaIdeal.Gen.frame m g,
  fun m g _ => Cert.AdaIdeal.Gen.frame m g,
  fun m g _ => Cert.AdaEq.frameRef m g,
  fun m g _ => Cert.AdaEq.frameRef m g,
  fun m g _ => Cert.Wo.Gen.frame m g,
  fun m g _ => Cert.WoIdeal.Gen.frame m g,
  fun m g _ => Cert.WoIdeal.Gen.frame m g,
  fun m g _ => Cert.WoEq.frameRef m g,
  fun m g _ => Cert.WoEq.frameRef m g,
  fun m g _ => Cert.Mlp.Gen.frame m g,
  fun m g _ => Cert.MlpIdeal.Gen.frame m g,
  fun m g _ => Cert.MlpIdeal.Gen.frame m g,
  fun m g _ => Cert.MlpEq.frameRef m g,
  fun m g _ => Cert.MlpEq.frameRef m g,
  fun m g _ => Cert.Mfwd.Gen.frame m g,
  fun m g _ => Cert.MfwdIdeal.Gen.frame m g,
  fun m g _ => Cert.MfwdIdeal.Gen.frame m g,
  fun m g _ => Cert.MfwdEq.frameRef m g,
  fun m g _ => Cert.MfwdEq.frameRef m g,
  trivial,
  Cert.HeadEq.algebraic,
  trivial,
  Cert.FlashEq.algebraic,
  IdealRules.named_const.statement Cert.AttnIdeal.κ "inv_log_two" .f32 0x3FB8AA3B#32 (((Real.log 2)⁻¹ : ℝ) : EReal) rfl,
  Cert.AttnEq.algebraic,
  trivial,
  Cert.CctxEq.algebraic,
  trivial,
  Cert.AdaEq.algebraic,
  trivial,
  Cert.WoEq.algebraic,
  trivial,
  Cert.MlpEq.algebraic,
  trivial,
  Cert.MfwdEq.algebraic⟩

end Cert.Proof

end
